-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  IdealRules.named_const.Statement Cert.KernelIdeal.κ "exp_zero_below" .f32 0xC2D00000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v30) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v31) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)) (v4 : (c : Dev Cert.Kernel8Ideal.nD) → Buf (Elt Ideal) ((c.tc : Thread Cert.Kernel8Ideal.nD Cert.Kernel8Ideal.τ).loc Cert.Kernel8Ideal.main_v1_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_v1_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v18) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_v17) = v3 c
          ∧ r.2.mem ((c.tc : Thread Cert.Reference8Ideal.nD Cert.Reference8Ideal.τ).loc Cert.Reference8Ideal.main_v20) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)) (v4 : (c : Dev Cert.Kernel9Ideal.nD) → Buf (Elt Ideal) ((c.tc : Thread Cert.Kernel9Ideal.nD Cert.Kernel9Ideal.τ).loc Cert.Kernel9Ideal.main_v4_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_v4_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v52) = v0 c
          ∧ r.2.mem ((c.tc : Thread Cert.Reference9Ideal.nD Cert.Reference9Ideal.τ).loc Cert.Reference9Ideal.main_v51) = v1 c
          ∧ r.2.mem ((c.tc : Thread Cert.Reference9Ideal.nD Cert.Reference9Ideal.τ).loc Cert.Reference9Ideal.main_v53) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_v54) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v32) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_v26) = v1 c
          ∧ r.2.mem ((c.tc : Thread Cert.Reference11Ideal.nD Cert.Reference11Ideal.τ).loc Cert.Reference11Ideal.main_v27) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v17) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v30) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)) (v4 : (c : Dev Cert.Kernel14Ideal.nD) → Buf (Elt Ideal) ((c.tc : Thread Cert.Kernel14Ideal.nD Cert.Kernel14Ideal.τ).loc Cert.Kernel14Ideal.main_v1_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_v1_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v15) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_v18) = v2 c
          ∧ r.2.mem ((c.tc : Thread Cert.Reference14Ideal.nD Cert.Reference14Ideal.τ).loc Cert.Reference14Ideal.main_v17) = v3 c
          ∧ r.2.mem ((c.tc : Thread Cert.Reference14Ideal.nD Cert.Reference14Ideal.τ).loc Cert.Reference14Ideal.main_v19) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)) (v3 : (c : Dev Cert.Kernel15Ideal.nD) → Buf (Elt Ideal) ((c.tc : Thread Cert.Kernel15Ideal.nD Cert.Kernel15Ideal.τ).loc Cert.Kernel15Ideal.main_v4_3)) (v4 : (c : Dev Cert.Kernel15Ideal.nD) → Buf (Elt Ideal) ((c.tc : Thread Cert.Kernel15Ideal.nD Cert.Kernel15Ideal.τ).loc Cert.Kernel15Ideal.main_v4_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_v4_3) = v3 c
          ∧ r.2.mem ((c.tc : Thread Cert.Kernel15Ideal.nD Cert.Kernel15Ideal.τ).loc Cert.Kernel15Ideal.main_v4_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v51) = v1 c
          ∧ r.2.mem ((c.tc : Thread Cert.Reference15Ideal.nD Cert.Reference15Ideal.τ).loc Cert.Reference15Ideal.main_v52) = v2 c
          ∧ r.2.mem ((c.tc : Thread Cert.Reference15Ideal.nD Cert.Reference15Ideal.τ).loc Cert.Reference15Ideal.main_v17) = v3 c
          ∧ r.2.mem ((c.tc : Thread Cert.Reference15Ideal.nD Cert.Reference15Ideal.τ).loc Cert.Reference15Ideal.main_v53) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S8192x1024 : Shape := ⟨2, ![8192, 1024]⟩
abbrev S256x256 : Shape := ⟨2, ![256, 256]⟩
abbrev S256x128 : Shape := ⟨2, ![256, 128]⟩
abbrev S8192x128 : Shape := ⟨2, ![8192, 128]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S256x256, .bf16⟩
  | .hbm, ⟨7, _⟩ => ⟨S8192x1024, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S256x128, .bf16⟩
  | .local _ .vmem, ⟨8, _⟩ => ⟨S256x128, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c256_i32 : BitVec 32 := 256#32
  let v5 : BitVec 32 := Scalar.muli arg1 c256_i32
  v5
def k0_off1 (i : grid0.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  let c0_4 : Index := 0#32
  ![v7.toNat, 0]
def k0_mult2 (arg7 : BitVec 32) : BitVec 32 :=
  let c256_i32_20 : BitVec 32 := 256#32
  let v55 : BitVec 32 := Scalar.muli arg7 c256_i32_20
  v55

def k0_off2 (arg7 : BitVec 32) : Fin 2 → Nat :=
  let c256_i32_20 : BitVec 32 := 256#32
  let v55 : BitVec 32 := Scalar.muli arg7 c256_i32_20
  let v56 : BitVec 32 := v55
  let v57 : Index := Scalar.indexCast v56
  let c0_21 : Index := 0#32
  ![v57.toNat, 0]

def k0_chk1 (arg7 : BitVec 32) : Prop :=
  (256 ∣ (k0_mult2 arg7).toNat) ∧
  (∀ a, (k0_off2 arg7) a + S256x128.size a ≤ S8192x128.size a)
theorem k0_mult2_dvd : ∀ (arg7 : BitVec 32) (k0_hw1 : k0_chk1 arg7), 256 ∣ (k0_mult2 arg7).toNat := fun arg7 k0_hw1 => k0_hw1.1
theorem k0_off2_inb : ∀ (arg7 : BitVec 32) (k0_hw1 : k0_chk1 arg7), ∀ a, (k0_off2 arg7) a + S256x128.size a ≤ S8192x128.size a := fun arg7 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "exp_zero_below" => some ⊥
  | _ => none
-- ==== ReferenceIdeal.lean ====
abbrev S8192x1024 : Shape := ⟨2, ![8192, 1024]⟩
abbrev S8192x8x128 : Shape := ⟨3, ![8192, 8, 128]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S_ : Shape := ⟨0, ![]⟩
abbrev S8x128x8192 : Shape := ⟨3, ![8, 128, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S8192x8x128, .f32⟩
  | .hbm, ⟨5, _⟩ => ⟨S8192x1024, .f32⟩
  | .hbm, ⟨6, _⟩ => ⟨S8192x8x128, .f32⟩
  | .hbm, ⟨7, _⟩ => ⟨S8192x1024, .f32⟩
  | .hbm, ⟨8, _⟩ => ⟨S8192x8x128, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S8x8192x8192, .f32⟩
  | .hbm, ⟨16, _⟩ => ⟨S_, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S_, .f32⟩
  | .hbm, ⟨37, _⟩ => ⟨S_, .f32⟩
  | .hbm, ⟨38, _⟩ => ⟨S8x8192x8192, .i1⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S_, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .i1⟩
  | .hbm, ⟨52, _⟩ => ⟨S8x8192x8192, .f32⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S_, .f32⟩
  | .hbm, ⟨65, _⟩ => ⟨S8x8192x8192, .i1⟩
  | .hbm, ⟨66, _⟩ => ⟨S8x8192x8192, .f32⟩
  | .hbm, ⟨67, _⟩ => ⟨S8x8192x8192, .f32⟩
  | .hbm, ⟨68, _⟩ => ⟨S8x128x8192, .f32⟩
  | .hbm, ⟨69, _⟩ => ⟨S8192x8x128, .f32⟩
  | .hbm, ⟨70, _⟩ => ⟨S8192x1024, .f32⟩
  | .hbm, ⟨71, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Kernel2.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S512x1408 : Shape := ⟨2, ![512, 1408]⟩
abbrev S1408x2048 : Shape := ⟨2, ![1408, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S1408x2048, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S1x2048, .f32⟩
  | .hbm, ⟨4, _⟩ => ⟨S8192x5632, .f32⟩
  | .hbm, ⟨5, _⟩ => ⟨S5632x2048, .f32⟩
  | .hbm, ⟨6, _⟩ => ⟨S8192x2048, .f32⟩
  | .hbm, ⟨7, _⟩ => ⟨S8192x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S8192x1024 : Shape := ⟨2, ![8192, 1024]⟩
abbrev S1024x2048 : Shape := ⟨2, ![1024, 2048]⟩
abbrev S8192x4096 : Shape := ⟨2, ![8192, 4096]⟩
abbrev S8192x2048 : Shape := ⟨2, ![8192, 2048]⟩
abbrev S512x1024 : Shape := ⟨2, ![512, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x4096, .f32⟩
  | .hbm, ⟨5, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x1024 : Shape := ⟨2, ![8192, 1024]⟩
abbrev S1024x2048 : Shape := ⟨2, ![1024, 2048]⟩
abbrev S8192x4096 : Shape := ⟨2, ![8192, 4096]⟩
abbrev S8192x2048 : Shape := ⟨2, ![8192, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x2048, .bf16⟩
  | .hbm, ⟨3, _⟩ => ⟨S1024x2048, .bf16⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S8192x1024, .f32⟩
  | .hbm, ⟨8, _⟩ => ⟨S1024x2048, .f32⟩
  | .hbm, ⟨9, _⟩ => ⟨S8192x2048, .f32⟩
  | .hbm, ⟨10, _⟩ => ⟨S8192x1024, .f32⟩
  | .hbm, ⟨11, _⟩ => ⟨S1024x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference4Ideal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S2048x4096 : Shape := ⟨2, ![2048, 4096]⟩
abbrev S8192x4096 : Shape := ⟨2, ![8192, 4096]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .f32⟩
  | .hbm, ⟨3, _⟩ => ⟨S2048x4096, .bf16⟩
  | .hbm, ⟨4, _⟩ => ⟨S8192x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x2048 : Shape := ⟨2, ![8192, 2048]⟩
abbrev S1x2048 : Shape := ⟨2, ![1, 2048]⟩
abbrev S2048x4096 : Shape := ⟨2, ![2048, 4096]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x4096, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S8192x2048 : Shape := ⟨2, ![8192, 2048]⟩
abbrev S1x2048 : Shape := ⟨2, ![1, 2048]⟩
abbrev S2048x256 : Shape := ⟨2, ![2048, 256]⟩
abbrev S8192x64 : Shape := ⟨2, ![8192, 64]⟩
abbrev S8192x128 : Shape := ⟨2, ![8192, 128]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 12
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x256, .f32⟩
  | .hbm, ⟨3, _⟩ => ⟨S8192x64, .f32⟩
  | .hbm, ⟨4, _⟩ => ⟨S8192x64, .f32⟩
  | .hbm, ⟨5, _⟩ => ⟨S2048x256, .bf16⟩
  | .hbm, ⟨6, _⟩ => ⟨S8192x128, .f32⟩
  | .hbm, ⟨7, _⟩ => ⟨S8192x64, .f32⟩
  | .hbm, ⟨8, _⟩ => ⟨S8192x128, .f32⟩
  | .hbm, ⟨9, _⟩ => ⟨S8192x128, .f32⟩
  | .hbm, ⟨10, _⟩ => ⟨S8192x128, .bf16⟩
  | .hbm, ⟨11, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x256, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | .local _ .vmem, ⟨14, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S8192x2048 : Shape := ⟨2, ![8192, 2048]⟩
abbrev S1x2048 : Shape := ⟨2, ![1, 2048]⟩
abbrev S2048x256 : Shape := ⟨2, ![2048, 256]⟩
abbrev S8192x64 : Shape := ⟨2, ![8192, 64]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x256 : Shape := ⟨2, ![8192, 256]⟩
abbrev S8192x128 : Shape := ⟨2, ![8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x256, .f32⟩
  | .hbm, ⟨3, _⟩ => ⟨S8192x64, .f32⟩
  | .hbm, ⟨4, _⟩ => ⟨S8192x64, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x256, .f32⟩
  | .hbm, ⟨23, _⟩ => ⟨S8192x128, .f32⟩
  | .hbm, ⟨24, _⟩ => ⟨S8192x128, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S8192x128, .f32⟩
  | .hbm, ⟨34, _⟩ => ⟨S8192x128, .bf16⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192x128, .f32⟩
  | .hbm, ⟨40, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel7.lean ====
abbrev S8192x2048 : Shape := ⟨2, ![8192, 2048]⟩
abbrev S2048x11264 : Shape := ⟨2, ![2048, 11264]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S8192x5632 : Shape := ⟨2, ![8192, 5632]⟩
abbrev S2x5632 : Shape := ⟨2, ![2, 5632]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S2x512 : Shape := ⟨2, ![2, 512]⟩
abbrev S1024x512 : Shape := ⟨2, ![1024, 512]⟩
abbrev S8x512 : Shape := ⟨2, ![8, 512]⟩
abbrev S1024x1 : Shape := ⟨2, ![1024, 1]⟩

abbrev nBuf : Space → Nat
  | .hbm => 9
  | .vmem => 26
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S_, .f32⟩
  | .hbm, ⟨5, _⟩ => ⟨S2x11264, .f32⟩
  | .hbm, ⟨6, _⟩ => ⟨S8192x5632, .bf16⟩
  | .hbm, ⟨7, _⟩ => ⟨S2x5632, .f32⟩
  | .hbm, ⟨8, _⟩ => ⟨S2x5632, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S2x512, .f32⟩
  | .local _ .vmem, ⟨15, _⟩ => ⟨S2x512, .f32⟩
  | .local _ .vmem, ⟨16, _⟩ => ⟨S2x512, .f32⟩
  | .local _ .vmem, ⟨17, _⟩ => ⟨S2x512, .f32⟩
  | .local _ .vmem, ⟨18, _⟩ => ⟨S1024x512, .bf16⟩
  | .local _ .vmem, ⟨19, _⟩ => ⟨S1024x512, .bf16⟩
  | .local _ .vmem, ⟨20, _⟩ => ⟨S2x512, .f32⟩
  | .local _ .vmem, ⟨21, _⟩ => ⟨S2x512, .f32⟩
  | .local _ .vmem, ⟨22, _⟩ => ⟨S2x512, .f32⟩
  | .local _ .vmem, ⟨23, _⟩ => ⟨S2x512, .f32⟩
  | .local _ .vmem, ⟨24, _⟩ => ⟨S8x512, .f32⟩
  | .local _ .vmem, ⟨25, _⟩ => ⟨S8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![11, 8], ![false, false]⟩

def k0_cond2 (i : grid0.Coords) : BitVec 1 :=
  let arg1 : BitVec 32 := BitVec.ofNat 32 (i 1).val
  let c7_i32 : BitVec 32 := 7#32
  let v100 : BitVec 1 := Scalar.cmpi .eq arg1 c7_i32
  let v101 : BitVec 32 := Scalar.extui v100
  let c0_i32_43 : BitVec 32 := 0#32
  let v102 : BitVec 1 := Scalar.cmpi .ne v101 c0_i32_43
  v102

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference7Ideal.lean ====
abbrev S8192x2048 : Shape := ⟨2, ![8192, 2048]⟩
abbrev S2048x11264 : Shape := ⟨2, ![2048, 11264]⟩
abbrev S3x11264 : Shape := ⟨2, ![3, 11264]⟩
abbrev S1x11264 : Shape := ⟨2, ![1, 11264]⟩
abbrev S_ : Shape := ⟨0, ![]⟩
abbrev S2x11264 : Shape := ⟨2, ![2, 11264]⟩
abbrev S8192x11264 : Shape := ⟨2, ![8192, 11264]⟩
abbrev S8194x11264 : Shape := ⟨2, ![8194, 11264]⟩
abbrev S11264 : Shape := ⟨1, ![11264]⟩
abbrev S8192x5632 : Shape := ⟨2, ![8192, 5632]⟩
abbrev S2x5632 : Shape := ⟨2, ![2, 5632]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S_, .f32⟩
  | .hbm, ⟨5, _⟩ => ⟨S2x11264, .f32⟩
  | .hbm, ⟨6, _⟩ => ⟨S8192x2048, .f32⟩
  | .hbm, ⟨7, _⟩ => ⟨S2048x11264, .f32⟩
  | .hbm, ⟨8, _⟩ => ⟨S8192x11264, .f32⟩
  | .hbm, ⟨9, _⟩ => ⟨S8194x11264, .f32⟩
  | .hbm, ⟨10, _⟩ => ⟨S8192x11264, .f32⟩
  | .hbm, ⟨11, _⟩ => ⟨S1x11264, .f32⟩
  | .hbm, ⟨12, _⟩ => ⟨S11264, .f32⟩
  | .hbm, ⟨13, _⟩ => ⟨S1x11264, .f32⟩
  | .hbm, ⟨14, _⟩ => ⟨S8192x11264, .f32⟩
  | .hbm, ⟨15, _⟩ => ⟨S8192x11264, .f32⟩
  | .hbm, ⟨16, _⟩ => ⟨S8192x11264, .f32⟩
  | .hbm, ⟨17, _⟩ => ⟨S8192x11264, .f32⟩
  | .hbm, ⟨18, _⟩ => ⟨S8192x11264, .f32⟩
  | .hbm, ⟨19, _⟩ => ⟨S1x11264, .f32⟩
  | .hbm, ⟨20, _⟩ => ⟨S11264, .f32⟩
  | .hbm, ⟨21, _⟩ => ⟨S1x11264, .f32⟩
  | .hbm, ⟨22, _⟩ => ⟨S8192x11264, .f32⟩
  | .hbm, ⟨23, _⟩ => ⟨S8192x11264, .f32⟩
  | .hbm, ⟨24, _⟩ => ⟨S8192x11264, .f32⟩
  | .hbm, ⟨25, _⟩ => ⟨S8192x11264, .f32⟩
  | .hbm, ⟨26, _⟩ => ⟨S1x11264, .f32⟩
  | .hbm, ⟨27, _⟩ => ⟨S11264, .f32⟩
  | .hbm, ⟨28, _⟩ => ⟨S1x11264, .f32⟩
  | .hbm, ⟨29, _⟩ => ⟨S8192x11264, .f32⟩
  | .hbm, ⟨30, _⟩ => ⟨S8192x11264, .f32⟩
  | .hbm, ⟨31, _⟩ => ⟨S8192x11264, .f32⟩
  | .hbm, ⟨32, _⟩ => ⟨S8192x5632, .f32⟩
  | .hbm, ⟨33, _⟩ => ⟨S8192x5632, .f32⟩
  | .hbm, ⟨34, _⟩ => ⟨S2x11264, .f32⟩
  | .hbm, ⟨35, _⟩ => ⟨S2x5632, .f32⟩
  | .hbm, ⟨36, _⟩ => ⟨S2x5632, .f32⟩
  | .hbm, ⟨37, _⟩ => ⟨S8192x5632, .f32⟩
  | .hbm, ⟨38, _⟩ => ⟨S8192x5632, .f32⟩
  | .hbm, ⟨39, _⟩ => ⟨S_, .f32⟩
  | .hbm, ⟨40, _⟩ => ⟨S8192x5632, .f32⟩
  | .hbm, ⟨41, _⟩ => ⟨S8192x5632, .f32⟩
  | .hbm, ⟨42, _⟩ => ⟨S_, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel8.lean ====
abbrev S8192x2048 : Shape := ⟨2, ![8192, 2048]⟩
abbrev S1x2048 : Shape := ⟨2, ![1, 2048]⟩
abbrev S2048x3072 : Shape := ⟨2, ![2048, 3072]⟩
abbrev S8192x1024 : Shape := ⟨2, ![8192, 1024]⟩
abbrev S512x2048 : Shape := ⟨2, ![512, 2048]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x3072, .f32⟩
  | .hbm, ⟨3, _⟩ => ⟨S2048x3072, .bf16⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S8192x2048 : Shape := ⟨2, ![8192, 2048]⟩
abbrev S1x2048 : Shape := ⟨2, ![1, 2048]⟩
abbrev S2048x3072 : Shape := ⟨2, ![2048, 3072]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S8192x1024 : Shape := ⟨2, ![8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x3072, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .bf16⟩
  | .hbm, ⟨26, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel9.lean ====
abbrev S8192x2048 : Shape := ⟨2, ![8192, 2048]⟩
abbrev S1x2048 : Shape := ⟨2, ![1, 2048]⟩
abbrev S2048x3072 : Shape := ⟨2, ![2048, 3072]⟩
abbrev S8192x64 : Shape := ⟨2, ![8192, 64]⟩
abbrev S8192x128 : Shape := ⟨2, ![8192, 128]⟩
abbrev S8192x1024 : Shape := ⟨2, ![8192, 1024]⟩
abbrev S512x2048 : Shape := ⟨2, ![512, 2048]⟩
abbrev S2048x1024 : Shape := ⟨2, ![2048, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x3072, .f32⟩
  | .hbm, ⟨3, _⟩ => ⟨S8192x64, .f32⟩
  | .hbm, ⟨4, _⟩ => ⟨S8192x64, .f32⟩
  | .hbm, ⟨5, _⟩ => ⟨S2048x3072, .bf16⟩
  | .hbm, ⟨6, _⟩ => ⟨S8192x128, .f32⟩
  | .hbm, ⟨7, _⟩ => ⟨S8192x64, .f32⟩
  | .hbm, ⟨8, _⟩ => ⟨S8192x128, .f32⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![16, 3], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference9Ideal.lean ====
abbrev S8192x2048 : Shape := ⟨2, ![8192, 2048]⟩
abbrev S1x2048 : Shape := ⟨2, ![1, 2048]⟩
abbrev S2048x3072 : Shape := ⟨2, ![2048, 3072]⟩
abbrev S8192x64 : Shape := ⟨2, ![8192, 64]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x3072 : Shape := ⟨2, ![8192, 3072]⟩
abbrev S8192x1024 : Shape := ⟨2, ![8192, 1024]⟩
abbrev S8192x8x128 : Shape := ⟨3, ![8192, 8, 128]⟩
abbrev S8192x1x64 : Shape := ⟨3, ![8192, 1, 64]⟩
abbrev S8192x8x64 : Shape := ⟨3, ![8192, 8, 64]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x3072, .f32⟩
  | .hbm, ⟨3, _⟩ => ⟨S8192x64, .f32⟩
  | .hbm, ⟨4, _⟩ => ⟨S8192x64, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x3072, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x8x128, .f32⟩
  | .hbm, ⟨27, _⟩ => ⟨S8192x1x64, .f32⟩
  | .hbm, ⟨28, _⟩ => ⟨S8192x1x64, .f32⟩
  | .hbm, ⟨29, _⟩ => ⟨S8192x8x64, .f32⟩
  | .hbm, ⟨30, _⟩ => ⟨S8192x8x64, .f32⟩
  | .hbm, ⟨31, _⟩ => ⟨S8192x8x64, .f32⟩
  | .hbm, ⟨32, _⟩ => ⟨S8192x8x64, .f32⟩
  | .hbm, ⟨33, _⟩ => ⟨S8192x8x64, .f32⟩
  | .hbm, ⟨34, _⟩ => ⟨S8192x8x64, .f32⟩
  | .hbm, ⟨35, _⟩ => ⟨S8192x8x64, .f32⟩
  | .hbm, ⟨36, _⟩ => ⟨S8192x8x64, .f32⟩
  | .hbm, ⟨37, _⟩ => ⟨S8192x8x64, .f32⟩
  | .hbm, ⟨38, _⟩ => ⟨S8192x8x64, .f32⟩
  | .hbm, ⟨39, _⟩ => ⟨S8192x8x64, .f32⟩
  | .hbm, ⟨40, _⟩ => ⟨S8192x8x64, .f32⟩
  | .hbm, ⟨41, _⟩ => ⟨S8192x8x128, .f32⟩
  | .hbm, ⟨42, _⟩ => ⟨S8192x1024, .f32⟩
  | .hbm, ⟨43, _⟩ => ⟨S8192x8x128, .f32⟩
  | .hbm, ⟨44, _⟩ => ⟨S8192x1x64, .f32⟩
  | .hbm, ⟨45, _⟩ => ⟨S8192x1x64, .f32⟩
  | .hbm, ⟨46, _⟩ => ⟨S8192x8x64, .f32⟩
  | .hbm, ⟨47, _⟩ => ⟨S8192x8x64, .f32⟩
  | .hbm, ⟨48, _⟩ => ⟨S8192x8x64, .f32⟩
  | .hbm, ⟨49, _⟩ => ⟨S8192x8x64, .f32⟩
  | .hbm, ⟨50, _⟩ => ⟨S8192x8x64, .f32⟩
  | .hbm, ⟨51, _⟩ => ⟨S8192x8x64, .f32⟩
  | .hbm, ⟨52, _⟩ => ⟨S8192x8x64, .f32⟩
  | .hbm, ⟨53, _⟩ => ⟨S8192x8x64, .f32⟩
  | .hbm, ⟨54, _⟩ => ⟨S8192x8x64, .f32⟩
  | .hbm, ⟨55, _⟩ => ⟨S8192x8x64, .f32⟩
  | .hbm, ⟨56, _⟩ => ⟨S8192x8x64, .f32⟩
  | .hbm, ⟨57, _⟩ => ⟨S8192x8x64, .f32⟩
  | .hbm, ⟨58, _⟩ => ⟨S8192x8x128, .f32⟩
  | .hbm, ⟨59, _⟩ => ⟨S8192x1024, .f32⟩
  | .hbm, ⟨60, _⟩ => ⟨S8192x1024, .bf16⟩
  | .hbm, ⟨61, _⟩ => ⟨S8192x1024, .bf16⟩
  | .hbm, ⟨62, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩

abbrev nD : Nat := 1
abbrev τ : Topo := Topo.v7x

variable {F : FTy → Type} [FloatOps F]
-- ==== Kernel10.lean ====
abbrev S8192x2048 : Shape := ⟨2, ![8192, 2048]⟩
abbrev S1x2048 : Shape := ⟨2, ![1, 2048]⟩
abbrev S2048x2048 : Shape := ⟨2, ![2048, 2048]⟩
abbrev S8192x64 : Shape := ⟨2, ![8192, 64]⟩
abbrev S8192x128 : Shape := ⟨2, ![8192, 128]⟩
abbrev S512x2048 : Shape := ⟨2, ![512, 2048]⟩
abbrev S2048x1024 : Shape := ⟨2, ![2048, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x2048, .f32⟩
  | .hbm, ⟨3, _⟩ => ⟨S8192x64, .f32⟩
  | .hbm, ⟨4, _⟩ => ⟨S8192x64, .f32⟩
  | .hbm, ⟨5, _⟩ => ⟨S2048x2048, .bf16⟩
  | .hbm, ⟨6, _⟩ => ⟨S8192x128, .f32⟩
  | .hbm, ⟨7, _⟩ => ⟨S8192x64, .f32⟩
  | .hbm, ⟨8, _⟩ => ⟨S8192x128, .f32⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8192x2048 : Shape := ⟨2, ![8192, 2048]⟩
abbrev S1x2048 : Shape := ⟨2, ![1, 2048]⟩
abbrev S2048x2048 : Shape := ⟨2, ![2048, 2048]⟩
abbrev S8192x64 : Shape := ⟨2, ![8192, 64]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x16x128 : Shape := ⟨3, ![8192, 16, 128]⟩
abbrev S8192x1x64 : Shape := ⟨3, ![8192, 1, 64]⟩
abbrev S8192x16x64 : Shape := ⟨3, ![8192, 16, 64]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x2048, .f32⟩
  | .hbm, ⟨3, _⟩ => ⟨S8192x64, .f32⟩
  | .hbm, ⟨4, _⟩ => ⟨S8192x64, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x16x128, .f32⟩
  | .hbm, ⟨24, _⟩ => ⟨S8192x1x64, .f32⟩
  | .hbm, ⟨25, _⟩ => ⟨S8192x1x64, .f32⟩
  | .hbm, ⟨26, _⟩ => ⟨S8192x16x64, .f32⟩
  | .hbm, ⟨27, _⟩ => ⟨S8192x16x64, .f32⟩
  | .hbm, ⟨28, _⟩ => ⟨S8192x16x64, .f32⟩
  | .hbm, ⟨29, _⟩ => ⟨S8192x16x64, .f32⟩
  | .hbm, ⟨30, _⟩ => ⟨S8192x16x64, .f32⟩
  | .hbm, ⟨31, _⟩ => ⟨S8192x16x64, .f32⟩
  | .hbm, ⟨32, _⟩ => ⟨S8192x16x64, .f32⟩
  | .hbm, ⟨33, _⟩ => ⟨S8192x16x64, .f32⟩
  | .hbm, ⟨34, _⟩ => ⟨S8192x16x64, .f32⟩
  | .hbm, ⟨35, _⟩ => ⟨S8192x16x64, .f32⟩
  | .hbm, ⟨36, _⟩ => ⟨S8192x16x64, .f32⟩
  | .hbm, ⟨37, _⟩ => ⟨S8192x16x64, .f32⟩
  | .hbm, ⟨38, _⟩ => ⟨S8192x16x128, .f32⟩
  | .hbm, ⟨39, _⟩ => ⟨S8192x2048, .f32⟩
  | .hbm, ⟨40, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel11.lean ====
abbrev S32x2048 : Shape := ⟨2, ![32, 2048]⟩
abbrev S2048x11264 : Shape := ⟨2, ![2048, 11264]⟩
abbrev S3x11264 : Shape := ⟨2, ![3, 11264]⟩
abbrev S1x11264 : Shape := ⟨2, ![1, 11264]⟩
abbrev S32x22528 : Shape := ⟨2, ![32, 22528]⟩
abbrev S32x5632 : Shape := ⟨2, ![32, 5632]⟩
abbrev S2048x512 : Shape := ⟨2, ![2048, 512]⟩
abbrev S3x512 : Shape := ⟨2, ![3, 512]⟩
abbrev S1x512 : Shape := ⟨2, ![1, 512]⟩
abbrev S32x512 : Shape := ⟨2, ![32, 512]⟩

abbrev nBuf : Space → Nat
  | .hbm => 8
  | .vmem => 27
  | .smem => 0
  | _ => 0

abbrev bufTy : (tb : Table) → Fin (tcTables nBuf tb) → BufTy
  | .hbm, ⟨0, _⟩ => ⟨S32x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S32x22528, .f32⟩
  | .hbm, ⟨5, _⟩ => ⟨S32x5632, .bf16⟩
  | .hbm, ⟨6, _⟩ => ⟨S32x5632, .f32⟩
  | .hbm, ⟨7, _⟩ => ⟨S32x5632, .f32⟩
  | .local _ .vmem, ⟨0, _⟩ => ⟨S32x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S3x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | .local _ .vmem, ⟨16, _⟩ => ⟨S32x512, .f32⟩
  | .local _ .vmem, ⟨17, _⟩ => ⟨S32x512, .f32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x512, .bf16⟩
  | .local _ .vmem, ⟨22, _⟩ => ⟨S32x512, .bf16⟩
  | .local _ .vmem, ⟨23, _⟩ => ⟨S32x512, .f32⟩
  | .local _ .vmem, ⟨24, _⟩ => ⟨S32x512, .f32⟩
  | .local _ .vmem, ⟨25, _⟩ => ⟨S32x512, .f32⟩
  | .local _ .vmem, ⟨26, _⟩ => ⟨S32x512, .f32⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let c33_i32 : BitVec 32 := 33#32
  let v0 : BitVec 32 := Scalar.addi c33_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_13 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference11Ideal.lean ====
abbrev S32x2048 : Shape := ⟨2, ![32, 2048]⟩
abbrev S2048x11264 : Shape := ⟨2, ![2048, 11264]⟩
abbrev S3x11264 : Shape := ⟨2, ![3, 11264]⟩
abbrev S1x11264 : Shape := ⟨2, ![1, 11264]⟩
abbrev S32x22528 : Shape := ⟨2, ![32, 22528]⟩
abbrev S32x11264 : Shape := ⟨2, ![32, 11264]⟩
abbrev S11264 : Shape := ⟨1, ![11264]⟩
abbrev S32x5632 : Shape := ⟨2, ![32, 5632]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x11264, .bf16⟩
  | .hbm, ⟨2, _⟩ => ⟨S3x11264, .f32⟩
  | .hbm, ⟨3, _⟩ => ⟨S1x11264, .f32⟩
  | .hbm, ⟨4, _⟩ => ⟨S32x22528, .f32⟩
  | .hbm, ⟨5, _⟩ => ⟨S32x2048, .f32⟩
  | .hbm, ⟨6, _⟩ => ⟨S2048x11264, .f32⟩
  | .hbm, ⟨7, _⟩ => ⟨S32x11264, .f32⟩
  | .hbm, ⟨8, _⟩ => ⟨S32x11264, .f32⟩
  | .hbm, ⟨9, _⟩ => ⟨S32x11264, .f32⟩
  | .hbm, ⟨10, _⟩ => ⟨S1x11264, .f32⟩
  | .hbm, ⟨11, _⟩ => ⟨S11264, .f32⟩
  | .hbm, ⟨12, _⟩ => ⟨S1x11264, .f32⟩
  | .hbm, ⟨13, _⟩ => ⟨S32x11264, .f32⟩
  | .hbm, ⟨14, _⟩ => ⟨S32x11264, .f32⟩
  | .hbm, ⟨15, _⟩ => ⟨S32x11264, .f32⟩
  | .hbm, ⟨16, _⟩ => ⟨S32x11264, .f32⟩
  | .hbm, ⟨17, _⟩ => ⟨S1x11264, .f32⟩
  | .hbm, ⟨18, _⟩ => ⟨S11264, .f32⟩
  | .hbm, ⟨19, _⟩ => ⟨S1x11264, .f32⟩
  | .hbm, ⟨20, _⟩ => ⟨S32x11264, .f32⟩
  | .hbm, ⟨21, _⟩ => ⟨S32x11264, .f32⟩
  | .hbm, ⟨22, _⟩ => ⟨S32x11264, .f32⟩
  | .hbm, ⟨23, _⟩ => ⟨S1x11264, .f32⟩
  | .hbm, ⟨24, _⟩ => ⟨S11264, .f32⟩
  | .hbm, ⟨25, _⟩ => ⟨S1x11264, .f32⟩
  | .hbm, ⟨26, _⟩ => ⟨S32x11264, .f32⟩
  | .hbm, ⟨27, _⟩ => ⟨S32x11264, .f32⟩
  | .hbm, ⟨28, _⟩ => ⟨S32x11264, .f32⟩
  | .hbm, ⟨29, _⟩ => ⟨S32x5632, .f32⟩
  | .hbm, ⟨30, _⟩ => ⟨S32x5632, .f32⟩
  | .hbm, ⟨31, _⟩ => ⟨S32x5632, .f32⟩
  | .hbm, ⟨32, _⟩ => ⟨S32x5632, .f32⟩
  | .hbm, ⟨33, _⟩ => ⟨S32x5632, .f32⟩
  | .hbm, ⟨34, _⟩ => ⟨S32x5632, .f32⟩
  | .hbm, ⟨35, _⟩ => ⟨S_, .f32⟩
  | .hbm, ⟨36, _⟩ => ⟨S32x5632, .f32⟩
  | .hbm, ⟨37, _⟩ => ⟨S32x5632, .f32⟩
  | .hbm, ⟨38, _⟩ => ⟨S_, .f32⟩
  | .hbm, ⟨39, _⟩ => ⟨S32x5632, .f32⟩
  | .hbm, ⟨40, _⟩ => ⟨S32x5632, .f32⟩
  | .hbm, ⟨41, _⟩ => ⟨S32x5632, .f32⟩
  | .hbm, ⟨42, _⟩ => ⟨S32x5632, .f32⟩
  | .hbm, ⟨43, _⟩ => ⟨S32x5632, .bf16⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel12.lean ====
abbrev S32x5632 : Shape := ⟨2, ![32, 5632]⟩
abbrev S5632x2048 : Shape := ⟨2, ![5632, 2048]⟩
abbrev S32x2048 : Shape := ⟨2, ![32, 2048]⟩
abbrev S1x2048 : Shape := ⟨2, ![1, 2048]⟩
abbrev S32x1408 : Shape := ⟨2, ![32, 1408]⟩
abbrev S1408x2048 : Shape := ⟨2, ![1408, 2048]⟩
abbrev S32 : Shape := ⟨1, ![32]⟩
abbrev S32x1 : Shape := ⟨2, ![32, 1]⟩

abbrev nBuf : Space → Nat
  | .hbm => 5
  | .vmem => 8
  | .smem => 0
  | _ => 0

abbrev bufTy : (tb : Table) → Fin (tcTables nBuf tb) → BufTy
  | .hbm, ⟨0, _⟩ => ⟨S32x5632, .bf16⟩
  | .hbm, ⟨1, _⟩ => ⟨S5632x2048, .bf16⟩
  | .hbm, ⟨2, _⟩ => ⟨S32x2048, .f32⟩
  | .hbm, ⟨3, _⟩ => ⟨S1x2048, .f32⟩
  | .hbm, ⟨4, _⟩ => ⟨S32x2048, .f32⟩
  | .local _ .vmem, ⟨0, _⟩ => ⟨S32x1408, .bf16⟩
  | .local _ .vmem, ⟨1, _⟩ => ⟨S32x1408, .bf16⟩
  | .local _ .vmem, ⟨2, _⟩ => ⟨S1408x2048, .bf16⟩
  | .local _ .vmem, ⟨3, _⟩ => ⟨S1408x2048, .bf16⟩
  | .local _ .vmem, ⟨4, _⟩ => ⟨S32x2048, .f32⟩
  | .local _ .vmem, ⟨5, _⟩ => ⟨S1x2048, .f32⟩
  | .local _ .vmem, ⟨6, _⟩ => ⟨S32x2048, .f32⟩
  | .local _ .vmem, ⟨7, _⟩ => ⟨S32x2048, .f32⟩
  | _, _ => ⟨S32x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference12Ideal.lean ====
abbrev S32x5632 : Shape := ⟨2, ![32, 5632]⟩
abbrev S5632x2048 : Shape := ⟨2, ![5632, 2048]⟩
abbrev S32x2048 : Shape := ⟨2, ![32, 2048]⟩
abbrev S1x2048 : Shape := ⟨2, ![1, 2048]⟩
abbrev S2048 : Shape := ⟨1, ![2048]⟩
abbrev S_ : Shape := ⟨0, ![]⟩
abbrev S32 : Shape := ⟨1, ![32]⟩
abbrev S32x1 : Shape := ⟨2, ![32, 1]⟩

abbrev nBuf : Space → Nat
  | .hbm => 25
  | .vmem => 0
  | .smem => 0
  | _ => 0

abbrev bufTy : (tb : Table) → Fin (tcTables nBuf tb) → BufTy
  | .hbm, ⟨0, _⟩ => ⟨S32x5632, .bf16⟩
  | .hbm, ⟨1, _⟩ => ⟨S5632x2048, .bf16⟩
  | .hbm, ⟨2, _⟩ => ⟨S32x2048, .f32⟩
  | .hbm, ⟨3, _⟩ => ⟨S1x2048, .f32⟩
  | .hbm, ⟨4, _⟩ => ⟨S32x5632, .f32⟩
  | .hbm, ⟨5, _⟩ => ⟨S5632x2048, .f32⟩
  | .hbm, ⟨6, _⟩ => ⟨S32x2048, .f32⟩
  | .hbm, ⟨7, _⟩ => ⟨S32x2048, .f32⟩
  | .hbm, ⟨8, _⟩ => ⟨S2048, .f32⟩
  | .hbm, ⟨9, _⟩ => ⟨S32x2048, .f32⟩
  | .hbm, ⟨10, _⟩ => ⟨S_, .f32⟩
  | .hbm, ⟨11, _⟩ => ⟨S32, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x1, .f32⟩
  | .hbm, ⟨20, _⟩ => ⟨S32x2048, .f32⟩
  | .hbm, ⟨21, _⟩ => ⟨S32x2048, .f32⟩
  | .hbm, ⟨22, _⟩ => ⟨S1x2048, .f32⟩
  | .hbm, ⟨23, _⟩ => ⟨S32x2048, .f32⟩
  | .hbm, ⟨24, _⟩ => ⟨S32x2048, .f32⟩
  | _, _ => ⟨S32x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel13.lean ====
abbrev S32x2048 : Shape := ⟨2, ![32, 2048]⟩
abbrev S1x2048 : Shape := ⟨2, ![1, 2048]⟩
abbrev S2048x256 : Shape := ⟨2, ![2048, 256]⟩
abbrev S32x64 : Shape := ⟨2, ![32, 64]⟩
abbrev S32x128 : Shape := ⟨2, ![32, 128]⟩
abbrev S32 : Shape := ⟨1, ![32]⟩
abbrev S32x1 : Shape := ⟨2, ![32, 1]⟩
abbrev S32x256 : Shape := ⟨2, ![32, 256]⟩

abbrev nBuf : Space → Nat
  | .hbm => 12
  | .vmem => 9
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S2048x256, .f32⟩
  | .hbm, ⟨3, _⟩ => ⟨S32x64, .f32⟩
  | .hbm, ⟨4, _⟩ => ⟨S32x64, .f32⟩
  | .hbm, ⟨5, _⟩ => ⟨S2048x256, .bf16⟩
  | .hbm, ⟨6, _⟩ => ⟨S32x128, .f32⟩
  | .hbm, ⟨7, _⟩ => ⟨S32x64, .f32⟩
  | .hbm, ⟨8, _⟩ => ⟨S32x128, .f32⟩
  | .hbm, ⟨9, _⟩ => ⟨S32x128, .f32⟩
  | .hbm, ⟨10, _⟩ => ⟨S32x128, .bf16⟩
  | .hbm, ⟨11, _⟩ => ⟨S32x128, .f32⟩
  | .local _ .vmem, ⟨0, _⟩ => ⟨S32x2048, .f32⟩
  | .local _ .vmem, ⟨1, _⟩ => ⟨S1x2048, .f32⟩
  | .local _ .vmem, ⟨2, _⟩ => ⟨S2048x256, .bf16⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .bf16⟩
  | .local _ .vmem, ⟨7, _⟩ => ⟨S32x128, .f32⟩
  | .local _ .vmem, ⟨8, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S32x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference13Ideal.lean ====
abbrev S32x2048 : Shape := ⟨2, ![32, 2048]⟩
abbrev S1x2048 : Shape := ⟨2, ![1, 2048]⟩
abbrev S2048x256 : Shape := ⟨2, ![2048, 256]⟩
abbrev S32x64 : Shape := ⟨2, ![32, 64]⟩
abbrev S2048 : Shape := ⟨1, ![2048]⟩
abbrev S_ : Shape := ⟨0, ![]⟩
abbrev S32 : Shape := ⟨1, ![32]⟩
abbrev S32x1 : Shape := ⟨2, ![32, 1]⟩
abbrev S32x256 : Shape := ⟨2, ![32, 256]⟩
abbrev S32x128 : Shape := ⟨2, ![32, 128]⟩

abbrev nBuf : Space → Nat
  | .hbm => 41
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S2048x256, .f32⟩
  | .hbm, ⟨3, _⟩ => ⟨S32x64, .f32⟩
  | .hbm, ⟨4, _⟩ => ⟨S32x64, .f32⟩
  | .hbm, ⟨5, _⟩ => ⟨S2048, .f32⟩
  | .hbm, ⟨6, _⟩ => ⟨S32x2048, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x2048, .f32⟩
  | .hbm, ⟨18, _⟩ => ⟨S32x2048, .f32⟩
  | .hbm, ⟨19, _⟩ => ⟨S1x2048, .f32⟩
  | .hbm, ⟨20, _⟩ => ⟨S32x2048, .f32⟩
  | .hbm, ⟨21, _⟩ => ⟨S32x2048, .f32⟩
  | .hbm, ⟨22, _⟩ => ⟨S32x256, .f32⟩
  | .hbm, ⟨23, _⟩ => ⟨S32x128, .f32⟩
  | .hbm, ⟨24, _⟩ => ⟨S32x128, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x128, .f32⟩
  | .hbm, ⟨34, _⟩ => ⟨S32x128, .bf16⟩
  | .hbm, ⟨35, _⟩ => ⟨S_, .f32⟩
  | .hbm, ⟨36, _⟩ => ⟨S32x128, .f32⟩
  | .hbm, ⟨37, _⟩ => ⟨S32x128, .f32⟩
  | .hbm, ⟨38, _⟩ => ⟨S_, .f32⟩
  | .hbm, ⟨39, _⟩ => ⟨S32x128, .f32⟩
  | .hbm, ⟨40, _⟩ => ⟨S32x128, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Kernel14.lean ====
abbrev S32x2048 : Shape := ⟨2, ![32, 2048]⟩
abbrev S1x2048 : Shape := ⟨2, ![1, 2048]⟩
abbrev S2048x3072 : Shape := ⟨2, ![2048, 3072]⟩
abbrev S32x1024 : Shape := ⟨2, ![32, 1024]⟩
abbrev S2048x1024 : Shape := ⟨2, ![2048, 1024]⟩
abbrev S32 : Shape := ⟨1, ![32]⟩
abbrev S32x1 : Shape := ⟨2, ![32, 1]⟩

abbrev nBuf : Space → Nat
  | .hbm => 9
  | .vmem => 15
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S2048x3072, .f32⟩
  | .hbm, ⟨3, _⟩ => ⟨S2048x3072, .bf16⟩
  | .hbm, ⟨4, _⟩ => ⟨S32x1024, .f32⟩
  | .hbm, ⟨5, _⟩ => ⟨S32x1024, .f32⟩
  | .hbm, ⟨6, _⟩ => ⟨S32x1024, .bf16⟩
  | .hbm, ⟨7, _⟩ => ⟨S32x1024, .f32⟩
  | .hbm, ⟨8, _⟩ => ⟨S32x1024, .bf16⟩
  | .local _ .vmem, ⟨0, _⟩ => ⟨S32x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .bf16⟩
  | .local _ .vmem, ⟨9, _⟩ => ⟨S32x1024, .bf16⟩
  | .local _ .vmem, ⟨10, _⟩ => ⟨S32x1024, .f32⟩
  | .local _ .vmem, ⟨11, _⟩ => ⟨S32x1024, .f32⟩
  | .local _ .vmem, ⟨12, _⟩ => ⟨S32x1024, .bf16⟩
  | .local _ .vmem, ⟨13, _⟩ => ⟨S32x1024, .bf16⟩
  | .local _ .vmem, ⟨14, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S32x2048 : Shape := ⟨2, ![32, 2048]⟩
abbrev S1x2048 : Shape := ⟨2, ![1, 2048]⟩
abbrev S2048x3072 : Shape := ⟨2, ![2048, 3072]⟩
abbrev S2048 : Shape := ⟨1, ![2048]⟩
abbrev S_ : Shape := ⟨0, ![]⟩
abbrev S32 : Shape := ⟨1, ![32]⟩
abbrev S32x1 : Shape := ⟨2, ![32, 1]⟩
abbrev S32x3072 : Shape := ⟨2, ![32, 3072]⟩
abbrev S32x1024 : Shape := ⟨2, ![32, 1024]⟩

abbrev nBuf : Space → Nat
  | .hbm => 26
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S2048x3072, .f32⟩
  | .hbm, ⟨3, _⟩ => ⟨S2048, .f32⟩
  | .hbm, ⟨4, _⟩ => ⟨S32x2048, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x2048, .f32⟩
  | .hbm, ⟨16, _⟩ => ⟨S32x2048, .f32⟩
  | .hbm, ⟨17, _⟩ => ⟨S1x2048, .f32⟩
  | .hbm, ⟨18, _⟩ => ⟨S32x2048, .f32⟩
  | .hbm, ⟨19, _⟩ => ⟨S32x2048, .f32⟩
  | .hbm, ⟨20, _⟩ => ⟨S32x3072, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S32x1024, .bf16⟩
  | .hbm, ⟨25, _⟩ => ⟨S32x1024, .bf16⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel15.lean ====
abbrev S32x2048 : Shape := ⟨2, ![32, 2048]⟩
abbrev S1x2048 : Shape := ⟨2, ![1, 2048]⟩
abbrev S2048x3072 : Shape := ⟨2, ![2048, 3072]⟩
abbrev S32x64 : Shape := ⟨2, ![32, 64]⟩
abbrev S32x128 : Shape := ⟨2, ![32, 128]⟩
abbrev S32x1024 : Shape := ⟨2, ![32, 1024]⟩
abbrev S2048x1024 : Shape := ⟨2, ![2048, 1024]⟩
abbrev S32 : Shape := ⟨1, ![32]⟩
abbrev S32x1 : Shape := ⟨2, ![32, 1]⟩

abbrev nBuf : Space → Nat
  | .hbm => 14
  | .vmem => 17
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S2048x3072, .f32⟩
  | .hbm, ⟨3, _⟩ => ⟨S32x64, .f32⟩
  | .hbm, ⟨4, _⟩ => ⟨S32x64, .f32⟩
  | .hbm, ⟨5, _⟩ => ⟨S2048x3072, .bf16⟩
  | .hbm, ⟨6, _⟩ => ⟨S32x128, .f32⟩
  | .hbm, ⟨7, _⟩ => ⟨S32x64, .f32⟩
  | .hbm, ⟨8, _⟩ => ⟨S32x128, .f32⟩
  | .hbm, ⟨9, _⟩ => ⟨S32x1024, .f32⟩
  | .hbm, ⟨10, _⟩ => ⟨S32x1024, .f32⟩
  | .hbm, ⟨11, _⟩ => ⟨S32x1024, .bf16⟩
  | .hbm, ⟨12, _⟩ => ⟨S32x1024, .f32⟩
  | .hbm, ⟨13, _⟩ => ⟨S32x1024, .bf16⟩
  | .local _ .vmem, ⟨0, _⟩ => ⟨S32x2048, .f32⟩
  | .local _ .vmem, ⟨1, _⟩ => ⟨S1x2048, .f32⟩
  | .local _ .vmem, ⟨2, _⟩ => ⟨S2048x1024, .bf16⟩
  | .local _ .vmem, ⟨3, _⟩ => ⟨S2048x1024, .bf16⟩
  | .local _ .vmem, ⟨4, _⟩ => ⟨S32x128, .f32⟩
  | .local _ .vmem, ⟨5, _⟩ => ⟨S32x128, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .bf16⟩
  | .local _ .vmem, ⟨11, _⟩ => ⟨S32x1024, .bf16⟩
  | .local _ .vmem, ⟨12, _⟩ => ⟨S32x1024, .f32⟩
  | .local _ .vmem, ⟨13, _⟩ => ⟨S32x1024, .f32⟩
  | .local _ .vmem, ⟨14, _⟩ => ⟨S32x1024, .bf16⟩
  | .local _ .vmem, ⟨15, _⟩ => ⟨S32x1024, .bf16⟩
  | .local _ .vmem, ⟨16, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![1, 3], ![false, false]⟩

def k0_cond2 (i : grid0.Coords) : BitVec 1 :=
  let arg1 : BitVec 32 := BitVec.ofNat 32 (i 1).val
  let c0_i32_4 : BitVec 32 := 0#32
  let v7 : BitVec 1 := Scalar.cmpi .eq arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def k0_cond4 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference15Ideal.lean ====
abbrev S32x2048 : Shape := ⟨2, ![32, 2048]⟩
abbrev S1x2048 : Shape := ⟨2, ![1, 2048]⟩
abbrev S2048x3072 : Shape := ⟨2, ![2048, 3072]⟩
abbrev S32x64 : Shape := ⟨2, ![32, 64]⟩
abbrev S2048 : Shape := ⟨1, ![2048]⟩
abbrev S_ : Shape := ⟨0, ![]⟩
abbrev S32 : Shape := ⟨1, ![32]⟩
abbrev S32x1 : Shape := ⟨2, ![32, 1]⟩
abbrev S32x3072 : Shape := ⟨2, ![32, 3072]⟩
abbrev S32x1024 : Shape := ⟨2, ![32, 1024]⟩
abbrev S32x8x128 : Shape := ⟨3, ![32, 8, 128]⟩
abbrev S32x1x64 : Shape := ⟨3, ![32, 1, 64]⟩
abbrev S32x8x64 : Shape := ⟨3, ![32, 8, 64]⟩

abbrev nBuf : Space → Nat
  | .hbm => 62
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S1x2048, .f32⟩
  | .hbm, ⟨2, _⟩ => ⟨S2048x3072, .f32⟩
  | .hbm, ⟨3, _⟩ => ⟨S32x64, .f32⟩
  | .hbm, ⟨4, _⟩ => ⟨S32x64, .f32⟩
  | .hbm, ⟨5, _⟩ => ⟨S2048, .f32⟩
  | .hbm, ⟨6, _⟩ => ⟨S32x2048, .f32⟩
  | .hbm, ⟨7, _⟩ => ⟨S_, .f32⟩
  | .hbm, ⟨8, _⟩ => ⟨S32, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S32x1, .f32⟩
  | .hbm, ⟨17, _⟩ => ⟨S32x2048, .f32⟩
  | .hbm, ⟨18, _⟩ => ⟨S32x2048, .f32⟩
  | .hbm, ⟨19, _⟩ => ⟨S1x2048, .f32⟩
  | .hbm, ⟨20, _⟩ => ⟨S32x2048, .f32⟩
  | .hbm, ⟨21, _⟩ => ⟨S32x2048, .f32⟩
  | .hbm, ⟨22, _⟩ => ⟨S32x3072, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x8x128, .f32⟩
  | .hbm, ⟨27, _⟩ => ⟨S32x1x64, .f32⟩
  | .hbm, ⟨28, _⟩ => ⟨S32x1x64, .f32⟩
  | .hbm, ⟨29, _⟩ => ⟨S32x8x64, .f32⟩
  | .hbm, ⟨30, _⟩ => ⟨S32x8x64, .f32⟩
  | .hbm, ⟨31, _⟩ => ⟨S32x8x64, .f32⟩
  | .hbm, ⟨32, _⟩ => ⟨S32x8x64, .f32⟩
  | .hbm, ⟨33, _⟩ => ⟨S32x8x64, .f32⟩
  | .hbm, ⟨34, _⟩ => ⟨S32x8x64, .f32⟩
  | .hbm, ⟨35, _⟩ => ⟨S32x8x64, .f32⟩
  | .hbm, ⟨36, _⟩ => ⟨S32x8x64, .f32⟩
  | .hbm, ⟨37, _⟩ => ⟨S32x8x64, .f32⟩
  | .hbm, ⟨38, _⟩ => ⟨S32x8x64, .f32⟩
  | .hbm, ⟨39, _⟩ => ⟨S32x8x64, .f32⟩
  | .hbm, ⟨40, _⟩ => ⟨S32x8x64, .f32⟩
  | .hbm, ⟨41, _⟩ => ⟨S32x8x128, .f32⟩
  | .hbm, ⟨42, _⟩ => ⟨S32x1024, .f32⟩
  | .hbm, ⟨43, _⟩ => ⟨S32x8x128, .f32⟩
  | .hbm, ⟨44, _⟩ => ⟨S32x1x64, .f32⟩
  | .hbm, ⟨45, _⟩ => ⟨S32x1x64, .f32⟩
  | .hbm, ⟨46, _⟩ => ⟨S32x8x64, .f32⟩
  | .hbm, ⟨47, _⟩ => ⟨S32x8x64, .f32⟩
  | .hbm, ⟨48, _⟩ => ⟨S32x8x64, .f32⟩
  | .hbm, ⟨49, _⟩ => ⟨S32x8x64, .f32⟩
  | .hbm, ⟨50, _⟩ => ⟨S32x8x64, .f32⟩
  | .hbm, ⟨51, _⟩ => ⟨S32x8x64, .f32⟩
  | .hbm, ⟨52, _⟩ => ⟨S32x8x64, .f32⟩
  | .hbm, ⟨53, _⟩ => ⟨S32x8x64, .f32⟩
  | .hbm, ⟨54, _⟩ => ⟨S32x8x64, .f32⟩
  | .hbm, ⟨55, _⟩ => ⟨S32x8x64, .f32⟩
  | .hbm, ⟨56, _⟩ => ⟨S32x8x64, .f32⟩
  | .hbm, ⟨57, _⟩ => ⟨S32x8x64, .f32⟩
  | .hbm, ⟨58, _⟩ => ⟨S32x8x128, .f32⟩
  | .hbm, ⟨59, _⟩ => ⟨S32x1024, .f32⟩
  | .hbm, ⟨60, _⟩ => ⟨S32x1024, .bf16⟩
  | .hbm, ⟨61, _⟩ => ⟨S32x1024, .bf16⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩

abbrev nD : Nat := 1
abbrev τ : Topo := Topo.v7x

variable {F : FTy → Type} [FloatOps F]
-- ==== Proof.MergeValue.lean ====
/- The value of the gated merge: the logistic gate, written through the hyperbolic tangent in the kernel, times each
   branch's projection. -/
module

public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Merge

/-- Half as an extended real, as the constant's bits read. -/
theorem half_bits : (Ideal.ofBits .f32 0x3F000000#32 : EReal) = ((1 / 2 : ℝ) : EReal) := by
  simp [Ideal.ofBits, Ideal.ieee, -EReal.coe_mul]; norm_num

/-- The logistic function of a real number through the hyperbolic tangent of its half. -/
theorem logistic_real (r : ℝ) : 1 / 2 * Real.tanh (1 / 2 * r) + 1 / 2 = (1 + Real.exp (-r))⁻¹ := by
  have h1 : (0 : ℝ) < Real.exp (1 / 2 * r) := Real.exp_pos _
  have h2 : Real.exp (-r) = (Real.exp (1 / 2 * r))⁻¹ * (Real.exp (1 / 2 * r))⁻¹ := by
    rw [← Real.exp_neg, ← Real.exp_add]
    congr 1
    ring
  rw [Real.tanh_eq_sinh_div_cosh, Real.sinh_eq, Real.cosh_eq, Real.exp_neg, h2]
  field_simp
  ring

/-- … and of any extended real. -/
theorem logistic_tanh (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot]
    have : (-1 : EReal) = ((-1 : ℝ) : EReal) := by norm_num
    rw [this, ← EReal.coe_mul, ← EReal.coe_add]
    norm_num
  | coe r =>
    rw [← EReal.coe_mul, Ideal.tanh_coe, Ideal.logistic_coe, ← EReal.coe_mul, ← EReal.coe_add, logistic_real]
  | top =>
    rw [EReal.coe_mul_top_of_pos (by norm_num), Ideal.tanh_top, Ideal.logistic_top]
    have : (1 : EReal) = ((1 : ℝ) : EReal) := by norm_num
    rw [this, ← EReal.coe_mul, ← EReal.coe_add]
    norm_num

end Cert.Merge

namespace Cert.Reference3Ideal.Merge

open Cert.Reference3Ideal Cert.Reference3Ideal.Gen

/-- One branch: its projection under its gate. -/
def BRANCH (g : FVec Ideal S8192x2048 .f32) (O : FVec Ideal S8192x1024 .bf16) (W : FVec Ideal S1024x2048 .bf16) :
    FVec Ideal S8192x2048 .f32 :=
  mulf (Host.divf (broadcastInDim S8192x2048 ![] bcast_S_S8192x2048 (constant S_ .f32 0x3F800000#32))
    (addf (broadcastInDim S8192x2048 ![] bcast_S_S8192x2048 (constant S_ .f32 0x3F800000#32)) (Host.exp (Host.negf g))))
    (Host.dotGeneral dot_S8192x1024_S1024x2048_S8192x2048_1_0_0_1_n_n none (extf .f32 O bitsLt_bf16_f32)
      (extf .f32 W bitsLt_bf16_f32))

/-- The sum of the two branches. -/
def MERGE (O D : FVec Ideal S8192x1024 .bf16) (WO WD : FVec Ideal S1024x2048 .bf16) (G : FVec Ideal S8192x4096 .f32) :
    FVec Ideal S8192x2048 .bf16 :=
  truncf .bf16 (addf (BRANCH (extractStridedSlice S8192x2048 ![0, 0] G slices_S8192x4096_S8192x2048_0_0) O WO)
    (BRANCH (extractStridedSlice S8192x2048 ![0, 2048] G slices_S8192x4096_S8192x2048_0_2048) D WD)) bitsLt_bf16_f32

theorem branch_apply (g O W) (i : S8192x2048.Idx) : BRANCH g O W i
    = Ideal.logistic (g i) * ∑ k : Fin 1024, O (ix2 (i 0) k) * W (ix2 k (i 1)) := by
  pointwise [BRANCH, Ideal.logistic]

theorem lo (i : S8192x2048.Idx) : (i 1).val < 4096 := by have : (i 1).val < 2048 := (i 1).isLt; omega
theorem hi (i : S8192x2048.Idx) : 2048 + (i 1).val < 4096 := by have : (i 1).val < 2048 := (i 1).isLt; omega

theorem slice_lo (G : FVec Ideal S8192x4096 .f32) (i : S8192x2048.Idx) :
    extractStridedSlice S8192x2048 ![0, 0] G slices_S8192x4096_S8192x2048_0_0 i = G (ix2 (i 0) ⟨(i 1).val, lo i⟩) := by
  pointwise []

theorem slice_hi (G : FVec Ideal S8192x4096 .f32) (i : S8192x2048.Idx) :
    extractStridedSlice S8192x2048 ![0, 2048] G slices_S8192x4096_S8192x2048_0_2048 i = G (ix2 (i 0) ⟨2048 + (i 1).val, hi i⟩) := by
  pointwise []

theorem merge_apply (O D WO WD G) (i : S8192x2048.Idx) : MERGE O D WO WD G i
    = Ideal.logistic (G (ix2 (i 0) ⟨(i 1).val, lo i⟩)) * (∑ k : Fin 1024, O (ix2 (i 0) k) * WO (ix2 k (i 1)))
      + Ideal.logistic (G (ix2 (i 0) ⟨2048 + (i 1).val, hi i⟩)) * (∑ k : Fin 1024, D (ix2 (i 0) k) * WD (ix2 k (i 1))) := by
  show BRANCH _ O WO i + BRANCH _ D WD i = _
  rw [branch_apply, branch_apply, slice_lo, slice_hi]

end Cert.Reference3Ideal.Merge

namespace Cert.Kernel3Ideal.Merge

open Cert.Reference3Ideal.Merge Cert.Merge

open Cert.Kernel3Ideal Cert.Kernel3Ideal.Gen

variable (m : (ℓ : Loc nD τ sig) → Buf (Elt Ideal) ℓ)

theorem hpay (a wa d wd ga gd) (j) : k0_pay1 (F := Ideal) a wa d wd ga gd j
    = Ideal.logistic (ga j) * (∑ k : Fin 1024, a (ix2 (j 0) k) * wa (ix2 k (j 1)))
      + Ideal.logistic (gd j) * (∑ k : Fin 1024, d (ix2 (j 0) k) * wd (ix2 k (j 1))) := by
  rw [← logistic_tanh, ← logistic_tanh, ← half_bits]
  pointwise [k0_pay1]

theorem idx : ∀ t : Fin cfg0.N, win0_0.index t = ![t.val / 2, 0] ∧ win0_1.index t = ![t.val / 2, 0]
    ∧ win0_2.index t = ![0, t.val % 2] ∧ win0_3.index t = ![0, t.val % 2]
    ∧ win0_4.index t = ![t.val / 2, t.val % 2] ∧ win0_5.index t = ![t.val / 2, 2 + t.val % 2]
    ∧ win0_6.index t = ![t.val / 2, t.val % 2] :=
  (by decide +kernel : ∀ t : Fin grid0.N, _)

/-- The result array after the run. -/
theorem final (c : Dev nD) : (dats m 0 c).arrAt 6 (cfgs 0).N
    = MERGE (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  unfold out0_6
  frame_out
  rw [hpay, merge_apply]
  refine congrArg₂ (fun a b : EReal => a + b) (congrArg₂ (fun a b : EReal => a * b) (congrArg Ideal.logistic ?_)
    (Finset.sum_congr rfl fun k _ => ?_)) (congrArg₂ (fun a b : EReal => a * b) (congrArg Ideal.logistic ?_)
    (Finset.sum_congr rfl fun k _ => ?_))
  · blk_point [iblk, V, idx t]
  · blk_point [iblk, V, idx t]
  · blk_point [iblk, V, idx t]
  · blk_point [iblk, V, idx t]

end Cert.Kernel3Ideal.Merge

end
-- ==== Proof.OutValue.lean ====
/- The value of the output projection: the residual sum, and its RMS normalisation. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference4Ideal.Out

open Cert.Reference4Ideal Cert.Reference4Ideal.Gen

/-- The residual sum. -/
def SUM (A : FVec Ideal S8192x2048 .bf16) (W : FVec Ideal S2048x2048 .bf16) (R : FVec Ideal S8192x2048 .f32) :
    FVec Ideal S8192x2048 .f32 :=
  addf R (Host.dotGeneral dot_S8192x2048_S2048x2048_S8192x2048_1_0_0_1_n_n none
    (extf .f32 A bitsLt_bf16_f32) (extf .f32 W bitsLt_bf16_f32))

/-- RMS normalisation of the rows of a matrix, with its gain. -/
def NORM (Y : FVec Ideal S8192x2048 .f32) (G : FVec Ideal S1x2048 .f32) : FVec Ideal S8192x2048 .bf16 :=
  truncf .bf16 (mulf (mulf Y (broadcastInDim S8192x2048 ![0, 1] bcast_S8192x1_S8192x2048_0_1 (Host.rsqrt (addf (Host.divf
    (broadcastInDim S8192x1 ![0] bcast_S8192_S8192x1_0 (Host.reduceAdd (mulf Y Y) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast _ G shapeCasts_S1x2048_S2048)))) bitsLt_bf16_f32

end Cert.Reference4Ideal.Out

namespace Cert.Kernel4Ideal.Out

open Cert.Reference4Ideal.Out

open Cert.Kernel4Ideal Cert.Kernel4Ideal.Gen

variable (m : (ℓ : Loc nD τ sig) → Buf (Elt Ideal) ℓ)

theorem hsum (x0 x1 r) (j) : k0_pay3 (F := Ideal) r (k0_pay2 (F := Ideal) (k0_pay1 (F := Ideal)) x0 x1) j
    = r j + ∑ k : Fin 2048, x0 (ix2 (j 0) k) * x1 (ix2 k (j 1)) := by
  pointwise [k0_pay3, k0_pay2, k0_pay1]

theorem href (A W R j) : SUM A W R j = R j + ∑ k : Fin 2048, A (ix2 (j 0) k) * W (ix2 k (j 1)) := by pointwise [SUM]

theorem idx : ∀ t : Fin cfg0.N, win0_0.index t = ![t.val, 0] ∧ win0_1.index t = ![0, 0]
    ∧ win0_2.index t = ![t.val, 0] ∧ win0_3.index t = ![0, 0] ∧ win0_4.index t = ![t.val, 0] ∧ win0_5.index t = ![t.val, 0] :=
  (by decide +kernel : ∀ t : Fin grid0.N, _)

theorem outs (c : Dev nD) (t : Fin cfg0.N) : outsAt0 m c t
    = (k0_pay3 (iblk m c 2 t) (k0_pay2 (F := Ideal) (k0_pay1 (F := Ideal)) (iblk m c 0 t) (iblk m c 1 t)),
       k0_pay4 (iblk m c 2 t) (k0_pay2 (F := Ideal) (k0_pay1 (F := Ideal)) (iblk m c 0 t) (iblk m c 1 t)) (iblk m c 3 t)) := by
  unfold outsAt0
  frame_out

theorem sum_at (c : Dev nD) (t : Fin cfg0.N) (y : S512x2048.Idx) :
    k0_pay3 (F := Ideal) (iblk m c 2 t) (k0_pay2 (F := Ideal) (k0_pay1 (F := Ideal)) (iblk m c 0 t) (iblk m c 1 t)) y
      = SUM (m ((c : Thread nD τ).loc main_arg0)) (m ((c : Thread nD τ).loc main_arg1)) (m ((c : Thread nD τ).loc main_arg2))
          (((cfg0.win 4).blk t).view.emb y) := by
  rw [hsum, href]
  refine congrArg₂ (fun a b : EReal => a + b) ?_ (Finset.sum_congr rfl fun k _ => ?_)
  · blk_point [iblk, V, idx t]
  · blk_point [iblk, V, idx t]

theorem norm_at (t : Fin cfg0.N) (x r : FVec Ideal S512x2048 .f32) (g : FVec Ideal S1x2048 .f32)
    (Y : FVec Ideal Cert.Reference4Ideal.S8192x2048 .f32) (G : FVec Ideal Cert.Reference4Ideal.S1x2048 .f32)
    (h : ∀ y, k0_pay3 (F := Ideal) x r y = Y (((cfg0.win 4).blk t).view.emb y))
    (hg : g = G) (y : S512x2048.Idx) :
    k0_pay4 x r g y = NORM Y G (((cfg0.win 5).blk t).view.emb y) := by
  have h' : ∀ y : S512x2048.Idx, x y + r y = Y (((cfg0.win 4).blk t).view.emb y) := h
  pointwise [k0_pay4, k0_pay3, NORM]
  have hY : ∀ k : Fin 2048, x (ix2 (y 0) k) + r (ix2 (y 0) k) = Y (ix2 (((cfg0.win 5).blk t).view.emb y 0) k) := fun k => by
    rw [h' (ix2 (y 0) k)]
    blk_ext [idx t]
  have hy : x y + r y = Y (((cfg0.win 5).blk t).view.emb y) := by
    rw [h' y]
    blk_ext [idx t]
  have hG : g (ix2 0 (y 1)) = G (ix2 0 (((cfg0.win 5).blk t).view.emb y 1)) := by
    rw [hg]
    blk_ext [idx t]
  have hs := Finset.sum_congr rfl fun (k : Fin 2048) (_ : k ∈ Finset.univ) => congrArg₂ (fun a b : EReal => a * b) (hY k) (hY k)
  refine congrArg₂ (fun a b : EReal => a * b) (congrArg₂ (fun a b : EReal => a * b) hy
    (congrArg (fun a : EReal => Ideal.rsqrt (Ideal.div a _ + _)) hs)) hG

/-- The residual sum's array after the run. -/
theorem final_sum (c : Dev nD) : (dats m 0 c).arrAt 4 (cfgs 0).N
    = SUM (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, outs m c t]
  exact sum_at m c t y

/-- The normalised array after the run. -/
theorem final_norm (c : Dev nD) : (dats m 0 c).arrAt 5 (cfgs 0).N
    = NORM (SUM (m ((c : Thread nD τ).loc main_arg0)) (m ((c : Thread nD τ).loc main_arg1)) (m ((c : Thread nD τ).loc main_arg2)))
        (m ((c : Thread nD τ).loc main_arg3)) := by
  refine (dats m 0 c).arrAt_eq_of_covers 5 _ (by decide +kernel) fun t hf y => ?_
  blk_simp
  rw [after0_5, outs m c t]
  exact norm_at t _ _ _ _ _ (sum_at m c t) (by blk_ext! [iblk, V, idx t]) y

end Cert.Kernel4Ideal.Out

end
-- ==== Proof.GateValue.lean ====
/- The value of the gate projection: the rows are normalised at the first column block and kept for the other three. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference5Ideal.Gate

open Cert.Reference5Ideal Cert.Reference5Ideal.Gen

/-- RMS normalisation of the rows of a matrix, with its gain. -/
def NORM (Y : FVec Ideal S8192x2048 .f32) (G : FVec Ideal S1x2048 .f32) : FVec Ideal S8192x2048 .f32 :=
  mulf (mulf Y (broadcastInDim S8192x2048 ![0, 1] bcast_S8192x1_S8192x2048_0_1 (Host.rsqrt (addf (Host.divf
    (broadcastInDim S8192x1 ![0] bcast_S8192_S8192x1_0 (Host.reduceAdd (mulf Y Y) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast _ G shapeCasts_S1x2048_S2048)))

/-- The normalised rows times the gate's columns. -/
def PROJ (X : FVec Ideal S8192x2048 .f32) (G : FVec Ideal S1x2048 .f32) (W : FVec Ideal S2048x4096 .f32) :
    FVec Ideal S8192x4096 .f32 :=
  Host.dotGeneral dot_S8192x2048_S2048x4096_S8192x4096_1_0_0_1_n_n none (NORM X G) W

theorem proj_apply (X G W) (i : S8192x4096.Idx) : PROJ X G W i = ∑ k : Fin 2048, NORM X G (ix2 (i 0) k) * W (ix2 k (i 1)) := by
  unfold PROJ
  generalize NORM X G = Y
  pointwise []

end Cert.Reference5Ideal.Gate

namespace Cert.Kernel5Ideal.Gate

open Cert.Reference5Ideal.Gate

open Cert.Kernel5Ideal Cert.Kernel5Ideal.Gen

variable (m : (ℓ : Loc nD τ sig) → Buf (Elt Ideal) ℓ)

/-- The activations and the gain of a point. -/
abbrev X (c : Dev nD) (t : Fin cfg0.N) : FVec Ideal S512x2048 .f32 := iblk m c 0 t
abbrev G (c : Dev nD) (t : Fin cfg0.N) : FVec Ideal S1x2048 .f32 := iblk m c 1 t
abbrev W (c : Dev nD) (t : Fin cfg0.N) : FVec Ideal S2048x1024 .bf16 := iblk m c 2 t

theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- Within a row block the activations and the gain are the same blocks. -/
theorem blk_congr (c : Dev nD) (t t' : Fin cfg0.N) (h : t.val / 4 = t'.val / 4) :
    X m c t = X m c t' ∧ G m c t = G m c t' := by
  constructor
  · funext y
    show iblk m c 0 t y = iblk m c 0 t' y
    unfold iblk
    generalize V m c = B
    blk_point [idx t, idx t', h]
  · funext y
    show iblk m c 1 t y = iblk m c 1 t' y
    unfold iblk
    generalize V m c = B
    blk_point [idx t, idx t', h]

/-- What every point leaves: the normalised rows, and their product with the point's columns. -/
theorem state (c : Dev nD) (n : ℕ) (hn : n < cfg0.N) :
    (outsAt0 m c n hn).2 = k0_pay1 (F := Ideal) (X m c ⟨n, hn⟩) (G m c ⟨n, hn⟩)
    ∧ (outsAt0 m c n hn).1 = k0_pay2 (F := Ideal) (k0_pay1 (F := Ideal) (X m c ⟨n, hn⟩) (G m c ⟨n, hn⟩)) (W m c ⟨n, hn⟩) := by
  induction n with
  | zero =>
    rw [outsAt0_A m c ⟨0, hn⟩ (Nat.zero_mod 4) (Nat.zero_mod 4) (by simp) (by simp) (by simp)]
    constructor <;> frame_out
  | succ n ih =>
    have ih := (ih (by omega)).1
    by_cases h0 : (n + 1) % 4 = 0
    · rw [outsAt0_A m c ⟨n + 1, hn⟩ h0 h0 (by show ¬(n + 1) % 4 = 1; omega) (by show ¬(n + 1) % 4 = 2; omega)
        (by show ¬(n + 1) % 4 = 3; omega)]
      constructor <;> frame_out
    · have hb := blk_congr m c ⟨n, by omega⟩ ⟨n + 1, hn⟩ (by show n / 4 = (n + 1) / 4; omega)
      rw [hb.1, hb.2] at ih
      by_cases h1 : (n + 1) % 4 = 1
      · rw [outsAt0_B m c ⟨n + 1, hn⟩ h0 h0 h1 (by show ¬(n + 1) % 4 = 2; omega) (by show ¬(n + 1) % 4 = 3; omega)]
        rw [← ih]
        constructor <;> frame_out <;> (try rw [read_unread_whole]) <;> rfl
      · by_cases h2 : (n + 1) % 4 = 2
        · rw [outsAt0_C m c ⟨n + 1, hn⟩ h0 h0 h1 h2 (by show ¬(n + 1) % 4 = 3; omega)]
          rw [← ih]
          constructor <;> frame_out <;> (try rw [read_unread_whole]) <;> rfl
        · rw [outsAt0_D m c ⟨n + 1, hn⟩ h0 h0 h1 h2 (by show (n + 1) % 4 = 3; omega)]
          rw [← ih]
          constructor <;> frame_out <;> (try rw [read_unread_whole]) <;> rfl

theorem hdot (h w) (j) : k0_pay2 (F := Ideal) h w j = ∑ k : Fin 2048, h (ix2 (j 0) k) * w (ix2 k (j 1)) := by
  pointwise [k0_pay2]

theorem V_w (c : Dev nD) : @Eq (FVec Ideal S2048x4096 .bf16) (V m c main_v0)
    (truncf (F := Ideal) (s := S2048x4096) (φ := .f32) .bf16 (m ((c : Thread nD τ).loc main_arg2)) bitsLt_bf16_f32) := by
  unfold V
  after_results

/-- The gain read off its block. -/
theorem gain_at (c : Dev nD) (t : Fin cfg0.N) (k : Fin 2048) :
    G m c t (ix2 0 k) = (m ((c : Thread nD τ).loc main_arg1) : FVec Ideal S1x2048 .f32) (ix2 0 k) := by
  rw [← V_main_arg1 m c]
  show iblk m c 1 t (ix2 0 k) = _
  unfold iblk
  generalize V m c = B
  blk_point [idx t]

/-- The activations read off their block. -/
theorem row_at (c : Dev nD) (t : Fin cfg0.N) (y : S512x1024.Idx) (k : Fin 2048) :
    X m c t (ix2 (y 0) k) = (m ((c : Thread nD τ).loc main_arg0) : FVec Ideal S8192x2048 .f32)
      (ix2 (((cfg0.win 3).blk t).view.emb y 0) k) := by
  rw [← V_main_arg0 m c]
  show iblk m c 0 t (ix2 (y 0) k) = _
  unfold iblk
  generalize V m c = B
  blk_point [idx t]

/-- The columns of the weight read off their block. -/
theorem col_at (c : Dev nD) (t : Fin cfg0.N) (y : S512x1024.Idx) (k : Fin 2048) :
    W m c t (ix2 k (y 1)) = (m ((c : Thread nD τ).loc main_arg2) : FVec Ideal S2048x4096 .f32)
      (ix2 k (((cfg0.win 3).blk t).view.emb y 1)) := by
  have h : W m c t (ix2 k (y 1)) = (V m c main_v0 : FVec Ideal S2048x4096 .bf16) (ix2 k (((cfg0.win 3).blk t).view.emb y 1)) := by
    show iblk m c 2 t (ix2 k (y 1)) = _
    unfold iblk
    generalize V m c = B
    blk_point [idx t]
  rw [h, V_w]
  rfl

/-- A normalised row of a block is the reference's. -/
theorem norm_at (x : FVec Ideal S512x2048 .f32) (g : FVec Ideal S1x2048 .f32)
    (Y : FVec Ideal Cert.Reference5Ideal.S8192x2048 .f32) (R : FVec Ideal Cert.Reference5Ideal.S1x2048 .f32)
    (r : Fin 512) (i : Fin 8192) (h : ∀ k, x (ix2 r k) = Y (ix2 i k)) (hg : ∀ k, g (ix2 0 k) = R (ix2 0 k)) (k : Fin 2048) :
    k0_pay1 (F := Ideal) x g (ix2 r k) = NORM Y R (ix2 i k) := by
  pointwise [k0_pay1, NORM]
  have hs := Finset.sum_congr rfl fun (k : Fin 2048) (_ : k ∈ Finset.univ) => congrArg₂ (fun a b : EReal => a * b) (h k) (h k)
  exact congrArg₂ (fun a b : EReal => a * b) (congrArg₂ (fun a b : EReal => a * b) (h k)
    (congrArg (fun a : EReal => Ideal.rsqrt (Ideal.div a _ + _)) hs)) (hg k)

/-- The result array after the run. -/
theorem final (c : Dev nD) : (dats m 0 c).arrAt 3 (cfgs 0).N
    = PROJ (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, (state m c t.val t.isLt).2, hdot, proj_apply]
  exact congrArg (fun a : EReal => a) (Finset.sum_congr rfl fun k _ => congrArg₂ (fun a b : EReal => a * b)
    (norm_at _ _ _ _ _ _ (row_at m c t y) (gain_at m c t) k) (col_at m c t y k))

end Cert.Kernel5Ideal.Gate

end
-- ==== Proof.KiwiValue.lean ====
/- The value of the indexer's key and head-weight projection. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference6Ideal.Kiwi

open Cert.Reference6Ideal Cert.Reference6Ideal.Gen

/-- RMS normalisation of the rows of a matrix, with its gain. -/
def NORM (Y : FVec Ideal S8192x2048 .f32) (G : FVec Ideal S1x2048 .f32) : FVec Ideal S8192x2048 .f32 :=
  mulf (mulf Y (broadcastInDim S8192x2048 ![0, 1] bcast_S8192x1_S8192x2048_0_1 (Host.rsqrt (addf (Host.divf
    (broadcastInDim S8192x1 ![0] bcast_S8192_S8192x1_0 (Host.reduceAdd (mulf Y Y) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast _ G shapeCasts_S1x2048_S2048)))

/-- The normalised rows times the weight of the keys and the heads. -/
def PROJ (X : FVec Ideal S8192x2048 .f32) (G : FVec Ideal S1x2048 .f32) (W : FVec Ideal S2048x256 .f32) :
    FVec Ideal S8192x256 .f32 :=
  Host.dotGeneral dot_S8192x2048_S2048x256_S8192x256_1_0_0_1_n_n none (NORM X G) W

/-- The rotary embedding of the first 128 columns: the two halves turned by the angle of the row. -/
def ROPE (D : FVec Ideal S8192x256 .f32) (C S : FVec Ideal S8192x64 .f32) : FVec Ideal S8192x128 .f32 :=
  concatenate S8192x128 1 [⟨S8192x64, (subf
      (mulf (extractStridedSlice S8192x64 ![0, 0] (extractStridedSlice S8192x128 ![0, 0] D slices_S8192x256_S8192x128_0_0) slices_S8192x128_S8192x64_0_0) C)
      (mulf (extractStridedSlice S8192x64 ![0, 64] (extractStridedSlice S8192x128 ![0, 0] D slices_S8192x256_S8192x128_0_0) slices_S8192x128_S8192x64_0_64) S))⟩,
    ⟨S8192x64, (addf
      (mulf (extractStridedSlice S8192x64 ![0, 64] (extractStridedSlice S8192x128 ![0, 0] D slices_S8192x256_S8192x128_0_0) slices_S8192x128_S8192x64_0_64) C)
      (mulf (extractStridedSlice S8192x64 ![0, 0] (extractStridedSlice S8192x128 ![0, 0] D slices_S8192x256_S8192x128_0_0) slices_S8192x128_S8192x64_0_0) S))⟩]
    concatenates_S8192x64_S8192x64_S8192x128_d1

/-- The last 128 columns scaled. -/
def SCALE (D : FVec Ideal S8192x256 .f32) : FVec Ideal S8192x128 .f32 :=
  mulf (mulf (extractStridedSlice S8192x128 ![0, 128] D slices_S8192x256_S8192x128_0_128)
    (broadcastInDim S8192x128 ![] bcast_S_S8192x128 (constant S_ .f32 0x3E800000#32)))
    (broadcastInDim S8192x128 ![] bcast_S_S8192x128 (constant S_ .f32 0x3DB504F3#32))

theorem proj_apply (X G W) (i : S8192x256.Idx) : PROJ X G W i = ∑ k : Fin 2048, NORM X G (ix2 (i 0) k) * W (ix2 k (i 1)) := by
  unfold PROJ
  generalize NORM X G = Y
  pointwise []

/-- The rotation read at a column of the first half, and of the second. -/
theorem rope_left (D C S) (r : Fin 8192) (c : Fin 64) (h : c.val < 128) (h1 : c.val < 256) (h2 : c.val + 64 < 256) :
    ROPE D C S (ix2 r ⟨c.val, h⟩) = D (ix2 r ⟨c.val, h1⟩) * C (ix2 r c) - D (ix2 r ⟨c.val + 64, h2⟩) * S (ix2 r c) := by
  pointwise [ROPE]
  simp only [Nat.add_comm 64]

theorem rope_right (D C S) (r : Fin 8192) (c : Fin 64) (h : c.val + 64 < 128) (h1 : c.val < 256) (h2 : c.val + 64 < 256) :
    ROPE D C S (ix2 r ⟨c.val + 64, h⟩) = D (ix2 r ⟨c.val + 64, h2⟩) * C (ix2 r c) + D (ix2 r ⟨c.val, h1⟩) * S (ix2 r c) := by
  pointwise [ROPE]
  rw [dif_neg (by omega)]
  simp only [Nat.add_sub_cancel, Nat.add_comm 64]

theorem scale_apply (D) (r : Fin 8192) (c : Fin 128) (h : 128 + c.val < 256) :
    SCALE D (ix2 r c) = D (ix2 r ⟨128 + c.val, h⟩) * Ideal.ofBits .f32 0x3E800000#32 * Ideal.ofBits .f32 0x3DB504F3#32 := by
  pointwise [SCALE]

/-- The reference's results of a device's arguments. -/
theorem res_0 (m : (ℓ : Loc nD τ sig) → Buf (Elt Ideal) ℓ) (c : Dev nD) : Cert.Reference6Ideal.Value.res_out0 m c
    = ROPE (PROJ (m ((c : Thread nD τ).loc main_arg0)) (m ((c : Thread nD τ).loc main_arg1)) (m ((c : Thread nD τ).loc main_arg2)))
      (m ((c : Thread nD τ).loc main_arg3)) (m ((c : Thread nD τ).loc main_arg4)) := by
  unfold Cert.Reference6Ideal.Value.res_out0 Cert.Reference6Ideal.Value.res_main_v25
  rfl

theorem res_1 (m : (ℓ : Loc nD τ sig) → Buf (Elt Ideal) ℓ) (c : Dev nD) : Cert.Reference6Ideal.Value.res_out1 m c
    = truncf (F := Ideal) (s := S8192x128) (φ := .f32) .bf16 (ROPE (PROJ (m ((c : Thread nD τ).loc main_arg0))
      (m ((c : Thread nD τ).loc main_arg1)) (m ((c : Thread nD τ).loc main_arg2)))
      (m ((c : Thread nD τ).loc main_arg3)) (m ((c : Thread nD τ).loc main_arg4))) bitsLt_bf16_f32 := by
  unfold Cert.Reference6Ideal.Value.res_out1 Cert.Reference6Ideal.Value.res_main_v26
  rfl

end Cert.Reference6Ideal.Kiwi

namespace Cert.Kernel6Ideal.Kiwi

open Cert.Reference6Ideal.Kiwi

open Cert.Kernel6Ideal Cert.Kernel6Ideal.Gen

variable (m : (ℓ : Loc nD τ sig) → Buf (Elt Ideal) ℓ)

/-- The blocks of a point: activations, gain, weight, and the two tables of the rotation. -/
abbrev X (c : Dev nD) (t : Fin cfg0.N) : FVec Ideal S512x2048 .f32 := iblk m c 0 t
abbrev G (c : Dev nD) (t : Fin cfg0.N) : FVec Ideal S1x2048 .f32 := iblk m c 1 t
abbrev W (c : Dev nD) (t : Fin cfg0.N) : FVec Ideal S2048x256 .bf16 := iblk m c 2 t
abbrev C (c : Dev nD) (t : Fin cfg0.N) : FVec Ideal S512x128 .f32 := iblk m c 3 t
abbrev S (c : Dev nD) (t : Fin cfg0.N) : FVec Ideal S512x128 .f32 := iblk m c 4 t

theorem idx : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

theorem outs (c : Dev nD) (t : Fin cfg0.N) :
    (outsAt0 m c t).1 = k0_pay3 (F := Ideal) (k0_pay1 (F := Ideal) (X m c t) (G m c t)) (W m c t) (C m c t) (S m c t)
    ∧ (outsAt0 m c t).2.1 = truncf .bf16 (k0_pay3 (F := Ideal) (k0_pay1 (F := Ideal) (X m c t) (G m c t)) (W m c t) (C m c t) (S m c t)) bitsLt_bf16_f32
    ∧ (outsAt0 m c t).2.2 = k0_pay5 (F := Ideal) (k0_pay1 (F := Ideal) (X m c t) (G m c t)) (W m c t) := by
  unfold outsAt0
  refine ⟨?_, ?_, ?_⟩ <;> frame_out <;> rfl

theorem hdot (h w) (j) : k0_pay2 (F := Ideal) h w j = ∑ k : Fin 2048, h (ix2 (j 0) k) * w (ix2 k (j 1)) := by
  pointwise [k0_pay2]

/-- The rotation of a block: each column with the one half a turn away. -/
theorem rope_left (h : FVec Ideal S512x2048 .bf16) (w : FVec Ideal S2048x256 .bf16) (C S : FVec Ideal S512x128 .f32)
    (r : Fin 512) (c : Fin 64) (h0 : c.val < 128) (h1 : c.val < 256) (h2 : c.val + 64 < 256) :
    k0_pay3 (F := Ideal) h w C S (ix2 r ⟨c.val, h0⟩)
      = k0_pay2 (F := Ideal) h w (ix2 r ⟨c.val, h1⟩) * C (ix2 r ⟨c.val, h0⟩)
        + k0_pay2 (F := Ideal) h w (ix2 r ⟨c.val + 64, h2⟩) * S (ix2 r ⟨c.val, h0⟩) := by
  unfold k0_pay3
  generalize k0_pay2 (F := Ideal) h w = D
  have e : (c.val + 128 - 64) % 128 = c.val + 64 := by omega
  pointwise []
  simp only [e]

theorem rope_right (h : FVec Ideal S512x2048 .bf16) (w : FVec Ideal S2048x256 .bf16) (C S : FVec Ideal S512x128 .f32)
    (r : Fin 512) (c : Fin 64) (h0 : c.val + 64 < 128) (h1 : c.val < 256) (h2 : c.val + 64 < 256) :
    k0_pay3 (F := Ideal) h w C S (ix2 r ⟨c.val + 64, h0⟩)
      = k0_pay2 (F := Ideal) h w (ix2 r ⟨c.val + 64, h2⟩) * C (ix2 r ⟨c.val + 64, h0⟩)
        + k0_pay2 (F := Ideal) h w (ix2 r ⟨c.val, h1⟩) * S (ix2 r ⟨c.val + 64, h0⟩) := by
  unfold k0_pay3
  generalize k0_pay2 (F := Ideal) h w = D
  have e : (c.val + 64 + 128 - 64) % 128 = c.val := by omega
  pointwise []
  simp only [e]

theorem scale_at (h : FVec Ideal S512x2048 .bf16) (w : FVec Ideal S2048x256 .bf16) (r : Fin 512) (c : Fin 128) (h2 : 128 + c.val < 256) :
    k0_pay5 (F := Ideal) h w (ix2 r c) = k0_pay2 (F := Ideal) h w (ix2 r ⟨128 + c.val, h2⟩) * Ideal.ofBits .f32 0x3CB504F3#32 := by
  unfold k0_pay5
  generalize k0_pay2 (F := Ideal) h w = D
  pointwise []

theorem V_w (c : Dev nD) : @Eq (FVec Ideal S2048x256 .bf16) (V m c main_v0)
    (truncf (F := Ideal) (s := S2048x256) (φ := .f32) .bf16 (m ((c : Thread nD τ).loc main_arg2)) bitsLt_bf16_f32) := by
  unfold V
  after_results

theorem V_cos (c : Dev nD) : @Eq (FVec Ideal S8192x128 .f32) (V m c main_v1) (concatenate S8192x128 1
    [⟨S8192x64, (m ((c : Thread nD τ).loc main_arg3) : FVec Ideal S8192x64 .f32)⟩,
     ⟨S8192x64, (m ((c : Thread nD τ).loc main_arg3) : FVec Ideal S8192x64 .f32)⟩] concatenates_S8192x64_S8192x64_S8192x128_d1) := by
  unfold V
  after_results

theorem V_sin (c : Dev nD) : @Eq (FVec Ideal S8192x128 .f32) (V m c main_v3) (concatenate S8192x128 1
    [⟨S8192x64, Host.negf (m ((c : Thread nD τ).loc main_arg4) : FVec Ideal S8192x64 .f32)⟩,
     ⟨S8192x64, (m ((c : Thread nD τ).loc main_arg4) : FVec Ideal S8192x64 .f32)⟩] concatenates_S8192x64_S8192x64_S8192x128_d1) := by
  unfold V
  after_results

/-- The gain read off its block. -/
theorem gain_at (c : Dev nD) (t : Fin cfg0.N) (k : Fin 2048) :
    G m c t (ix2 0 k) = (m ((c : Thread nD τ).loc main_arg1) : FVec Ideal S1x2048 .f32) (ix2 0 k) := by
  rw [← V_main_arg1 m c]
  show iblk m c 1 t (ix2 0 k) = _
  unfold iblk
  generalize V m c = B
  blk_point [idx t]

/-- The row of the arrays that a row of a point's blocks is. -/
def row (t : Fin cfg0.N) (r : Fin 512) : Fin 8192 := ⟨t.val * 512 + r.val, by have : t.val < 16 := t.isLt; omega⟩

/-- The activations read off their block. -/
theorem row_at (c : Dev nD) (t : Fin cfg0.N) (r : Fin 512) (k : Fin 2048) :
    X m c t (ix2 r k) = (m ((c : Thread nD τ).loc main_arg0) : FVec Ideal S8192x2048 .f32) (ix2 (row t r) k) := by
  rw [← V_main_arg0 m c]
  show iblk m c 0 t (ix2 r k) = _
  unfold iblk row
  generalize V m c = B
  blk_point [idx t]

/-- The weight read off its block. -/
theorem col_at (c : Dev nD) (t : Fin cfg0.N) (k : Fin 2048) (q : Fin 256) :
    W m c t (ix2 k q) = (m ((c : Thread nD τ).loc main_arg2) : FVec Ideal S2048x256 .f32) (ix2 k q) := by
  have h : W m c t (ix2 k q) = (V m c main_v0 : FVec Ideal S2048x256 .bf16) (ix2 k q) := by
    show iblk m c 2 t (ix2 k q) = _
    unfold iblk
    generalize V m c = B
    blk_point [idx t]
  rw [h, V_w]
  rfl

/-- The rotation's tables read off their blocks. -/
theorem cos_at (c : Dev nD) (t : Fin cfg0.N) (r : Fin 512) (q : Fin 128) :
    C m c t (ix2 r q) = (V m c main_v1 : FVec Ideal S8192x128 .f32) (ix2 (row t r) q) := by
  show iblk m c 3 t (ix2 r q) = _
  unfold iblk row
  generalize V m c = B
  blk_point [idx t]

theorem sin_at (c : Dev nD) (t : Fin cfg0.N) (r : Fin 512) (q : Fin 128) :
    S m c t (ix2 r q) = (V m c main_v3 : FVec Ideal S8192x128 .f32) (ix2 (row t r) q) := by
  show iblk m c 4 t (ix2 r q) = _
  unfold iblk row
  generalize V m c = B
  blk_point [idx t]

/-- Two tables side by side, read in either half. -/
theorem cat_left (a b : FVec Ideal S8192x64 .f32) (r : Fin 8192) (c : Fin 64) (h : c.val < 128) :
    concatenate S8192x128 1 [⟨S8192x64, a⟩, ⟨S8192x64, b⟩] concatenates_S8192x64_S8192x64_S8192x128_d1 (ix2 r ⟨c.val, h⟩)
      = a (ix2 r c) := by
  pointwise []

theorem cat_right (a b : FVec Ideal S8192x64 .f32) (r : Fin 8192) (c : Fin 64) (h : c.val + 64 < 128) :
    concatenate S8192x128 1 [⟨S8192x64, a⟩, ⟨S8192x64, b⟩] concatenates_S8192x64_S8192x64_S8192x128_d1 (ix2 r ⟨c.val + 64, h⟩)
      = b (ix2 r c) := by
  pointwise []
  rw [dif_neg (by omega)]
  simp

/-- A normalised row of a block is the reference's. -/
theorem norm_at (x : FVec Ideal S512x2048 .f32) (g : FVec Ideal S1x2048 .f32)
    (Y : FVec Ideal Cert.Reference6Ideal.S8192x2048 .f32) (R : FVec Ideal Cert.Reference6Ideal.S1x2048 .f32)
    (r : Fin 512) (i : Fin 8192) (h : ∀ k, x (ix2 r k) = Y (ix2 i k)) (hg : ∀ k, g (ix2 0 k) = R (ix2 0 k)) (k : Fin 2048) :
    k0_pay1 (F := Ideal) x g (ix2 r k) = NORM Y R (ix2 i k) := by
  pointwise [k0_pay1, NORM]
  have hs := Finset.sum_congr rfl fun (k : Fin 2048) (_ : k ∈ Finset.univ) => congrArg₂ (fun a b : EReal => a * b) (h k) (h k)
  exact congrArg₂ (fun a b : EReal => a * b) (congrArg₂ (fun a b : EReal => a * b) (h k)
    (congrArg (fun a : EReal => Ideal.rsqrt (Ideal.div a _ + _)) hs)) (hg k)

/-- The reference's product of a device's arguments. -/
abbrev P (c : Dev nD) : FVec Ideal Cert.Reference6Ideal.S8192x256 .f32 :=
  PROJ (m ((c : Thread nD τ).loc main_arg0)) (m ((c : Thread nD τ).loc main_arg1)) (m ((c : Thread nD τ).loc main_arg2))

theorem prod_at (c : Dev nD) (t : Fin cfg0.N) (r : Fin 512) (q : Fin 256) : k0_pay2 (F := Ideal) (k0_pay1 (F := Ideal) (X m c t) (G m c t)) (W m c t) (ix2 r q) = P m c (ix2 (row t r) q) := by
  refine (hdot _ _ _).trans (Eq.trans ?_ (proj_apply _ _ _ _).symm)
  exact congrArg (fun a : EReal => a) (Finset.sum_congr rfl fun k _ => congrArg₂ (fun a b : EReal => a * b)
    (norm_at _ _ _ _ _ _ (row_at m c t r) (gain_at m c t) k) (col_at m c t k q))

/-- A rotated block is the reference's. -/
theorem rope_at (c : Dev nD) (t : Fin cfg0.N) (r : Fin 512) (q : Fin 128) :
    k0_pay3 (F := Ideal) (k0_pay1 (F := Ideal) (X m c t) (G m c t)) (W m c t) (C m c t) (S m c t) (ix2 r q)
      = ROPE (P m c) (m ((c : Thread nD τ).loc main_arg3)) (m ((c : Thread nD τ).loc main_arg4)) (ix2 (row t r) q) := by
  by_cases h : q.val < 64
  · obtain ⟨e, he⟩ : ∃ e : Fin 64, q = ⟨e.val, Nat.lt_trans e.isLt (by decide)⟩ := ⟨⟨q.val, h⟩, rfl⟩
    subst he
    rw [rope_left _ _ _ _ r e _ (by omega) (by omega), Cert.Reference6Ideal.Kiwi.rope_left _ _ _ _ e _ (by omega) (by omega),
      prod_at m c t r, prod_at m c t r, cos_at, sin_at, V_cos, V_sin, cat_left, cat_left]
    show _ * _ + _ * -(_ : EReal) = _
    rw [mul_neg, sub_eq_add_neg]
  · obtain ⟨e, he⟩ : ∃ e : Fin 64, q = ⟨e.val + 64, Nat.add_lt_add_right e.isLt 64⟩ := ⟨⟨q.val - 64, by omega⟩, Fin.ext (by simp; omega)⟩
    subst he
    rw [rope_right _ _ _ _ r e _ (by omega) (by omega), Cert.Reference6Ideal.Kiwi.rope_right _ _ _ _ e _ (by omega) (by omega),
      prod_at m c t r, prod_at m c t r, cos_at, sin_at, V_cos, V_sin, cat_right, cat_right]

/-- The two scalings of the reference are the kernel's one. -/
theorem scales (a : EReal) : a * Ideal.ofBits .f32 0x3CB504F3#32
    = a * Ideal.ofBits .f32 0x3E800000#32 * Ideal.ofBits .f32 0x3DB504F3#32 := by
  rw [mul_assoc]
  congr 1
  simp [Ideal.ofBits, Ideal.ieee, -EReal.coe_mul]
  rw [← EReal.coe_mul]
  norm_num

theorem weight_at (c : Dev nD) (t : Fin cfg0.N) (r : Fin 512) (q : Fin 128) :
    k0_pay5 (F := Ideal) (k0_pay1 (F := Ideal) (X m c t) (G m c t)) (W m c t) (ix2 r q) = SCALE (P m c) (ix2 (row t r) q) := by
  rw [scale_at _ _ r q (by omega), scale_apply _ _ _ (by omega), prod_at m c t r]
  exact scales _

theorem emb5 (t : Fin cfg0.N) (y : S512x128.Idx) : ((cfg0.win 5).blk t).view.emb y = ix2 (row t (y 0)) (y 1) := by
  unfold row
  blk_ext [idx t]

theorem emb6 (t : Fin cfg0.N) (y : S512x128.Idx) : ((cfg0.win 6).blk t).view.emb y = ix2 (row t (y 0)) (y 1) := by
  unfold row
  blk_ext [idx t]

theorem emb7 (t : Fin cfg0.N) (y : S512x128.Idx) : ((cfg0.win 7).blk t).view.emb y = ix2 (row t (y 0)) (y 1) := by
  unfold row
  blk_ext [idx t]

/-- The result arrays after the run: the rotated keys, their rounding, and the head weights. -/
theorem final_key (c : Dev nD) : (dats m 0 c).arrAt 5 (cfgs 0).N
    = ROPE (P m c) (m ((c : Thread nD τ).loc main_arg3)) (m ((c : Thread nD τ).loc main_arg4)) := by
  refine (dats m 0 c).arrAt_eq_of_covers 5 _ (by decide +kernel) fun t hf y => ?_
  blk_simp
  rw [after0_5, (outs m c t).1, emb5]
  exact (congrArg _ (ix2_eta y).symm).trans (rope_at m c t (y 0) (y 1))

theorem final_rounded (c : Dev nD) : (dats m 0 c).arrAt 6 (cfgs 0).N
    = truncf (F := Ideal) (s := Cert.Reference6Ideal.S8192x128) (φ := .f32) .bf16
        (ROPE (P m c) (m ((c : Thread nD τ).loc main_arg3)) (m ((c : Thread nD τ).loc main_arg4))) bitsLt_bf16_f32 := by
  refine (dats m 0 c).arrAt_eq_of_covers 6 _ (by decide +kernel) fun t hf y => ?_
  blk_simp
  rw [after0_6, (outs m c t).2.1, emb6]
  exact (congrArg _ (ix2_eta y).symm).trans (rope_at m c t (y 0) (y 1))

theorem final_weight (c : Dev nD) : (dats m 0 c).arrAt 7 (cfgs 0).N = SCALE (P m c) := by
  refine (dats m 0 c).arrAt_eq_of_covers 7 _ (by decide +kernel) fun t hf y => ?_
  blk_simp
  rw [after0_7, (outs m c t).2.2, emb7]
  exact (congrArg _ (ix2_eta y).symm).trans (weight_at m c t (y 0) (y 1))

end Cert.Kernel6Ideal.Kiwi

end
-- ==== Proof.FfnBody.lean ====
/- The ConvFFN's up projection, one grid point: what the body leaves in the gated output, in the two last-row outputs and in
   the two scratches that carry the last two rows to the next point, at any contents of its windows. Three cases: the first
   point of a column block (the scratches take the rows before the sequence), the last (the last two rows are also put out),
   and those between. -/
module

public import proofs.«01_k».proof.Proof.Gen.Kernel7.Frame
public import proofs.«01_k».proof.Proof.Gen.Kernel7.Skeleton
public import Idealize.ShloMosaic.Lib.Pipeline.ReadBack
public import Idealize.ShloMosaic.Lib.Pipeline.ValueKit
public import Idealize.ShloMosaic.Lib.VecWindow
public import Idealize.ShloMosaic.Lib.WordCmp

@[expose] public section

set_option maxRecDepth 16384

noncomputable section

namespace Cert.Kernel7.Ffn

open Cert.Kernel7 Cert.Kernel7.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The condition of the body's first branch: the first row block. -/
abbrev first (i : grid0.Coords) : Prop := (Scalar.cmpi .ne (Scalar.extui (Scalar.cmpi .eq (BitVec.ofNat 32 (i 1).val) 0#32)) 0#32) = 1#1
/-- It holds at the points that are multiples of 8. -/
theorem first_iff : ∀ t : Fin cfg0.N, first (grid0.coords t) ↔ t.val % 8 = 0 :=
  (fun t => by
    have ht : t.val < 88 := Nat.lt_of_lt_of_eq t.isLt N_0
    have e0 : (grid0.coords t 0).val = t.val / 8 % 11 := Pipeline.Grid.coords_val t 0 (by decide) rfl
    have e1 : (grid0.coords t 1).val = t.val / 1 % 8 := Pipeline.Grid.coords_val t 1 (by decide) rfl
    simp only [first, e0, e1]
    word_cmp
   : ∀ t : Fin grid0.N, first (grid0.coords t) ↔ t.val % 8 = 0)

/-- The condition of the body's second branch: the last row block. -/
abbrev last (i : grid0.Coords) : Prop := k0_cond2 i = 1#1
/-- It holds at the points that are 7 modulo 8. -/
theorem last_iff : ∀ t : Fin cfg0.N, last (grid0.coords t) ↔ t.val % 8 = 7 :=
  (fun t => by
    have ht : t.val < 88 := Nat.lt_of_lt_of_eq t.isLt N_0
    have e0 : (grid0.coords t 0).val = t.val / 8 % 11 := Pipeline.Grid.coords_val t 0 (by decide) rfl
    have e1 : (grid0.coords t 1).val = t.val / 1 % 8 := Pipeline.Grid.coords_val t 1 (by decide) rfl
    simp only [last, k0_cond2, e0, e1]
    word_cmp
   : ∀ t : Fin grid0.N, last (grid0.coords t) ↔ t.val % 8 = 7)

/-! ## The two rows a scratch carries -/

/-- The rectangle of a scratch's first two rows: all the body reads and writes of it. -/
abbrev R2 : Rect S8x512 := Rect.unit (s := S8x512) ![0, 0] S2x512.size inb_S8x512_S2x512_0_0

/-- Those two rows. -/
def rows (s : Vec F S8x512 .f32) : Vec F S2x512 .f32 := fun x => s (R2.emb x)

/-- Row 0 and row 1 of a pair of rows, each as a row vector. -/
def row0 (g : Vec F S2x512 .f32) : Vec F S1x512 .f32 := fun x => g (ix2 0 (x 1))
def row1 (g : Vec F S2x512 .f32) : Vec F S1x512 .f32 := fun x => g (ix2 1 (x 1))

theorem ld_row0 (s : Vec F S8x512 .f32) : View.ld (Val := Elt F) s (Rect.unit (s := S8x512) ![0, 0] S1x512.size inb_S8x512_S1x512_0_0) = row0 (rows s) := by
  funext x
  refine congrArg s (funext fun a => Fin.ext ?_)
  have h : (x 0).val < 1 := (x 0).isLt
  match a with
  | ⟨0, _⟩ => show 0 + 1 * (x 0).val = 0 + 1 * 0; omega
  | ⟨1, _⟩ => show 0 + 1 * (x 1).val = 0 + 1 * (x 1).val; rfl

theorem ld_row1 (s : Vec F S8x512 .f32) : View.ld (Val := Elt F) s (Rect.unit (s := S8x512) ![1, 0] S1x512.size inb_S8x512_S1x512_1_0) = row1 (rows s) := by
  funext x
  refine congrArg s (funext fun a => Fin.ext ?_)
  have h : (x 0).val < 1 := (x 0).isLt
  match a with
  | ⟨0, _⟩ => show 1 + 1 * (x 0).val = 0 + 1 * 1; omega
  | ⟨1, _⟩ => show 0 + 1 * (x 1).val = 0 + 1 * (x 1).val; rfl

/-- What a scratch reads at its two rows after a store of them. -/
theorem rows_canon (g : Vec F S2x512 .f32) (L : List (View.Piece (Elt F) S8x512 .f32)) :
    rows (View.canon ((⟨R2, g⟩ : View.Piece (Elt F) S8x512 .f32) :: L)) = g := by
  funext x; unfold rows
  rw [View.canon_cons_emb]

theorem rows_writes {sig : RefSig} {κ : Kind} {sp : Space} (v : View sig κ sp S8x512 .f32) (f : v.ty.Contents (Elt F)) (g : Vec F S2x512 .f32) (L : List (View.Piece (Elt F) S8x512 .f32)) :
    rows (v.read (Elt F) (v.writes (Elt F) f ((⟨R2, g⟩ : View.Piece (Elt F) S8x512 .f32) :: L))) = g :=
  funext fun x => View.read_writes_cons_emb (Val := Elt F) v f R2 g L x

/-- A load of the two rows after a store of them reads the stored rows; -/
theorem cov_rows {sig : RefSig} {κ : Kind} {sp : Space} (v : View sig κ sp S8x512 .f32) (g : Vec F S2x512 .f32) (L : List (View.Piece (Elt F) S8x512 .f32)) :
    v.readCov ((⟨R2, g⟩ : View.Piece (Elt F) S8x512 .f32) :: L) (Rect.unit (s := S8x512) ![0, 0] S2x512.size inb_S8x512_S2x512_0_0).toLoadRect = g := by
  rw [View.readCov_eq_canon']; funext x
  exact View.canon_cons_emb (Val := Elt F) R2 g L x

/-- of row 0, row 0; -/
theorem cov_row0 {sig : RefSig} {κ : Kind} {sp : Space} (v : View sig κ sp S8x512 .f32) (g : Vec F S2x512 .f32) (L : List (View.Piece (Elt F) S8x512 .f32)) :
    v.readCov ((⟨R2, g⟩ : View.Piece (Elt F) S8x512 .f32) :: L) (Rect.unit (s := S8x512) ![0, 0] S1x512.size inb_S8x512_S1x512_0_0).toLoadRect = row0 g := by
  rw [View.readCov_eq_canon']
  exact (ld_row0 (View.canon ((⟨R2, g⟩ : View.Piece (Elt F) S8x512 .f32) :: L))).trans (congrArg row0 (rows_canon g L))

/-- of row 1, row 1. -/
theorem cov_row1 {sig : RefSig} {κ : Kind} {sp : Space} (v : View sig κ sp S8x512 .f32) (g : Vec F S2x512 .f32) (L : List (View.Piece (Elt F) S8x512 .f32)) :
    v.readCov ((⟨R2, g⟩ : View.Piece (Elt F) S8x512 .f32) :: L) (Rect.unit (s := S8x512) ![1, 0] S1x512.size inb_S8x512_S1x512_1_0).toLoadRect = row1 g := by
  rw [View.readCov_eq_canon']
  exact (ld_row1 (View.canon ((⟨R2, g⟩ : View.Piece (Elt F) S8x512 .f32) :: L))).trans (congrArg row1 (rows_canon g L))

/-! ## What a point puts out -/

/-- The three taps of a convolution's weights, and its bias, as row vectors. -/
abbrev tap (w : Vec F S3x512 .f32) (k : Fin 3) : Vec F S1x512 .f32 :=
  match k with
  | 0 => View.ld (Val := Elt F) w (Rect.unit (s := S3x512) ![0, 0] S1x512.size inb_S3x512_S1x512_0_0)
  | 1 => View.ld (Val := Elt F) w (Rect.unit (s := S3x512) ![1, 0] S1x512.size inb_S3x512_S1x512_1_0)
  | 2 => View.ld (Val := Elt F) w (Rect.unit (s := S3x512) ![2, 0] S1x512.size inb_S3x512_S1x512_2_0)

/-- The gated block of a point, from its input blocks and the two rows before it of the gate (`g`) and of the value (`v`). -/
def gated (x0 : Vec F S1024x2048 .bf16) (x1 x2 : Vec F S2048x512 .bf16) (x3 x4 : Vec F S3x512 .f32) (x5 x6 : Vec F S1x512 .f32)
    (g v : Vec F S2x512 .f32) : Vec F S1024x512 .bf16 :=
  k0_pay2 (k0_pay9 (k0_pay5 x0 x1) (k0_pay6 x0 x1 (row1 g)) (k0_pay7 x0 x1 (row0 g) (row1 g)) x5 (tap x3 0) (tap x3 1) (tap x3 2))
    (k0_pay10 x0 x2) (k0_pay11 x0 (iota .tc S1024x1 32 [0] iota_S1024x1_d0_w32) x2 (row1 v))
    (k0_pay12 x0 (iota .tc S1024x1 32 [0] iota_S1024x1_d0_w32) x2 (row0 v) (row1 v)) x6 (tap x4 0) (tap x4 1) (tap x4 2)

/-- The last two rows of the value's block. -/
def lastV (x0 : Vec F S1024x2048 .bf16) (x2 : Vec F S2048x512 .bf16) : Vec F S2x512 .f32 := k0_pay1 (k0_pay13 x0 x2)

-- (the run's proof term is large: checking it walks past the default budget)
set_option maxHeartbeats 2000000 in
/-- The body at the first point of a column block: whatever the scratches hold, the rows before are those of windows 7 and 8. -/
theorem body_A (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1024x512 .bf16) (harg11 : arg11.IsWhole) (arg12 : Memref sig .tc .vmem S2x512 .f32) (harg12 : arg12.IsWhole) (arg13 : Memref sig .tc .vmem S2x512 .f32) (harg13 : arg13.IsWhole) (arg14 : Memref sig .tc .vmem S8x512 .f32) (harg14 : arg14.IsWhole) (arg15 : Memref sig .tc .vmem S8x512 .f32) (harg15 : arg15.IsWhole) (hc0 : first i) (hc1 : ¬last i)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S2x512 .f32) (x8 : Vec F S2x512 .f32) (y10 y11 : Vec F S2x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare y10 ∗ owns (c : Thread nD τ) arg13 fullShare y11 ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (gated x0 x1 x2 x3 x4 x5 x6 (k0_pay3 x7) (k0_pay4 x8)) ∗ owns (c : Thread nD τ) arg12 fullShare y10 ∗ owns (c : Thread nD τ) arg13 fullShare y11 ∗ (∃ d, ⌜rows d = k0_pay8 x0 x1⌝ ∗ owns (c : Thread nD τ) arg14 fullShare d) ∗ (∃ d, ⌜rows d = lastV x0 x2⌝ ∗ owns (c : Thread nD τ) arg15 fullShare d)) -∗ K ⟨⟩))
      ⊢ wp frame (wpE (defs₀ (F := F)) Variants.none c none) E (cc0_ffn_up_prompt i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_up_prompt_eq_skeleton]; unfold cc0_ffn_up_prompt_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (View.read_writes_full arg11.view _ inb_S1024x512_S1024x512_0_0 _ []).trans ?_
    frame_out
    unfold gated
    repeat (first | rw [cov_row0] | rw [cov_row1] | rw [ld_row0] | rw [ld_row1])
    try rfl
  isplitl [H10]
  · iexists _; isplitr; swap; · iexact H10
    ipureintro; exact hf10
  isplitl [H11]
  · iexists _; isplitr; swap; · iexact H11
    ipureintro; exact hf11
  isplitl [HS0]
  · iexists _; isplitr; swap
    · iexists _; isplitr; swap; · iexact HS0
      ipureintro; rfl
    ipureintro
    refine (rows_writes arg14.view _ _ _).trans ?_
    frame_out
  iexists _; isplitr; swap
  · iexists _; isplitr; swap; · iexact HS1
    ipureintro; rfl
  ipureintro
  refine (rows_writes arg15.view _ _ _).trans ?_
  unfold lastV
  frame_out

-- (the run's proof term is large: checking it walks past the default budget)
set_option maxHeartbeats 2000000 in
/-- The body at a point between: the rows before are those the scratches carry. -/
theorem body_B (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1024x512 .bf16) (harg11 : arg11.IsWhole) (arg12 : Memref sig .tc .vmem S2x512 .f32) (harg12 : arg12.IsWhole) (arg13 : Memref sig .tc .vmem S2x512 .f32) (harg13 : arg13.IsWhole) (arg14 : Memref sig .tc .vmem S8x512 .f32) (harg14 : arg14.IsWhole) (arg15 : Memref sig .tc .vmem S8x512 .f32) (harg15 : arg15.IsWhole) (hc0 : ¬first i) (hc1 : ¬last i)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S2x512 .f32) (x8 : Vec F S2x512 .f32) (s0 s1 : Vec F S8x512 .f32) (y10 y11 : Vec F S2x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare y10 ∗ owns (c : Thread nD τ) arg13 fullShare y11 ∗ owns (c : Thread nD τ) arg14 fullShare s0 ∗ owns (c : Thread nD τ) arg15 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (gated x0 x1 x2 x3 x4 x5 x6 (rows s0) (rows s1)) ∗ owns (c : Thread nD τ) arg12 fullShare y10 ∗ owns (c : Thread nD τ) arg13 fullShare y11 ∗ (∃ d, ⌜rows d = k0_pay8 x0 x1⌝ ∗ owns (c : Thread nD τ) arg14 fullShare d) ∗ (∃ d, ⌜rows d = lastV x0 x2⌝ ∗ owns (c : Thread nD τ) arg15 fullShare d)) -∗ K ⟨⟩))
      ⊢ wp frame (wpE (defs₀ (F := F)) Variants.none c none) E (cc0_ffn_up_prompt i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_up_prompt_eq_skeleton]; unfold cc0_ffn_up_prompt_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg14.eq_unread hfs0; obtain rfl := harg15.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (View.read_writes_full arg11.view _ inb_S1024x512_S1024x512_0_0 _ []).trans ?_
    frame_out
    unfold gated
    repeat (first | rw [cov_row0] | rw [cov_row1] | rw [ld_row0] | rw [ld_row1])
    try rfl
  isplitl [H10]
  · iexists _; isplitr; swap; · iexact H10
    ipureintro; exact hf10
  isplitl [H11]
  · iexists _; isplitr; swap; · iexact H11
    ipureintro; exact hf11
  isplitl [HS0]
  · iexists _; isplitr; swap
    · iexists _; isplitr; swap; · iexact HS0
      ipureintro; rfl
    ipureintro
    refine (rows_writes arg14.view _ _ _).trans ?_
    frame_out
  iexists _; isplitr; swap
  · iexists _; isplitr; swap; · iexact HS1
    ipureintro; rfl
  ipureintro
  refine (rows_writes arg15.view _ _ _).trans ?_
  unfold lastV
  frame_out

-- (the run's proof term is large: checking it walks past the default budget)
set_option maxHeartbeats 2000000 in
/-- The body at the last point of a column block: the last two rows are also put out. -/
theorem body_C (c : Dev nD) (i : grid0.Coords) (arg2 : Memref sig .tc .vmem S1024x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S2x512 .f32) (harg9 : arg9.IsWhole) (arg10 : Memref sig .tc .vmem S2x512 .f32) (harg10 : arg10.IsWhole) (arg11 : Memref sig .tc .vmem S1024x512 .bf16) (harg11 : arg11.IsWhole) (arg12 : Memref sig .tc .vmem S2x512 .f32) (harg12 : arg12.IsWhole) (arg13 : Memref sig .tc .vmem S2x512 .f32) (harg13 : arg13.IsWhole) (arg14 : Memref sig .tc .vmem S8x512 .f32) (harg14 : arg14.IsWhole) (arg15 : Memref sig .tc .vmem S8x512 .f32) (harg15 : arg15.IsWhole) (hc0 : ¬first i) (hc1 : last i)
    (x0 : Vec F S1024x2048 .bf16) (x1 : Vec F S2048x512 .bf16) (x2 : Vec F S2048x512 .bf16) (x3 : Vec F S3x512 .f32) (x4 : Vec F S3x512 .f32) (x5 : Vec F S1x512 .f32) (x6 : Vec F S1x512 .f32) (x7 : Vec F S2x512 .f32) (x8 : Vec F S2x512 .f32) (s0 s1 : Vec F S8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare s0 ∗ owns (c : Thread nD τ) arg15 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (gated x0 x1 x2 x3 x4 x5 x6 (rows s0) (rows s1)) ∗ owns (c : Thread nD τ) arg12 fullShare (k0_pay8 x0 x1) ∗ owns (c : Thread nD τ) arg13 fullShare (lastV x0 x2) ∗ (∃ d, ⌜rows d = k0_pay8 x0 x1⌝ ∗ owns (c : Thread nD τ) arg14 fullShare d) ∗ (∃ d, ⌜rows d = lastV x0 x2⌝ ∗ owns (c : Thread nD τ) arg15 fullShare d)) -∗ K ⟨⟩))
      ⊢ wp frame (wpE (defs₀ (F := F)) Variants.none c none) E (cc0_ffn_up_prompt i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_up_prompt_eq_skeleton]; unfold cc0_ffn_up_prompt_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg14.eq_unread hfs0; obtain rfl := harg15.eq_unread hfs1
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (View.read_writes_full arg11.view _ inb_S1024x512_S1024x512_0_0 _ []).trans ?_
    frame_out
    unfold gated
    repeat (first | rw [cov_row0] | rw [cov_row1] | rw [ld_row0] | rw [ld_row1])
    try rfl
  isplitl [H10]
  · iexists _; isplitr; swap; · iexact H10
    ipureintro
    refine (View.read_writes_full arg12.view _ inb_S2x512_S2x512_0_0 _ []).trans ?_
    frame_out
    exact cov_rows _ _ _
  isplitl [H11]
  · iexists _; isplitr; swap; · iexact H11
    ipureintro
    refine (View.read_writes_full arg13.view _ inb_S2x512_S2x512_0_0 _ []).trans ?_
    frame_out
    exact cov_rows _ _ _
  isplitl [HS0]
  · iexists _; isplitr; swap
    · iexists _; isplitr; swap; · iexact HS0
      ipureintro; rfl
    ipureintro
    refine (rows_writes arg14.view _ _ _).trans ?_
    frame_out
  iexists _; isplitr; swap
  · iexists _; isplitr; swap; · iexact HS1
    ipureintro; rfl
  ipureintro
  refine (rows_writes arg15.view _ _ _).trans ?_
  unfold lastV
  frame_out

end Cert.Kernel7.Ffn

end
-- ==== Proof.FfnFrame.lean ====
/- The ConvFFN's up projection over its grid: the proof data (what every window and both scratches hold at each point), the
   body at each point, the run that names the three arrays the kernel leaves, and the frame. Windows share weight arrays, so
   the shares are dealt among them. -/
module

public import proofs.«01_k».proof.Proof.FfnBody
public import Idealize.ShloMosaic.Lib.Claim
public import Idealize.ShloMosaic.Lib.Pipeline.TableIdle

@[expose] public section

set_option maxRecDepth 16384

noncomputable section

namespace Cert.Kernel7.Ffn

open Cert.Kernel7 Cert.Kernel7.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2x512 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S8x512 .f32 := Memref.whole cc0_scratch0
abbrev scM0_1 : Memref sig .tc .vmem S8x512 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem liveAt0_9 : ∀ t : Fin cfg0.N, cfg0.idle 9 (grid0.coords t) = false := fun _ => rfl
theorem idleAt0_10 : ∀ t : Fin cfg0.N, ¬t.val % 8 = 7 → cfg0.idle 10 (grid0.coords t) = true := by decide +kernel
theorem idleAt0_11 : ∀ t : Fin cfg0.N, ¬t.val % 8 = 7 → cfg0.idle 11 (grid0.coords t) = true := by decide +kernel
theorem liveAt0_10 : ∀ t : Fin cfg0.N, t.val % 8 = 7 → cfg0.idle 10 (grid0.coords t) = false := by decide +kernel
theorem liveAt0_11 : ∀ t : Fin cfg0.N, t.val % 8 = 7 → cfg0.idle 11 (grid0.coords t) = false := by decide +kernel
theorem quiet0_10 : ∀ t : Fin cfg0.N, ¬t.val % 8 = 7 → (cfg0.win 10).flush t = false := by decide +kernel
theorem quiet0_11 : ∀ t : Fin cfg0.N, ¬t.val % 8 = 7 → (cfg0.win 11).flush t = false := by decide +kernel

/-! ## What the scratches carry -/

/-- The last two rows of the gate's and of the value's block at a point: what the two scratches carry to the next. -/
def endG (c : Dev nD) (t : Fin cfg0.N) : Vec F S2x512 .f32 := k0_pay8 (iblk m c 0 t) (iblk m c 1 t)
def endV (c : Dev nD) (t : Fin cfg0.N) : Vec F S2x512 .f32 := lastV (iblk m c 0 t) (iblk m c 2 t)

/-- The two rows before a point's block: those of windows 7 and 8 at the first point of a column block, else those the point
    before carried. -/
def begG (c : Dev nD) (t : Fin cfg0.N) : Vec F S2x512 .f32 :=
  if t.val % 8 = 0 then k0_pay3 (iblk m c 7 t) else endG m c ⟨t.val - 1, Nat.lt_of_le_of_lt (Nat.sub_le _ _) t.isLt⟩
def begV (c : Dev nD) (t : Fin cfg0.N) : Vec F S2x512 .f32 :=
  if t.val % 8 = 0 then k0_pay4 (iblk m c 8 t) else endV m c ⟨t.val - 1, Nat.lt_of_le_of_lt (Nat.sub_le _ _) t.isLt⟩

/-- The gated block of a point. -/
def gatedAt (c : Dev nD) (t : Fin cfg0.N) : Vec F S1024x512 .bf16 :=
  gated (iblk m c 0 t) (iblk m c 1 t) (iblk m c 2 t) (iblk m c 3 t) (iblk m c 4 t) (iblk m c 5 t) (iblk m c 6 t) (begG m c t) (begV m c t)

/-! ## The pipeline's proof data -/

/-- What the scratches hold before point `n`: anything before the first, then the last two rows of the point before. -/
def PhiS (c : Dev nD) : (n : ℕ) → n ≤ cfg0.N → sProp 𝕄
  | 0, _ => Pipeline.ΦA spec0 c
  | n + 1, h => iprop(iprop((∃ d, ⌜rows d = endG m c ⟨n, h⟩⌝ ∗ owns (c : Thread nD τ) scM0_0 fullShare d)
      ∗ (∃ d, ⌜rows d = endV m c ⟨n, h⟩⌝ ∗ owns (c : Thread nD τ) scM0_1 fullShare d)) ∗ (∃ r, prngReg c r))

theorem PhiS_pos (c : Dev nD) (n : ℕ) (h : n ≤ cfg0.N) (h0 : n ≠ 0) :
    PhiS m c n h = iprop(iprop((∃ d, ⌜rows d = endG m c ⟨n - 1, Nat.lt_of_lt_of_le (Nat.sub_lt (Nat.pos_of_ne_zero h0) Nat.one_pos) h⟩⌝ ∗ owns (c : Thread nD τ) scM0_0 fullShare d)
      ∗ (∃ d, ⌜rows d = endV m c ⟨n - 1, Nat.lt_of_lt_of_le (Nat.sub_lt (Nat.pos_of_ne_zero h0) Nat.one_pos) h⟩⌝ ∗ owns (c : Thread nD τ) scM0_1 fullShare d)) ∗ (∃ r, prngReg c r)) := by
  obtain ⟨k, rfl⟩ : ∃ k, n = k + 1 := ⟨n - 1, (Nat.succ_pred_eq_of_ne_zero h0).symm⟩
  rfl

/-- After any point the invariant gives the scratches at some contents. -/
theorem PhiS_out (c : Dev nD) (n : ℕ) (h : n ≤ cfg0.N) : PhiS m c n h ⊢ Pipeline.ΦA spec0 c := by
  match n, h with
  | 0, _ => exact .rfl
  | n + 1, h =>
    rw [PhiA0_eq]; unfold PhiS
    iintro ⟨⟨⟨%d0, -, HS0⟩, ⟨%d1, -, HS1⟩⟩, Hg⟩
    isplitl [HS0 HS1]
    · isplitl [HS0]
      · iexists _; iexact HS0
      iexists _; iexact HS1
    iexact Hg

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => gatedAt m c t
    | ⟨10, _⟩ => endG m c t
    | ⟨11, _⟩ => endV m c t
  Φ t := PhiS m c t.val (Nat.lt_succ_iff.mp t.isLt)
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = gatedAt m c t := by dsimp only [dats]
theorem after0_10 (c : Dev nD) (t : Fin cfg0.N) : (dats m 0 c).after 10 t = endG m c t := by dsimp only [dats]
theorem after0_11 (c : Dev nD) (t : Fin cfg0.N) : (dats m 0 c).after 11 t = endV m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at each point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 3600000 in
/-- The body at any point, by its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from rfl]
  have hN : t.val < 88 := lt_of_lt_of_eq t.isLt (show cfg0.N = 88 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  by_cases h0 : t.val % 8 = 0
  · have h1 : ¬t.val % 8 = 7 := by omega
    rw [(dats m 0 c).leavesExact_idle 10 t (idleAt0_10 t h1) (quiet0_10 t h1)]
    rw [(dats m 0 c).leavesExact_idle 11 t (idleAt0_11 t h1) (quiet0_11 t h1)]
    have hΦ := PhiS_out m c t.val (Nat.le_of_lt t.isLt)
    rw [PhiA0_eq] at hΦ
    rw [show gatedAt m c t = gated (iblk m c 0 t) (iblk m c 1 t) (iblk m c 2 t) (iblk m c 3 t) (iblk m c 4 t) (iblk m c 5 t) (iblk m c 6 t) (k0_pay3 (iblk m c 7 t)) (k0_pay4 (iblk m c 8 t)) from by
      unfold gatedAt begG begV; rw [if_pos h0, if_pos h0]]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HP := hΦ $$ HΦ
    icases HP with ⟨⟨HS0, HS1⟩, Hg⟩
    iapply (body_A c (grid0.coords t) _ _ _ _ _ _ _ _ _ _ _ _ _ _ _ _ _ _ _ _ _ _ _ _ _ _ _ _ ((first_iff t).mpr h0) (fun h => h1 ((last_iff t).mp h)) (iblk m c 0 t) (iblk m c 1 t) (iblk m c 2 t) (iblk m c 3 t) (iblk m c 4 t) (iblk m c 5 t) (iblk m c 6 t) (iblk m c 7 t) (iblk m c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    iintro ⟨H0, H1, H2, H3, H4, H5, H6, H7, H8, H9, H10, H11, HS0, HS1⟩
    isplitl [HS0 HS1 Hg]
    · unfold PhiS endG endV
      isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iexists _; iexact H11
  · by_cases h1 : t.val % 8 = 7
    · rw [show (dats m 0 c).leavesExact 10 t = owns (c : Thread nD τ) (ms0_10 t) fullShare ((dats m 0 c).after 10 t) from by
        unfold Dat.leavesExact; rw [liveAt0_10 t h1], after0_10]
      rw [show (dats m 0 c).leavesExact 11 t = owns (c : Thread nD τ) (ms0_11 t) fullShare ((dats m 0 c).after 11 t) from by
        unfold Dat.leavesExact; rw [liveAt0_11 t h1], after0_11]
      rw [PhiS_pos m c t.val _ (fun h => h0 (by rw [h]))]
      iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      rw [show gatedAt m c t = gated (iblk m c 0 t) (iblk m c 1 t) (iblk m c 2 t) (iblk m c 3 t) (iblk m c 4 t) (iblk m c 5 t) (iblk m c 6 t) (rows s0) (rows s1) from by
        unfold gatedAt begG begV; rw [if_neg h0, if_neg h0, hs0, hs1]]
      iapply (body_C c (grid0.coords t) _ _ _ _ _ _ _ _ _ _ _ _ _ _ _ _ _ _ _ _ _ _ _ _ _ _ _ _ (fun h => h0 ((first_iff t).mp h)) ((last_iff t).mpr h1) (iblk m c 0 t) (iblk m c 1 t) (iblk m c 2 t) (iblk m c 3 t) (iblk m c 4 t) (iblk m c 5 t) (iblk m c 6 t) (iblk m c 7 t) (iblk m c 8 t) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, H9, H10, H11, HS0, HS1⟩
      isplitl [HS0 HS1 Hg]
      · unfold PhiS endG endV
        isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold endG endV
      isplitl [H10]; · iexact H10
      iexact H11
    · rw [(dats m 0 c).leavesExact_idle 10 t (idleAt0_10 t h1) (quiet0_10 t h1)]
      rw [(dats m 0 c).leavesExact_idle 11 t (idleAt0_11 t h1) (quiet0_11 t h1)]
      rw [PhiS_pos m c t.val _ (fun h => h0 (by rw [h]))]
      iintro ⟨⟨⟨⟨%s0, %hs0, HS0⟩, ⟨%s1, %hs1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      rw [show gatedAt m c t = gated (iblk m c 0 t) (iblk m c 1 t) (iblk m c 2 t) (iblk m c 3 t) (iblk m c 4 t) (iblk m c 5 t) (iblk m c 6 t) (rows s0) (rows s1) from by
        unfold gatedAt begG begV; rw [if_neg h0, if_neg h0, hs0, hs1]]
      iapply (body_B c (grid0.coords t) _ _ _ _ _ _ _ _ _ _ _ _ _ _ _ _ _ _ _ _ _ _ _ _ _ _ _ _ (fun h => h0 ((first_iff t).mp h)) (fun h => h1 ((last_iff t).mp h)) (iblk m c 0 t) (iblk m c 1 t) (iblk m c 2 t) (iblk m c 3 t) (iblk m c 4 t) (iblk m c 5 t) (iblk m c 6 t) (iblk m c 7 t) (iblk m c 8 t) s0 s1 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexact H10
      isplitl [H11]; · iexact H11
      isplitl [HS0]; · iexact HS0
      isplitl [HS1]; · iexact HS1
      iintro ⟨H0, H1, H2, H3, H4, H5, H6, H7, H8, H9, H10, H11, HS0, HS1⟩
      isplitl [HS0 HS1 Hg]
      · unfold PhiS endG endV
        isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := .rfl
theorem hout (c : Dev nD) : (dats m 0 c).Φ (Fin.last cfg0.N) ⊢ Pipeline.ΦA spec0 c := by
  have h := PhiS_out m c (Fin.last cfg0.N).val (Nat.le_refl _)
  exact h

set_option backward.isDefEq.respectTransparency.types false in
/-- The launch: every array ends as the proof data says, and every semaphore counter is zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The run that names the three output arrays. -/
theorem run_blocks : θ_run defs (onTc (τ := τ) (main (F := F))) ⟨m, fun _ => 0, ρ⟩ fun r => ∀ c : Dev nD,
      r.2.mem ((c : Thread nD τ).loc main_v1_0) = (dats m 0 c).arrAt 9 cfg0.N
      ∧ r.2.mem ((c : Thread nD τ).loc main_v1_1) = (dats m 0 c).arrAt 10 cfg0.N
      ∧ r.2.mem ((c : Thread nD τ).loc main_v1_2) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 9, (h.1 c).1 10, (h.1 c).1 11, h.2 c⟩) (θ_run_and (run_main m ρ) (unchanged m ρ))

end Cert.Kernel7.Ffn

end
-- ==== Proof.FfnValue.lean ====
/- The value of the ConvFFN's up projection: the arrays the kernel leaves are the gated product and the last two rows of the
   reference. A point's block of rows is convolved with the two rows before it, which are the last two of the point before, or
   zero at the first. -/
module

public import proofs.«01_k».proof.Proof.FfnFrame
public import proofs.«01_k».proof.Proof.Gen.Kernel7Ideal
public import proofs.«01_k».proof.Proof.Gen.Kernel7.Points
public import proofs.«01_k».proof.Proof.Gen.Reference7Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference7Ideal.Ffn

open Cert.Reference7Ideal Cert.Reference7Ideal.Gen

/-- The projection, -/
def UP (H : FVec Ideal S8192x2048 .bf16) (W : FVec Ideal S2048x11264 .bf16) : FVec Ideal S8192x11264 .f32 :=
  Host.dotGeneral dot_S8192x2048_S2048x11264_S8192x11264_1_0_0_1_n_n none (extf .f32 H bitsLt_bf16_f32) (extf .f32 W bitsLt_bf16_f32)

/-- with two rows of zeros before it, -/
def BUF (H : FVec Ideal S8192x2048 .bf16) (W : FVec Ideal S2048x11264 .bf16) : FVec Ideal S8194x11264 .f32 :=
  concatenate S8194x11264 0 [⟨S2x11264, (broadcastInDim S2x11264 ![] bcast_S_S2x11264 (constant S_ .f32 0x00000000#32))⟩,
    ⟨S8192x11264, UP H W⟩] concatenates_S2x11264_S8192x11264_S8194x11264_d0

/-- convolved over the rows with three taps, -/
def CONV (X : FVec Ideal S8194x11264 .f32) (C : FVec Ideal S3x11264 .f32) (B : FVec Ideal S1x11264 .f32) : FVec Ideal S8192x11264 .f32 :=
  addf (addf (addf (broadcastInDim S8192x11264 ![0, 1] bcast_S1x11264_S8192x11264_0_1 B)
    (mulf (extractStridedSlice S8192x11264 ![0, 0] X slices_S8194x11264_S8192x11264_0_0)
      (broadcastInDim S8192x11264 ![0, 1] bcast_S1x11264_S8192x11264_0_1 (broadcastInDim S1x11264 ![1] bcast_S11264_S1x11264_1
        (shapeCast _ (extractStridedSlice S1x11264 ![0, 0] C slices_S3x11264_S1x11264_0_0) shapeCasts_S1x11264_S11264)))))
    (mulf (extractStridedSlice S8192x11264 ![1, 0] X slices_S8194x11264_S8192x11264_1_0)
      (broadcastInDim S8192x11264 ![0, 1] bcast_S1x11264_S8192x11264_0_1 (broadcastInDim S1x11264 ![1] bcast_S11264_S1x11264_1
        (shapeCast _ (extractStridedSlice S1x11264 ![1, 0] C slices_S3x11264_S1x11264_1_0) shapeCasts_S1x11264_S11264)))))
    (mulf (extractStridedSlice S8192x11264 ![2, 0] X slices_S8194x11264_S8192x11264_2_0)
      (broadcastInDim S8192x11264 ![0, 1] bcast_S1x11264_S8192x11264_0_1 (broadcastInDim S1x11264 ![1] bcast_S11264_S1x11264_1
        (shapeCast _ (extractStridedSlice S1x11264 ![2, 0] C slices_S3x11264_S1x11264_2_0) shapeCasts_S1x11264_S11264))))

/-- and its two halves, the gate's and the value's, multiplied under the gate. -/
def GATED (Y : FVec Ideal S8192x11264 .f32) : FVec Ideal S8192x5632 .bf16 :=
  truncf .bf16 (mulf (mulf (extractStridedSlice S8192x5632 ![0, 0] Y slices_S8192x11264_S8192x5632_0_0)
    (Host.divf (broadcastInDim S8192x5632 ![] bcast_S_S8192x5632 (constant S_ .f32 0x3F800000#32))
      (addf (broadcastInDim S8192x5632 ![] bcast_S_S8192x5632 (constant S_ .f32 0x3F800000#32))
        (Host.exp (Host.negf (extractStridedSlice S8192x5632 ![0, 0] Y slices_S8192x11264_S8192x5632_0_0))))))
    (extractStridedSlice S8192x5632 ![0, 5632] Y slices_S8192x11264_S8192x5632_0_5632)) bitsLt_bf16_f32

/-- The last two rows, the gate's half and the value's. -/
def LASTG (X : FVec Ideal S8194x11264 .f32) : FVec Ideal S2x5632 .f32 :=
  extractStridedSlice S2x5632 ![0, 0] (extractStridedSlice S2x11264 ![8192, 0] X slices_S8194x11264_S2x11264_8192_0) slices_S2x11264_S2x5632_0_0
def LASTV (X : FVec Ideal S8194x11264 .f32) : FVec Ideal S2x5632 .f32 :=
  extractStridedSlice S2x5632 ![0, 5632] (extractStridedSlice S2x11264 ![8192, 0] X slices_S8194x11264_S2x11264_8192_0) slices_S2x11264_S2x5632_0_5632

theorem res_0 (m : (ℓ : Loc nD τ sig) → Buf (Elt Ideal) ℓ) (c : Dev nD) : Cert.Reference7Ideal.Value.res_out0 m c
    = GATED (CONV (BUF (m ((c.tc : Thread nD τ).loc main_arg0)) (m ((c.tc : Thread nD τ).loc main_arg1)))
        (m ((c.tc : Thread nD τ).loc main_arg2)) (m ((c.tc : Thread nD τ).loc main_arg3))) := by
  unfold Cert.Reference7Ideal.Value.res_out0 Cert.Reference7Ideal.Value.res_main_v34; rfl

theorem up_apply (H W) (j) : UP H W j = ∑ k : Fin 2048, H (ix2 (j 0) k) * W (ix2 k (j 1)) := by pointwise [UP]

theorem buf_lo (H W) (i : Fin 8194) (j : Fin 11264) (h : i.val < 2) : BUF H W (ix2 i j) = 0 := by
  pointwise [BUF]
  rw [dif_pos h]

theorem buf_hi (H W) (i : Fin 8194) (j : Fin 11264) (r : Fin 8192) (h : i.val = r.val + 2) : BUF H W (ix2 i j) = UP H W (ix2 r j) := by
  pointwise [BUF]
  rw [dif_neg (by omega)]
  exact congrArg (fun i => UP H W (ix2 i j)) (Fin.ext (by show i.val - 2 = r.val; omega))

theorem conv_apply (X C B) (r : Fin 8192) (j : Fin 11264) : CONV X C B (ix2 r j)
    = B (ix2 0 j) + X (ix2 ⟨r.val, Nat.lt_of_lt_of_le r.isLt (by decide)⟩ j) * C (ix2 0 j)
      + X (ix2 ⟨r.val + 1, Nat.lt_of_lt_of_le (Nat.add_lt_add_right r.isLt 1) (by decide)⟩ j) * C (ix2 1 j)
      + X (ix2 ⟨r.val + 2, Nat.add_lt_add_right r.isLt 2⟩ j) * C (ix2 2 j) := by
  pointwise [CONV]
  simp only [Nat.add_comm 1, Nat.add_comm 2]

theorem gated_apply (Y) (r : Fin 8192) (j : Fin 5632) : GATED Y (ix2 r j) = Y (ix2 r ⟨j.val, Nat.lt_trans j.isLt (by decide)⟩)
    * (Ideal.div 1 (1 + Ideal.exp (-Y (ix2 r ⟨j.val, Nat.lt_trans j.isLt (by decide)⟩)))) * Y (ix2 r ⟨j.val + 5632, Nat.add_lt_add_right j.isLt 5632⟩) := by
  pointwise [GATED]
  simp only [Nat.add_comm 5632]

theorem lastg_apply (X) (i : Fin 2) (j : Fin 5632) : LASTG X (ix2 i j)
    = X (ix2 ⟨i.val + 8192, Nat.add_lt_add_right i.isLt 8192⟩ ⟨j.val, Nat.lt_trans j.isLt (by decide)⟩) := by
  pointwise [LASTG]
  simp only [Nat.add_comm 8192]

theorem lastv_apply (X) (i : Fin 2) (j : Fin 5632) : LASTV X (ix2 i j)
    = X (ix2 ⟨i.val + 8192, Nat.add_lt_add_right i.isLt 8192⟩ ⟨j.val + 5632, Nat.add_lt_add_right j.isLt 5632⟩) := by
  pointwise [LASTV]
  simp only [Nat.add_comm 8192, Nat.add_comm 5632]

end Cert.Reference7Ideal.Ffn

namespace Cert.Kernel7.Ffn

open Cert.Reference7Ideal.Ffn
open Cert.Kernel7 Cert.Kernel7.Gen

/-! ## The body's operations at an index -/

/-- A select on a row number. -/
theorem select_row {α : Type} (r k : ℕ) (hr : r < 1024) (hk : k < 1024) (a b : α) :
    Scalar.select (IntOp.cmpi CmpIPredicate.eq (BitVec.ofNat 32 r) (BitVec.ofNat 32 k)) a b = if r = k then a else b := by
  by_cases h : r = k
  · subst h; simp [Scalar.select, IntOp.cmpi]
  · have h' : ¬BitVec.ofNat 32 r = BitVec.ofNat 32 k := fun e => h (by
      have := congrArg BitVec.toNat e
      simp only [BitVec.toNat_ofNat] at this
      omega)
    have hb : (BitVec.ofNat 32 r == BitVec.ofNat 32 k) = false := beq_eq_false_iff_ne.mpr h'
    simp [Scalar.select, IntOp.cmpi, h, hb]

theorem pay5_apply (x0 x1 j) : k0_pay5 (F := Ideal) x0 x1 j = ∑ k : Fin 2048, x0 (ix2 (j 0) k) * x1 (ix2 k (j 1)) := by
  pointwise [k0_pay5]

theorem pay6_apply (x0 x1 g) (r : Fin 1024) (j : Fin 512) : k0_pay6 (F := Ideal) x0 x1 (row1 (F := Ideal) g) (ix2 r j)
    = if r.val = 0 then g (ix2 1 j) else k0_pay5 (F := Ideal) x0 x1 (ix2 ⟨(r.val + 1024 - 1) % 1024, Nat.mod_lt _ (by decide)⟩ j) := by
  pointwise [k0_pay6, row1]
  exact select_row r.val 0 r.isLt (by decide) _ _

theorem pay7_apply (x0 x1 g) (r : Fin 1024) (j : Fin 512) : k0_pay7 (F := Ideal) x0 x1 (row0 (F := Ideal) g) (row1 (F := Ideal) g) (ix2 r j)
    = if r.val = 0 then g (ix2 0 j) else if r.val = 1 then g (ix2 1 j)
        else k0_pay5 (F := Ideal) x0 x1 (ix2 ⟨(r.val + 1024 - 2) % 1024, Nat.mod_lt _ (by decide)⟩ j) := by
  pointwise [k0_pay7, row1, row0]
  rw [select_row r.val 0 r.isLt (by decide), select_row r.val 1 r.isLt (by decide)]

theorem pay9_apply (a b d e0 e1 e2 e3) (r : Fin 1024) (j : Fin 512) : k0_pay9 (F := Ideal) a b d e0 e1 e2 e3 (ix2 r j)
    = e0 (ix2 0 j) + d (ix2 r j) * e1 (ix2 0 j) + b (ix2 r j) * e2 (ix2 0 j) + a (ix2 r j) * e3 (ix2 0 j) := by
  pointwise [k0_pay9]

theorem pay2_apply (z a b d e0 e1 e2 e3) (r : Fin 1024) (j : Fin 512) : k0_pay2 (F := Ideal) z a b d e0 e1 e2 e3 (ix2 r j)
    = z (ix2 r j) * Ideal.logistic (z (ix2 r j)) *
      (e0 (ix2 0 j) + d (ix2 r j) * e1 (ix2 0 j) + b (ix2 r j) * e2 (ix2 0 j) + a (ix2 r j) * e3 (ix2 0 j)) := by
  pointwise [k0_pay2]

theorem pay8_apply (x0 x1) (r : Fin 2) (j : Fin 512) : k0_pay8 (F := Ideal) x0 x1 (ix2 r j)
    = k0_pay5 (F := Ideal) x0 x1 (ix2 ⟨1022 + r.val, Nat.add_lt_add_left r.isLt 1022⟩ j) := by
  pointwise [k0_pay8]

theorem tap_apply (C) (j : Fin 512) (k : Fin 3) : tap (F := Ideal) C k (ix2 0 j) = C (ix2 k j) := by
  fin_cases k <;> pointwise [tap]

theorem pay3_apply (x j) : k0_pay3 (F := Ideal) x j = x j := by pointwise [k0_pay3]

/-- The value's operations are the gate's on the other weights. -/
theorem pay10_eq (x0 x2) : k0_pay10 (F := Ideal) x0 x2 = k0_pay5 x0 x2 := rfl
theorem pay11_eq (x0 x2 v) : k0_pay11 (F := Ideal) x0 (iota .tc S1024x1 32 [0] iota_S1024x1_d0_w32) x2 v = k0_pay6 x0 x2 v := rfl
theorem pay12_eq (x0 x2 u v) : k0_pay12 (F := Ideal) x0 (iota .tc S1024x1 32 [0] iota_S1024x1_d0_w32) x2 u v = k0_pay7 x0 x2 u v := rfl
theorem lastV_eq (x0 x2) : lastV (F := Ideal) x0 x2 = k0_pay8 x0 x2 := rfl
theorem pay4_apply (x j) : k0_pay4 (F := Ideal) x j = x j := by pointwise [k0_pay4]

/-! ## A block beside the two rows before it -/

section shift
variable (x0 : Vec Ideal S1024x2048 .bf16) (x1 : Vec Ideal S2048x512 .bf16) (g : Vec Ideal S2x512 .f32) (n : ℕ) (hn : n + 1024 ≤ 8192)
  (X : FVec Ideal Cert.Reference7Ideal.S8194x11264 .f32) (j : Fin 512) (J : Fin 11264)
  (hP : ∀ r : Fin 1024, k0_pay5 (F := Ideal) x0 x1 (ix2 r j) = X (ix2 ⟨n + r.val + 2, by omega⟩ J))
  (hg : ∀ i : Fin 2, g (ix2 i j) = X (ix2 ⟨n + i.val, by omega⟩ J))
include hP hg

/-- The block moved down by one row, -/
theorem pay6_at (r : Fin 1024) : k0_pay6 (F := Ideal) x0 x1 (row1 (F := Ideal) g) (ix2 r j) = X (ix2 ⟨n + r.val + 1, by omega⟩ J) := by
  rw [pay6_apply]
  have hr := r.isLt
  split
  · next h => exact (hg 1).trans (congrArg (fun i => X (ix2 i J)) (Fin.ext (by show n + 1 = n + r.val + 1; omega)))
  · next h => exact (hP _).trans (congrArg (fun i => X (ix2 i J)) (Fin.ext (by show n + (r.val + 1024 - 1) % 1024 + 2 = n + r.val + 1; omega)))

/-- and by two. -/
theorem pay7_at (r : Fin 1024) : k0_pay7 (F := Ideal) x0 x1 (row0 (F := Ideal) g) (row1 (F := Ideal) g) (ix2 r j) = X (ix2 ⟨n + r.val, by omega⟩ J) := by
  rw [pay7_apply]
  have hr := r.isLt
  split
  · next h => exact (hg 0).trans (congrArg (fun i => X (ix2 i J)) (Fin.ext (by show n + 0 = n + r.val; omega)))
  · split
    · next h => exact (hg 1).trans (congrArg (fun i => X (ix2 i J)) (Fin.ext (by show n + 1 = n + r.val; omega)))
    · next h0 h => exact (hP _).trans (congrArg (fun i => X (ix2 i J)) (Fin.ext (by show n + (r.val + 1024 - 2) % 1024 + 2 = n + r.val; omega)))

end shift

/-! ## The blocks in the arrays -/

variable (m : (ℓ : Loc nD τ sig) → Buf (Elt Ideal) ℓ)

theorem idx : ∀ t : Fin cfg0.N, win0_0.index t = ![t.val % 8, 0] ∧ win0_1.index t = ![0, t.val / 8] ∧ win0_2.index t = ![0, t.val / 8 + 11]
    ∧ win0_3.index t = ![0, t.val / 8] ∧ win0_4.index t = ![0, t.val / 8 + 11] ∧ win0_5.index t = ![0, t.val / 8]
    ∧ win0_6.index t = ![0, t.val / 8 + 11] ∧ win0_7.index t = ![0, t.val / 8] ∧ win0_8.index t = ![0, t.val / 8 + 11]
    ∧ win0_9.index t = ![t.val % 8, t.val / 8] ∧ win0_10.index t = ![0, t.val / 8] ∧ win0_11.index t = ![0, t.val / 8] :=
  (by decide +kernel : ∀ t : Fin grid0.N, _)

theorem lt88 (t : Fin cfg0.N) : t.val < 88 := lt_of_lt_of_eq t.isLt (show cfg0.N = 88 from N_0)

/-- A point's rows and columns, and its columns among the gate's and the value's. -/
def row (t : Fin cfg0.N) (r : Fin 1024) : Fin 8192 := ⟨t.val % 8 * 1024 + r.val, by have := lt88 t; omega⟩
def col (t : Fin cfg0.N) (j : Fin 512) : Fin 5632 := ⟨t.val / 8 * 512 + j.val, by have := lt88 t; omega⟩
def colG (t : Fin cfg0.N) (j : Fin 512) : Fin 11264 := ⟨(col t j).val, Nat.lt_trans (col t j).isLt (by decide)⟩
def colV (t : Fin cfg0.N) (j : Fin 512) : Fin 11264 := ⟨(col t j).val + 5632, Nat.add_lt_add_right (col t j).isLt 5632⟩

abbrev H (c : Dev nD) : FVec Ideal Cert.Reference7Ideal.S8192x2048 .bf16 := m ((c : Thread nD τ).loc main_arg0)
abbrev W (c : Dev nD) : FVec Ideal Cert.Reference7Ideal.S2048x11264 .bf16 := m ((c : Thread nD τ).loc main_arg1)
abbrev C (c : Dev nD) : FVec Ideal Cert.Reference7Ideal.S3x11264 .f32 := m ((c : Thread nD τ).loc main_arg2)
abbrev B (c : Dev nD) : FVec Ideal Cert.Reference7Ideal.S1x11264 .f32 := m ((c : Thread nD τ).loc main_arg3)

theorem blk0 (c : Dev nD) (t : Fin cfg0.N) (r : Fin 1024) (k : Fin 2048) : (iblk m c 0 t : FVec Ideal S1024x2048 .bf16) (ix2 r k) = H m c (ix2 (row t r) k) := by
  refine Eq.trans ?_ (congrFun (V_main_arg0 m c) _)
  unfold iblk; generalize V m c = V'
  unfold row
  blk_point [idx t]

theorem blk1 (c : Dev nD) (t : Fin cfg0.N) (k : Fin 2048) (j : Fin 512) : (iblk m c 1 t : FVec Ideal S2048x512 .bf16) (ix2 k j) = W m c (ix2 k (colG t j)) := by
  refine Eq.trans ?_ (congrFun (V_main_arg1 m c) _)
  unfold iblk; generalize V m c = V'
  unfold colG col
  blk_point [idx t]

theorem blk2 (c : Dev nD) (t : Fin cfg0.N) (k : Fin 2048) (j : Fin 512) : (iblk m c 2 t : FVec Ideal S2048x512 .bf16) (ix2 k j) = W m c (ix2 k (colV t j)) := by
  refine Eq.trans ?_ (congrFun (V_main_arg1 m c) _)
  unfold iblk; generalize V m c = V'
  unfold colV col
  blk_point [idx t]

theorem blk3 (c : Dev nD) (t : Fin cfg0.N) (k : Fin 3) (j : Fin 512) : (iblk m c 3 t : FVec Ideal S3x512 .f32) (ix2 k j) = C m c (ix2 k (colG t j)) := by
  refine Eq.trans ?_ (congrFun (V_main_arg2 m c) _)
  unfold iblk; generalize V m c = V'
  unfold colG col
  blk_point [idx t]

theorem blk4 (c : Dev nD) (t : Fin cfg0.N) (k : Fin 3) (j : Fin 512) : (iblk m c 4 t : FVec Ideal S3x512 .f32) (ix2 k j) = C m c (ix2 k (colV t j)) := by
  refine Eq.trans ?_ (congrFun (V_main_arg2 m c) _)
  unfold iblk; generalize V m c = V'
  unfold colV col
  blk_point [idx t]

theorem blk5 (c : Dev nD) (t : Fin cfg0.N) (k : Fin 1) (j : Fin 512) : (iblk m c 5 t : FVec Ideal S1x512 .f32) (ix2 k j) = B m c (ix2 k (colG t j)) := by
  refine Eq.trans ?_ (congrFun (V_main_arg3 m c) _)
  unfold iblk; generalize V m c = V'
  unfold colG col
  blk_point [idx t]

theorem blk6 (c : Dev nD) (t : Fin cfg0.N) (k : Fin 1) (j : Fin 512) : (iblk m c 6 t : FVec Ideal S1x512 .f32) (ix2 k j) = B m c (ix2 k (colV t j)) := by
  refine Eq.trans ?_ (congrFun (V_main_arg3 m c) _)
  unfold iblk; generalize V m c = V'
  unfold colV col
  blk_point [idx t]

theorem zero (c : Dev nD) (x : S2x11264.Idx) : (show FVec Ideal S2x11264 .f32 from V m c main_v0) x = (0 : EReal) := by
  unfold V; after_results
  pointwise []

theorem blk7 (c : Dev nD) (t : Fin cfg0.N) (y : S2x512.Idx) : (show FVec Ideal S2x512 .f32 from iblk m c 7 t) y = (0 : EReal) := zero m c _
theorem blk8 (c : Dev nD) (t : Fin cfg0.N) (y : S2x512.Idx) : (show FVec Ideal S2x512 .f32 from iblk m c 8 t) y = (0 : EReal) := zero m c _

/-! ## The gate -/

theorem projG (c : Dev nD) (t : Fin cfg0.N) (r : Fin 1024) (j : Fin 512) :
    k0_pay5 (F := Ideal) (iblk m c 0 t) (iblk m c 1 t) (ix2 r j) = UP (H m c) (W m c) (ix2 (row t r) (colG t j)) := by
  rw [pay5_apply, up_apply]
  exact Finset.sum_congr rfl fun k _ => congrArg₂ (fun a b : EReal => a * b) (blk0 m c t r k) (blk1 m c t k j)

theorem endG_apply (c : Dev nD) (t : Fin cfg0.N) (i : Fin 2) (j : Fin 512) :
    endG m c t (ix2 i j) = UP (H m c) (W m c) (ix2 (row t ⟨1022 + i.val, Nat.add_lt_add_left i.isLt 1022⟩) (colG t j)) := by
  unfold endG
  exact (pay8_apply _ _ i j).trans (projG m c t _ j)

theorem hereG (c : Dev nD) (t : Fin cfg0.N) (j : Fin 512) (r : Fin 1024) :
    k0_pay5 (F := Ideal) (iblk m c 0 t) (iblk m c 1 t) (ix2 r j)
      = BUF (H m c) (W m c) (ix2 ⟨t.val % 8 * 1024 + r.val + 2, by have := lt88 t; omega⟩ (colG t j)) :=
  (projG m c t r j).trans (buf_hi _ _ _ _ (row t r) rfl).symm

theorem begG_apply (c : Dev nD) (t : Fin cfg0.N) (j : Fin 512) (i : Fin 2) :
    begG m c t (ix2 i j) = BUF (H m c) (W m c) (ix2 ⟨t.val % 8 * 1024 + i.val, by have := lt88 t; omega⟩ (colG t j)) := by
  unfold begG
  have hi := i.isLt
  split
  · next h =>
    refine (pay3_apply _ _).trans ((blk7 m c t _).trans (buf_lo _ _ _ _ ?_).symm)
    show t.val % 8 * 1024 + i.val < 2
    omega
  · next h =>
    refine (endG_apply m c _ i j).trans ((congrArg (fun J => UP (H m c) (W m c) (ix2 _ J)) ?_).trans (buf_hi _ _ _ _ _ ?_).symm)
    · apply Fin.ext; unfold colG col; have := lt88 t
      show (t.val - 1) / 8 * 512 + j.val = t.val / 8 * 512 + j.val; omega
    · unfold row; show t.val % 8 * 1024 + i.val = (t.val - 1) % 8 * 1024 + (1022 + i.val) + 2; omega

/-! ## The value -/

theorem projV (c : Dev nD) (t : Fin cfg0.N) (r : Fin 1024) (j : Fin 512) :
    k0_pay5 (F := Ideal) (iblk m c 0 t) (iblk m c 2 t) (ix2 r j) = UP (H m c) (W m c) (ix2 (row t r) (colV t j)) := by
  rw [pay5_apply, up_apply]
  exact Finset.sum_congr rfl fun k _ => congrArg₂ (fun a b : EReal => a * b) (blk0 m c t r k) (blk2 m c t k j)

theorem endV_apply (c : Dev nD) (t : Fin cfg0.N) (i : Fin 2) (j : Fin 512) :
    endV m c t (ix2 i j) = UP (H m c) (W m c) (ix2 (row t ⟨1022 + i.val, Nat.add_lt_add_left i.isLt 1022⟩) (colV t j)) := by
  unfold endV
  exact (pay8_apply _ _ i j).trans (projV m c t _ j)

theorem hereV (c : Dev nD) (t : Fin cfg0.N) (j : Fin 512) (r : Fin 1024) :
    k0_pay5 (F := Ideal) (iblk m c 0 t) (iblk m c 2 t) (ix2 r j)
      = BUF (H m c) (W m c) (ix2 ⟨t.val % 8 * 1024 + r.val + 2, by have := lt88 t; omega⟩ (colV t j)) :=
  (projV m c t r j).trans (buf_hi _ _ _ _ (row t r) rfl).symm

theorem begV_apply (c : Dev nD) (t : Fin cfg0.N) (j : Fin 512) (i : Fin 2) :
    begV m c t (ix2 i j) = BUF (H m c) (W m c) (ix2 ⟨t.val % 8 * 1024 + i.val, by have := lt88 t; omega⟩ (colV t j)) := by
  unfold begV
  have hi := i.isLt
  split
  · next h =>
    refine (pay4_apply _ _).trans ((blk8 m c t _).trans (buf_lo _ _ _ _ ?_).symm)
    show t.val % 8 * 1024 + i.val < 2
    omega
  · next h =>
    refine (endV_apply m c _ i j).trans ((congrArg (fun J => UP (H m c) (W m c) (ix2 _ J)) ?_).trans (buf_hi _ _ _ _ _ ?_).symm)
    · apply Fin.ext; unfold colV col; have := lt88 t
      show (t.val - 1) / 8 * 512 + j.val + 5632 = t.val / 8 * 512 + j.val + 5632; omega
    · unfold row; show t.val % 8 * 1024 + i.val = (t.val - 1) % 8 * 1024 + (1022 + i.val) + 2; omega

/-! ## What a point puts out -/

theorem gatedAt_apply (c : Dev nD) (t : Fin cfg0.N) (r : Fin 1024) (j : Fin 512) :
    gatedAt m c t (ix2 r j) = GATED (CONV (BUF (H m c) (W m c)) (C m c) (B m c)) (ix2 (row t r) (col t j)) := by
  have hn : t.val % 8 * 1024 + 1024 ≤ 8192 := by omega
  rw [gated_apply]
  have hG : ∀ z, z = CONV (BUF (H m c) (W m c)) (C m c) (B m c) (ix2 (row t r) (colG t j)) → ∀ v, v = CONV (BUF (H m c) (W m c)) (C m c) (B m c) (ix2 (row t r) (colV t j)) →
      z * Ideal.logistic z * v = CONV (BUF (H m c) (W m c)) (C m c) (B m c) (ix2 (row t r) (colG t j))
        * Ideal.div 1 (1 + Ideal.exp (-CONV (BUF (H m c) (W m c)) (C m c) (B m c) (ix2 (row t r) (colG t j))))
        * CONV (BUF (H m c) (W m c)) (C m c) (B m c) (ix2 (row t r) (colV t j)) := by
    rintro z rfl v rfl; rfl
  unfold gatedAt gated
  rw [pay10_eq, pay11_eq, pay12_eq, pay2_apply]
  refine hG _ ?_ _ ?_
  · rw [pay9_apply, conv_apply]
    refine congrArg₂ (fun a b : EReal => a + b) (congrArg₂ (fun a b : EReal => a + b) (congrArg₂ (fun a b : EReal => a + b) (blk5 m c t 0 j) ?_) ?_) ?_
    · exact congrArg₂ (fun a b : EReal => a * b) (pay7_at _ _ _ _ hn _ j _ (hereG m c t j) (begG_apply m c t j) r) ((tap_apply _ j 0).trans (blk3 m c t 0 j))
    · exact congrArg₂ (fun a b : EReal => a * b) (pay6_at _ _ _ _ hn _ j _ (hereG m c t j) (begG_apply m c t j) r) ((tap_apply _ j 1).trans (blk3 m c t 1 j))
    · exact congrArg₂ (fun a b : EReal => a * b) (hereG m c t j r) ((tap_apply _ j 2).trans (blk3 m c t 2 j))
  · rw [conv_apply]
    refine congrArg₂ (fun a b : EReal => a + b) (congrArg₂ (fun a b : EReal => a + b) (congrArg₂ (fun a b : EReal => a + b) (blk6 m c t 0 j) ?_) ?_) ?_
    · exact congrArg₂ (fun a b : EReal => a * b) (pay7_at _ _ _ _ hn _ j _ (hereV m c t j) (begV_apply m c t j) r) ((tap_apply _ j 0).trans (blk4 m c t 0 j))
    · exact congrArg₂ (fun a b : EReal => a * b) (pay6_at _ _ _ _ hn _ j _ (hereV m c t j) (begV_apply m c t j) r) ((tap_apply _ j 1).trans (blk4 m c t 1 j))
    · exact congrArg₂ (fun a b : EReal => a * b) (hereV m c t j r) ((tap_apply _ j 2).trans (blk4 m c t 2 j))

theorem emb9 (t : Fin cfg0.N) (y : S1024x512.Idx) : ((cfg0.win 9).blk t).view.emb y = ix2 (row t (y 0)) (col t (y 1)) := by
  unfold row col; blk_ext [idx t]
theorem emb10 (t : Fin cfg0.N) (y : S2x512.Idx) : ((cfg0.win 10).blk t).view.emb y = ix2 (y 0) (col t (y 1)) := by
  unfold col; blk_ext [idx t]
theorem emb11 (t : Fin cfg0.N) (y : S2x512.Idx) : ((cfg0.win 11).blk t).view.emb y = ix2 (y 0) (col t (y 1)) := by
  unfold col; blk_ext [idx t]

/-- The gated array after the run, -/
theorem final_gated (c : Dev nD) : (dats m 0 c).arrAt 9 cfg0.N = GATED (CONV (BUF (H m c) (W m c)) (C m c) (B m c)) := by
  refine (dats m 0 c).arrAt_eq_of_covers 9 _ (by decide +kernel) fun t hf y => ?_
  blk_simp
  rw [after0_9, emb9]
  exact (congrArg _ (ix2_eta y).symm).trans (gatedAt_apply m c t (y 0) (y 1))

/-- the gate's last two rows, -/
theorem final_last_gate (c : Dev nD) : (dats m 0 c).arrAt 10 cfg0.N = LASTG (BUF (H m c) (W m c)) := by
  refine (dats m 0 c).arrAt_eq_of_covers 10 _ (by decide +kernel) fun t hf y => ?_
  have hf' := (flush0_10 t).mp hf
  blk_simp
  rw [after0_10, emb10]
  refine (congrArg _ (ix2_eta y).symm).trans ((endG_apply m c t (y 0) (y 1)).trans (Eq.trans (buf_hi _ _ _ _ _ ?_).symm (lastg_apply _ _ _).symm))
  unfold row; show (y 0).val + 8192 = t.val % 8 * 1024 + (1022 + (y 0).val) + 2; omega

/-- and the value's. -/
theorem final_last_value (c : Dev nD) : (dats m 0 c).arrAt 11 cfg0.N = LASTV (BUF (H m c) (W m c)) := by
  refine (dats m 0 c).arrAt_eq_of_covers 11 _ (by decide +kernel) fun t hf y => ?_
  have hf' := (flush0_11 t).mp hf
  blk_simp
  rw [after0_11, emb11]
  refine (congrArg _ (ix2_eta y).symm).trans ((endV_apply m c t (y 0) (y 1)).trans (Eq.trans (buf_hi _ _ _ _ _ ?_).symm (lastv_apply _ _ _).symm))
  unfold row; show (y 0).val + 8192 = t.val % 8 * 1024 + (1022 + (y 0).val) + 2; omega

end Cert.Kernel7.Ffn

namespace Cert.Kernel7Ideal.Ffn

open Cert.Kernel7Ideal Cert.Kernel7Ideal.Gen

variable (m : (ℓ : Loc nD τ sig) → Buf (Elt Ideal) ℓ) (ρ : Dev nD → PrngReg)

-- (the two kernels' procedures are matched by unfolding them, which the smart unfolding of the matches stops)
set_option smartUnfolding false in
/-- The ideal kernel is the kernel at the ideal numbers, so it has its run, -/
theorem run_blocks : θ_run defs (onTc (τ := τ) (main (F := Ideal))) ⟨m, fun _ => 0, ρ⟩ fun r => ∀ c : Dev nD,
      r.2.mem ((c : Thread nD τ).loc main_v1_0) = (Cert.Kernel7.Ffn.dats (F := Ideal) m 0 c).arrAt 9 Cert.Kernel7.cfg0.N
      ∧ r.2.mem ((c : Thread nD τ).loc main_v1_1) = (Cert.Kernel7.Ffn.dats (F := Ideal) m 0 c).arrAt 10 Cert.Kernel7.cfg0.N
      ∧ r.2.mem ((c : Thread nD τ).loc main_v1_2) = (Cert.Kernel7.Ffn.dats (F := Ideal) m 0 c).arrAt 11 Cert.Kernel7.cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Kernel7.Ffn.run_blocks (F := Ideal) m ρ

set_option smartUnfolding false in
/-- and its frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Cert.Kernel7.Ffn.frame (F := Ideal) m ρ

end Cert.Kernel7Ideal.Ffn

end
-- ==== Proof.SbProjBody.lean ====
/- The stick-breaking projection, one grid point: what the body leaves in its outputs and in the scratch that keeps the
   normalised rows, at any contents of its windows. Three cases, one per column block: the first (queries) normalises the
   rows and keeps them, the other two (keys, values) project the kept rows. -/
module

public import proofs.«01_k».proof.Proof.Gen.Kernel8.Frame
public import proofs.«01_k».proof.Proof.Gen.Kernel8.Skeleton
public import Idealize.ShloMosaic.Lib.Pipeline.ReadBack
public import Idealize.ShloMosaic.Lib.Pipeline.ValueKit
public import Idealize.ShloMosaic.Lib.VecWindow
public import Idealize.ShloMosaic.Lib.WordCmp

@[expose] public section

set_option maxRecDepth 16384

noncomputable section

namespace Cert.Kernel8.SbProj

open Cert.Kernel8 Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The column block is the first: the rows are normalised, -/
abbrev first (i : grid0.Coords) : Prop := (Scalar.cmpi .ne (Scalar.extui (Scalar.cmpi .eq (BitVec.ofNat 32 (i 1).val) 0#32)) 0#32) = 1#1
/-- it is the queries', -/
abbrev isQ (i : grid0.Coords) : Prop := k0_cond2 i = 1#1
/-- the keys', -/
abbrev isK (i : grid0.Coords) : Prop := k0_cond3 i = 1#1
/-- the values'. -/
abbrev isV (i : grid0.Coords) : Prop := k0_cond4 i = 1#1
theorem first_iff : ∀ t : Fin cfg0.N, first (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [first, e0, e1]
    word_cmp
   : ∀ t : Fin grid0.N, first (grid0.coords t) ↔ t.val % 3 = 0)
theorem isQ_iff : ∀ t : Fin cfg0.N, isQ (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isQ, k0_cond2, e0, e1]
    word_cmp
   : ∀ t : Fin grid0.N, isQ (grid0.coords t) ↔ t.val % 3 = 0)
theorem isK_iff : ∀ t : Fin cfg0.N, isK (grid0.coords t) ↔ t.val % 3 = 1 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isK, k0_cond3, e0, e1]
    word_cmp
   : ∀ t : Fin grid0.N, isK (grid0.coords t) ↔ t.val % 3 = 1)
theorem isV_iff : ∀ t : Fin cfg0.N, isV (grid0.coords t) ↔ t.val % 3 = 2 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isV, k0_cond4, e0, e1]
    word_cmp
   : ∀ t : Fin grid0.N, isV (grid0.coords t) ↔ t.val % 3 = 2)

-- (the run's proof term is large: checking it walks past the default budget)
set_option maxHeartbeats 2000000 in
/-- The body at the queries: whatever the scratch holds, it takes the normalised rows. -/
theorem body_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x2048 .bf16) (harg10 : arg10.IsWhole) (hc0 : first i) (hc1 : isQ i) (hc2 : ¬isK i) (hc3 : ¬isV i)
    (x0 : Vec F S512x2048 .f32) (x1 : Vec F S1x2048 .f32) (x2 : Vec F S2048x1024 .bf16) (y4 : Vec F S512x1024 .f32) (y5 : Vec F S512x1024 .bf16) (y6 : Vec F S512x1024 .f32) (y7 : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y4 ∗ owns (c : Thread nD τ) arg7 fullShare y5 ∗ owns (c : Thread nD τ) arg8 fullShare y6 ∗ owns (c : Thread nD τ) arg9 fullShare y7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay1 x0 x1) x2) ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare (k0_pay1 x0 x1)) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10) K := by
  simp only [cc0_norm_proj_plain_eq_skeleton]; unfold cc0_norm_proj_plain_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%ds, %fs, -, HS⟩, Hk⟩
  obtain rfl := harg2.eq_unread hf0; obtain rfl := harg3.eq_unread hf1; obtain rfl := harg4.eq_unread hf2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full arg5.view _ inb_S512x1024_S512x1024_0_0 _ []).trans ?_
    frame_out
    try rfl
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  iexists _; isplitr; swap; · iexact HS
  ipureintro
  refine (View.read_writes_full arg10.view _ inb_S512x2048_S512x2048_0_0 _ []).trans ?_
  frame_out
  try rfl

-- (the run's proof term is large: checking it walks past the default budget)
set_option maxHeartbeats 2000000 in
/-- The body at the keys. -/
theorem body_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x2048 .bf16) (harg10 : arg10.IsWhole) (hc0 : ¬first i) (hc1 : ¬isQ i) (hc2 : isK i) (hc3 : ¬isV i)
    (x0 : Vec F S512x2048 .f32) (x1 : Vec F S1x2048 .f32) (x2 : Vec F S2048x1024 .bf16) (s : Vec F S512x2048 .bf16) (y3 : Vec F S512x1024 .bf16) (y6 : Vec F S512x1024 .f32) (y7 : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d) ∗ (∃ d, owns (c : Thread nD τ) arg7 fullShare d) ∗ owns (c : Thread nD τ) arg8 fullShare y6 ∗ owns (c : Thread nD τ) arg9 fullShare y7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare (k0_pay2 s x2) ∗ owns (c : Thread nD τ) arg7 fullShare (k0_pay4 s x2) ∗ owns (c : Thread nD τ) arg8 fullShare y6 ∗ owns (c : Thread nD τ) arg9 fullShare y7 ∗ owns (c : Thread nD τ) arg10 fullShare s) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10) K := by
  simp only [cc0_norm_proj_plain_eq_skeleton]; unfold cc0_norm_proj_plain_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2
  obtain rfl := harg10.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; exact hf3
  isplitl [H4]
  · iexists _; isplitr; swap; · iexact H4
    ipureintro
    refine (View.read_writes_full arg6.view _ inb_S512x1024_S512x1024_0_0 _ []).trans ?_
    frame_out
    try rfl
  isplitl [H5]
  · iexists _; isplitr; swap; · iexact H5
    ipureintro
    refine (View.read_writes_full arg7.view _ inb_S512x1024_S512x1024_0_0 _ []).trans ?_
    frame_out
    try rfl
  isplitl [H6]
  · iexists _; isplitr; swap; · iexact H6
    ipureintro; exact hf6
  isplitl [H7]
  · iexists _; isplitr; swap; · iexact H7
    ipureintro; exact hf7
  iexists _; isplitr; · ipureintro; exact harg10.read_unread _
  iexact HS

-- (the run's proof term is large: checking it walks past the default budget)
set_option maxHeartbeats 2000000 in
/-- The body at the values. -/
theorem body_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x1024 .bf16) (harg5 : arg5.IsWhole) (arg6 : Memref sig .tc .vmem S512x1024 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x2048 .bf16) (harg10 : arg10.IsWhole) (hc0 : ¬first i) (hc1 : ¬isQ i) (hc2 : ¬isK i) (hc3 : isV i)
    (x0 : Vec F S512x2048 .f32) (x1 : Vec F S1x2048 .f32) (x2 : Vec F S2048x1024 .bf16) (s : Vec F S512x2048 .bf16) (y3 : Vec F S512x1024 .bf16) (y4 : Vec F S512x1024 .f32) (y5 : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ (∃ d, owns (c : Thread nD τ) arg8 fullShare d) ∗ (∃ d, owns (c : Thread nD τ) arg9 fullShare d) ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ owns (c : Thread nD τ) arg8 fullShare (k0_pay2 s x2) ∗ owns (c : Thread nD τ) arg9 fullShare (k0_pay5 s x2) ∗ owns (c : Thread nD τ) arg10 fullShare s) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10) K := by
  simp only [cc0_norm_proj_plain_eq_skeleton]; unfold cc0_norm_proj_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  obtain rfl := harg2.eq_unread hf0; obtain rfl := harg3.eq_unread hf1; obtain rfl := harg4.eq_unread hf2
  obtain rfl := harg10.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine (View.read_writes_full arg8.view _ inb_S512x1024_S512x1024_0_0 _ []).trans ?_
    frame_out
    try rfl
  isplitl [H7]
  · iexists _; isplitr; swap; · iexact H7
    ipureintro
    refine (View.read_writes_full arg9.view _ inb_S512x1024_S512x1024_0_0 _ []).trans ?_
    frame_out
    try rfl
  iexists _; isplitr; · ipureintro; exact harg10.read_unread _
  iexact HS

end Cert.Kernel8.SbProj

end
-- ==== Proof.SbProjFrame.lean ====
/- The stick-breaking projection over its grid: the proof data (what every window and the scratch hold at each point), the body at
   each point, the run that names the five arrays the kernel leaves, and the frame. A row block is visited three times, and
   each output is stored at one of the three and written back at the third: in between its buffer keeps what was stored. -/
module

public import proofs.«01_k».proof.Proof.SbProjBody
public import Idealize.ShloMosaic.Lib.Claim
public import Idealize.ShloMosaic.Lib.Pipeline.TableIdle

@[expose] public section

set_option maxRecDepth 16384

noncomputable section

namespace Cert.Kernel8.SbProj

open Cert.Kernel8 Cert.Kernel8.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle, and their memrefs -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, t.val % 3 = 0 → cfg0.idle 3 (grid0.coords t) = false := by decide +kernel
theorem idleAt0_3 : ∀ t : Fin cfg0.N, ¬t.val % 3 = 0 → cfg0.idle 3 (grid0.coords t) = true := by decide +kernel
theorem quiet0_3 : ∀ t : Fin cfg0.N, ¬t.val % 3 = 2 → (cfg0.win 3).flush t = false := by decide +kernel
theorem liveAt0_4 : ∀ t : Fin cfg0.N, t.val % 3 = 1 → cfg0.idle 4 (grid0.coords t) = false := by decide +kernel
theorem idleAt0_4 : ∀ t : Fin cfg0.N, ¬t.val % 3 = 1 → cfg0.idle 4 (grid0.coords t) = true := by decide +kernel
theorem quiet0_4 : ∀ t : Fin cfg0.N, ¬t.val % 3 = 2 → (cfg0.win 4).flush t = false := by decide +kernel
theorem liveAt0_5 : ∀ t : Fin cfg0.N, t.val % 3 = 1 → cfg0.idle 5 (grid0.coords t) = false := by decide +kernel
theorem idleAt0_5 : ∀ t : Fin cfg0.N, ¬t.val % 3 = 1 → cfg0.idle 5 (grid0.coords t) = true := by decide +kernel
theorem quiet0_5 : ∀ t : Fin cfg0.N, ¬t.val % 3 = 2 → (cfg0.win 5).flush t = false := by decide +kernel
theorem liveAt0_6 : ∀ t : Fin cfg0.N, t.val % 3 = 2 → cfg0.idle 6 (grid0.coords t) = false := by decide +kernel
theorem idleAt0_6 : ∀ t : Fin cfg0.N, ¬t.val % 3 = 2 → cfg0.idle 6 (grid0.coords t) = true := by decide +kernel
theorem quiet0_6 : ∀ t : Fin cfg0.N, ¬t.val % 3 = 2 → (cfg0.win 6).flush t = false := by decide +kernel
theorem liveAt0_7 : ∀ t : Fin cfg0.N, t.val % 3 = 2 → cfg0.idle 7 (grid0.coords t) = false := by decide +kernel
theorem idleAt0_7 : ∀ t : Fin cfg0.N, ¬t.val % 3 = 2 → cfg0.idle 7 (grid0.coords t) = true := by decide +kernel
theorem quiet0_7 : ∀ t : Fin cfg0.N, ¬t.val % 3 = 2 → (cfg0.win 7).flush t = false := by decide +kernel
theorem fresh0_3 (n : ℕ) (h : n ≤ cfg0.N) : cfg0.fresh 3 n = decide (n % 3 = 0) :=
  Cfg.fresh_tab cfg0 3 (fun n => decide (n % 3 = 0)) rfl (by decide +kernel) n h
theorem fresh0_4 (n : ℕ) (h : n ≤ cfg0.N) : cfg0.fresh 4 n = decide (¬n % 3 = 2) :=
  Cfg.fresh_tab cfg0 4 (fun n => decide (¬n % 3 = 2)) rfl (by decide +kernel) n h
theorem fresh0_5 (n : ℕ) (h : n ≤ cfg0.N) : cfg0.fresh 5 n = decide (¬n % 3 = 2) :=
  Cfg.fresh_tab cfg0 5 (fun n => decide (¬n % 3 = 2)) rfl (by decide +kernel) n h

abbrev ms0_0 (t : Fin cfg0.N) : Memref sig .tc .vmem S512x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x1024 .bf16 := win0_2.stage (cfg0.slots t 2)
abbrev ms0_3 (t : Fin cfg0.N) : Memref sig .tc .vmem S512x1024 .bf16 := win0_3.stage (cfg0.slots t 3)
abbrev ms0_4 (t : Fin cfg0.N) : Memref sig .tc .vmem S512x1024 .f32 := win0_4.stage (cfg0.slots t 4)
abbrev ms0_5 (t : Fin cfg0.N) : Memref sig .tc .vmem S512x1024 .bf16 := win0_5.stage (cfg0.slots t 5)
abbrev ms0_6 (t : Fin cfg0.N) : Memref sig .tc .vmem S512x1024 .f32 := win0_6.stage (cfg0.slots t 6)
abbrev ms0_7 (t : Fin cfg0.N) : Memref sig .tc .vmem S512x1024 .bf16 := win0_7.stage (cfg0.slots t 7)
abbrev scM0_0 : Memref sig .tc .vmem S512x2048 .bf16 := Memref.whole cc0_scratch0

/-- What the launch hands the region: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## A row block's three points -/

theorem lt48 (t : Fin cfg0.N) : t.val < 48 := lt_of_lt_of_eq t.isLt (show cfg0.N = 48 from N_0)

/-- The point of `t`'s row block at column block `j`. -/
def pt (t : Fin cfg0.N) (j : Fin 3) : Fin cfg0.N :=
  ⟨t.val / 3 * 3 + j.val, lt_of_lt_of_eq (show t.val / 3 * 3 + j.val < 48 by have := lt48 t; have := j.isLt; omega) (show cfg0.N = 48 from N_0).symm⟩

theorem pt_self (t : Fin cfg0.N) (j : Fin 3) (h : t.val % 3 = j.val) : pt t j = t :=
  Fin.ext (by show t.val / 3 * 3 + j.val = t.val; omega)

theorem pt_pred (t : Fin cfg0.N) (j : Fin 3) (h : ¬t.val % 3 = 0) (h' : t.val - 1 < cfg0.N) : pt ⟨t.val - 1, h'⟩ j = pt t j :=
  Fin.ext (by show (t.val - 1) / 3 * 3 + j.val = t.val / 3 * 3 + j.val; omega)

/-- The normalised rows of `t`'s row block. -/
def nrm (c : Dev nD) (t : Fin cfg0.N) : Vec F S512x2048 .bf16 := k0_pay1 (iblk m c 0 (pt t 0)) (iblk m c 1 (pt t 0))

theorem nrm_self (c : Dev nD) (t : Fin cfg0.N) (h : t.val % 3 = 0) : nrm m c t = k0_pay1 (iblk m c 0 t) (iblk m c 1 t) := by
  unfold nrm; rw [pt_self t 0 h]

theorem nrm_pred (c : Dev nD) (t : Fin cfg0.N) (h : ¬t.val % 3 = 0) (h' : t.val - 1 < cfg0.N) : nrm m c ⟨t.val - 1, h'⟩ = nrm m c t := by
  unfold nrm; rw [pt_pred t 0 h]

/-! ## The pipeline's proof data -/

/-- What the scratch holds before point `n`: anything before the first, then the normalised rows of the point before. -/
def PhiS (c : Dev nD) : (n : ℕ) → n ≤ cfg0.N → sProp 𝕄
  | 0, _ => Pipeline.ΦA spec0 c
  | n + 1, h => iprop(iprop(owns (c : Thread nD τ) scM0_0 fullShare (nrm m c ⟨n, h⟩)) ∗ (∃ r, prngReg c r))

theorem PhiS_pos (c : Dev nD) (n : ℕ) (h : n ≤ cfg0.N) (h0 : n ≠ 0) :
    PhiS m c n h = iprop(iprop(owns (c : Thread nD τ) scM0_0 fullShare (nrm m c ⟨n - 1, Nat.lt_of_lt_of_le (Nat.sub_lt (Nat.pos_of_ne_zero h0) Nat.one_pos) h⟩)) ∗ (∃ r, prngReg c r)) := by
  obtain ⟨k, rfl⟩ : ∃ k, n = k + 1 := ⟨n - 1, (Nat.succ_pred_eq_of_ne_zero h0).symm⟩
  rfl

theorem PhiS_succ (c : Dev nD) (t : Fin cfg0.N) :
    PhiS m c (t.val + 1) t.isLt = iprop(iprop(owns (c : Thread nD τ) scM0_0 fullShare (nrm m c t)) ∗ (∃ r, prngReg c r)) := rfl

/-- After any point the invariant gives the scratch at some contents. -/
theorem PhiS_out (c : Dev nD) (n : ℕ) (h : n ≤ cfg0.N) : PhiS m c n h ⊢ Pipeline.ΦA spec0 c := by
  match n, h with
  | 0, _ => exact .rfl
  | n + 1, h =>
    rw [PhiA0_eq]; unfold PhiS
    iintro ⟨HS0, Hg⟩
    isplitl [HS0]
    · iexists _; iexact HS0
    iexact Hg

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (nrm m c t) (iblk m c 2 (pt t 0))
    | ⟨4, _⟩ => k0_pay2 (nrm m c t) (iblk m c 2 (pt t 1))
    | ⟨5, _⟩ => k0_pay4 (nrm m c t) (iblk m c 2 (pt t 1))
    | ⟨6, _⟩ => k0_pay2 (nrm m c t) (iblk m c 2 (pt t 2))
    | ⟨7, _⟩ => k0_pay5 (nrm m c t) (iblk m c 2 (pt t 2))
  Φ t := PhiS m c t.val (Nat.lt_succ_iff.mp t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (nrm m c t) (iblk m c 2 (pt t 0)) := by dsimp only [dats]
theorem after0_4 (c : Dev nD) (t : Fin cfg0.N) : (dats m 0 c).after 4 t = k0_pay2 (nrm m c t) (iblk m c 2 (pt t 1)) := by dsimp only [dats]
theorem after0_5 (c : Dev nD) (t : Fin cfg0.N) : (dats m 0 c).after 5 t = k0_pay4 (nrm m c t) (iblk m c 2 (pt t 1)) := by dsimp only [dats]
theorem after0_6 (c : Dev nD) (t : Fin cfg0.N) : (dats m 0 c).after 6 t = k0_pay2 (nrm m c t) (iblk m c 2 (pt t 2)) := by dsimp only [dats]
theorem after0_7 (c : Dev nD) (t : Fin cfg0.N) : (dats m 0 c).after 7 t = k0_pay5 (nrm m c t) (iblk m c 2 (pt t 2)) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## What an output's buffer keeps to the third point -/

theorem carry0_3 (c : Dev nD) (t : Fin cfg0.N) (h : ¬t.val % 3 = 0) (h' : t.val - 1 < cfg0.N) :
    (dats m 0 c).after 3 t = (dats m 0 c).after 3 ⟨t.val - 1, h'⟩ := by
  rw [after0_3, after0_3, nrm_pred m c t h, pt_pred t 0 h]

theorem found0_3 (c : Dev nD) (t : Fin cfg0.N) (h : t.val % 3 = 2) (d) : (dats m 0 c).before 3 t d = (dats m 0 c).after 3 t := by
  rw [(dats m 0 c).before_out_traj 3 rfl (fun _ _ => rfl) (fun t _ _ hf => carry0_3 m c t (fun h => by
      rw [fresh0_3 t.val (Nat.le_of_lt t.isLt)] at hf; simp [h] at hf) _) t.val t rfl d,
    fresh0_3 t.val (Nat.le_of_lt t.isLt), if_neg (by simp [h])]
  exact (carry0_3 m c t (by omega) _).symm

theorem carry0_4 (c : Dev nD) (t : Fin cfg0.N) (h : ¬t.val % 3 = 0) (h' : t.val - 1 < cfg0.N) :
    (dats m 0 c).after 4 t = (dats m 0 c).after 4 ⟨t.val - 1, h'⟩ := by
  rw [after0_4, after0_4, nrm_pred m c t h, pt_pred t 1 h]

theorem found0_4 (c : Dev nD) (t : Fin cfg0.N) (h : t.val % 3 = 2) (d) : (dats m 0 c).before 4 t d = (dats m 0 c).after 4 t := by
  rw [(dats m 0 c).before_out_traj 4 rfl (fun _ _ => rfl) (fun t _ _ hf => carry0_4 m c t (fun h => by
      rw [fresh0_4 t.val (Nat.le_of_lt t.isLt)] at hf; simp [h] at hf) _) t.val t rfl d,
    fresh0_4 t.val (Nat.le_of_lt t.isLt), if_neg (by simp [h])]
  exact (carry0_4 m c t (by omega) _).symm

theorem carry0_5 (c : Dev nD) (t : Fin cfg0.N) (h : ¬t.val % 3 = 0) (h' : t.val - 1 < cfg0.N) :
    (dats m 0 c).after 5 t = (dats m 0 c).after 5 ⟨t.val - 1, h'⟩ := by
  rw [after0_5, after0_5, nrm_pred m c t h, pt_pred t 1 h]

theorem found0_5 (c : Dev nD) (t : Fin cfg0.N) (h : t.val % 3 = 2) (d) : (dats m 0 c).before 5 t d = (dats m 0 c).after 5 t := by
  rw [(dats m 0 c).before_out_traj 5 rfl (fun _ _ => rfl) (fun t _ _ hf => carry0_5 m c t (fun h => by
      rw [fresh0_5 t.val (Nat.le_of_lt t.isLt)] at hf; simp [h] at hf) _) t.val t rfl d,
    fresh0_5 t.val (Nat.le_of_lt t.isLt), if_neg (by simp [h])]
  exact (carry0_5 m c t (by omega) _).symm

/-! ## The body at each point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 3600000 in
/-- The body at any point, by its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from rfl]
  rw [PhiS_succ m c t]
  have hN := lt48 t
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rcases (by omega : t.val % 3 = 0 ∨ t.val % 3 = 1 ∨ t.val % 3 = 2) with h | h | h
  · rw [show (dats m 0 c).leavesExact 3 t = owns (c : Thread nD τ) (ms0_3 t) fullShare ((dats m 0 c).after 3 t) from by
      unfold Dat.leavesExact; rw [liveAt0_3 t h], after0_3, pt_self t 0 h]
    rw [(dats m 0 c).leavesExact_idle 4 t (idleAt0_4 t (by omega)) (quiet0_4 t (by omega))]
    rw [(dats m 0 c).leavesExact_idle 5 t (idleAt0_5 t (by omega)) (quiet0_5 t (by omega))]
    rw [(dats m 0 c).leavesExact_idle 6 t (idleAt0_6 t (by omega)) (quiet0_6 t (by omega))]
    rw [(dats m 0 c).leavesExact_idle 7 t (idleAt0_7 t (by omega)) (quiet0_7 t (by omega))]
    rw [nrm_self m c t h]
    have hΦ := PhiS_out m c t.val (Nat.le_of_lt t.isLt)
    rw [PhiA0_eq] at hΦ
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HP := hΦ $$ HΦ
    icases HP with ⟨HS0, Hg⟩
    iapply (body_A c (grid0.coords t) _ _ _ _ _ _ _ _ _ _ _ _ _ _ _ _ _ _ ((first_iff t).mpr h) ((isQ_iff t).mpr h) (fun e => absurd ((isK_iff t).mp e) (by omega)) (fun e => absurd ((isV_iff t).mp e) (by omega)) (iblk m c 0 t) (iblk m c 1 t) (iblk m c 2 t) _ _ _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7
  · rw [(dats m 0 c).leavesExact_idle 3 t (idleAt0_3 t (by omega)) (quiet0_3 t (by omega))]
    rw [show (dats m 0 c).leavesExact 4 t = owns (c : Thread nD τ) (ms0_4 t) fullShare ((dats m 0 c).after 4 t) from by
      unfold Dat.leavesExact; rw [liveAt0_4 t h], after0_4, pt_self t 1 h]
    rw [show (dats m 0 c).leavesExact 5 t = owns (c : Thread nD τ) (ms0_5 t) fullShare ((dats m 0 c).after 5 t) from by
      unfold Dat.leavesExact; rw [liveAt0_5 t h], after0_5, pt_self t 1 h]
    rw [(dats m 0 c).leavesExact_idle 6 t (idleAt0_6 t (by omega)) (quiet0_6 t (by omega))]
    rw [(dats m 0 c).leavesExact_idle 7 t (idleAt0_7 t (by omega)) (quiet0_7 t (by omega))]
    rw [PhiS_pos m c t.val _ (by omega), nrm_pred m c t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_B c (grid0.coords t) _ _ _ _ _ _ _ _ _ _ _ _ _ _ _ _ _ _ (fun e => absurd ((first_iff t).mp e) (by omega)) (fun e => absurd ((isQ_iff t).mp e) (by omega)) ((isK_iff t).mpr h) (fun e => absurd ((isV_iff t).mp e) (by omega)) (iblk m c 0 t) (iblk m c 1 t) (iblk m c 2 t) (nrm m c t) _ _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexists _; iexact H3
    isplitl [H4]; · iexact H4
    isplitl [H5]; · iexact H5
    isplitl [H6]; · iexists _; iexact H6
    iexists _; iexact H7
  · rw [show (dats m 0 c).leavesExact 3 t = owns (c : Thread nD τ) (ms0_3 t) fullShare ((dats m 0 c).after 3 t) from by
      unfold Dat.leavesExact; rw [idleAt0_3 t (by omega), (flush0_3 t).mpr h]]
    rw [show (dats m 0 c).leavesExact 4 t = owns (c : Thread nD τ) (ms0_4 t) fullShare ((dats m 0 c).after 4 t) from by
      unfold Dat.leavesExact; rw [idleAt0_4 t (by omega), (flush0_4 t).mpr h]]
    rw [show (dats m 0 c).leavesExact 5 t = owns (c : Thread nD τ) (ms0_5 t) fullShare ((dats m 0 c).after 5 t) from by
      unfold Dat.leavesExact; rw [idleAt0_5 t (by omega), (flush0_5 t).mpr h]]
    rw [show (dats m 0 c).leavesExact 6 t = owns (c : Thread nD τ) (ms0_6 t) fullShare ((dats m 0 c).after 6 t) from by
      unfold Dat.leavesExact; rw [liveAt0_6 t h], after0_6, pt_self t 2 h]
    rw [show (dats m 0 c).leavesExact 7 t = owns (c : Thread nD τ) (ms0_7 t) fullShare ((dats m 0 c).after 7 t) from by
      unfold Dat.leavesExact; rw [liveAt0_7 t h], after0_7, pt_self t 2 h]
    simp only [found0_3 m c t h, found0_4 m c t h, found0_5 m c t h]
    rw [PhiS_pos m c t.val _ (by omega), nrm_pred m c t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_C c (grid0.coords t) _ _ _ _ _ _ _ _ _ _ _ _ _ _ _ _ _ _ (fun e => absurd ((first_iff t).mp e) (by omega)) (fun e => absurd ((isQ_iff t).mp e) (by omega)) (fun e => absurd ((isK_iff t).mp e) (by omega)) ((isV_iff t).mpr h) (iblk m c 0 t) (iblk m c 1 t) (iblk m c 2 t) (nrm m c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := .rfl
theorem hout (c : Dev nD) : (dats m 0 c).Φ (Fin.last cfg0.N) ⊢ Pipeline.ΦA spec0 c := by
  have h := PhiS_out m c (Fin.last cfg0.N).val (Nat.le_refl _)
  exact h

set_option backward.isDefEq.respectTransparency.types false in
/-- The launch: every array ends as the proof data says, and every semaphore counter is zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run that names the five output arrays. -/
theorem run_blocks : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_v1_3) = (dats m 0 c).arrAt 6 cfg0.N
      ∧ r.2.mem ((c : Thread nD τ).loc main_v1_4) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 3, (h.1 c).1 4, (h.1 c).1 5, (h.1 c).1 6, (h.1 c).1 7, h.2 c⟩) (θ_run_and (run_main m ρ) (unchanged m ρ))

end Cert.Kernel8.SbProj

end
-- ==== Proof.SbProjValue.lean ====
/- The value of the stick-breaking projection: each output is the reference's product at the queries', keys' or values'
   columns. The rows are normalised once for the three. -/
module

public import proofs.«01_k».proof.Proof.SbProjFrame
public import proofs.«01_k».proof.Proof.Gen.Kernel8Ideal
public import proofs.«01_k».proof.Proof.Gen.Kernel8.Points
public import proofs.«01_k».proof.Proof.Gen.Reference8Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference8Ideal.SbProj

open Cert.Reference8Ideal Cert.Reference8Ideal.Gen

/-- RMS normalisation of the rows of a matrix, with its gain. -/
def NORM (Y : FVec Ideal S8192x2048 .f32) (G : FVec Ideal S1x2048 .f32) : FVec Ideal S8192x2048 .f32 :=
  mulf (mulf Y (broadcastInDim S8192x2048 ![0, 1] bcast_S8192x1_S8192x2048_0_1 (Host.rsqrt (addf (Host.divf
    (broadcastInDim S8192x1 ![0] bcast_S8192_S8192x1_0 (Host.reduceAdd (mulf Y Y) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast _ G shapeCasts_S1x2048_S2048)))

/-- The normalised rows times the columns of the queries, the keys and the values, -/
def PROJ (X : FVec Ideal S8192x2048 .f32) (G : FVec Ideal S1x2048 .f32) (W : FVec Ideal S2048x3072 .f32) :
    FVec Ideal S8192x3072 .f32 :=
  Host.dotGeneral dot_S8192x2048_S2048x3072_S8192x3072_1_0_0_1_n_n none (NORM X G) W

/-- and its three parts. -/
def QPART (Y : FVec Ideal S8192x3072 .f32) : FVec Ideal S8192x1024 .f32 := extractStridedSlice S8192x1024 ![0, 0] Y slices_S8192x3072_S8192x1024_0_0
def KPART (Y : FVec Ideal S8192x3072 .f32) : FVec Ideal S8192x1024 .f32 := extractStridedSlice S8192x1024 ![0, 1024] Y slices_S8192x3072_S8192x1024_0_1024
def VPART (Y : FVec Ideal S8192x3072 .f32) : FVec Ideal S8192x1024 .f32 := extractStridedSlice S8192x1024 ![0, 2048] Y slices_S8192x3072_S8192x1024_0_2048

theorem proj_apply (X G W) (i : Fin 8192) (j : Fin 3072) : PROJ X G W (ix2 i j) = ∑ k : Fin 2048, NORM X G (ix2 i k) * W (ix2 k j) := by
  unfold PROJ
  generalize NORM X G = Y
  pointwise []

theorem qpart_apply (Y) (i : Fin 8192) (j : Fin 1024) : QPART Y (ix2 i j) = Y (ix2 i ⟨j.val, Nat.lt_trans j.isLt (by decide)⟩) := by
  pointwise [QPART]
theorem kpart_apply (Y) (i : Fin 8192) (j : Fin 1024) : KPART Y (ix2 i j) = Y (ix2 i ⟨1024 + j.val, Nat.lt_trans (Nat.add_lt_add_left j.isLt 1024) (by decide)⟩) := by
  pointwise [KPART]
theorem vpart_apply (Y) (i : Fin 8192) (j : Fin 1024) : VPART Y (ix2 i j) = Y (ix2 i ⟨2048 + j.val, Nat.add_lt_add_left j.isLt 2048⟩) := by
  pointwise [VPART]

end Cert.Reference8Ideal.SbProj

namespace Cert.Kernel8.SbProj

open Cert.Reference8Ideal.SbProj
open Cert.Kernel8 Cert.Kernel8.Gen

variable (m : (ℓ : Loc nD τ sig) → Buf (Elt Ideal) ℓ)

theorem idx : ∀ t : Fin cfg0.N, win0_0.index t = ![t.val / 3, 0] ∧ win0_1.index t = ![0, 0]
    ∧ win0_2.index t = ![0, t.val % 3] ∧ win0_3.index t = ![t.val / 3, 0] ∧ win0_4.index t = ![t.val / 3, 0] ∧ win0_5.index t = ![t.val / 3, 0] ∧ win0_6.index t = ![t.val / 3, 0] ∧ win0_7.index t = ![t.val / 3, 0] :=
  (by decide +kernel : ∀ t : Fin grid0.N, _)

abbrev A0 (c : Dev nD) : FVec Ideal Cert.Reference8Ideal.S8192x2048 .f32 := m ((c : Thread nD τ).loc main_arg0)
abbrev A1 (c : Dev nD) : FVec Ideal Cert.Reference8Ideal.S1x2048 .f32 := m ((c : Thread nD τ).loc main_arg1)
abbrev A2 (c : Dev nD) : FVec Ideal Cert.Reference8Ideal.S2048x3072 .f32 := m ((c : Thread nD τ).loc main_arg2)

/-- A point's rows, and its columns. -/
def row (t : Fin cfg0.N) (r : Fin 512) : Fin 8192 := ⟨t.val / 3 * 512 + r.val, by have := lt48 t; omega⟩
def col (t : Fin cfg0.N) (j : Fin 1024) : Fin 3072 := ⟨t.val % 3 * 1024 + j.val, by omega⟩

theorem row_pt (t : Fin cfg0.N) (j : Fin 3) (r : Fin 512) : row (pt t j) r = row t r :=
  Fin.ext (by have := j.isLt; show (t.val / 3 * 3 + j.val) / 3 * 512 + r.val = t.val / 3 * 512 + r.val; omega)

theorem col_pt (t : Fin cfg0.N) (j : Fin 3) (e : Fin 1024) : (col (pt t j) e).val = j.val * 1024 + e.val := by
  have := j.isLt
  show (t.val / 3 * 3 + j.val) % 3 * 1024 + e.val = j.val * 1024 + e.val
  omega

theorem blk0 (c : Dev nD) (t : Fin cfg0.N) (r : Fin 512) (k : Fin 2048) : (iblk m c 0 t : FVec Ideal S512x2048 .f32) (ix2 r k) = A0 m c (ix2 (row t r) k) := by
  refine Eq.trans ?_ (congrFun (V_main_arg0 m c) _)
  unfold iblk; generalize V m c = V'
  unfold row
  blk_point [idx t]

theorem blk1 (c : Dev nD) (t : Fin cfg0.N) (k : Fin 2048) : (iblk m c 1 t : FVec Ideal S1x2048 .f32) (ix2 0 k) = A1 m c (ix2 0 k) := by
  refine Eq.trans ?_ (congrFun (V_main_arg1 m c) _)
  unfold iblk; generalize V m c = V'
  blk_point [idx t]

theorem V_w (c : Dev nD) : @Eq (FVec Ideal S2048x3072 .bf16) (V m c main_v0)
    (truncf (F := Ideal) (s := S2048x3072) (φ := .f32) .bf16 (m ((c : Thread nD τ).loc main_arg2)) bitsLt_bf16_f32) := by
  unfold V
  after_results

theorem blk2 (c : Dev nD) (t : Fin cfg0.N) (k : Fin 2048) (j : Fin 1024) : (iblk m c 2 t : FVec Ideal S2048x1024 .bf16) (ix2 k j) = A2 m c (ix2 k (col t j)) := by
  have h : (iblk m c 2 t : FVec Ideal S2048x1024 .bf16) (ix2 k j) = (V m c main_v0 : FVec Ideal S2048x3072 .bf16) (ix2 k (col t j)) := by
    unfold iblk; generalize V m c = V'
    unfold col
    blk_point [idx t]
  rw [h, V_w]
  rfl

/-- A normalised row of a block is the reference's. -/
theorem norm_at (x : FVec Ideal S512x2048 .f32) (g : FVec Ideal S1x2048 .f32)
    (Y : FVec Ideal Cert.Reference8Ideal.S8192x2048 .f32) (R : FVec Ideal Cert.Reference8Ideal.S1x2048 .f32)
    (r : Fin 512) (i : Fin 8192) (h : ∀ k, x (ix2 r k) = Y (ix2 i k)) (hg : ∀ k, g (ix2 0 k) = R (ix2 0 k)) (k : Fin 2048) :
    k0_pay1 (F := Ideal) x g (ix2 r k) = NORM Y R (ix2 i k) := by
  pointwise [k0_pay1, NORM]
  have hs := Finset.sum_congr rfl fun (k : Fin 2048) (_ : k ∈ Finset.univ) => congrArg₂ (fun a b : EReal => a * b) (h k) (h k)
  exact congrArg₂ (fun a b : EReal => a * b) (congrArg₂ (fun a b : EReal => a * b) (h k)
    (congrArg (fun a : EReal => Ideal.rsqrt (Ideal.div a _ + _)) hs)) (hg k)

theorem nrm_apply (c : Dev nD) (t : Fin cfg0.N) (r : Fin 512) (k : Fin 2048) : nrm m c t (ix2 r k) = NORM (A0 m c) (A1 m c) (ix2 (row t r) k) := by
  unfold nrm
  exact norm_at _ _ _ _ r (row t r) (fun k => (blk0 m c (pt t 0) r k).trans (by rw [row_pt])) (blk1 m c _) k

theorem hdot (h w) (r : Fin 512) (j : Fin 1024) : k0_pay2 (F := Ideal) h w (ix2 r j) = ∑ k : Fin 2048, h (ix2 r k) * w (ix2 k j) := by
  pointwise [k0_pay2]

/-- The product at a row block's point of column block `j`. -/
theorem proj_at (c : Dev nD) (t : Fin cfg0.N) (j : Fin 3) (r : Fin 512) (e : Fin 1024) (J : Fin 3072) (hJ : J.val = j.val * 1024 + e.val) :
    k0_pay2 (F := Ideal) (nrm m c t) (iblk m c 2 (pt t j)) (ix2 r e) = PROJ (A0 m c) (A1 m c) (A2 m c) (ix2 (row t r) J) := by
  rw [hdot, proj_apply]
  have hc : col (pt t j) e = J := Fin.ext ((col_pt t j e).trans hJ.symm)
  exact Finset.sum_congr rfl fun k _ => congrArg₂ (fun a b : EReal => a * b) (nrm_apply m c t r k) ((blk2 m c (pt t j) k e).trans (by rw [hc]))

theorem emb3 (t : Fin cfg0.N) (y : S512x1024.Idx) : ((cfg0.win 3).blk t).view.emb y = ix2 (row t (y 0)) (y 1) := by
  unfold row; blk_ext [idx t]
theorem emb4 (t : Fin cfg0.N) (y : S512x1024.Idx) : ((cfg0.win 4).blk t).view.emb y = ix2 (row t (y 0)) (y 1) := by
  unfold row; blk_ext [idx t]
theorem emb5 (t : Fin cfg0.N) (y : S512x1024.Idx) : ((cfg0.win 5).blk t).view.emb y = ix2 (row t (y 0)) (y 1) := by
  unfold row; blk_ext [idx t]
theorem emb6 (t : Fin cfg0.N) (y : S512x1024.Idx) : ((cfg0.win 6).blk t).view.emb y = ix2 (row t (y 0)) (y 1) := by
  unfold row; blk_ext [idx t]
theorem emb7 (t : Fin cfg0.N) (y : S512x1024.Idx) : ((cfg0.win 7).blk t).view.emb y = ix2 (row t (y 0)) (y 1) := by
  unfold row; blk_ext [idx t]

theorem final_0 (c : Dev nD) : (dats m 0 c).arrAt 3 cfg0.N = truncf .bf16 (QPART (PROJ (A0 m c) (A1 m c) (A2 m c))) Cert.Reference8Ideal.Gen.bitsLt_bf16_f32 := by
  refine (dats m 0 c).arrAt_eq_of_covers 3 _ (by decide +kernel) fun t hf y => ?_
  blk_simp
  rw [after0_3, emb3]
  refine (congrArg _ (ix2_eta y).symm).trans ?_
  exact (proj_at m c t 0 (y 0) (y 1) _ (by show (y 1).val = 0 * 1024 + (y 1).val; omega)).trans (qpart_apply _ (row t (y 0)) (y 1)).symm

theorem final_1 (c : Dev nD) : (dats m 0 c).arrAt 4 cfg0.N = KPART (PROJ (A0 m c) (A1 m c) (A2 m c)) := by
  refine (dats m 0 c).arrAt_eq_of_covers 4 _ (by decide +kernel) fun t hf y => ?_
  blk_simp
  rw [after0_4, emb4]
  refine (congrArg _ (ix2_eta y).symm).trans ?_
  exact (proj_at m c t 1 (y 0) (y 1) _ (by rfl)).trans (kpart_apply _ (row t (y 0)) (y 1)).symm

theorem final_2 (c : Dev nD) : (dats m 0 c).arrAt 5 cfg0.N = truncf .bf16 (KPART (PROJ (A0 m c) (A1 m c) (A2 m c))) Cert.Reference8Ideal.Gen.bitsLt_bf16_f32 := by
  refine (dats m 0 c).arrAt_eq_of_covers 5 _ (by decide +kernel) fun t hf y => ?_
  blk_simp
  rw [after0_5, emb5]
  refine (congrArg _ (ix2_eta y).symm).trans ?_
  exact (proj_at m c t 1 (y 0) (y 1) _ (by rfl)).trans (kpart_apply _ (row t (y 0)) (y 1)).symm

theorem final_3 (c : Dev nD) : (dats m 0 c).arrAt 6 cfg0.N = VPART (PROJ (A0 m c) (A1 m c) (A2 m c)) := by
  refine (dats m 0 c).arrAt_eq_of_covers 6 _ (by decide +kernel) fun t hf y => ?_
  blk_simp
  rw [after0_6, emb6]
  refine (congrArg _ (ix2_eta y).symm).trans ?_
  exact (proj_at m c t 2 (y 0) (y 1) _ (by rfl)).trans (vpart_apply _ (row t (y 0)) (y 1)).symm

theorem final_4 (c : Dev nD) : (dats m 0 c).arrAt 7 cfg0.N = truncf .bf16 (VPART (PROJ (A0 m c) (A1 m c) (A2 m c))) Cert.Reference8Ideal.Gen.bitsLt_bf16_f32 := by
  refine (dats m 0 c).arrAt_eq_of_covers 7 _ (by decide +kernel) fun t hf y => ?_
  blk_simp
  rw [after0_7, emb7]
  refine (congrArg _ (ix2_eta y).symm).trans ?_
  exact (proj_at m c t 2 (y 0) (y 1) _ (by rfl)).trans (vpart_apply _ (row t (y 0)) (y 1)).symm

end Cert.Kernel8.SbProj

namespace Cert.Kernel8Ideal.SbProj

open Cert.Kernel8Ideal Cert.Kernel8Ideal.Gen

variable (m : (ℓ : Loc nD τ sig) → Buf (Elt Ideal) ℓ) (ρ : Dev nD → PrngReg)

-- (the two kernels' procedures are matched by unfolding them, which the smart unfolding of the matches stops)
set_option smartUnfolding false in
/-- The ideal kernel is the kernel at the ideal numbers, so it has its run, -/
theorem run_blocks : θ_run defs (onTc (τ := τ) (main (F := Ideal))) ⟨m, fun _ => 0, ρ⟩ fun r => ∀ c : Dev nD,
      r.2.mem ((c : Thread nD τ).loc main_v1_0) = (Cert.Kernel8.SbProj.dats (F := Ideal) m 0 c).arrAt 3 Cert.Kernel8.cfg0.N
      ∧ r.2.mem ((c : Thread nD τ).loc main_v1_1) = (Cert.Kernel8.SbProj.dats (F := Ideal) m 0 c).arrAt 4 Cert.Kernel8.cfg0.N
      ∧ r.2.mem ((c : Thread nD τ).loc main_v1_2) = (Cert.Kernel8.SbProj.dats (F := Ideal) m 0 c).arrAt 5 Cert.Kernel8.cfg0.N
      ∧ r.2.mem ((c : Thread nD τ).loc main_v1_3) = (Cert.Kernel8.SbProj.dats (F := Ideal) m 0 c).arrAt 6 Cert.Kernel8.cfg0.N
      ∧ r.2.mem ((c : Thread nD τ).loc main_v1_4) = (Cert.Kernel8.SbProj.dats (F := Ideal) m 0 c).arrAt 7 Cert.Kernel8.cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Kernel8.SbProj.run_blocks (F := Ideal) m ρ

set_option smartUnfolding false in
/-- and its frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Cert.Kernel8.SbProj.frame (F := Ideal) m ρ

end Cert.Kernel8Ideal.SbProj

end
-- ==== Proof.DsaProjBody.lean ====
/- The sparse attention projection, one grid point: what the body leaves in its outputs and in the scratch that keeps the
   normalised rows, at any contents of its windows. Three cases, one per column block: the first (queries) normalises the
   rows and keeps them, the other two (keys, values) project the kept rows. The queries and
   the keys are turned by the rotary tables, a head (128 columns) at a time. -/
module

public import proofs.«01_k».proof.Proof.Gen.Kernel9.Frame
public import proofs.«01_k».proof.Proof.Gen.Kernel9.Skeleton
public import Idealize.ShloMosaic.Lib.Pipeline.ReadBack
public import Idealize.ShloMosaic.Lib.Pipeline.ValueKit
public import Idealize.ShloMosaic.Lib.VecWindow
public import Idealize.ShloMosaic.Lib.WordCmp

@[expose] public section

set_option maxRecDepth 16384

noncomputable section

namespace Cert.Kernel9.DsaProj

open Cert.Kernel9 Cert.Kernel9.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The column block is the first: the rows are normalised, -/
abbrev first (i : grid0.Coords) : Prop := (Scalar.cmpi .ne (Scalar.extui (Scalar.cmpi .eq (BitVec.ofNat 32 (i 1).val) 0#32)) 0#32) = 1#1
/-- it is the queries', -/
abbrev isQ (i : grid0.Coords) : Prop := k0_cond2 i = 1#1
/-- the keys', -/
abbrev isK (i : grid0.Coords) : Prop := k0_cond3 i = 1#1
/-- the values'. -/
abbrev isV (i : grid0.Coords) : Prop := k0_cond4 i = 1#1
theorem first_iff : ∀ t : Fin cfg0.N, first (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [first, e0, e1]
    word_cmp
   : ∀ t : Fin grid0.N, first (grid0.coords t) ↔ t.val % 3 = 0)
theorem isQ_iff : ∀ t : Fin cfg0.N, isQ (grid0.coords t) ↔ t.val % 3 = 0 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isQ, k0_cond2, e0, e1]
    word_cmp
   : ∀ t : Fin grid0.N, isQ (grid0.coords t) ↔ t.val % 3 = 0)
theorem isK_iff : ∀ t : Fin cfg0.N, isK (grid0.coords t) ↔ t.val % 3 = 1 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isK, k0_cond3, e0, e1]
    word_cmp
   : ∀ t : Fin grid0.N, isK (grid0.coords t) ↔ t.val % 3 = 1)
theorem isV_iff : ∀ t : Fin cfg0.N, isV (grid0.coords t) ↔ t.val % 3 = 2 :=
  (fun t => by
    have ht : t.val < 48 := Nat.lt_of_lt_of_eq t.isLt N_0
    have e0 : (grid0.coords t 0).val = t.val / 3 % 16 := Pipeline.Grid.coords_val t 0 (by decide) rfl
    have e1 : (grid0.coords t 1).val = t.val / 1 % 3 := Pipeline.Grid.coords_val t 1 (by decide) rfl
    simp only [isV, k0_cond4, e0, e1]
    word_cmp
   : ∀ t : Fin grid0.N, isV (grid0.coords t) ↔ t.val % 3 = 2)

/-! ## The turned heads, as they are stored -/

/-- The queries' block: the product's eight heads, each turned and rounded. -/
def qRot (h : Vec F S512x2048 .bf16) (w : Vec F S2048x1024 .bf16) (cs sn : Vec F S512x128 .f32) : Vec F S512x1024 .bf16 :=
  View.canon [⟨Rect.unit (s := S512x1024) ![0, 896] S512x128.size inb_S512x1024_S512x128_0_896, k0_pay5 h w (k0_pay8 cs) (k0_pay9 sn)⟩,
    ⟨Rect.unit (s := S512x1024) ![0, 768] S512x128.size inb_S512x1024_S512x128_0_768, k0_pay4 h w (k0_pay8 cs) (k0_pay9 sn)⟩,
    ⟨Rect.unit (s := S512x1024) ![0, 640] S512x128.size inb_S512x1024_S512x128_0_640, k0_pay3 h w (k0_pay8 cs) (k0_pay9 sn)⟩,
    ⟨Rect.unit (s := S512x1024) ![0, 512] S512x128.size inb_S512x1024_S512x128_0_512, k0_pay14 (k0_pay2 h w) cs sn⟩,
    ⟨Rect.unit (s := S512x1024) ![0, 384] S512x128.size inb_S512x1024_S512x128_0_384, k0_pay13 (k0_pay2 h w) cs sn⟩,
    ⟨Rect.unit (s := S512x1024) ![0, 256] S512x128.size inb_S512x1024_S512x128_0_256, k0_pay12 (k0_pay2 h w) cs sn⟩,
    ⟨Rect.unit (s := S512x1024) ![0, 128] S512x128.size inb_S512x1024_S512x128_0_128, k0_pay11 (k0_pay2 h w) cs sn⟩,
    ⟨Rect.unit (s := S512x1024) ![0, 0] S512x128.size inb_S512x1024_S512x128_0_0, k0_pay10 (k0_pay2 h w) cs sn⟩]

/-- The keys' block, unrounded -/
def kRot (h : Vec F S512x2048 .bf16) (w : Vec F S2048x1024 .bf16) (cs sn : Vec F S512x128 .f32) : Vec F S512x1024 .f32 :=
  View.canon [⟨Rect.unit (s := S512x1024) ![0, 896] S512x128.size inb_S512x1024_S512x128_0_896, k0_pay31 (k0_pay2 h w) (k0_pay15 cs) (k0_pay16 sn)⟩,
    ⟨Rect.unit (s := S512x1024) ![0, 768] S512x128.size inb_S512x1024_S512x128_0_768, k0_pay29 (k0_pay2 h w) (k0_pay15 cs) (k0_pay16 sn)⟩,
    ⟨Rect.unit (s := S512x1024) ![0, 640] S512x128.size inb_S512x1024_S512x128_0_640, k0_pay27 (k0_pay2 h w) (k0_pay15 cs) (k0_pay16 sn)⟩,
    ⟨Rect.unit (s := S512x1024) ![0, 512] S512x128.size inb_S512x1024_S512x128_0_512, k0_pay25 (k0_pay2 h w) (k0_pay15 cs) (k0_pay16 sn)⟩,
    ⟨Rect.unit (s := S512x1024) ![0, 384] S512x128.size inb_S512x1024_S512x128_0_384, k0_pay23 (k0_pay2 h w) cs sn⟩,
    ⟨Rect.unit (s := S512x1024) ![0, 256] S512x128.size inb_S512x1024_S512x128_0_256, k0_pay21 (k0_pay2 h w) cs sn⟩,
    ⟨Rect.unit (s := S512x1024) ![0, 128] S512x128.size inb_S512x1024_S512x128_0_128, k0_pay19 (k0_pay2 h w) cs sn⟩,
    ⟨Rect.unit (s := S512x1024) ![0, 0] S512x128.size inb_S512x1024_S512x128_0_0, k0_pay17 (k0_pay2 h w) cs sn⟩]

/-- and rounded. -/
def kRotB (h : Vec F S512x2048 .bf16) (w : Vec F S2048x1024 .bf16) (cs sn : Vec F S512x128 .f32) : Vec F S512x1024 .bf16 :=
  View.canon [⟨Rect.unit (s := S512x1024) ![0, 896] S512x128.size inb_S512x1024_S512x128_0_896, k0_pay6 (k0_pay31 (k0_pay2 h w) (k0_pay15 cs) (k0_pay16 sn))⟩,
    ⟨Rect.unit (s := S512x1024) ![0, 768] S512x128.size inb_S512x1024_S512x128_0_768, k0_pay30 (k0_pay2 h w) (k0_pay15 cs) (k0_pay16 sn)⟩,
    ⟨Rect.unit (s := S512x1024) ![0, 640] S512x128.size inb_S512x1024_S512x128_0_640, k0_pay28 (k0_pay2 h w) (k0_pay15 cs) (k0_pay16 sn)⟩,
    ⟨Rect.unit (s := S512x1024) ![0, 512] S512x128.size inb_S512x1024_S512x128_0_512, k0_pay26 (k0_pay2 h w) (k0_pay15 cs) (k0_pay16 sn)⟩,
    ⟨Rect.unit (s := S512x1024) ![0, 384] S512x128.size inb_S512x1024_S512x128_0_384, k0_pay24 (k0_pay23 (k0_pay2 h w) cs sn)⟩,
    ⟨Rect.unit (s := S512x1024) ![0, 256] S512x128.size inb_S512x1024_S512x128_0_256, k0_pay22 (k0_pay2 h w) cs sn⟩,
    ⟨Rect.unit (s := S512x1024) ![0, 128] S512x128.size inb_S512x1024_S512x128_0_128, k0_pay20 (k0_pay2 h w) cs sn⟩,
    ⟨Rect.unit (s := S512x1024) ![0, 0] S512x128.size inb_S512x1024_S512x128_0_0, k0_pay18 (k0_pay2 h w) cs sn⟩]

-- (the run's proof term is large: checking it walks past the default budget)
set_option maxHeartbeats 2000000 in
/-- The body at the queries: whatever the scratch holds, it takes the normalised rows. -/
theorem body_A (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x2048 .bf16) (harg12 : arg12.IsWhole) (hc0 : first i) (hc1 : isQ i) (hc2 : ¬isK i) (hc3 : ¬isV i)
    (x0 : Vec F S512x2048 .f32) (x1 : Vec F S1x2048 .f32) (x2 : Vec F S2048x1024 .bf16) (x3 : Vec F S512x128 .f32) (x4 : Vec F S512x128 .f32) (y6 : Vec F S512x1024 .f32) (y7 : Vec F S512x1024 .bf16) (y8 : Vec F S512x1024 .f32) (y9 : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ owns (c : Thread nD τ) arg10 fullShare y8 ∗ owns (c : Thread nD τ) arg11 fullShare y9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (qRot (k0_pay1 x0 x1) x2 x3 x4) ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare (k0_pay1 x0 x1)) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10 arg11 harg11 arg12 harg12) K := by
  simp only [cc0_norm_proj_plain_eq_skeleton]; unfold cc0_norm_proj_plain_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_eq_canon (Val := Elt F) arg7.view _ _ ?_).trans ?_; · exact View.cover_of_tiledL _ S512x128.size (by sl_kernel_rfl)
    frame_out
    try rfl
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  iexists _; isplitr; swap; · iexact HS
  ipureintro
  refine (View.read_writes_full arg12.view _ inb_S512x2048_S512x2048_0_0 _ []).trans ?_
  frame_out
  try rfl

-- (the run's proof term is large: checking it walks past the default budget)
set_option maxHeartbeats 2000000 in
/-- The body at the keys. -/
theorem body_B (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x2048 .bf16) (harg12 : arg12.IsWhole) (hc0 : ¬first i) (hc1 : ¬isQ i) (hc2 : isK i) (hc3 : ¬isV i)
    (x0 : Vec F S512x2048 .f32) (x1 : Vec F S1x2048 .f32) (x2 : Vec F S2048x1024 .bf16) (x3 : Vec F S512x128 .f32) (x4 : Vec F S512x128 .f32) (s : Vec F S512x2048 .bf16) (y5 : Vec F S512x1024 .bf16) (y8 : Vec F S512x1024 .f32) (y9 : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ owns (c : Thread nD τ) arg10 fullShare y8 ∗ owns (c : Thread nD τ) arg11 fullShare y9 ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (kRot s x2 x3 x4) ∗ owns (c : Thread nD τ) arg9 fullShare (kRotB s x2 x3 x4) ∗ owns (c : Thread nD τ) arg10 fullShare y8 ∗ owns (c : Thread nD τ) arg11 fullShare y9 ∗ owns (c : Thread nD τ) arg12 fullShare s) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10 arg11 harg11 arg12 harg12) K := by
  simp only [cc0_norm_proj_plain_eq_skeleton]; unfold cc0_norm_proj_plain_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4
  obtain rfl := harg12.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact hf5
  isplitl [H6]
  · iexists _; isplitr; swap; · iexact H6
    ipureintro
    refine (View.read_writes_eq_canon (Val := Elt F) arg8.view _ _ ?_).trans ?_; · exact View.cover_of_tiledL _ S512x128.size (by sl_kernel_rfl)
    frame_out
    try rfl
  isplitl [H7]
  · iexists _; isplitr; swap; · iexact H7
    ipureintro
    refine (View.read_writes_eq_canon (Val := Elt F) arg9.view _ _ ?_).trans ?_; · exact View.cover_of_tiledL _ S512x128.size (by sl_kernel_rfl)
    frame_out
    try rfl
  isplitl [H8]
  · iexists _; isplitr; swap; · iexact H8
    ipureintro; exact hf8
  isplitl [H9]
  · iexists _; isplitr; swap; · iexact H9
    ipureintro; exact hf9
  iexists _; isplitr; · ipureintro; exact harg12.read_unread _
  iexact HS

-- (the run's proof term is large: checking it walks past the default budget)
set_option maxHeartbeats 2000000 in
/-- The body at the values. -/
theorem body_C (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x2048 .bf16) (harg12 : arg12.IsWhole) (hc0 : ¬first i) (hc1 : ¬isQ i) (hc2 : ¬isK i) (hc3 : isV i)
    (x0 : Vec F S512x2048 .f32) (x1 : Vec F S1x2048 .f32) (x2 : Vec F S2048x1024 .bf16) (x3 : Vec F S512x128 .f32) (x4 : Vec F S512x128 .f32) (s : Vec F S512x2048 .bf16) (y5 : Vec F S512x1024 .bf16) (y6 : Vec F S512x1024 .f32) (y7 : Vec F S512x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ (∃ d, owns (c : Thread nD τ) arg10 fullShare d) ∗ (∃ d, owns (c : Thread nD τ) arg11 fullShare d) ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare (k0_pay2 s x2) ∗ owns (c : Thread nD τ) arg11 fullShare (k0_pay7 s x2) ∗ owns (c : Thread nD τ) arg12 fullShare s) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10 arg11 harg11 arg12 harg12) K := by
  simp only [cc0_norm_proj_plain_eq_skeleton]; unfold cc0_norm_proj_plain_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4
  obtain rfl := harg12.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro
    refine (View.read_writes_full arg10.view _ inb_S512x1024_S512x1024_0_0 _ []).trans ?_
    frame_out
    try rfl
  isplitl [H9]
  · iexists _; isplitr; swap; · iexact H9
    ipureintro
    refine (View.read_writes_full arg11.view _ inb_S512x1024_S512x1024_0_0 _ []).trans ?_
    frame_out
    try rfl
  iexists _; isplitr; · ipureintro; exact harg12.read_unread _
  iexact HS

end Cert.Kernel9.DsaProj

end
-- ==== Proof.DsaProjFrame.lean ====
/- The sparse attention projection over its grid: the proof data (what every window and the scratch hold at each point), the body at
   each point, the run that names the five arrays the kernel leaves, and the frame. A row block is visited three times, and
   each output is stored at one of the three and written back at the third: in between its buffer keeps what was stored. -/
module

public import proofs.«01_k».proof.Proof.DsaProjBody
public import Idealize.ShloMosaic.Lib.Claim
public import Idealize.ShloMosaic.Lib.Pipeline.TableIdle

@[expose] public section

set_option maxRecDepth 16384

noncomputable section

namespace Cert.Kernel9.DsaProj

open Cert.Kernel9 Cert.Kernel9.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle, and their memrefs -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, t.val % 3 = 0 → cfg0.idle 5 (grid0.coords t) = false := by decide +kernel
theorem idleAt0_5 : ∀ t : Fin cfg0.N, ¬t.val % 3 = 0 → cfg0.idle 5 (grid0.coords t) = true := by decide +kernel
theorem quiet0_5 : ∀ t : Fin cfg0.N, ¬t.val % 3 = 2 → (cfg0.win 5).flush t = false := by decide +kernel
theorem liveAt0_6 : ∀ t : Fin cfg0.N, t.val % 3 = 1 → cfg0.idle 6 (grid0.coords t) = false := by decide +kernel
theorem idleAt0_6 : ∀ t : Fin cfg0.N, ¬t.val % 3 = 1 → cfg0.idle 6 (grid0.coords t) = true := by decide +kernel
theorem quiet0_6 : ∀ t : Fin cfg0.N, ¬t.val % 3 = 2 → (cfg0.win 6).flush t = false := by decide +kernel
theorem liveAt0_7 : ∀ t : Fin cfg0.N, t.val % 3 = 1 → cfg0.idle 7 (grid0.coords t) = false := by decide +kernel
theorem idleAt0_7 : ∀ t : Fin cfg0.N, ¬t.val % 3 = 1 → cfg0.idle 7 (grid0.coords t) = true := by decide +kernel
theorem quiet0_7 : ∀ t : Fin cfg0.N, ¬t.val % 3 = 2 → (cfg0.win 7).flush t = false := by decide +kernel
theorem liveAt0_8 : ∀ t : Fin cfg0.N, t.val % 3 = 2 → cfg0.idle 8 (grid0.coords t) = false := by decide +kernel
theorem idleAt0_8 : ∀ t : Fin cfg0.N, ¬t.val % 3 = 2 → cfg0.idle 8 (grid0.coords t) = true := by decide +kernel
theorem quiet0_8 : ∀ t : Fin cfg0.N, ¬t.val % 3 = 2 → (cfg0.win 8).flush t = false := by decide +kernel
theorem liveAt0_9 : ∀ t : Fin cfg0.N, t.val % 3 = 2 → cfg0.idle 9 (grid0.coords t) = false := by decide +kernel
theorem idleAt0_9 : ∀ t : Fin cfg0.N, ¬t.val % 3 = 2 → cfg0.idle 9 (grid0.coords t) = true := by decide +kernel
theorem quiet0_9 : ∀ t : Fin cfg0.N, ¬t.val % 3 = 2 → (cfg0.win 9).flush t = false := by decide +kernel
theorem fresh0_5 (n : ℕ) (h : n ≤ cfg0.N) : cfg0.fresh 5 n = decide (n % 3 = 0) :=
  Cfg.fresh_tab cfg0 5 (fun n => decide (n % 3 = 0)) rfl (by decide +kernel) n h
theorem fresh0_6 (n : ℕ) (h : n ≤ cfg0.N) : cfg0.fresh 6 n = decide (¬n % 3 = 2) :=
  Cfg.fresh_tab cfg0 6 (fun n => decide (¬n % 3 = 2)) rfl (by decide +kernel) n h
theorem fresh0_7 (n : ℕ) (h : n ≤ cfg0.N) : cfg0.fresh 7 n = decide (¬n % 3 = 2) :=
  Cfg.fresh_tab cfg0 7 (fun n => decide (¬n % 3 = 2)) rfl (by decide +kernel) n h

abbrev ms0_0 (t : Fin cfg0.N) : Memref sig .tc .vmem S512x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x1024 .bf16 := win0_2.stage (cfg0.slots t 2)
abbrev ms0_3 (t : Fin cfg0.N) : Memref sig .tc .vmem S512x128 .f32 := win0_3.stage (cfg0.slots t 3)
abbrev ms0_4 (t : Fin cfg0.N) : Memref sig .tc .vmem S512x128 .f32 := win0_4.stage (cfg0.slots t 4)
abbrev ms0_5 (t : Fin cfg0.N) : Memref sig .tc .vmem S512x1024 .bf16 := win0_5.stage (cfg0.slots t 5)
abbrev ms0_6 (t : Fin cfg0.N) : Memref sig .tc .vmem S512x1024 .f32 := win0_6.stage (cfg0.slots t 6)
abbrev ms0_7 (t : Fin cfg0.N) : Memref sig .tc .vmem S512x1024 .bf16 := win0_7.stage (cfg0.slots t 7)
abbrev ms0_8 (t : Fin cfg0.N) : Memref sig .tc .vmem S512x1024 .f32 := win0_8.stage (cfg0.slots t 8)
abbrev ms0_9 (t : Fin cfg0.N) : Memref sig .tc .vmem S512x1024 .bf16 := win0_9.stage (cfg0.slots t 9)
abbrev scM0_0 : Memref sig .tc .vmem S512x2048 .bf16 := Memref.whole cc0_scratch0

/-- What the launch hands the region: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## A row block's three points -/

theorem lt48 (t : Fin cfg0.N) : t.val < 48 := lt_of_lt_of_eq t.isLt (show cfg0.N = 48 from N_0)

/-- The point of `t`'s row block at column block `j`. -/
def pt (t : Fin cfg0.N) (j : Fin 3) : Fin cfg0.N :=
  ⟨t.val / 3 * 3 + j.val, lt_of_lt_of_eq (show t.val / 3 * 3 + j.val < 48 by have := lt48 t; have := j.isLt; omega) (show cfg0.N = 48 from N_0).symm⟩

theorem pt_self (t : Fin cfg0.N) (j : Fin 3) (h : t.val % 3 = j.val) : pt t j = t :=
  Fin.ext (by show t.val / 3 * 3 + j.val = t.val; omega)

theorem pt_pred (t : Fin cfg0.N) (j : Fin 3) (h : ¬t.val % 3 = 0) (h' : t.val - 1 < cfg0.N) : pt ⟨t.val - 1, h'⟩ j = pt t j :=
  Fin.ext (by show (t.val - 1) / 3 * 3 + j.val = t.val / 3 * 3 + j.val; omega)

/-- The normalised rows of `t`'s row block. -/
def nrm (c : Dev nD) (t : Fin cfg0.N) : Vec F S512x2048 .bf16 := k0_pay1 (iblk m c 0 (pt t 0)) (iblk m c 1 (pt t 0))

theorem nrm_self (c : Dev nD) (t : Fin cfg0.N) (h : t.val % 3 = 0) : nrm m c t = k0_pay1 (iblk m c 0 t) (iblk m c 1 t) := by
  unfold nrm; rw [pt_self t 0 h]

theorem nrm_pred (c : Dev nD) (t : Fin cfg0.N) (h : ¬t.val % 3 = 0) (h' : t.val - 1 < cfg0.N) : nrm m c ⟨t.val - 1, h'⟩ = nrm m c t := by
  unfold nrm; rw [pt_pred t 0 h]

/-! ## The pipeline's proof data -/

/-- What the scratch holds before point `n`: anything before the first, then the normalised rows of the point before. -/
def PhiS (c : Dev nD) : (n : ℕ) → n ≤ cfg0.N → sProp 𝕄
  | 0, _ => Pipeline.ΦA spec0 c
  | n + 1, h => iprop(iprop(owns (c : Thread nD τ) scM0_0 fullShare (nrm m c ⟨n, h⟩)) ∗ (∃ r, prngReg c r))

theorem PhiS_pos (c : Dev nD) (n : ℕ) (h : n ≤ cfg0.N) (h0 : n ≠ 0) :
    PhiS m c n h = iprop(iprop(owns (c : Thread nD τ) scM0_0 fullShare (nrm m c ⟨n - 1, Nat.lt_of_lt_of_le (Nat.sub_lt (Nat.pos_of_ne_zero h0) Nat.one_pos) h⟩)) ∗ (∃ r, prngReg c r)) := by
  obtain ⟨k, rfl⟩ : ∃ k, n = k + 1 := ⟨n - 1, (Nat.succ_pred_eq_of_ne_zero h0).symm⟩
  rfl

theorem PhiS_succ (c : Dev nD) (t : Fin cfg0.N) :
    PhiS m c (t.val + 1) t.isLt = iprop(iprop(owns (c : Thread nD τ) scM0_0 fullShare (nrm m c t)) ∗ (∃ r, prngReg c r)) := rfl

/-- After any point the invariant gives the scratch at some contents. -/
theorem PhiS_out (c : Dev nD) (n : ℕ) (h : n ≤ cfg0.N) : PhiS m c n h ⊢ Pipeline.ΦA spec0 c := by
  match n, h with
  | 0, _ => exact .rfl
  | n + 1, h =>
    rw [PhiA0_eq]; unfold PhiS
    iintro ⟨HS0, Hg⟩
    isplitl [HS0]
    · iexists _; iexact HS0
    iexact Hg

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qRot (nrm m c t) (iblk m c 2 (pt t 0)) (iblk m c 3 (pt t 0)) (iblk m c 4 (pt t 0))
    | ⟨6, _⟩ => kRot (nrm m c t) (iblk m c 2 (pt t 1)) (iblk m c 3 (pt t 1)) (iblk m c 4 (pt t 1))
    | ⟨7, _⟩ => kRotB (nrm m c t) (iblk m c 2 (pt t 1)) (iblk m c 3 (pt t 1)) (iblk m c 4 (pt t 1))
    | ⟨8, _⟩ => k0_pay2 (nrm m c t) (iblk m c 2 (pt t 2))
    | ⟨9, _⟩ => k0_pay7 (nrm m c t) (iblk m c 2 (pt t 2))
  Φ t := PhiS m c t.val (Nat.lt_succ_iff.mp t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qRot (nrm m c t) (iblk m c 2 (pt t 0)) (iblk m c 3 (pt t 0)) (iblk m c 4 (pt t 0)) := by dsimp only [dats]
theorem after0_6 (c : Dev nD) (t : Fin cfg0.N) : (dats m 0 c).after 6 t = kRot (nrm m c t) (iblk m c 2 (pt t 1)) (iblk m c 3 (pt t 1)) (iblk m c 4 (pt t 1)) := by dsimp only [dats]
theorem after0_7 (c : Dev nD) (t : Fin cfg0.N) : (dats m 0 c).after 7 t = kRotB (nrm m c t) (iblk m c 2 (pt t 1)) (iblk m c 3 (pt t 1)) (iblk m c 4 (pt t 1)) := by dsimp only [dats]
theorem after0_8 (c : Dev nD) (t : Fin cfg0.N) : (dats m 0 c).after 8 t = k0_pay2 (nrm m c t) (iblk m c 2 (pt t 2)) := by dsimp only [dats]
theorem after0_9 (c : Dev nD) (t : Fin cfg0.N) : (dats m 0 c).after 9 t = k0_pay7 (nrm m c t) (iblk m c 2 (pt t 2)) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## What an output's buffer keeps to the third point -/

theorem carry0_5 (c : Dev nD) (t : Fin cfg0.N) (h : ¬t.val % 3 = 0) (h' : t.val - 1 < cfg0.N) :
    (dats m 0 c).after 5 t = (dats m 0 c).after 5 ⟨t.val - 1, h'⟩ := by
  rw [after0_5, after0_5, nrm_pred m c t h, pt_pred t 0 h]

theorem found0_5 (c : Dev nD) (t : Fin cfg0.N) (h : t.val % 3 = 2) (d) : (dats m 0 c).before 5 t d = (dats m 0 c).after 5 t := by
  rw [(dats m 0 c).before_out_traj 5 rfl (fun _ _ => rfl) (fun t _ _ hf => carry0_5 m c t (fun h => by
      rw [fresh0_5 t.val (Nat.le_of_lt t.isLt)] at hf; simp [h] at hf) _) t.val t rfl d,
    fresh0_5 t.val (Nat.le_of_lt t.isLt), if_neg (by simp [h])]
  exact (carry0_5 m c t (by omega) _).symm

theorem carry0_6 (c : Dev nD) (t : Fin cfg0.N) (h : ¬t.val % 3 = 0) (h' : t.val - 1 < cfg0.N) :
    (dats m 0 c).after 6 t = (dats m 0 c).after 6 ⟨t.val - 1, h'⟩ := by
  rw [after0_6, after0_6, nrm_pred m c t h, pt_pred t 1 h]

theorem found0_6 (c : Dev nD) (t : Fin cfg0.N) (h : t.val % 3 = 2) (d) : (dats m 0 c).before 6 t d = (dats m 0 c).after 6 t := by
  rw [(dats m 0 c).before_out_traj 6 rfl (fun _ _ => rfl) (fun t _ _ hf => carry0_6 m c t (fun h => by
      rw [fresh0_6 t.val (Nat.le_of_lt t.isLt)] at hf; simp [h] at hf) _) t.val t rfl d,
    fresh0_6 t.val (Nat.le_of_lt t.isLt), if_neg (by simp [h])]
  exact (carry0_6 m c t (by omega) _).symm

theorem carry0_7 (c : Dev nD) (t : Fin cfg0.N) (h : ¬t.val % 3 = 0) (h' : t.val - 1 < cfg0.N) :
    (dats m 0 c).after 7 t = (dats m 0 c).after 7 ⟨t.val - 1, h'⟩ := by
  rw [after0_7, after0_7, nrm_pred m c t h, pt_pred t 1 h]

theorem found0_7 (c : Dev nD) (t : Fin cfg0.N) (h : t.val % 3 = 2) (d) : (dats m 0 c).before 7 t d = (dats m 0 c).after 7 t := by
  rw [(dats m 0 c).before_out_traj 7 rfl (fun _ _ => rfl) (fun t _ _ hf => carry0_7 m c t (fun h => by
      rw [fresh0_7 t.val (Nat.le_of_lt t.isLt)] at hf; simp [h] at hf) _) t.val t rfl d,
    fresh0_7 t.val (Nat.le_of_lt t.isLt), if_neg (by simp [h])]
  exact (carry0_7 m c t (by omega) _).symm

/-! ## The body at each point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 3600000 in
/-- The body at any point, by its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from rfl]
  rw [PhiS_succ m c t]
  have hN := lt48 t
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rcases (by omega : t.val % 3 = 0 ∨ t.val % 3 = 1 ∨ t.val % 3 = 2) with h | h | h
  · rw [show (dats m 0 c).leavesExact 5 t = owns (c : Thread nD τ) (ms0_5 t) fullShare ((dats m 0 c).after 5 t) from by
      unfold Dat.leavesExact; rw [liveAt0_5 t h], after0_5, pt_self t 0 h]
    rw [(dats m 0 c).leavesExact_idle 6 t (idleAt0_6 t (by omega)) (quiet0_6 t (by omega))]
    rw [(dats m 0 c).leavesExact_idle 7 t (idleAt0_7 t (by omega)) (quiet0_7 t (by omega))]
    rw [(dats m 0 c).leavesExact_idle 8 t (idleAt0_8 t (by omega)) (quiet0_8 t (by omega))]
    rw [(dats m 0 c).leavesExact_idle 9 t (idleAt0_9 t (by omega)) (quiet0_9 t (by omega))]
    rw [nrm_self m c t h]
    have hΦ := PhiS_out m c t.val (Nat.le_of_lt t.isLt)
    rw [PhiA0_eq] at hΦ
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HP := hΦ $$ HΦ
    icases HP with ⟨HS0, Hg⟩
    iapply (body_A c (grid0.coords t) _ _ _ _ _ _ _ _ _ _ _ _ _ _ _ _ _ _ _ _ _ _ ((first_iff t).mpr h) ((isQ_iff t).mpr h) (fun e => absurd ((isK_iff t).mp e) (by omega)) (fun e => absurd ((isV_iff t).mp e) (by omega)) (iblk m c 0 t) (iblk m c 1 t) (iblk m c 2 t) (iblk m c 3 t) (iblk m c 4 t) _ _ _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9
  · rw [(dats m 0 c).leavesExact_idle 5 t (idleAt0_5 t (by omega)) (quiet0_5 t (by omega))]
    rw [show (dats m 0 c).leavesExact 6 t = owns (c : Thread nD τ) (ms0_6 t) fullShare ((dats m 0 c).after 6 t) from by
      unfold Dat.leavesExact; rw [liveAt0_6 t h], after0_6, pt_self t 1 h]
    rw [show (dats m 0 c).leavesExact 7 t = owns (c : Thread nD τ) (ms0_7 t) fullShare ((dats m 0 c).after 7 t) from by
      unfold Dat.leavesExact; rw [liveAt0_7 t h], after0_7, pt_self t 1 h]
    rw [(dats m 0 c).leavesExact_idle 8 t (idleAt0_8 t (by omega)) (quiet0_8 t (by omega))]
    rw [(dats m 0 c).leavesExact_idle 9 t (idleAt0_9 t (by omega)) (quiet0_9 t (by omega))]
    rw [PhiS_pos m c t.val _ (by omega), nrm_pred m c t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_B c (grid0.coords t) _ _ _ _ _ _ _ _ _ _ _ _ _ _ _ _ _ _ _ _ _ _ (fun e => absurd ((first_iff t).mp e) (by omega)) (fun e => absurd ((isQ_iff t).mp e) (by omega)) ((isK_iff t).mpr h) (fun e => absurd ((isV_iff t).mp e) (by omega)) (iblk m c 0 t) (iblk m c 1 t) (iblk m c 2 t) (iblk m c 3 t) (iblk m c 4 t) (nrm m c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    iexists _; iexact H9
  · rw [show (dats m 0 c).leavesExact 5 t = owns (c : Thread nD τ) (ms0_5 t) fullShare ((dats m 0 c).after 5 t) from by
      unfold Dat.leavesExact; rw [idleAt0_5 t (by omega), (flush0_5 t).mpr h]]
    rw [show (dats m 0 c).leavesExact 6 t = owns (c : Thread nD τ) (ms0_6 t) fullShare ((dats m 0 c).after 6 t) from by
      unfold Dat.leavesExact; rw [idleAt0_6 t (by omega), (flush0_6 t).mpr h]]
    rw [show (dats m 0 c).leavesExact 7 t = owns (c : Thread nD τ) (ms0_7 t) fullShare ((dats m 0 c).after 7 t) from by
      unfold Dat.leavesExact; rw [idleAt0_7 t (by omega), (flush0_7 t).mpr h]]
    rw [show (dats m 0 c).leavesExact 8 t = owns (c : Thread nD τ) (ms0_8 t) fullShare ((dats m 0 c).after 8 t) from by
      unfold Dat.leavesExact; rw [liveAt0_8 t h], after0_8, pt_self t 2 h]
    rw [show (dats m 0 c).leavesExact 9 t = owns (c : Thread nD τ) (ms0_9 t) fullShare ((dats m 0 c).after 9 t) from by
      unfold Dat.leavesExact; rw [liveAt0_9 t h], after0_9, pt_self t 2 h]
    simp only [found0_5 m c t h, found0_6 m c t h, found0_7 m c t h]
    rw [PhiS_pos m c t.val _ (by omega), nrm_pred m c t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_C c (grid0.coords t) _ _ _ _ _ _ _ _ _ _ _ _ _ _ _ _ _ _ _ _ _ _ (fun e => absurd ((first_iff t).mp e) (by omega)) (fun e => absurd ((isQ_iff t).mp e) (by omega)) (fun e => absurd ((isK_iff t).mp e) (by omega)) ((isV_iff t).mpr h) (iblk m c 0 t) (iblk m c 1 t) (iblk m c 2 t) (iblk m c 3 t) (iblk m c 4 t) (nrm m c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := .rfl
theorem hout (c : Dev nD) : (dats m 0 c).Φ (Fin.last cfg0.N) ⊢ Pipeline.ΦA spec0 c := by
  have h := PhiS_out m c (Fin.last cfg0.N).val (Nat.le_refl _)
  exact h

set_option backward.isDefEq.respectTransparency.types false in
/-- The launch: every array ends as the proof data says, and every semaphore counter is zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The run that names the five output arrays. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_v4_4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 5, (h.1 c).1 6, (h.1 c).1 7, (h.1 c).1 8, (h.1 c).1 9, h.2 c⟩) (θ_run_and (run_main m ρ) (unchanged m ρ))

end Cert.Kernel9.DsaProj

end
-- ==== Proof.DsaProjValue.lean ====
/- The value of the sparse attention's projection: the queries' and the keys' columns of the reference's product turned by
   the rotary tables, and the values' columns. The rows are normalised once for the three. -/
module

public import proofs.«01_k».proof.Proof.DsaProjFrame
public import proofs.«01_k».proof.Proof.Gen.Kernel9Ideal
public import proofs.«01_k».proof.Proof.Gen.Kernel9.Points
public import proofs.«01_k».proof.Proof.Gen.Reference9Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference9Ideal.DsaProj

open Cert.Reference9Ideal Cert.Reference9Ideal.Gen

/-- RMS normalisation of the rows of a matrix, with its gain. -/
def NORM (Y : FVec Ideal S8192x2048 .f32) (G : FVec Ideal S1x2048 .f32) : FVec Ideal S8192x2048 .f32 :=
  mulf (mulf Y (broadcastInDim S8192x2048 ![0, 1] bcast_S8192x1_S8192x2048_0_1 (Host.rsqrt (addf (Host.divf
    (broadcastInDim S8192x1 ![0] bcast_S8192_S8192x1_0 (Host.reduceAdd (mulf Y Y) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast _ G shapeCasts_S1x2048_S2048)))

/-- The normalised rows times the columns of the queries, the keys and the values, -/
def PROJ (X : FVec Ideal S8192x2048 .f32) (G : FVec Ideal S1x2048 .f32) (W : FVec Ideal S2048x3072 .f32) :
    FVec Ideal S8192x3072 .f32 :=
  Host.dotGeneral dot_S8192x2048_S2048x3072_S8192x3072_1_0_0_1_n_n none (NORM X G) W

/-- and its three parts. -/
def QPART (Y : FVec Ideal S8192x3072 .f32) : FVec Ideal S8192x1024 .f32 := extractStridedSlice S8192x1024 ![0, 0] Y slices_S8192x3072_S8192x1024_0_0
def KPART (Y : FVec Ideal S8192x3072 .f32) : FVec Ideal S8192x1024 .f32 := extractStridedSlice S8192x1024 ![0, 1024] Y slices_S8192x3072_S8192x1024_0_1024
def VPART (Y : FVec Ideal S8192x3072 .f32) : FVec Ideal S8192x1024 .f32 := extractStridedSlice S8192x1024 ![0, 2048] Y slices_S8192x3072_S8192x1024_0_2048

theorem proj_apply (X G W) (i : Fin 8192) (j : Fin 3072) : PROJ X G W (ix2 i j) = ∑ k : Fin 2048, NORM X G (ix2 i k) * W (ix2 k j) := by
  unfold PROJ
  generalize NORM X G = Y
  pointwise []

theorem qpart_apply (Y) (i : Fin 8192) (j : Fin 1024) : QPART Y (ix2 i j) = Y (ix2 i ⟨j.val, Nat.lt_trans j.isLt (by decide)⟩) := by
  pointwise [QPART]
theorem kpart_apply (Y) (i : Fin 8192) (j : Fin 1024) : KPART Y (ix2 i j) = Y (ix2 i ⟨1024 + j.val, Nat.lt_trans (Nat.add_lt_add_left j.isLt 1024) (by decide)⟩) := by
  pointwise [KPART]
theorem vpart_apply (Y) (i : Fin 8192) (j : Fin 1024) : VPART Y (ix2 i j) = Y (ix2 i ⟨2048 + j.val, Nat.add_lt_add_left j.isLt 2048⟩) := by
  pointwise [VPART]

/-- The rotary embedding, a head (128 columns) at a time: the two halves of a head turned by the angle of the row. -/
def ROPE (Z : FVec Ideal S8192x1024 .f32) (C S : FVec Ideal S8192x64 .f32) : FVec Ideal S8192x1024 .f32 :=
  shapeCast _ (concatenate S8192x8x128 2 [⟨S8192x8x64, (subf
      (mulf (extractStridedSlice S8192x8x64 ![0, 0, 0] (shapeCast _ Z shapeCasts_S8192x1024_S8192x8x128) slices_S8192x8x128_S8192x8x64_0_0_0)
        (broadcastInDim S8192x8x64 ![0, 1, 2] bcast_S8192x1x64_S8192x8x64_0_1_2 (broadcastInDim S8192x1x64 ![0, 2] bcast_S8192x64_S8192x1x64_0_2 C)))
      (mulf (extractStridedSlice S8192x8x64 ![0, 0, 64] (shapeCast _ Z shapeCasts_S8192x1024_S8192x8x128) slices_S8192x8x128_S8192x8x64_0_0_64)
        (broadcastInDim S8192x8x64 ![0, 1, 2] bcast_S8192x1x64_S8192x8x64_0_1_2 (broadcastInDim S8192x1x64 ![0, 2] bcast_S8192x64_S8192x1x64_0_2 S))))⟩,
    ⟨S8192x8x64, (addf
      (mulf (extractStridedSlice S8192x8x64 ![0, 0, 64] (shapeCast _ Z shapeCasts_S8192x1024_S8192x8x128) slices_S8192x8x128_S8192x8x64_0_0_64)
        (broadcastInDim S8192x8x64 ![0, 1, 2] bcast_S8192x1x64_S8192x8x64_0_1_2 (broadcastInDim S8192x1x64 ![0, 2] bcast_S8192x64_S8192x1x64_0_2 C)))
      (mulf (extractStridedSlice S8192x8x64 ![0, 0, 0] (shapeCast _ Z shapeCasts_S8192x1024_S8192x8x128) slices_S8192x8x128_S8192x8x64_0_0_0)
        (broadcastInDim S8192x8x64 ![0, 1, 2] bcast_S8192x1x64_S8192x8x64_0_1_2 (broadcastInDim S8192x1x64 ![0, 2] bcast_S8192x64_S8192x1x64_0_2 S))))⟩]
    concatenates_S8192x8x64_S8192x8x64_S8192x8x128_d2) shapeCasts_S8192x8x128_S8192x1024

/-- Column `d` of head `h`, in its first half and in its second. -/
def lo (h : Fin 8) (d : Fin 64) : Fin 1024 := ⟨h.val * 128 + d.val, by omega⟩
def hi (h : Fin 8) (d : Fin 64) : Fin 1024 := ⟨h.val * 128 + (d.val + 64), by omega⟩

theorem lo_or_hi (e : Fin 1024) : ∃ h d, e = lo h d ∨ e = hi h d :=
  ⟨⟨e.val / 128, by omega⟩, ⟨e.val % 64, by omega⟩, by
    rcases (by omega : e.val % 128 < 64 ∨ 64 ≤ e.val % 128) with g | g
    · exact .inl (Fin.ext (by show e.val = e.val / 128 * 128 + e.val % 64; omega))
    · exact .inr (Fin.ext (by show e.val = e.val / 128 * 128 + (e.val % 64 + 64); omega))⟩

theorem split_apply (Z : FVec Ideal S8192x1024 .f32) (r : Fin 8192) (h : Fin 8) (d : Fin 128) :
    shapeCast S8192x8x128 Z shapeCasts_S8192x1024_S8192x8x128 (ix3 r h d) = Z (ix2 r ⟨h.val * 128 + d.val, by omega⟩) := by
  pointwise []
  blk_ext []

theorem join_apply (Y : FVec Ideal S8192x8x128 .f32) (r : Fin 8192) (h : Fin 8) (d : Fin 128) :
    shapeCast S8192x1024 Y shapeCasts_S8192x8x128_S8192x1024 (ix2 r ⟨h.val * 128 + d.val, by omega⟩) = Y (ix3 r h d) := by
  pointwise []
  blk_ext []

theorem rope_lo (Z C S) (r : Fin 8192) (h : Fin 8) (d : Fin 64) :
    ROPE Z C S (ix2 r (lo h d)) = Z (ix2 r (lo h d)) * C (ix2 r d) - Z (ix2 r (hi h d)) * S (ix2 r d) := by
  refine (join_apply _ r h ⟨d.val, Nat.lt_trans d.isLt (by decide)⟩).trans ?_
  pointwise []
  exact congrArg₂ (fun a b : EReal => a - b) rfl (congrArg₂ (fun a b : EReal => a * b)
    (congrArg Z (congrArg (ix2 r) (Fin.ext (by show h.val * 128 + (64 + d.val) = h.val * 128 + (d.val + 64); omega)))) rfl)

theorem rope_hi (Z C S) (r : Fin 8192) (h : Fin 8) (d : Fin 64) :
    ROPE Z C S (ix2 r (hi h d)) = Z (ix2 r (hi h d)) * C (ix2 r d) + Z (ix2 r (lo h d)) * S (ix2 r d) := by
  refine (join_apply _ r h ⟨d.val + 64, Nat.add_lt_add_right d.isLt 64⟩).trans ?_
  pointwise []
  rw [dif_neg (show ¬d.val + 64 < 64 by omega)]
  exact congrArg₂ (fun a b : EReal => a + b)
    (congrArg₂ (fun a b : EReal => a * b)
      (congrArg Z (congrArg (ix2 r) (Fin.ext (by show h.val * 128 + (64 + (d.val + 64 - 64)) = h.val * 128 + (d.val + 64); omega))))
      (congrArg C (congrArg (ix2 r) (Fin.ext (by show d.val + 64 - 64 = d.val; omega)))))
    (congrArg₂ (fun a b : EReal => a * b)
      (congrArg Z (congrArg (ix2 r) (Fin.ext (by show h.val * 128 + (d.val + 64 - 64) = h.val * 128 + d.val; omega))))
      (congrArg S (congrArg (ix2 r) (Fin.ext (by show d.val + 64 - 64 = d.val; omega)))))

end Cert.Reference9Ideal.DsaProj

namespace Cert.Kernel9.DsaProj

open Cert.Reference9Ideal.DsaProj
open Cert.Kernel9 Cert.Kernel9.Gen

variable (m : (ℓ : Loc nD τ sig) → Buf (Elt Ideal) ℓ)

theorem idx : ∀ t : Fin cfg0.N, win0_0.index t = ![t.val / 3, 0] ∧ win0_1.index t = ![0, 0]
    ∧ win0_2.index t = ![0, t.val % 3] ∧ win0_3.index t = ![t.val / 3, 0] ∧ win0_4.index t = ![t.val / 3, 0] ∧ win0_5.index t = ![t.val / 3, 0] ∧ win0_6.index t = ![t.val / 3, 0] ∧ win0_7.index t = ![t.val / 3, 0] ∧ win0_8.index t = ![t.val / 3, 0] ∧ win0_9.index t = ![t.val / 3, 0] :=
  (by decide +kernel : ∀ t : Fin grid0.N, _)

abbrev A0 (c : Dev nD) : FVec Ideal Cert.Reference9Ideal.S8192x2048 .f32 := m ((c : Thread nD τ).loc main_arg0)
abbrev A1 (c : Dev nD) : FVec Ideal Cert.Reference9Ideal.S1x2048 .f32 := m ((c : Thread nD τ).loc main_arg1)
abbrev A2 (c : Dev nD) : FVec Ideal Cert.Reference9Ideal.S2048x3072 .f32 := m ((c : Thread nD τ).loc main_arg2)

/-- A point's rows, and its columns. -/
def row (t : Fin cfg0.N) (r : Fin 512) : Fin 8192 := ⟨t.val / 3 * 512 + r.val, by have := lt48 t; omega⟩
def col (t : Fin cfg0.N) (j : Fin 1024) : Fin 3072 := ⟨t.val % 3 * 1024 + j.val, by omega⟩

theorem row_pt (t : Fin cfg0.N) (j : Fin 3) (r : Fin 512) : row (pt t j) r = row t r :=
  Fin.ext (by have := j.isLt; show (t.val / 3 * 3 + j.val) / 3 * 512 + r.val = t.val / 3 * 512 + r.val; omega)

theorem col_pt (t : Fin cfg0.N) (j : Fin 3) (e : Fin 1024) : (col (pt t j) e).val = j.val * 1024 + e.val := by
  have := j.isLt
  show (t.val / 3 * 3 + j.val) % 3 * 1024 + e.val = j.val * 1024 + e.val
  omega

theorem blk0 (c : Dev nD) (t : Fin cfg0.N) (r : Fin 512) (k : Fin 2048) : (iblk m c 0 t : FVec Ideal S512x2048 .f32) (ix2 r k) = A0 m c (ix2 (row t r) k) := by
  refine Eq.trans ?_ (congrFun (V_main_arg0 m c) _)
  unfold iblk; generalize V m c = V'
  unfold row
  blk_point [idx t]

theorem blk1 (c : Dev nD) (t : Fin cfg0.N) (k : Fin 2048) : (iblk m c 1 t : FVec Ideal S1x2048 .f32) (ix2 0 k) = A1 m c (ix2 0 k) := by
  refine Eq.trans ?_ (congrFun (V_main_arg1 m c) _)
  unfold iblk; generalize V m c = V'
  blk_point [idx t]

theorem V_w (c : Dev nD) : @Eq (FVec Ideal S2048x3072 .bf16) (V m c main_v0)
    (truncf (F := Ideal) (s := S2048x3072) (φ := .f32) .bf16 (m ((c : Thread nD τ).loc main_arg2)) bitsLt_bf16_f32) := by
  unfold V
  after_results

theorem blk2 (c : Dev nD) (t : Fin cfg0.N) (k : Fin 2048) (j : Fin 1024) : (iblk m c 2 t : FVec Ideal S2048x1024 .bf16) (ix2 k j) = A2 m c (ix2 k (col t j)) := by
  have h : (iblk m c 2 t : FVec Ideal S2048x1024 .bf16) (ix2 k j) = (V m c main_v0 : FVec Ideal S2048x3072 .bf16) (ix2 k (col t j)) := by
    unfold iblk; generalize V m c = V'
    unfold col
    blk_point [idx t]
  rw [h, V_w]
  rfl

/-- A normalised row of a block is the reference's. -/
theorem norm_at (x : FVec Ideal S512x2048 .f32) (g : FVec Ideal S1x2048 .f32)
    (Y : FVec Ideal Cert.Reference9Ideal.S8192x2048 .f32) (R : FVec Ideal Cert.Reference9Ideal.S1x2048 .f32)
    (r : Fin 512) (i : Fin 8192) (h : ∀ k, x (ix2 r k) = Y (ix2 i k)) (hg : ∀ k, g (ix2 0 k) = R (ix2 0 k)) (k : Fin 2048) :
    k0_pay1 (F := Ideal) x g (ix2 r k) = NORM Y R (ix2 i k) := by
  pointwise [k0_pay1, NORM]
  have hs := Finset.sum_congr rfl fun (k : Fin 2048) (_ : k ∈ Finset.univ) => congrArg₂ (fun a b : EReal => a * b) (h k) (h k)
  exact congrArg₂ (fun a b : EReal => a * b) (congrArg₂ (fun a b : EReal => a * b) (h k)
    (congrArg (fun a : EReal => Ideal.rsqrt (Ideal.div a _ + _)) hs)) (hg k)

theorem nrm_apply (c : Dev nD) (t : Fin cfg0.N) (r : Fin 512) (k : Fin 2048) : nrm m c t (ix2 r k) = NORM (A0 m c) (A1 m c) (ix2 (row t r) k) := by
  unfold nrm
  exact norm_at _ _ _ _ r (row t r) (fun k => (blk0 m c (pt t 0) r k).trans (by rw [row_pt])) (blk1 m c _) k

theorem hdot (h w) (r : Fin 512) (j : Fin 1024) : k0_pay2 (F := Ideal) h w (ix2 r j) = ∑ k : Fin 2048, h (ix2 r k) * w (ix2 k j) := by
  pointwise [k0_pay2]

/-- The product at a row block's point of column block `j`. -/
theorem proj_at (c : Dev nD) (t : Fin cfg0.N) (j : Fin 3) (r : Fin 512) (e : Fin 1024) (J : Fin 3072) (hJ : J.val = j.val * 1024 + e.val) :
    k0_pay2 (F := Ideal) (nrm m c t) (iblk m c 2 (pt t j)) (ix2 r e) = PROJ (A0 m c) (A1 m c) (A2 m c) (ix2 (row t r) J) := by
  rw [hdot, proj_apply]
  have hc : col (pt t j) e = J := Fin.ext ((col_pt t j e).trans hJ.symm)
  exact Finset.sum_congr rfl fun k _ => congrArg₂ (fun a b : EReal => a * b) (nrm_apply m c t r k) ((blk2 m c (pt t j) k e).trans (by rw [hc]))

theorem V_cos (c : Dev nD) : @Eq (FVec Ideal S8192x128 .f32) (V m c main_v1) (concatenate S8192x128 1
    [⟨S8192x64, (m ((c : Thread nD τ).loc main_arg3) : FVec Ideal S8192x64 .f32)⟩,
     ⟨S8192x64, (m ((c : Thread nD τ).loc main_arg3) : FVec Ideal S8192x64 .f32)⟩] concatenates_S8192x64_S8192x64_S8192x128_d1) := by
  unfold V
  after_results

theorem V_sin (c : Dev nD) : @Eq (FVec Ideal S8192x128 .f32) (V m c main_v3) (concatenate S8192x128 1
    [⟨S8192x64, Host.negf (m ((c : Thread nD τ).loc main_arg4) : FVec Ideal S8192x64 .f32)⟩,
     ⟨S8192x64, (m ((c : Thread nD τ).loc main_arg4) : FVec Ideal S8192x64 .f32)⟩] concatenates_S8192x64_S8192x64_S8192x128_d1) := by
  unfold V
  after_results

theorem blk3 (c : Dev nD) (t : Fin cfg0.N) (r : Fin 512) (q : Fin 128) :
    (iblk m c 3 t : FVec Ideal S512x128 .f32) (ix2 r q) = (V m c main_v1 : FVec Ideal S8192x128 .f32) (ix2 (row t r) q) := by
  unfold iblk row
  generalize V m c = B
  blk_point [idx t]

theorem blk4 (c : Dev nD) (t : Fin cfg0.N) (r : Fin 512) (q : Fin 128) :
    (iblk m c 4 t : FVec Ideal S512x128 .f32) (ix2 r q) = (V m c main_v3 : FVec Ideal S8192x128 .f32) (ix2 (row t r) q) := by
  unfold iblk row
  generalize V m c = B
  blk_point [idx t]

/-- Two tables side by side, read in either half. -/
theorem cat_left (a b : FVec Ideal S8192x64 .f32) (r : Fin 8192) (c : Fin 64) (h : c.val < 128) :
    concatenate S8192x128 1 [⟨S8192x64, a⟩, ⟨S8192x64, b⟩] concatenates_S8192x64_S8192x64_S8192x128_d1 (ix2 r ⟨c.val, h⟩)
      = a (ix2 r c) := by
  pointwise []

theorem cat_right (a b : FVec Ideal S8192x64 .f32) (r : Fin 8192) (c : Fin 64) (h : c.val + 64 < 128) :
    concatenate S8192x128 1 [⟨S8192x64, a⟩, ⟨S8192x64, b⟩] concatenates_S8192x64_S8192x64_S8192x128_d1 (ix2 r ⟨c.val + 64, h⟩)
      = b (ix2 r c) := by
  pointwise []
  rw [dif_neg (show ¬c.val + 64 < 64 by omega)]
  exact congrArg b (congrArg (ix2 r) (Fin.ext (by show c.val + 64 - 64 = c.val; omega)))

abbrev A3 (c : Dev nD) : FVec Ideal Cert.Reference9Ideal.S8192x64 .f32 := m ((c : Thread nD τ).loc main_arg3)
abbrev A4 (c : Dev nD) : FVec Ideal Cert.Reference9Ideal.S8192x64 .f32 := m ((c : Thread nD τ).loc main_arg4)

/-- The block of eight heads turned by the tables `cs` and `sn`: each column with the one half a head away. -/
def ROT (p : FVec Ideal S512x1024 .f32) (cs sn : FVec Ideal S512x128 .f32) (r : Fin 512) (e : Fin 1024) : EReal :=
  p (ix2 r e) * cs (ix2 r ⟨e.val % 128, by omega⟩)
    + p (ix2 r ⟨e.val / 128 * 128 + (e.val % 128 + 64) % 128, by omega⟩) * sn (ix2 r ⟨e.val % 128, by omega⟩)

/-- A turned block is the reference's rows, when the product and the tables are. -/
theorem rot_at (p : FVec Ideal S512x1024 .f32) (cs sn : FVec Ideal S512x128 .f32)
    (Z : FVec Ideal Cert.Reference9Ideal.S8192x1024 .f32) (C S : FVec Ideal Cert.Reference9Ideal.S8192x64 .f32) (r : Fin 512) (i : Fin 8192)
    (hp : ∀ e, p (ix2 r e) = Z (ix2 i e))
    (hc : ∀ d : Fin 64, cs (ix2 r ⟨d.val, Nat.lt_trans d.isLt (by decide)⟩) = C (ix2 i d)) (hc' : ∀ d : Fin 64, cs (ix2 r ⟨d.val + 64, Nat.add_lt_add_right d.isLt 64⟩) = C (ix2 i d))
    (hs : ∀ d : Fin 64, sn (ix2 r ⟨d.val, Nat.lt_trans d.isLt (by decide)⟩) = (-(S (ix2 i d) : EReal) : EReal)) (hs' : ∀ d : Fin 64, sn (ix2 r ⟨d.val + 64, Nat.add_lt_add_right d.isLt 64⟩) = S (ix2 i d))
    (e : Fin 1024) : ROT p cs sn r e = ROPE Z C S (ix2 i e) := by
  obtain ⟨h, d, rfl | rfl⟩ := lo_or_hi e
  · have h1 : (⟨(lo h d).val % 128, by omega⟩ : Fin 128) = ⟨d.val, by omega⟩ := Fin.ext (by show (h.val * 128 + d.val) % 128 = d.val; omega)
    have h2 : (⟨(lo h d).val / 128 * 128 + ((lo h d).val % 128 + 64) % 128, by omega⟩ : Fin 1024) = hi h d :=
      Fin.ext (by show (h.val * 128 + d.val) / 128 * 128 + ((h.val * 128 + d.val) % 128 + 64) % 128 = h.val * 128 + (d.val + 64); omega)
    unfold ROT
    rw [h1, h2, hp, hp, hc, hs, rope_lo]
    show _ * _ + _ * -(_ : EReal) = _
    rw [mul_neg, sub_eq_add_neg]
  · have h1 : (⟨(hi h d).val % 128, by omega⟩ : Fin 128) = ⟨d.val + 64, by omega⟩ := Fin.ext (by show (h.val * 128 + (d.val + 64)) % 128 = d.val + 64; omega)
    have h2 : (⟨(hi h d).val / 128 * 128 + ((hi h d).val % 128 + 64) % 128, by omega⟩ : Fin 1024) = lo h d :=
      Fin.ext (by show (h.val * 128 + (d.val + 64)) / 128 * 128 + ((h.val * 128 + (d.val + 64)) % 128 + 64) % 128 = h.val * 128 + d.val; omega)
    unfold ROT
    rw [h1, h2, hp, hp, hc', hs', rope_hi]

/-- The product's block turned by a point's tables. -/
theorem turn_at (c : Dev nD) (t u : Fin cfg0.N) (r : Fin 512) (hu : row u r = row t r) (p : FVec Ideal S512x1024 .f32)
    (Z : FVec Ideal Cert.Reference9Ideal.S8192x1024 .f32) (hp : ∀ e, p (ix2 r e) = Z (ix2 (row t r) e)) (e : Fin 1024) :
    ROT p (iblk m c 3 u) (iblk m c 4 u) r e = ROPE Z (A3 m c) (A4 m c) (ix2 (row t r) e) := by
  refine rot_at _ _ _ _ _ _ r (row t r) hp (fun d => ?_) (fun d => ?_) (fun d => ?_) (fun d => ?_) e
  · rw [blk3, V_cos, cat_left, hu]
  · rw [blk3, V_cos, cat_right, hu]
  · rw [blk4, V_sin, cat_left, hu]; rfl
  · rw [blk4, V_sin, cat_right, hu]

theorem qRot_apply (h : FVec Ideal S512x2048 .bf16) (w : FVec Ideal S2048x1024 .bf16) (cs sn : FVec Ideal S512x128 .f32) (y : S512x1024.Idx) :
    qRot (F := Ideal) h w cs sn y = ROT (k0_pay2 (F := Ideal) h w) cs sn (y 0) (y 1) := by
  unfold qRot ROT k0_pay3 k0_pay4 k0_pay5 k0_pay8 k0_pay9 k0_pay10 k0_pay11 k0_pay12 k0_pay13 k0_pay14
  generalize k0_pay2 (F := Ideal) h w = p
  canon_tiles x hx
  all_goals
    pointwise []
    refine congrArg₂ (fun a b : EReal => a + b) (congrArg₂ (fun a b : EReal => a * b) (congrArg p ?_) (congrArg cs ?_))
      (congrArg₂ (fun a b : EReal => a * b) (congrArg p ?_) (congrArg sn ?_)) <;> (try rw [Shape.reshapeEquiv_self]) <;> blk_ext []

theorem kRot_apply (h : FVec Ideal S512x2048 .bf16) (w : FVec Ideal S2048x1024 .bf16) (cs sn : FVec Ideal S512x128 .f32) (y : S512x1024.Idx) :
    kRot (F := Ideal) h w cs sn y = ROT (k0_pay2 (F := Ideal) h w) cs sn (y 0) (y 1) := by
  unfold kRot ROT k0_pay17 k0_pay19 k0_pay21 k0_pay23 k0_pay25 k0_pay27 k0_pay29 k0_pay31 k0_pay15 k0_pay16
  generalize k0_pay2 (F := Ideal) h w = p
  canon_tiles x hx
  all_goals
    pointwise []
    refine congrArg₂ (fun a b : EReal => a + b) (congrArg₂ (fun a b : EReal => a * b) (congrArg p ?_) (congrArg cs ?_))
      (congrArg₂ (fun a b : EReal => a * b) (congrArg p ?_) (congrArg sn ?_)) <;> (try rw [Shape.reshapeEquiv_self]) <;> blk_ext []

theorem kRotB_apply (h : FVec Ideal S512x2048 .bf16) (w : FVec Ideal S2048x1024 .bf16) (cs sn : FVec Ideal S512x128 .f32) (y : S512x1024.Idx) :
    kRotB (F := Ideal) h w cs sn y = ROT (k0_pay2 (F := Ideal) h w) cs sn (y 0) (y 1) := by
  unfold kRotB ROT k0_pay6 k0_pay24 k0_pay18 k0_pay20 k0_pay22 k0_pay26 k0_pay28 k0_pay30 k0_pay17 k0_pay19 k0_pay21 k0_pay23 k0_pay25 k0_pay27 k0_pay29 k0_pay31 k0_pay15 k0_pay16
  generalize k0_pay2 (F := Ideal) h w = p
  canon_tiles x hx
  all_goals
    pointwise []
    refine congrArg₂ (fun a b : EReal => a + b) (congrArg₂ (fun a b : EReal => a * b) (congrArg p ?_) (congrArg cs ?_))
      (congrArg₂ (fun a b : EReal => a * b) (congrArg p ?_) (congrArg sn ?_)) <;> (try rw [Shape.reshapeEquiv_self]) <;> blk_ext []

theorem emb5 (t : Fin cfg0.N) (y : S512x1024.Idx) : ((cfg0.win 5).blk t).view.emb y = ix2 (row t (y 0)) (y 1) := by
  unfold row; blk_ext [idx t]
theorem emb6 (t : Fin cfg0.N) (y : S512x1024.Idx) : ((cfg0.win 6).blk t).view.emb y = ix2 (row t (y 0)) (y 1) := by
  unfold row; blk_ext [idx t]
theorem emb7 (t : Fin cfg0.N) (y : S512x1024.Idx) : ((cfg0.win 7).blk t).view.emb y = ix2 (row t (y 0)) (y 1) := by
  unfold row; blk_ext [idx t]
theorem emb8 (t : Fin cfg0.N) (y : S512x1024.Idx) : ((cfg0.win 8).blk t).view.emb y = ix2 (row t (y 0)) (y 1) := by
  unfold row; blk_ext [idx t]
theorem emb9 (t : Fin cfg0.N) (y : S512x1024.Idx) : ((cfg0.win 9).blk t).view.emb y = ix2 (row t (y 0)) (y 1) := by
  unfold row; blk_ext [idx t]

theorem final_0 (c : Dev nD) : (dats m 0 c).arrAt 5 cfg0.N = truncf .bf16 (ROPE (QPART (PROJ (A0 m c) (A1 m c) (A2 m c))) (A3 m c) (A4 m c)) Cert.Reference9Ideal.Gen.bitsLt_bf16_f32 := by
  refine (dats m 0 c).arrAt_eq_of_covers 5 _ (by decide +kernel) fun t hf y => ?_
  blk_simp
  rw [after0_5, emb5]
  refine (qRot_apply _ _ _ _ y).trans ?_
  exact turn_at m c t (pt t 0) (y 0) (row_pt t 0 (y 0)) _ _
    (fun e => (proj_at m c t 0 (y 0) e _ (by show e.val = 0 * 1024 + e.val; omega)).trans (qpart_apply _ (row t (y 0)) e).symm) (y 1)

theorem final_1 (c : Dev nD) : (dats m 0 c).arrAt 6 cfg0.N = ROPE (KPART (PROJ (A0 m c) (A1 m c) (A2 m c))) (A3 m c) (A4 m c) := by
  refine (dats m 0 c).arrAt_eq_of_covers 6 _ (by decide +kernel) fun t hf y => ?_
  blk_simp
  rw [after0_6, emb6]
  refine (kRot_apply _ _ _ _ y).trans ?_
  exact turn_at m c t (pt t 1) (y 0) (row_pt t 1 (y 0)) _ _
    (fun e => (proj_at m c t 1 (y 0) e _ (by rfl)).trans (kpart_apply _ (row t (y 0)) e).symm) (y 1)

theorem final_2 (c : Dev nD) : (dats m 0 c).arrAt 7 cfg0.N = truncf .bf16 (ROPE (KPART (PROJ (A0 m c) (A1 m c) (A2 m c))) (A3 m c) (A4 m c)) Cert.Reference9Ideal.Gen.bitsLt_bf16_f32 := by
  refine (dats m 0 c).arrAt_eq_of_covers 7 _ (by decide +kernel) fun t hf y => ?_
  blk_simp
  rw [after0_7, emb7]
  refine (kRotB_apply _ _ _ _ y).trans ?_
  exact turn_at m c t (pt t 1) (y 0) (row_pt t 1 (y 0)) _ _
    (fun e => (proj_at m c t 1 (y 0) e _ (by rfl)).trans (kpart_apply _ (row t (y 0)) e).symm) (y 1)

theorem final_3 (c : Dev nD) : (dats m 0 c).arrAt 8 cfg0.N = VPART (PROJ (A0 m c) (A1 m c) (A2 m c)) := by
  refine (dats m 0 c).arrAt_eq_of_covers 8 _ (by decide +kernel) fun t hf y => ?_
  blk_simp
  rw [after0_8, emb8]
  refine (congrArg _ (ix2_eta y).symm).trans ?_
  exact (proj_at m c t 2 (y 0) (y 1) _ (by rfl)).trans (vpart_apply _ (row t (y 0)) (y 1)).symm

theorem final_4 (c : Dev nD) : (dats m 0 c).arrAt 9 cfg0.N = truncf .bf16 (VPART (PROJ (A0 m c) (A1 m c) (A2 m c))) Cert.Reference9Ideal.Gen.bitsLt_bf16_f32 := by
  refine (dats m 0 c).arrAt_eq_of_covers 9 _ (by decide +kernel) fun t hf y => ?_
  blk_simp
  rw [after0_9, emb9]
  refine (congrArg _ (ix2_eta y).symm).trans ?_
  exact (proj_at m c t 2 (y 0) (y 1) _ (by rfl)).trans (vpart_apply _ (row t (y 0)) (y 1)).symm

end Cert.Kernel9.DsaProj

namespace Cert.Reference9Ideal.DsaProj

open Cert.Reference9Ideal Cert.Reference9Ideal.Gen

variable (m : (ℓ : Loc nD τ sig) → Buf (Elt Ideal) ℓ)

/-- The product of a device's arguments in the reference. -/
abbrev RP (c : Dev nD) : FVec Ideal S8192x3072 .f32 :=
  PROJ (m ((c : Thread nD τ).loc main_arg0)) (m ((c : Thread nD τ).loc main_arg1)) (m ((c : Thread nD τ).loc main_arg2))

theorem res_0 (c : Dev nD) : Cert.Reference9Ideal.Value.res_out0 (F := Ideal) m c
    = truncf .bf16 (ROPE (QPART (RP m c)) (m ((c : Thread nD τ).loc main_arg3)) (m ((c : Thread nD τ).loc main_arg4))) bitsLt_bf16_f32 := by
  unfold Cert.Reference9Ideal.Value.res_out0 Cert.Reference9Ideal.Value.res_main_v52; rfl

theorem res_1 (c : Dev nD) : Cert.Reference9Ideal.Value.res_out1 (F := Ideal) m c
    = ROPE (KPART (RP m c)) (m ((c : Thread nD τ).loc main_arg3)) (m ((c : Thread nD τ).loc main_arg4)) := by
  unfold Cert.Reference9Ideal.Value.res_out1 Cert.Reference9Ideal.Value.res_main_v51; rfl

theorem res_2 (c : Dev nD) : Cert.Reference9Ideal.Value.res_out2 (F := Ideal) m c
    = truncf .bf16 (ROPE (KPART (RP m c)) (m ((c : Thread nD τ).loc main_arg3)) (m ((c : Thread nD τ).loc main_arg4))) bitsLt_bf16_f32 := by
  unfold Cert.Reference9Ideal.Value.res_out2 Cert.Reference9Ideal.Value.res_main_v53; rfl

end Cert.Reference9Ideal.DsaProj

namespace Cert.Kernel9Ideal.DsaProj

open Cert.Kernel9Ideal Cert.Kernel9Ideal.Gen

variable (m : (ℓ : Loc nD τ sig) → Buf (Elt Ideal) ℓ) (ρ : Dev nD → PrngReg)

-- (the two kernels' procedures are matched by unfolding them, which the smart unfolding of the matches stops)
set_option smartUnfolding false in
/-- The ideal kernel is the kernel at the ideal numbers, so it has its run, -/
theorem run_blocks : θ_run defs (onTc (τ := τ) (main (F := Ideal))) ⟨m, fun _ => 0, ρ⟩ fun r => ∀ c : Dev nD,
      r.2.mem ((c : Thread nD τ).loc main_v4_0) = (Cert.Kernel9.DsaProj.dats (F := Ideal) m 0 c).arrAt 5 Cert.Kernel9.cfg0.N
      ∧ r.2.mem ((c : Thread nD τ).loc main_v4_1) = (Cert.Kernel9.DsaProj.dats (F := Ideal) m 0 c).arrAt 6 Cert.Kernel9.cfg0.N
      ∧ r.2.mem ((c : Thread nD τ).loc main_v4_2) = (Cert.Kernel9.DsaProj.dats (F := Ideal) m 0 c).arrAt 7 Cert.Kernel9.cfg0.N
      ∧ r.2.mem ((c : Thread nD τ).loc main_v4_3) = (Cert.Kernel9.DsaProj.dats (F := Ideal) m 0 c).arrAt 8 Cert.Kernel9.cfg0.N
      ∧ r.2.mem ((c : Thread nD τ).loc main_v4_4) = (Cert.Kernel9.DsaProj.dats (F := Ideal) m 0 c).arrAt 9 Cert.Kernel9.cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Kernel9.DsaProj.run_blocks (F := Ideal) m ρ

set_option smartUnfolding false in
/-- and its frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Cert.Kernel9.DsaProj.frame (F := Ideal) m ρ

end Cert.Kernel9Ideal.DsaProj

end
-- ==== Proof.QiValue.lean ====
/- The value of the indexer's query projection: the reference's product, its sixteen heads turned by the rotary tables. The
   rows are normalised at the first half of the heads and kept for the second. -/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference10Ideal.Qi

open Cert.Reference10Ideal Cert.Reference10Ideal.Gen

/-- RMS normalisation of the rows of a matrix, with its gain. -/
def NORM (Y : FVec Ideal S8192x2048 .f32) (G : FVec Ideal S1x2048 .f32) : FVec Ideal S8192x2048 .f32 :=
  mulf (mulf Y (broadcastInDim S8192x2048 ![0, 1] bcast_S8192x1_S8192x2048_0_1 (Host.rsqrt (addf (Host.divf
    (broadcastInDim S8192x1 ![0] bcast_S8192_S8192x1_0 (Host.reduceAdd (mulf Y Y) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast _ G shapeCasts_S1x2048_S2048)))

/-- The normalised rows times the columns of the queries. -/
def PROJ (X : FVec Ideal S8192x2048 .f32) (G : FVec Ideal S1x2048 .f32) (W : FVec Ideal S2048x2048 .f32) :
    FVec Ideal S8192x2048 .f32 :=
  Host.dotGeneral dot_S8192x2048_S2048x2048_S8192x2048_1_0_0_1_n_n none (NORM X G) W

theorem proj_apply (X G W) (i : Fin 8192) (j : Fin 2048) : PROJ X G W (ix2 i j) = ∑ k : Fin 2048, NORM X G (ix2 i k) * W (ix2 k j) := by
  unfold PROJ
  generalize NORM X G = Y
  pointwise []

/-- The rotary embedding, a head (128 columns) at a time: the two halves of a head turned by the angle of the row. -/
def ROPE (Z : FVec Ideal S8192x2048 .f32) (C S : FVec Ideal S8192x64 .f32) : FVec Ideal S8192x2048 .f32 :=
  shapeCast _ (concatenate S8192x16x128 2 [⟨S8192x16x64, (subf
      (mulf (extractStridedSlice S8192x16x64 ![0, 0, 0] (shapeCast _ Z shapeCasts_S8192x2048_S8192x16x128) slices_S8192x16x128_S8192x16x64_0_0_0)
        (broadcastInDim S8192x16x64 ![0, 1, 2] bcast_S8192x1x64_S8192x16x64_0_1_2 (broadcastInDim S8192x1x64 ![0, 2] bcast_S8192x64_S8192x1x64_0_2 C)))
      (mulf (extractStridedSlice S8192x16x64 ![0, 0, 64] (shapeCast _ Z shapeCasts_S8192x2048_S8192x16x128) slices_S8192x16x128_S8192x16x64_0_0_64)
        (broadcastInDim S8192x16x64 ![0, 1, 2] bcast_S8192x1x64_S8192x16x64_0_1_2 (broadcastInDim S8192x1x64 ![0, 2] bcast_S8192x64_S8192x1x64_0_2 S))))⟩,
    ⟨S8192x16x64, (addf
      (mulf (extractStridedSlice S8192x16x64 ![0, 0, 64] (shapeCast _ Z shapeCasts_S8192x2048_S8192x16x128) slices_S8192x16x128_S8192x16x64_0_0_64)
        (broadcastInDim S8192x16x64 ![0, 1, 2] bcast_S8192x1x64_S8192x16x64_0_1_2 (broadcastInDim S8192x1x64 ![0, 2] bcast_S8192x64_S8192x1x64_0_2 C)))
      (mulf (extractStridedSlice S8192x16x64 ![0, 0, 0] (shapeCast _ Z shapeCasts_S8192x2048_S8192x16x128) slices_S8192x16x128_S8192x16x64_0_0_0)
        (broadcastInDim S8192x16x64 ![0, 1, 2] bcast_S8192x1x64_S8192x16x64_0_1_2 (broadcastInDim S8192x1x64 ![0, 2] bcast_S8192x64_S8192x1x64_0_2 S))))⟩]
    concatenates_S8192x16x64_S8192x16x64_S8192x16x128_d2) shapeCasts_S8192x16x128_S8192x2048

/-- Column `d` of head `h`, in its first half and in its second; -/
def lo (h : Fin 16) (d : Fin 64) : Fin 2048 := ⟨h.val * 128 + d.val, by omega⟩
def hi (h : Fin 16) (d : Fin 64) : Fin 2048 := ⟨h.val * 128 + (d.val + 64), by omega⟩

/-- the same among the eight heads of a half, and the half's heads and columns. -/
def lo8 (h : Fin 8) (d : Fin 64) : Fin 1024 := ⟨h.val * 128 + d.val, by omega⟩
def hi8 (h : Fin 8) (d : Fin 64) : Fin 1024 := ⟨h.val * 128 + (d.val + 64), by omega⟩
def hd (b : Fin 2) (h : Fin 8) : Fin 16 := ⟨b.val * 8 + h.val, by omega⟩
def cl (b : Fin 2) (e : Fin 1024) : Fin 2048 := ⟨b.val * 1024 + e.val, by omega⟩

theorem lo_or_hi (e : Fin 1024) : ∃ h d, e = lo8 h d ∨ e = hi8 h d :=
  ⟨⟨e.val / 128, by omega⟩, ⟨e.val % 64, by omega⟩, by
    rcases (by omega : e.val % 128 < 64 ∨ 64 ≤ e.val % 128) with g | g
    · exact .inl (Fin.ext (by show e.val = e.val / 128 * 128 + e.val % 64; omega))
    · exact .inr (Fin.ext (by show e.val = e.val / 128 * 128 + (e.val % 64 + 64); omega))⟩

theorem cl_lo (b h d) : cl b (lo8 h d) = lo (hd b h) d :=
  Fin.ext (by show b.val * 1024 + (h.val * 128 + d.val) = (b.val * 8 + h.val) * 128 + d.val; omega)
theorem cl_hi (b h d) : cl b (hi8 h d) = hi (hd b h) d :=
  Fin.ext (by show b.val * 1024 + (h.val * 128 + (d.val + 64)) = (b.val * 8 + h.val) * 128 + (d.val + 64); omega)

theorem split_apply (Z : FVec Ideal S8192x2048 .f32) (r : Fin 8192) (h : Fin 16) (d : Fin 128) :
    shapeCast S8192x16x128 Z shapeCasts_S8192x2048_S8192x16x128 (ix3 r h d) = Z (ix2 r ⟨h.val * 128 + d.val, by omega⟩) := by
  pointwise []
  blk_ext []

theorem join_apply (Y : FVec Ideal S8192x16x128 .f32) (r : Fin 8192) (h : Fin 16) (d : Fin 128) :
    shapeCast S8192x2048 Y shapeCasts_S8192x16x128_S8192x2048 (ix2 r ⟨h.val * 128 + d.val, by omega⟩) = Y (ix3 r h d) := by
  pointwise []
  blk_ext []

theorem rope_lo (Z C S) (r : Fin 8192) (h : Fin 16) (d : Fin 64) :
    ROPE Z C S (ix2 r (lo h d)) = Z (ix2 r (lo h d)) * C (ix2 r d) - Z (ix2 r (hi h d)) * S (ix2 r d) := by
  refine (join_apply _ r h ⟨d.val, Nat.lt_trans d.isLt (by decide)⟩).trans ?_
  pointwise []
  exact congrArg₂ (fun a b : EReal => a - b) rfl (congrArg₂ (fun a b : EReal => a * b)
    (congrArg Z (congrArg (ix2 r) (Fin.ext (by show h.val * 128 + (64 + d.val) = h.val * 128 + (d.val + 64); omega)))) rfl)

theorem rope_hi (Z C S) (r : Fin 8192) (h : Fin 16) (d : Fin 64) :
    ROPE Z C S (ix2 r (hi h d)) = Z (ix2 r (hi h d)) * C (ix2 r d) + Z (ix2 r (lo h d)) * S (ix2 r d) := by
  refine (join_apply _ r h ⟨d.val + 64, Nat.add_lt_add_right d.isLt 64⟩).trans ?_
  pointwise []
  rw [dif_neg (show ¬d.val + 64 < 64 by omega)]
  exact congrArg₂ (fun a b : EReal => a + b)
    (congrArg₂ (fun a b : EReal => a * b)
      (congrArg Z (congrArg (ix2 r) (Fin.ext (by show h.val * 128 + (64 + (d.val + 64 - 64)) = h.val * 128 + (d.val + 64); omega))))
      (congrArg C (congrArg (ix2 r) (Fin.ext (by show d.val + 64 - 64 = d.val; omega)))))
    (congrArg₂ (fun a b : EReal => a * b)
      (congrArg Z (congrArg (ix2 r) (Fin.ext (by show h.val * 128 + (d.val + 64 - 64) = h.val * 128 + d.val; omega))))
      (congrArg S (congrArg (ix2 r) (Fin.ext (by show d.val + 64 - 64 = d.val; omega)))))

end Cert.Reference10Ideal.Qi

namespace Cert.Kernel10Ideal.Qi

open Cert.Reference10Ideal.Qi
open Cert.Kernel10Ideal Cert.Kernel10Ideal.Gen

variable (m : (ℓ : Loc nD τ sig) → Buf (Elt Ideal) ℓ)

theorem idx : ∀ t : Fin cfg0.N, win0_0.index t = ![t.val / 2, 0] ∧ win0_1.index t = ![0, 0]
    ∧ win0_2.index t = ![0, t.val % 2] ∧ win0_3.index t = ![t.val / 2, 0] ∧ win0_4.index t = ![t.val / 2, 0]
    ∧ win0_5.index t = ![t.val / 2, t.val % 2] :=
  (by decide +kernel : ∀ t : Fin grid0.N, _)

theorem lt32 (t : Fin cfg0.N) : t.val < 32 := lt_of_lt_of_eq t.isLt N_0

abbrev A0 (c : Dev nD) : FVec Ideal Cert.Reference10Ideal.S8192x2048 .f32 := m ((c : Thread nD τ).loc main_arg0)
abbrev A1 (c : Dev nD) : FVec Ideal Cert.Reference10Ideal.S1x2048 .f32 := m ((c : Thread nD τ).loc main_arg1)
abbrev A2 (c : Dev nD) : FVec Ideal Cert.Reference10Ideal.S2048x2048 .f32 := m ((c : Thread nD τ).loc main_arg2)

/-- A point's rows, and its half of the heads. -/
def row (t : Fin cfg0.N) (r : Fin 512) : Fin 8192 := ⟨t.val / 2 * 512 + r.val, by have := lt32 t; omega⟩
def half (t : Fin cfg0.N) : Fin 2 := ⟨t.val % 2, by omega⟩

/-- The activations and the gain of a point. -/
abbrev X (c : Dev nD) (t : Fin cfg0.N) : FVec Ideal S512x2048 .f32 := iblk m c 0 t
abbrev G (c : Dev nD) (t : Fin cfg0.N) : FVec Ideal S1x2048 .f32 := iblk m c 1 t

theorem blk0 (c : Dev nD) (t : Fin cfg0.N) (r : Fin 512) (k : Fin 2048) : (iblk m c 0 t : FVec Ideal S512x2048 .f32) (ix2 r k) = A0 m c (ix2 (row t r) k) := by
  refine Eq.trans ?_ (congrFun (V_main_arg0 m c) _)
  unfold iblk; generalize V m c = V'
  unfold row
  blk_point [idx t]

theorem blk1 (c : Dev nD) (t : Fin cfg0.N) (k : Fin 2048) : (iblk m c 1 t : FVec Ideal S1x2048 .f32) (ix2 0 k) = A1 m c (ix2 0 k) := by
  refine Eq.trans ?_ (congrFun (V_main_arg1 m c) _)
  unfold iblk; generalize V m c = V'
  blk_point [idx t]

theorem V_w (c : Dev nD) : @Eq (FVec Ideal S2048x2048 .bf16) (V m c main_v0)
    (truncf (F := Ideal) (s := S2048x2048) (φ := .f32) .bf16 (m ((c : Thread nD τ).loc main_arg2)) bitsLt_bf16_f32) := by
  unfold V
  after_results

theorem blk2 (c : Dev nD) (t : Fin cfg0.N) (k : Fin 2048) (j : Fin 1024) : (iblk m c 2 t : FVec Ideal S2048x1024 .bf16) (ix2 k j) = A2 m c (ix2 k (cl (half t) j)) := by
  have h : (iblk m c 2 t : FVec Ideal S2048x1024 .bf16) (ix2 k j) = (V m c main_v0 : FVec Ideal S2048x2048 .bf16) (ix2 k (cl (half t) j)) := by
    unfold iblk; generalize V m c = V'
    unfold cl half
    blk_point [idx t]
  rw [h, V_w]
  rfl

/-- A normalised row of a block is the reference's. -/
theorem norm_at (x : FVec Ideal S512x2048 .f32) (g : FVec Ideal S1x2048 .f32)
    (Y : FVec Ideal Cert.Reference10Ideal.S8192x2048 .f32) (R : FVec Ideal Cert.Reference10Ideal.S1x2048 .f32)
    (r : Fin 512) (i : Fin 8192) (h : ∀ k, x (ix2 r k) = Y (ix2 i k)) (hg : ∀ k, g (ix2 0 k) = R (ix2 0 k)) (k : Fin 2048) :
    k0_pay1 (F := Ideal) x g (ix2 r k) = NORM Y R (ix2 i k) := by
  pointwise [k0_pay1, NORM]
  have hs := Finset.sum_congr rfl fun (k : Fin 2048) (_ : k ∈ Finset.univ) => congrArg₂ (fun a b : EReal => a * b) (h k) (h k)
  exact congrArg₂ (fun a b : EReal => a * b) (congrArg₂ (fun a b : EReal => a * b) (h k)
    (congrArg (fun a : EReal => Ideal.rsqrt (Ideal.div a _ + _)) hs)) (hg k)

theorem nrm_apply (c : Dev nD) (t : Fin cfg0.N) (r : Fin 512) (k : Fin 2048) :
    k0_pay1 (F := Ideal) (X m c t) (G m c t) (ix2 r k) = NORM (A0 m c) (A1 m c) (ix2 (row t r) k) :=
  norm_at _ _ _ _ r (row t r) (blk0 m c t r) (blk1 m c t) k

theorem hdot (h w) (r : Fin 512) (j : Fin 1024) : k0_pay2 (F := Ideal) h w (ix2 r j) = ∑ k : Fin 2048, h (ix2 r k) * w (ix2 k j) := by
  pointwise [k0_pay2]

/-- The product at a point. -/
theorem proj_at (c : Dev nD) (t : Fin cfg0.N) (r : Fin 512) (e : Fin 1024) :
    k0_pay2 (F := Ideal) (k0_pay1 (F := Ideal) (X m c t) (G m c t)) (iblk m c 2 t) (ix2 r e)
      = PROJ (A0 m c) (A1 m c) (A2 m c) (ix2 (row t r) (cl (half t) e)) := by
  rw [hdot, proj_apply]
  exact Finset.sum_congr rfl fun k _ => congrArg₂ (fun a b : EReal => a * b) (nrm_apply m c t r k) (blk2 m c t k e)

theorem V_cos (c : Dev nD) : @Eq (FVec Ideal S8192x128 .f32) (V m c main_v1) (concatenate S8192x128 1
    [⟨S8192x64, (m ((c : Thread nD τ).loc main_arg3) : FVec Ideal S8192x64 .f32)⟩,
     ⟨S8192x64, (m ((c : Thread nD τ).loc main_arg3) : FVec Ideal S8192x64 .f32)⟩] concatenates_S8192x64_S8192x64_S8192x128_d1) := by
  unfold V
  after_results

theorem V_sin (c : Dev nD) : @Eq (FVec Ideal S8192x128 .f32) (V m c main_v3) (concatenate S8192x128 1
    [⟨S8192x64, Host.negf (m ((c : Thread nD τ).loc main_arg4) : FVec Ideal S8192x64 .f32)⟩,
     ⟨S8192x64, (m ((c : Thread nD τ).loc main_arg4) : FVec Ideal S8192x64 .f32)⟩] concatenates_S8192x64_S8192x64_S8192x128_d1) := by
  unfold V
  after_results

theorem blk3 (c : Dev nD) (t : Fin cfg0.N) (r : Fin 512) (q : Fin 128) :
    (iblk m c 3 t : FVec Ideal S512x128 .f32) (ix2 r q) = (V m c main_v1 : FVec Ideal S8192x128 .f32) (ix2 (row t r) q) := by
  unfold iblk row
  generalize V m c = B
  blk_point [idx t]

theorem blk4 (c : Dev nD) (t : Fin cfg0.N) (r : Fin 512) (q : Fin 128) :
    (iblk m c 4 t : FVec Ideal S512x128 .f32) (ix2 r q) = (V m c main_v3 : FVec Ideal S8192x128 .f32) (ix2 (row t r) q) := by
  unfold iblk row
  generalize V m c = B
  blk_point [idx t]

/-- Two tables side by side, read in either half. -/
theorem cat_left (a b : FVec Ideal S8192x64 .f32) (r : Fin 8192) (c : Fin 64) (h : c.val < 128) :
    concatenate S8192x128 1 [⟨S8192x64, a⟩, ⟨S8192x64, b⟩] concatenates_S8192x64_S8192x64_S8192x128_d1 (ix2 r ⟨c.val, h⟩)
      = a (ix2 r c) := by
  pointwise []

theorem cat_right (a b : FVec Ideal S8192x64 .f32) (r : Fin 8192) (c : Fin 64) (h : c.val + 64 < 128) :
    concatenate S8192x128 1 [⟨S8192x64, a⟩, ⟨S8192x64, b⟩] concatenates_S8192x64_S8192x64_S8192x128_d1 (ix2 r ⟨c.val + 64, h⟩)
      = b (ix2 r c) := by
  pointwise []
  rw [dif_neg (show ¬c.val + 64 < 64 by omega)]
  exact congrArg b (congrArg (ix2 r) (Fin.ext (by show c.val + 64 - 64 = c.val; omega)))

abbrev A3 (c : Dev nD) : FVec Ideal Cert.Reference10Ideal.S8192x64 .f32 := m ((c : Thread nD τ).loc main_arg3)
abbrev A4 (c : Dev nD) : FVec Ideal Cert.Reference10Ideal.S8192x64 .f32 := m ((c : Thread nD τ).loc main_arg4)

/-- The block of eight heads turned by the tables `cs` and `sn`: each column with the one half a head away. -/
def ROT (p : FVec Ideal S512x1024 .f32) (cs sn : FVec Ideal S512x128 .f32) (r : Fin 512) (e : Fin 1024) : EReal :=
  p (ix2 r e) * cs (ix2 r ⟨e.val % 128, by omega⟩)
    + p (ix2 r ⟨e.val / 128 * 128 + (e.val % 128 + 64) % 128, by omega⟩) * sn (ix2 r ⟨e.val % 128, by omega⟩)

/-- A turned block is the reference's rows, when the product and the tables are. -/
theorem rot_at (p : FVec Ideal S512x1024 .f32) (cs sn : FVec Ideal S512x128 .f32)
    (Z : FVec Ideal Cert.Reference10Ideal.S8192x2048 .f32) (C S : FVec Ideal Cert.Reference10Ideal.S8192x64 .f32) (r : Fin 512) (i : Fin 8192) (b : Fin 2)
    (hp : ∀ e, p (ix2 r e) = Z (ix2 i (cl b e)))
    (hc : ∀ d : Fin 64, cs (ix2 r ⟨d.val, Nat.lt_trans d.isLt (by decide)⟩) = C (ix2 i d)) (hc' : ∀ d : Fin 64, cs (ix2 r ⟨d.val + 64, Nat.add_lt_add_right d.isLt 64⟩) = C (ix2 i d))
    (hs : ∀ d : Fin 64, sn (ix2 r ⟨d.val, Nat.lt_trans d.isLt (by decide)⟩) = (-(S (ix2 i d) : EReal) : EReal)) (hs' : ∀ d : Fin 64, sn (ix2 r ⟨d.val + 64, Nat.add_lt_add_right d.isLt 64⟩) = S (ix2 i d))
    (e : Fin 1024) : ROT p cs sn r e = ROPE Z C S (ix2 i (cl b e)) := by
  obtain ⟨h, d, rfl | rfl⟩ := lo_or_hi e
  · have h1 : (⟨(lo8 h d).val % 128, by omega⟩ : Fin 128) = ⟨d.val, by omega⟩ := Fin.ext (by show (h.val * 128 + d.val) % 128 = d.val; omega)
    have h2 : (⟨(lo8 h d).val / 128 * 128 + ((lo8 h d).val % 128 + 64) % 128, by omega⟩ : Fin 1024) = hi8 h d :=
      Fin.ext (by show (h.val * 128 + d.val) / 128 * 128 + ((h.val * 128 + d.val) % 128 + 64) % 128 = h.val * 128 + (d.val + 64); omega)
    unfold ROT
    rw [h1, h2, hp, hp, hc, hs, cl_lo, cl_hi, rope_lo]
    show _ * _ + _ * -(_ : EReal) = _
    rw [mul_neg, sub_eq_add_neg]
  · have h1 : (⟨(hi8 h d).val % 128, by omega⟩ : Fin 128) = ⟨d.val + 64, by omega⟩ := Fin.ext (by show (h.val * 128 + (d.val + 64)) % 128 = d.val + 64; omega)
    have h2 : (⟨(hi8 h d).val / 128 * 128 + ((hi8 h d).val % 128 + 64) % 128, by omega⟩ : Fin 1024) = lo8 h d :=
      Fin.ext (by show (h.val * 128 + (d.val + 64)) / 128 * 128 + ((h.val * 128 + (d.val + 64)) % 128 + 64) % 128 = h.val * 128 + d.val; omega)
    unfold ROT
    rw [h1, h2, hp, hp, hc', hs', cl_lo, cl_hi, rope_hi]

/-- The product's block turned by a point's tables. -/
theorem turn_at (c : Dev nD) (t : Fin cfg0.N) (r : Fin 512) (e : Fin 1024) :
    ROT (k0_pay2 (F := Ideal) (k0_pay1 (F := Ideal) (X m c t) (G m c t)) (iblk m c 2 t)) (iblk m c 3 t) (iblk m c 4 t) r e
      = ROPE (PROJ (A0 m c) (A1 m c) (A2 m c)) (A3 m c) (A4 m c) (ix2 (row t r) (cl (half t) e)) := by
  refine rot_at _ _ _ _ _ _ r (row t r) (half t) (proj_at m c t r) (fun d => ?_) (fun d => ?_) (fun d => ?_) (fun d => ?_) e
  · rw [blk3, V_cos, cat_left]
  · rw [blk3, V_cos, cat_right]
  · rw [blk4, V_sin, cat_left]; rfl
  · rw [blk4, V_sin, cat_right]

/-- A point's block of eight turned heads, as the first half of the heads stores it, -/
def qRotA (h : FVec Ideal S512x2048 .bf16) (w : FVec Ideal S2048x1024 .bf16) (cs sn : FVec Ideal S512x128 .f32) : Vec Ideal S512x1024 .bf16 :=
  View.canon [⟨Rect.unit (s := S512x1024) ![0, 896] S512x128.size inb_S512x1024_S512x128_0_896, k0_pay5 (F := Ideal) h w (k0_pay9 (F := Ideal) cs) (k0_pay10 (F := Ideal) sn)⟩,
    ⟨Rect.unit (s := S512x1024) ![0, 768] S512x128.size inb_S512x1024_S512x128_0_768, k0_pay4 (F := Ideal) h w (k0_pay9 (F := Ideal) cs) (k0_pay10 (F := Ideal) sn)⟩,
    ⟨Rect.unit (s := S512x1024) ![0, 640] S512x128.size inb_S512x1024_S512x128_0_640, k0_pay3 (F := Ideal) h w (k0_pay9 (F := Ideal) cs) (k0_pay10 (F := Ideal) sn)⟩,
    ⟨Rect.unit (s := S512x1024) ![0, 512] S512x128.size inb_S512x1024_S512x128_0_512, k0_pay15 (F := Ideal) (k0_pay2 (F := Ideal) h w) cs sn⟩,
    ⟨Rect.unit (s := S512x1024) ![0, 384] S512x128.size inb_S512x1024_S512x128_0_384, k0_pay14 (F := Ideal) (k0_pay2 (F := Ideal) h w) cs sn⟩,
    ⟨Rect.unit (s := S512x1024) ![0, 256] S512x128.size inb_S512x1024_S512x128_0_256, k0_pay13 (F := Ideal) (k0_pay2 (F := Ideal) h w) cs sn⟩,
    ⟨Rect.unit (s := S512x1024) ![0, 128] S512x128.size inb_S512x1024_S512x128_0_128, k0_pay12 (F := Ideal) (k0_pay2 (F := Ideal) h w) cs sn⟩,
    ⟨Rect.unit (s := S512x1024) ![0, 0] S512x128.size inb_S512x1024_S512x128_0_0, k0_pay11 (F := Ideal) (k0_pay2 (F := Ideal) h w) cs sn⟩]

/-- and as the second does. -/
def qRotB (h : FVec Ideal S512x2048 .bf16) (w : FVec Ideal S2048x1024 .bf16) (cs sn : FVec Ideal S512x128 .f32) : Vec Ideal S512x1024 .bf16 :=
  View.canon [⟨Rect.unit (s := S512x1024) ![0, 896] S512x128.size inb_S512x1024_S512x128_0_896, k0_pay8 (F := Ideal) h w (k0_pay16 (F := Ideal) cs) (k0_pay17 (F := Ideal) sn)⟩,
    ⟨Rect.unit (s := S512x1024) ![0, 768] S512x128.size inb_S512x1024_S512x128_0_768, k0_pay7 (F := Ideal) h w (k0_pay16 (F := Ideal) cs) (k0_pay17 (F := Ideal) sn)⟩,
    ⟨Rect.unit (s := S512x1024) ![0, 640] S512x128.size inb_S512x1024_S512x128_0_640, k0_pay6 (F := Ideal) h w (k0_pay16 (F := Ideal) cs) (k0_pay17 (F := Ideal) sn)⟩,
    ⟨Rect.unit (s := S512x1024) ![0, 512] S512x128.size inb_S512x1024_S512x128_0_512, k0_pay22 (F := Ideal) (k0_pay2 (F := Ideal) h w) cs sn⟩,
    ⟨Rect.unit (s := S512x1024) ![0, 384] S512x128.size inb_S512x1024_S512x128_0_384, k0_pay21 (F := Ideal) (k0_pay2 (F := Ideal) h w) cs sn⟩,
    ⟨Rect.unit (s := S512x1024) ![0, 256] S512x128.size inb_S512x1024_S512x128_0_256, k0_pay20 (F := Ideal) (k0_pay2 (F := Ideal) h w) cs sn⟩,
    ⟨Rect.unit (s := S512x1024) ![0, 128] S512x128.size inb_S512x1024_S512x128_0_128, k0_pay19 (F := Ideal) (k0_pay2 (F := Ideal) h w) cs sn⟩,
    ⟨Rect.unit (s := S512x1024) ![0, 0] S512x128.size inb_S512x1024_S512x128_0_0, k0_pay18 (F := Ideal) (k0_pay2 (F := Ideal) h w) cs sn⟩]

theorem qRotA_apply (h : FVec Ideal S512x2048 .bf16) (w : FVec Ideal S2048x1024 .bf16) (cs sn : FVec Ideal S512x128 .f32) (y : S512x1024.Idx) :
    qRotA h w cs sn y = ROT (k0_pay2 (F := Ideal) h w) cs sn (y 0) (y 1) := by
  unfold qRotA ROT k0_pay3 k0_pay4 k0_pay5 k0_pay11 k0_pay12 k0_pay13 k0_pay14 k0_pay15 k0_pay9 k0_pay10
  generalize k0_pay2 (F := Ideal) h w = p
  canon_tiles x hx
  all_goals
    pointwise []
    refine congrArg₂ (fun a b : EReal => a + b) (congrArg₂ (fun a b : EReal => a * b) (congrArg p ?_) (congrArg cs ?_))
      (congrArg₂ (fun a b : EReal => a * b) (congrArg p ?_) (congrArg sn ?_)) <;> (try rw [Shape.reshapeEquiv_self]) <;> blk_ext []

theorem qRotB_apply (h : FVec Ideal S512x2048 .bf16) (w : FVec Ideal S2048x1024 .bf16) (cs sn : FVec Ideal S512x128 .f32) (y : S512x1024.Idx) :
    qRotB h w cs sn y = ROT (k0_pay2 (F := Ideal) h w) cs sn (y 0) (y 1) := by
  unfold qRotB ROT k0_pay6 k0_pay7 k0_pay8 k0_pay18 k0_pay19 k0_pay20 k0_pay21 k0_pay22 k0_pay16 k0_pay17
  generalize k0_pay2 (F := Ideal) h w = p
  canon_tiles x hx
  all_goals
    pointwise []
    refine congrArg₂ (fun a b : EReal => a + b) (congrArg₂ (fun a b : EReal => a * b) (congrArg p ?_) (congrArg cs ?_))
      (congrArg₂ (fun a b : EReal => a * b) (congrArg p ?_) (congrArg sn ?_)) <;> (try rw [Shape.reshapeEquiv_self]) <;> blk_ext []

theorem emb5 (t : Fin cfg0.N) (y : S512x1024.Idx) : ((cfg0.win 5).blk t).view.emb y = ix2 (row t (y 0)) (cl (half t) (y 1)) := by
  unfold row cl half; blk_ext [idx t]

/-- Within a row block the activations and the gain are the same blocks. -/
theorem blk_congr (c : Dev nD) (t t' : Fin cfg0.N) (h : t.val / 2 = t'.val / 2) :
    X m c t = X m c t' ∧ G m c t = G m c t' := by
  constructor
  · funext y
    show iblk m c 0 t y = iblk m c 0 t' y
    unfold iblk
    generalize V m c = B
    blk_point [idx t, idx t', h]
  · funext y
    show iblk m c 1 t y = iblk m c 1 t' y
    unfold iblk
    generalize V m c = B
    blk_point [idx t, idx t', h]

/-- The first half of the heads leaves the normalised rows, and their turned product with its columns; -/
theorem state_A (c : Dev nD) (t : Fin cfg0.N) (h : t.val % 2 = 0) :
    (outsAt0 m c t.val t.isLt).2 = k0_pay1 (F := Ideal) (X m c t) (G m c t)
    ∧ (outsAt0 m c t.val t.isLt).1 = qRotA (k0_pay1 (F := Ideal) (X m c t) (G m c t)) (iblk m c 2 t) (iblk m c 3 t) (iblk m c 4 t) := by
  rw [outsAt0_A m c t h h (by omega)]
  constructor
  · frame_out
  · dsimp only
    unfold qRotA
    frame_out
    try rfl

/-- the second leaves the product of the kept rows. -/
theorem state_B (c : Dev nD) (t : Fin cfg0.N) (h : t.val % 2 = 1) :
    (outsAt0 m c t.val t.isLt).1 = qRotB (k0_pay1 (F := Ideal) (X m c t) (G m c t)) (iblk m c 2 t) (iblk m c 3 t) (iblk m c 4 t) := by
  have hb := blk_congr m c ⟨t.val - 1, by omega⟩ t (by show (t.val - 1) / 2 = t.val / 2; omega)
  have ih := (state_A m c ⟨t.val - 1, by omega⟩ (by show (t.val - 1) % 2 = 0; omega)).1
  rw [hb.1, hb.2] at ih
  rw [outsAt0_B m c t (by omega) (by omega) h, ← ih]
  dsimp only
  unfold qRotB
  frame_out
  rw [read_unread_whole]
  try rfl

theorem final (c : Dev nD) : (dats m 0 c).arrAt 5 cfg0.N
    = truncf .bf16 (ROPE (PROJ (A0 m c) (A1 m c) (A2 m c)) (A3 m c) (A4 m c)) Cert.Reference10Ideal.Gen.bitsLt_bf16_f32 := by
  refine (dats m 0 c).arrAt_eq_of_covers 5 _ (by decide +kernel) fun t hf y => ?_
  blk_simp
  rw [after0_5, emb5]
  rcases (by omega : t.val % 2 = 0 ∨ t.val % 2 = 1) with h | h
  · rw [(state_A m c t h).2]
    exact (qRotA_apply _ _ _ _ y).trans (turn_at m c t (y 0) (y 1))
  · rw [state_B m c t h]
    exact (qRotB_apply _ _ _ _ y).trans (turn_at m c t (y 0) (y 1))

end Cert.Kernel10Ideal.Qi

namespace Cert.Reference10Ideal.Qi

open Cert.Reference10Ideal Cert.Reference10Ideal.Gen

variable (m : (ℓ : Loc nD τ sig) → Buf (Elt Ideal) ℓ)

theorem res_0 (c : Dev nD) : Cert.Reference10Ideal.Value.res_out0 (F := Ideal) m c
    = truncf .bf16 (ROPE (PROJ (m ((c : Thread nD τ).loc main_arg0)) (m ((c : Thread nD τ).loc main_arg1)) (m ((c : Thread nD τ).loc main_arg2)))
      (m ((c : Thread nD τ).loc main_arg3)) (m ((c : Thread nD τ).loc main_arg4))) bitsLt_bf16_f32 := by
  unfold Cert.Reference10Ideal.Value.res_out0 Cert.Reference10Ideal.Value.res_main_v32; rfl

end Cert.Reference10Ideal.Qi

end
-- ==== Proof.SampleValue.lean ====
/- The value of the sample's up projection: the new row of the convolution, and the gated product of the convolution of that row
   with the two stored rows before it. -/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference11Ideal.Sample

open Cert.Reference11Ideal Cert.Reference11Ideal.Gen

/-- The projection of the sample's row, -/
def UP (H : FVec Ideal S32x2048 .bf16) (W : FVec Ideal S2048x11264 .bf16) : FVec Ideal S32x11264 .f32 :=
  Host.dotGeneral dot_S32x2048_S2048x11264_S32x11264_1_0_0_1_n_n none (extf .f32 H bitsLt_bf16_f32) (extf .f32 W bitsLt_bf16_f32)

/-- convolved with the two stored rows before it, -/
def CONV (U : FVec Ideal S32x11264 .f32) (C : FVec Ideal S3x11264 .f32) (B : FVec Ideal S1x11264 .f32) (S : FVec Ideal S32x22528 .f32) :
    FVec Ideal S32x11264 .f32 :=
  addf (addf (addf (broadcastInDim S32x11264 ![0, 1] bcast_S1x11264_S32x11264_0_1 B)
    (mulf (extractStridedSlice S32x11264 ![0, 0] S slices_S32x22528_S32x11264_0_0)
      (broadcastInDim S32x11264 ![0, 1] bcast_S1x11264_S32x11264_0_1 (broadcastInDim S1x11264 ![1] bcast_S11264_S1x11264_1
        (shapeCast _ (extractStridedSlice S1x11264 ![0, 0] C slices_S3x11264_S1x11264_0_0) shapeCasts_S1x11264_S11264)))))
    (mulf (extractStridedSlice S32x11264 ![0, 11264] S slices_S32x22528_S32x11264_0_11264)
      (broadcastInDim S32x11264 ![0, 1] bcast_S1x11264_S32x11264_0_1 (broadcastInDim S1x11264 ![1] bcast_S11264_S1x11264_1
        (shapeCast _ (extractStridedSlice S1x11264 ![1, 0] C slices_S3x11264_S1x11264_1_0) shapeCasts_S1x11264_S11264)))))
    (mulf U
      (broadcastInDim S32x11264 ![0, 1] bcast_S1x11264_S32x11264_0_1 (broadcastInDim S1x11264 ![1] bcast_S11264_S1x11264_1
        (shapeCast _ (extractStridedSlice S1x11264 ![2, 0] C slices_S3x11264_S1x11264_2_0) shapeCasts_S1x11264_S11264))))

/-- and its two halves, the gate's and the value's, multiplied under the gate. -/
def GATED (Y : FVec Ideal S32x11264 .f32) : FVec Ideal S32x5632 .bf16 :=
  truncf .bf16 (mulf (mulf (extractStridedSlice S32x5632 ![0, 0] Y slices_S32x11264_S32x5632_0_0)
    (Host.divf (broadcastInDim S32x5632 ![] bcast_S_S32x5632 (constant S_ .f32 0x3F800000#32))
      (addf (broadcastInDim S32x5632 ![] bcast_S_S32x5632 (constant S_ .f32 0x3F800000#32))
        (Host.exp (Host.negf (extractStridedSlice S32x5632 ![0, 0] Y slices_S32x11264_S32x5632_0_0))))))
    (extractStridedSlice S32x5632 ![0, 5632] Y slices_S32x11264_S32x5632_0_5632)) bitsLt_bf16_f32

/-- The new row, the gate's half and the value's. -/
def NEWG (U : FVec Ideal S32x11264 .f32) : FVec Ideal S32x5632 .f32 := extractStridedSlice S32x5632 ![0, 0] U slices_S32x11264_S32x5632_0_0
def NEWV (U : FVec Ideal S32x11264 .f32) : FVec Ideal S32x5632 .f32 := extractStridedSlice S32x5632 ![0, 5632] U slices_S32x11264_S32x5632_0_5632

theorem res_0 (m : (ℓ : Loc nD τ sig) → Buf (Elt Ideal) ℓ) (c : Dev nD) : Cert.Reference11Ideal.Value.res_out0 m c
    = GATED (CONV (UP (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4))) := by
  unfold Cert.Reference11Ideal.Value.res_out0 Cert.Reference11Ideal.Value.res_main_v30; rfl

theorem up_apply (H W) (r : Fin 32) (j : Fin 11264) : UP H W (ix2 r j) = ∑ k : Fin 2048, H (ix2 r k) * W (ix2 k j) := by pointwise [UP]

theorem conv_apply (U C B S) (r : Fin 32) (j : Fin 11264) : CONV U C B S (ix2 r j)
    = B (ix2 0 j) + S (ix2 r ⟨j.val, Nat.lt_trans j.isLt (by decide)⟩) * C (ix2 0 j)
      + S (ix2 r ⟨j.val + 11264, Nat.add_lt_add_right j.isLt 11264⟩) * C (ix2 1 j) + U (ix2 r j) * C (ix2 2 j) := by
  pointwise [CONV]
  simp only [Nat.add_comm 11264]

theorem gated_apply (Y) (r : Fin 32) (j : Fin 5632) : GATED Y (ix2 r j) = Y (ix2 r ⟨j.val, Nat.lt_trans j.isLt (by decide)⟩)
    * (Ideal.div 1 (1 + Ideal.exp (-Y (ix2 r ⟨j.val, Nat.lt_trans j.isLt (by decide)⟩)))) * Y (ix2 r ⟨j.val + 5632, Nat.add_lt_add_right j.isLt 5632⟩) := by
  pointwise [GATED]
  simp only [Nat.add_comm 5632]

theorem newg_apply (U) (r : Fin 32) (j : Fin 5632) : NEWG U (ix2 r j) = U (ix2 r ⟨j.val, Nat.lt_trans j.isLt (by decide)⟩) := by
  pointwise [NEWG]

theorem newv_apply (U) (r : Fin 32) (j : Fin 5632) : NEWV U (ix2 r j) = U (ix2 r ⟨j.val + 5632, Nat.add_lt_add_right j.isLt 5632⟩) := by
  pointwise [NEWV]
  simp only [Nat.add_comm 5632]

end Cert.Reference11Ideal.Sample

namespace Cert.Kernel11Ideal.Sample

open Cert.Reference11Ideal.Sample
open Cert.Kernel11Ideal Cert.Kernel11Ideal.Gen

/-! ## The body's operations at an index -/

theorem pay2_apply (x0 x1) (r : Fin 32) (j : Fin 512) : k0_pay2 (F := Ideal) x0 x1 (ix2 r j) = ∑ k : Fin 2048, x0 (ix2 r k) * x1 (ix2 k j) := by
  pointwise [k0_pay2]

theorem pay4_eq (x0 x2) : k0_pay4 (F := Ideal) x0 x2 = k0_pay2 x0 x2 := rfl

theorem pay3_apply (x0 x1 b s0 c0 s1 c1 c2) (r : Fin 32) (j : Fin 512) : k0_pay3 (F := Ideal) x0 x1 b s0 c0 s1 c1 c2 (ix2 r j)
    = b (ix2 0 j) + s0 (ix2 r j) * c0 (ix2 0 j) + s1 (ix2 r j) * c1 (ix2 0 j) + k0_pay2 (F := Ideal) x0 x1 (ix2 r j) * c2 (ix2 0 j) := by
  pointwise [k0_pay3]

theorem pay1_apply (z u b s0 c0 s1 c1 c2) (r : Fin 32) (j : Fin 512) : k0_pay1 (F := Ideal) z u b s0 (k0_pay5 (F := Ideal) c0) s1 c1 c2 (ix2 r j)
    = z (ix2 r j) * Ideal.logistic (z (ix2 r j)) *
      (b (ix2 0 j) + s0 (ix2 r j) * c0 (ix2 0 j) + s1 (ix2 r j) * c1 (ix2 0 j) + u (ix2 r j) * c2 (ix2 0 j)) := by
  pointwise [k0_pay1, k0_pay5]

/-! ## The blocks in the arrays -/

variable (m : (ℓ : Loc nD τ sig) → Buf (Elt Ideal) ℓ)

theorem idx : ∀ t : Fin cfg0.N, win0_0.index t = ![0, 0] ∧ win0_1.index t = ![0, t.val] ∧ win0_2.index t = ![0, t.val + 11]
    ∧ win0_3.index t = ![0, t.val] ∧ win0_4.index t = ![0, t.val + 11] ∧ win0_5.index t = ![0, t.val]
    ∧ win0_6.index t = ![0, t.val + 11] ∧ win0_7.index t = ![0, t.val] ∧ win0_8.index t = ![0, t.val + 11]
    ∧ win0_9.index t = ![0, t.val + 22] ∧ win0_10.index t = ![0, t.val + 33] ∧ win0_11.index t = ![0, t.val]
    ∧ win0_12.index t = ![0, t.val] ∧ win0_13.index t = ![0, t.val] :=
  (by decide +kernel : ∀ t : Fin grid0.N, _)

theorem lt11 (t : Fin cfg0.N) : t.val < 11 := lt_of_lt_of_eq t.isLt (show cfg0.N = 11 from N_0)

/-- A point's columns, among the gate's and the value's, and in the stored state. -/
def col (t : Fin cfg0.N) (j : Fin 512) : Fin 5632 := ⟨t.val * 512 + j.val, by have := lt11 t; omega⟩
def colG (t : Fin cfg0.N) (j : Fin 512) : Fin 11264 := ⟨(col t j).val, Nat.lt_trans (col t j).isLt (by decide)⟩
def colV (t : Fin cfg0.N) (j : Fin 512) : Fin 11264 := ⟨(col t j).val + 5632, Nat.add_lt_add_right (col t j).isLt 5632⟩
def old (J : Fin 11264) : Fin 22528 := ⟨J.val, Nat.lt_trans J.isLt (by decide)⟩
def last (J : Fin 11264) : Fin 22528 := ⟨J.val + 11264, Nat.add_lt_add_right J.isLt 11264⟩

abbrev H (c : Dev nD) : FVec Ideal Cert.Reference11Ideal.S32x2048 .bf16 := m ((c : Thread nD τ).loc main_arg0)
abbrev W (c : Dev nD) : FVec Ideal Cert.Reference11Ideal.S2048x11264 .bf16 := m ((c : Thread nD τ).loc main_arg1)
abbrev C (c : Dev nD) : FVec Ideal Cert.Reference11Ideal.S3x11264 .f32 := m ((c : Thread nD τ).loc main_arg2)
abbrev B (c : Dev nD) : FVec Ideal Cert.Reference11Ideal.S1x11264 .f32 := m ((c : Thread nD τ).loc main_arg3)
abbrev ST (c : Dev nD) : FVec Ideal Cert.Reference11Ideal.S32x22528 .f32 := m ((c : Thread nD τ).loc main_arg4)

theorem blk0 (c : Dev nD) (t : Fin cfg0.N) (r : Fin 32) (k : Fin 2048) : (iblk m c 0 t : FVec Ideal S32x2048 .bf16) (ix2 r k) = H m c (ix2 r k) := by
  refine Eq.trans ?_ (congrFun (V_main_arg0 m c) _)
  unfold iblk; generalize V m c = V'
  blk_point [idx t]

theorem blk1 (c : Dev nD) (t : Fin cfg0.N) (k : Fin 2048) (j : Fin 512) : (iblk m c 1 t : FVec Ideal S2048x512 .bf16) (ix2 k j) = W m c (ix2 k (colG t j)) := by
  refine Eq.trans ?_ (congrFun (V_main_arg1 m c) _)
  unfold iblk; generalize V m c = V'
  unfold colG col
  blk_point [idx t]

theorem blk2 (c : Dev nD) (t : Fin cfg0.N) (k : Fin 2048) (j : Fin 512) : (iblk m c 2 t : FVec Ideal S2048x512 .bf16) (ix2 k j) = W m c (ix2 k (colV t j)) := by
  refine Eq.trans ?_ (congrFun (V_main_arg1 m c) _)
  unfold iblk; generalize V m c = V'
  unfold colV col
  blk_point [idx t]

theorem blk3 (c : Dev nD) (t : Fin cfg0.N) (k : Fin 3) (j : Fin 512) : (iblk m c 3 t : FVec Ideal S3x512 .f32) (ix2 k j) = C m c (ix2 k (colG t j)) := by
  refine Eq.trans ?_ (congrFun (V_main_arg2 m c) _)
  unfold iblk; generalize V m c = V'
  unfold colG col
  blk_point [idx t]

theorem blk4 (c : Dev nD) (t : Fin cfg0.N) (k : Fin 3) (j : Fin 512) : (iblk m c 4 t : FVec Ideal S3x512 .f32) (ix2 k j) = C m c (ix2 k (colV t j)) := by
  refine Eq.trans ?_ (congrFun (V_main_arg2 m c) _)
  unfold iblk; generalize V m c = V'
  unfold colV col
  blk_point [idx t]

theorem blk5 (c : Dev nD) (t : Fin cfg0.N) (k : Fin 1) (j : Fin 512) : (iblk m c 5 t : FVec Ideal S1x512 .f32) (ix2 k j) = B m c (ix2 k (colG t j)) := by
  refine Eq.trans ?_ (congrFun (V_main_arg3 m c) _)
  unfold iblk; generalize V m c = V'
  unfold colG col
  blk_point [idx t]

theorem blk6 (c : Dev nD) (t : Fin cfg0.N) (k : Fin 1) (j : Fin 512) : (iblk m c 6 t : FVec Ideal S1x512 .f32) (ix2 k j) = B m c (ix2 k (colV t j)) := by
  refine Eq.trans ?_ (congrFun (V_main_arg3 m c) _)
  unfold iblk; generalize V m c = V'
  unfold colV col
  blk_point [idx t]

theorem blk7 (c : Dev nD) (t : Fin cfg0.N) (r : Fin 32) (j : Fin 512) : (iblk m c 7 t : FVec Ideal S32x512 .f32) (ix2 r j) = ST m c (ix2 r (old (colG t j))) := by
  refine Eq.trans ?_ (congrFun (V_main_arg4 m c) _)
  unfold iblk; generalize V m c = V'
  unfold old colG col
  blk_point [idx t]

theorem blk8 (c : Dev nD) (t : Fin cfg0.N) (r : Fin 32) (j : Fin 512) : (iblk m c 8 t : FVec Ideal S32x512 .f32) (ix2 r j) = ST m c (ix2 r (old (colV t j))) := by
  refine Eq.trans ?_ (congrFun (V_main_arg4 m c) _)
  unfold iblk; generalize V m c = V'
  unfold old colV col
  blk_point [idx t]

theorem blk9 (c : Dev nD) (t : Fin cfg0.N) (r : Fin 32) (j : Fin 512) : (iblk m c 9 t : FVec Ideal S32x512 .f32) (ix2 r j) = ST m c (ix2 r (last (colG t j))) := by
  refine Eq.trans ?_ (congrFun (V_main_arg4 m c) _)
  unfold iblk; generalize V m c = V'
  unfold last colG col
  blk_point [idx t]

theorem blk10 (c : Dev nD) (t : Fin cfg0.N) (r : Fin 32) (j : Fin 512) : (iblk m c 10 t : FVec Ideal S32x512 .f32) (ix2 r j) = ST m c (ix2 r (last (colV t j))) := by
  refine Eq.trans ?_ (congrFun (V_main_arg4 m c) _)
  unfold iblk; generalize V m c = V'
  unfold last colV col
  blk_point [idx t]

/-! ## What a point puts out -/

theorem projG (c : Dev nD) (t : Fin cfg0.N) (r : Fin 32) (j : Fin 512) :
    k0_pay2 (F := Ideal) (iblk m c 0 t) (iblk m c 1 t) (ix2 r j) = UP (H m c) (W m c) (ix2 r (colG t j)) := by
  rw [pay2_apply, up_apply]
  exact Finset.sum_congr rfl fun k _ => congrArg₂ (fun a b : EReal => a * b) (blk0 m c t r k) (blk1 m c t k j)

theorem projV (c : Dev nD) (t : Fin cfg0.N) (r : Fin 32) (j : Fin 512) :
    k0_pay2 (F := Ideal) (iblk m c 0 t) (iblk m c 2 t) (ix2 r j) = UP (H m c) (W m c) (ix2 r (colV t j)) := by
  rw [pay2_apply, up_apply]
  exact Finset.sum_congr rfl fun k _ => congrArg₂ (fun a b : EReal => a * b) (blk0 m c t r k) (blk2 m c t k j)

/-- A row of the three taps. -/
theorem tap (x : Vec Ideal S3x512 .f32) (j : Fin 512) : View.ld x r0_4 (ix2 0 j) = x (ix2 0 j) ∧ View.ld x r0_5 (ix2 0 j) = x (ix2 1 j)
    ∧ View.ld x r0_6 (ix2 0 j) = x (ix2 2 j) := by
  refine ⟨congrArg x (funext fun d => ?_), congrArg x (funext fun d => ?_), congrArg x (funext fun d => ?_)⟩ <;> fin_cases d <;> exact Fin.ext (by simp)

/-- A point's columns of the new row, -/
theorem newG (c : Dev nD) (t : Fin cfg0.N) (r : Fin 32) (j : Fin 512) :
    ((dats m 0 c).after 12 t : FVec Ideal S32x512 .f32) (ix2 r j) = NEWG (UP (H m c) (W m c)) (ix2 r (col t j)) := by
  rw [newg_apply]
  refine Eq.trans (congrFun ?_ _) (projG m c t r j)
  rw [after0_12]; unfold out0_12; frame_out

theorem newV (c : Dev nD) (t : Fin cfg0.N) (r : Fin 32) (j : Fin 512) :
    ((dats m 0 c).after 13 t : FVec Ideal S32x512 .f32) (ix2 r j) = NEWV (UP (H m c) (W m c)) (ix2 r (col t j)) := by
  rw [newv_apply]
  refine Eq.trans (congrFun ?_ _) (projV m c t r j)
  rw [after0_13]; unfold out0_13; frame_out; rfl

/-- and of the gated product. -/
theorem gatedAt (c : Dev nD) (t : Fin cfg0.N) (r : Fin 32) (j : Fin 512) :
    ((dats m 0 c).after 11 t : FVec Ideal S32x512 .bf16) (ix2 r j)
      = GATED (CONV (UP (H m c) (W m c)) (C m c) (B m c) (ST m c)) (ix2 r (col t j)) := by
  have hG : ∀ z, z = CONV (UP (H m c) (W m c)) (C m c) (B m c) (ST m c) (ix2 r (colG t j)) →
      ∀ v, v = CONV (UP (H m c) (W m c)) (C m c) (B m c) (ST m c) (ix2 r (colV t j)) →
      z * Ideal.logistic z * v = CONV (UP (H m c) (W m c)) (C m c) (B m c) (ST m c) (ix2 r (colG t j))
        * Ideal.div 1 (1 + Ideal.exp (-CONV (UP (H m c) (W m c)) (C m c) (B m c) (ST m c) (ix2 r (colG t j))))
        * CONV (UP (H m c) (W m c)) (C m c) (B m c) (ST m c) (ix2 r (colV t j)) := by
    rintro z rfl v rfl; rfl
  rw [gated_apply]
  refine Eq.trans (congrFun (g := k0_pay1 (k0_pay3 (iblk m c 0 t) (iblk m c 1 t) (iblk m c 5 t) (iblk m c 7 t) (View.ld (iblk m c 3 t) r0_4) (iblk m c 9 t)
    (View.ld (iblk m c 3 t) r0_5) (View.ld (iblk m c 3 t) r0_6)) (k0_pay4 (iblk m c 0 t) (iblk m c 2 t)) (iblk m c 6 t) (iblk m c 8 t)
    (k0_pay5 (View.ld (iblk m c 4 t) r0_4)) (iblk m c 10 t) (View.ld (iblk m c 4 t) r0_5) (View.ld (iblk m c 4 t) r0_6)) ?_ _) ?_
  · rw [after0_11]; unfold out0_11; frame_out; rfl
  rw [pay4_eq, pay1_apply]
  refine hG _ ?_ _ ?_
  · rw [pay3_apply, conv_apply]
    refine congrArg₂ (fun a b : EReal => a + b) (congrArg₂ (fun a b : EReal => a + b) (congrArg₂ (fun a b : EReal => a + b) (blk5 m c t 0 j) ?_) ?_) ?_
    · exact congrArg₂ (fun a b : EReal => a * b) (blk7 m c t r j) ((tap _ j).1.trans (blk3 m c t 0 j))
    · exact congrArg₂ (fun a b : EReal => a * b) (blk9 m c t r j) ((tap _ j).2.1.trans (blk3 m c t 1 j))
    · exact congrArg₂ (fun a b : EReal => a * b) (projG m c t r j) ((tap _ j).2.2.trans (blk3 m c t 2 j))
  · rw [conv_apply]
    refine congrArg₂ (fun a b : EReal => a + b) (congrArg₂ (fun a b : EReal => a + b) (congrArg₂ (fun a b : EReal => a + b) (blk6 m c t 0 j) ?_) ?_) ?_
    · exact congrArg₂ (fun a b : EReal => a * b) (blk8 m c t r j) ((tap _ j).1.trans (blk4 m c t 0 j))
    · exact congrArg₂ (fun a b : EReal => a * b) (blk10 m c t r j) ((tap _ j).2.1.trans (blk4 m c t 1 j))
    · exact congrArg₂ (fun a b : EReal => a * b) (projV m c t r j) ((tap _ j).2.2.trans (blk4 m c t 2 j))

theorem emb11 (t : Fin cfg0.N) (y : S32x512.Idx) : ((cfg0.win 11).blk t).view.emb y = ix2 (y 0) (col t (y 1)) := by
  unfold col; blk_ext [idx t]

/-- The gated array after the run, -/
theorem final_gated (c : Dev nD) : (dats m 0 c).arrAt 11 cfg0.N = GATED (CONV (UP (H m c) (W m c)) (C m c) (B m c) (ST m c)) := by
  refine (dats m 0 c).arrAt_eq_of_covers 11 _ (by decide +kernel) fun t hf y => ?_
  refine Eq.trans ?_ ((congrArg _ (ix2_eta y).symm).trans ((gatedAt m c t (y 0) (y 1)).trans ?_))
  · blk_simp
  · blk_simp; rw [emb11]; rfl

theorem emb12 (t : Fin cfg0.N) (y : S32x512.Idx) : ((cfg0.win 12).blk t).view.emb y = ix2 (y 0) (col t (y 1)) := by
  unfold col; blk_ext [idx t]

/-- the new row's half of the gate, -/
theorem final_new_gate (c : Dev nD) : (dats m 0 c).arrAt 12 cfg0.N = NEWG (UP (H m c) (W m c)) := by
  refine (dats m 0 c).arrAt_eq_of_covers 12 _ (by decide +kernel) fun t hf y => ?_
  refine Eq.trans ?_ ((congrArg _ (ix2_eta y).symm).trans ((newG m c t (y 0) (y 1)).trans ?_))
  · blk_simp
  · blk_simp; rw [emb12]; rfl

theorem emb13 (t : Fin cfg0.N) (y : S32x512.Idx) : ((cfg0.win 13).blk t).view.emb y = ix2 (y 0) (col t (y 1)) := by
  unfold col; blk_ext [idx t]

/-- and of the value. -/
theorem final_new_value (c : Dev nD) : (dats m 0 c).arrAt 13 cfg0.N = NEWV (UP (H m c) (W m c)) := by
  refine (dats m 0 c).arrAt_eq_of_covers 13 _ (by decide +kernel) fun t hf y => ?_
  refine Eq.trans ?_ ((congrArg _ (ix2_eta y).symm).trans ((newV m c t (y 0) (y 1)).trans ?_))
  · blk_simp
  · blk_simp; rw [emb13]; rfl

end Cert.Kernel11Ideal.Sample

end
-- ==== Proof.DownValue.lean ====
/- The value of the down projection: the array the kernel leaves is the RMS-normalised residual sum of the reference. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference2Ideal.Down

open Cert.Reference2Ideal Cert.Reference2Ideal.Gen

/-- The residual sum the reference normalises. -/
def SUM (A : FVec Ideal S8192x5632 .bf16) (W : FVec Ideal S5632x2048 .bf16) (R : FVec Ideal S8192x2048 .f32) :
    FVec Ideal S8192x2048 .f32 :=
  addf R (Host.dotGeneral dot_S8192x5632_S5632x2048_S8192x2048_1_0_0_1_n_n none
    (extf .f32 A bitsLt_bf16_f32) (extf .f32 W bitsLt_bf16_f32))

/-- RMS normalisation of the rows of a matrix, with its gain. -/
def NORM (Y : FVec Ideal S8192x2048 .f32) (G : FVec Ideal S1x2048 .f32) : FVec Ideal S8192x2048 .f32 :=
  mulf (mulf Y (broadcastInDim S8192x2048 ![0, 1] bcast_S8192x1_S8192x2048_0_1 (Host.rsqrt (addf (Host.divf
    (broadcastInDim S8192x1 ![0] bcast_S8192_S8192x1_0 (Host.reduceAdd (mulf Y Y) (constant S_ .f32 0x00000000#32)
      reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1
      (shapeCast _ G shapeCasts_S1x2048_S2048)))

end Cert.Reference2Ideal.Down

namespace Cert.Kernel2Ideal.Down

open Cert.Reference2Ideal.Down

open Cert.Kernel2Ideal Cert.Kernel2Ideal.Gen

variable (m : (ℓ : Loc nD τ sig) → Buf (Elt Ideal) ℓ)

theorem hzero (j) : k0_pay1 (F := Ideal) j = 0 := by pointwise [k0_pay1]

theorem hpay (acc x0 x1 j) : k0_pay2 (F := Ideal) acc x0 x1 j
    = acc j + ∑ k : Fin 1408, x0 (ix2 (j 0) k) * x1 (ix2 k (j 1)) := by pointwise [k0_pay2]

theorem href (A W R j) : SUM A W R j = R j + ∑ k : Fin 5632, A (ix2 (j 0) k) * W (ix2 k (j 1)) := by pointwise [SUM]

theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0] :=
  (by decide +kernel : ∀ t : Fin grid0.N, _)

/-- What the accumulator holds when a row block is written back. -/
theorem acc_at (c : Dev nD) (t : Fin cfg0.N) (hf : t.val % 4 = 3) (y : S512x2048.Idx) :
    addf (F := Ideal) (s := S512x2048) (φ := .f32) (iblk m c 2 t) (outsAt0 m c t.val t.isLt).2 y
      = SUM (m ((c : Thread nD τ).loc main_arg0)) (m ((c : Thread nD τ).loc main_arg1)) (m ((c : Thread nD τ).loc main_arg2))
          (((cfg0.win 4).blk t).view.emb y) := by
  rw [addf_apply, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h3 : t.val % 4 = 3
      · rw [outsAt0_C m c t h h3]; frame_out; rw [read_unread_whole, hpay]
      · rw [outsAt0_B m c t h h3]; frame_out; rw [read_unread_whole, hpay])
    t hf y, zero_add]
  rw [href, Ideal.addf_def]
  refine congrArg₂ (fun a b : EReal => a + b) ?_ ?_
  · blk_point [iblk, V, idx t]
  · refine Fin.sum_mul_add_congr fun s k hl => ?_
    blk_point [iblk, V, idx t, idx ⟨_, Pipeline.run_point_lt_of_flush t hf s⟩]

theorem out_at (c : Dev nD) (t : Fin cfg0.N) (hf : t.val % 4 = 3) :
    (outsAt0 m c t.val t.isLt).1 = k0_pay3 (iblk m c 2 t) (outsAt0 m c t.val t.isLt).2 (iblk m c 3 t) := by
  rw [outsAt0_C m c t (by omega) hf]
  frame_out

theorem norm_at (t : Fin cfg0.N) (x r : FVec Ideal S512x2048 .f32) (g : FVec Ideal S1x2048 .f32)
    (Y : FVec Ideal Cert.Reference2Ideal.S8192x2048 .f32) (G : FVec Ideal Cert.Reference2Ideal.S1x2048 .f32)
    (h : ∀ y, addf (F := Ideal) (s := S512x2048) (φ := .f32) x r y = Y (((cfg0.win 4).blk t).view.emb y))
    (hg : g = G) (y : S512x2048.Idx) :
    k0_pay3 x r g y = NORM Y G (((cfg0.win 4).blk t).view.emb y) := by
  have h' : ∀ y : S512x2048.Idx, x y + r y = Y (((cfg0.win 4).blk t).view.emb y) := h
  pointwise [k0_pay3, NORM]
  have hY : ∀ k : Fin 2048, x (ix2 (y 0) k) + r (ix2 (y 0) k) = Y (ix2 (((cfg0.win 4).blk t).view.emb y 0) k) := fun k => by
    rw [h' (ix2 (y 0) k)]
    blk_ext [idx t]
  have hG : g (ix2 0 (y 1)) = G (ix2 0 (((cfg0.win 4).blk t).view.emb y 1)) := by
    rw [hg]
    blk_ext [idx t]
  have hs := Finset.sum_congr rfl fun (k : Fin 2048) (_ : k ∈ Finset.univ) => congrArg₂ (fun a b : EReal => a * b) (hY k) (hY k)
  refine congrArg₂ (fun a b : EReal => a * b) (congrArg₂ (fun a b : EReal => a * b) (h' y)
    (congrArg (fun a : EReal => Ideal.rsqrt (Ideal.div a _ + _)) hs)) hG

/-- The result array after the run. -/
theorem final (c : Dev nD) : (dats m 0 c).arrAt 4 (cfgs 0).N
    = NORM (SUM (m ((c : Thread nD τ).loc main_arg0)) (m ((c : Thread nD τ).loc main_arg1)) (m ((c : Thread nD τ).loc main_arg2)))
        (m ((c : Thread nD τ).loc main_arg3)) := by
  refine (dats m 0 c).arrAt_eq_of_covers 4 _ (by decide +kernel) fun t hf y => ?_
  have hf' := (flush0_4 t).mp hf
  blk_simp
  rw [after0_4, out_at m c t hf']
  exact norm_at t _ _ _ _ _ (acc_at m c t hf') (by blk_ext! [iblk, V, idx t]) y

end Cert.Kernel2Ideal.Down

end
-- ==== Proof.SbSampleBody.lean ====
/- The stick-breaking projection, one grid point: what the body leaves in its outputs and in the scratch that keeps the
   normalised rows, at any contents of its windows. Three cases, one per column block: the first (queries) normalises the
   rows and keeps them, the other two (keys, values) project the kept rows. -/
module

public import proofs.«01_k».proof.Proof.Gen.Kernel14.Frame
public import proofs.«01_k».proof.Proof.Gen.Kernel14.Skeleton
public import Idealize.ShloMosaic.Lib.Pipeline.ReadBack
public import Idealize.ShloMosaic.Lib.Pipeline.ValueKit
public import Idealize.ShloMosaic.Lib.VecWindow
public import Idealize.ShloMosaic.Lib.WordCmp

@[expose] public section

set_option maxRecDepth 16384

noncomputable section

namespace Cert.Kernel14.SbSample

open Cert.Kernel14 Cert.Kernel14.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The column block is the first: the rows are normalised, -/
abbrev first (i : grid0.Coords) : Prop := (Scalar.cmpi .ne (Scalar.extui (Scalar.cmpi .eq (BitVec.ofNat 32 (i 1).val) 0#32)) 0#32) = 1#1
/-- it is the queries', -/
abbrev isQ (i : grid0.Coords) : Prop := k0_cond2 i = 1#1
/-- the keys', -/
abbrev isK (i : grid0.Coords) : Prop := k0_cond3 i = 1#1
/-- the values'. -/
abbrev isV (i : grid0.Coords) : Prop := k0_cond4 i = 1#1
theorem first_iff : ∀ t : Fin cfg0.N, first (grid0.coords t) ↔ t.val % 3 = 0 :=
  (fun t => by
    have ht : t.val < 3 := Nat.lt_of_lt_of_eq t.isLt N_0
    have e0 : (grid0.coords t 0).val = t.val / 3 % 1 := Pipeline.Grid.coords_val t 0 (by decide) rfl
    have e1 : (grid0.coords t 1).val = t.val / 1 % 3 := Pipeline.Grid.coords_val t 1 (by decide) rfl
    simp only [first, e0, e1]
    word_cmp
   : ∀ t : Fin grid0.N, first (grid0.coords t) ↔ t.val % 3 = 0)
theorem isQ_iff : ∀ t : Fin cfg0.N, isQ (grid0.coords t) ↔ t.val % 3 = 0 :=
  (fun t => by
    have ht : t.val < 3 := Nat.lt_of_lt_of_eq t.isLt N_0
    have e0 : (grid0.coords t 0).val = t.val / 3 % 1 := Pipeline.Grid.coords_val t 0 (by decide) rfl
    have e1 : (grid0.coords t 1).val = t.val / 1 % 3 := Pipeline.Grid.coords_val t 1 (by decide) rfl
    simp only [isQ, k0_cond2, e0, e1]
    word_cmp
   : ∀ t : Fin grid0.N, isQ (grid0.coords t) ↔ t.val % 3 = 0)
theorem isK_iff : ∀ t : Fin cfg0.N, isK (grid0.coords t) ↔ t.val % 3 = 1 :=
  (fun t => by
    have ht : t.val < 3 := Nat.lt_of_lt_of_eq t.isLt N_0
    have e0 : (grid0.coords t 0).val = t.val / 3 % 1 := Pipeline.Grid.coords_val t 0 (by decide) rfl
    have e1 : (grid0.coords t 1).val = t.val / 1 % 3 := Pipeline.Grid.coords_val t 1 (by decide) rfl
    simp only [isK, k0_cond3, e0, e1]
    word_cmp
   : ∀ t : Fin grid0.N, isK (grid0.coords t) ↔ t.val % 3 = 1)
theorem isV_iff : ∀ t : Fin cfg0.N, isV (grid0.coords t) ↔ t.val % 3 = 2 :=
  (fun t => by
    have ht : t.val < 3 := Nat.lt_of_lt_of_eq t.isLt N_0
    have e0 : (grid0.coords t 0).val = t.val / 3 % 1 := Pipeline.Grid.coords_val t 0 (by decide) rfl
    have e1 : (grid0.coords t 1).val = t.val / 1 % 3 := Pipeline.Grid.coords_val t 1 (by decide) rfl
    simp only [isV, k0_cond4, e0, e1]
    word_cmp
   : ∀ t : Fin grid0.N, isV (grid0.coords t) ↔ t.val % 3 = 2)

-- (the run's proof term is large: checking it walks past the default budget)
set_option maxHeartbeats 2000000 in
/-- The body at the queries: whatever the scratch holds, it takes the normalised rows. -/
theorem body_A (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S32x1024 .f32) (harg5 : arg5.IsWhole) (arg6 : Memref sig .tc .vmem S32x1024 .f32) (harg6 : arg6.IsWhole) (arg7 : Memref sig .tc .vmem S32x1024 .bf16) (harg7 : arg7.IsWhole) (arg8 : Memref sig .tc .vmem S32x1024 .f32) (harg8 : arg8.IsWhole) (arg9 : Memref sig .tc .vmem S32x1024 .bf16) (harg9 : arg9.IsWhole) (arg10 : Memref sig .tc .vmem S32x2048 .bf16) (harg10 : arg10.IsWhole) (hc0 : first i) (hc1 : isQ i) (hc2 : ¬isK i) (hc3 : ¬isV i)
    (x0 : Vec F S32x2048 .f32) (x1 : Vec F S1x2048 .f32) (x2 : Vec F S2048x1024 .bf16) (y4 : Vec F S32x1024 .f32) (y5 : Vec F S32x1024 .bf16) (y6 : Vec F S32x1024 .f32) (y7 : Vec F S32x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y4 ∗ owns (c : Thread nD τ) arg7 fullShare y5 ∗ owns (c : Thread nD τ) arg8 fullShare y6 ∗ owns (c : Thread nD τ) arg9 fullShare y7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg6 fullShare y4 ∗ owns (c : Thread nD τ) arg7 fullShare y5 ∗ owns (c : Thread nD τ) arg8 fullShare y6 ∗ owns (c : Thread nD τ) arg9 fullShare y7 ∗ owns (c : Thread nD τ) arg10 fullShare (k0_pay1 x0 x1)) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10) K := by
  simp only [cc0_norm_proj_plain_eq_skeleton]; unfold cc0_norm_proj_plain_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, ⟨%ds, %fs, -, HS⟩, Hk⟩
  obtain rfl := harg2.eq_unread hf0; obtain rfl := harg3.eq_unread hf1; obtain rfl := harg4.eq_unread hf2
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (View.read_writes_full arg5.view _ inb_S32x1024_S32x1024_0_0 _ []).trans ?_
    frame_out
    try rfl
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  iexists _; isplitr; swap; · iexact HS
  ipureintro
  refine (View.read_writes_full arg10.view _ inb_S32x2048_S32x2048_0_0 _ []).trans ?_
  frame_out
  try rfl

-- (the run's proof term is large: checking it walks past the default budget)
set_option maxHeartbeats 2000000 in
/-- The body at the keys. -/
theorem body_B (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S32x1024 .f32) (harg5 : arg5.IsWhole) (arg6 : Memref sig .tc .vmem S32x1024 .f32) (harg6 : arg6.IsWhole) (arg7 : Memref sig .tc .vmem S32x1024 .bf16) (harg7 : arg7.IsWhole) (arg8 : Memref sig .tc .vmem S32x1024 .f32) (harg8 : arg8.IsWhole) (arg9 : Memref sig .tc .vmem S32x1024 .bf16) (harg9 : arg9.IsWhole) (arg10 : Memref sig .tc .vmem S32x2048 .bf16) (harg10 : arg10.IsWhole) (hc0 : ¬first i) (hc1 : ¬isQ i) (hc2 : isK i) (hc3 : ¬isV i)
    (x0 : Vec F S32x2048 .f32) (x1 : Vec F S1x2048 .f32) (x2 : Vec F S2048x1024 .bf16) (s : Vec F S32x2048 .bf16) (y3 : Vec F S32x1024 .f32) (y6 : Vec F S32x1024 .f32) (y7 : Vec F S32x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ (∃ d, owns (c : Thread nD τ) arg6 fullShare d) ∗ (∃ d, owns (c : Thread nD τ) arg7 fullShare d) ∗ owns (c : Thread nD τ) arg8 fullShare y6 ∗ owns (c : Thread nD τ) arg9 fullShare y7 ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare (k0_pay2 s x2) ∗ owns (c : Thread nD τ) arg7 fullShare (k0_pay3 s x2) ∗ owns (c : Thread nD τ) arg8 fullShare y6 ∗ owns (c : Thread nD τ) arg9 fullShare y7 ∗ owns (c : Thread nD τ) arg10 fullShare s) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10) K := by
  simp only [cc0_norm_proj_plain_eq_skeleton]; unfold cc0_norm_proj_plain_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs, %hfs, HS⟩, Hk⟩
  obtain rfl := harg2.eq_unread hf0; obtain rfl := harg3.eq_unread hf1; obtain rfl := harg4.eq_unread hf2
  obtain rfl := harg10.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; exact hf3
  isplitl [H4]
  · iexists _; isplitr; swap; · iexact H4
    ipureintro
    refine (View.read_writes_full arg6.view _ inb_S32x1024_S32x1024_0_0 _ []).trans ?_
    frame_out
    try rfl
  isplitl [H5]
  · iexists _; isplitr; swap; · iexact H5
    ipureintro
    refine (View.read_writes_full arg7.view _ inb_S32x1024_S32x1024_0_0 _ []).trans ?_
    frame_out
    try rfl
  isplitl [H6]
  · iexists _; isplitr; swap; · iexact H6
    ipureintro; exact hf6
  isplitl [H7]
  · iexists _; isplitr; swap; · iexact H7
    ipureintro; exact hf7
  iexists _; isplitr; · ipureintro; exact harg10.read_unread _
  iexact HS

-- (the run's proof term is large: checking it walks past the default budget)
set_option maxHeartbeats 2000000 in
/-- The body at the values. -/
theorem body_C (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S32x1024 .f32) (harg5 : arg5.IsWhole) (arg6 : Memref sig .tc .vmem S32x1024 .f32) (harg6 : arg6.IsWhole) (arg7 : Memref sig .tc .vmem S32x1024 .bf16) (harg7 : arg7.IsWhole) (arg8 : Memref sig .tc .vmem S32x1024 .f32) (harg8 : arg8.IsWhole) (arg9 : Memref sig .tc .vmem S32x1024 .bf16) (harg9 : arg9.IsWhole) (arg10 : Memref sig .tc .vmem S32x2048 .bf16) (harg10 : arg10.IsWhole) (hc0 : ¬first i) (hc1 : ¬isQ i) (hc2 : ¬isK i) (hc3 : isV i)
    (x0 : Vec F S32x2048 .f32) (x1 : Vec F S1x2048 .f32) (x2 : Vec F S2048x1024 .bf16) (s : Vec F S32x2048 .bf16) (y3 : Vec F S32x1024 .f32) (y4 : Vec F S32x1024 .f32) (y5 : Vec F S32x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ (∃ d, owns (c : Thread nD τ) arg8 fullShare d) ∗ (∃ d, owns (c : Thread nD τ) arg9 fullShare d) ∗ owns (c : Thread nD τ) arg10 fullShare s
        ∗ (iprop(owns (c : Thread nD τ) arg2 fullShare x0 ∗ owns (c : Thread nD τ) arg3 fullShare x1 ∗ owns (c : Thread nD τ) arg4 fullShare x2 ∗ owns (c : Thread nD τ) arg5 fullShare y3 ∗ owns (c : Thread nD τ) arg6 fullShare y4 ∗ owns (c : Thread nD τ) arg7 fullShare y5 ∗ owns (c : Thread nD τ) arg8 fullShare (k0_pay2 s x2) ∗ owns (c : Thread nD τ) arg9 fullShare (k0_pay4 s x2) ∗ owns (c : Thread nD τ) arg10 fullShare s) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10) K := by
  simp only [cc0_norm_proj_plain_eq_skeleton]; unfold cc0_norm_proj_plain_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  obtain rfl := harg2.eq_unread hf0; obtain rfl := harg3.eq_unread hf1; obtain rfl := harg4.eq_unread hf2
  obtain rfl := harg10.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro
    refine (View.read_writes_full arg8.view _ inb_S32x1024_S32x1024_0_0 _ []).trans ?_
    frame_out
    try rfl
  isplitl [H7]
  · iexists _; isplitr; swap; · iexact H7
    ipureintro
    refine (View.read_writes_full arg9.view _ inb_S32x1024_S32x1024_0_0 _ []).trans ?_
    frame_out
    try rfl
  iexists _; isplitr; · ipureintro; exact harg10.read_unread _
  iexact HS

end Cert.Kernel14.SbSample

end
-- ==== Proof.SbSampleFrame.lean ====
/- The stick-breaking projection over its grid: the proof data (what every window and the scratch hold at each point), the body at
   each point, the run that names the five arrays the kernel leaves, and the frame. A row block is visited three times, and
   each output is stored at one of the three and written back at the third: in between its buffer keeps what was stored. -/
module

public import proofs.«01_k».proof.Proof.SbSampleBody
public import Idealize.ShloMosaic.Lib.Claim
public import Idealize.ShloMosaic.Lib.Pipeline.TableIdle

@[expose] public section

set_option maxRecDepth 16384

noncomputable section

namespace Cert.Kernel14.SbSample

open Cert.Kernel14 Cert.Kernel14.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle, and their memrefs -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, t.val % 3 = 0 → cfg0.idle 3 (grid0.coords t) = false := by decide +kernel
theorem idleAt0_3 : ∀ t : Fin cfg0.N, ¬t.val % 3 = 0 → cfg0.idle 3 (grid0.coords t) = true := by decide +kernel
theorem quiet0_3 : ∀ t : Fin cfg0.N, ¬t.val % 3 = 2 → (cfg0.win 3).flush t = false := by decide +kernel
theorem liveAt0_4 : ∀ t : Fin cfg0.N, t.val % 3 = 1 → cfg0.idle 4 (grid0.coords t) = false := by decide +kernel
theorem idleAt0_4 : ∀ t : Fin cfg0.N, ¬t.val % 3 = 1 → cfg0.idle 4 (grid0.coords t) = true := by decide +kernel
theorem quiet0_4 : ∀ t : Fin cfg0.N, ¬t.val % 3 = 2 → (cfg0.win 4).flush t = false := by decide +kernel
theorem liveAt0_5 : ∀ t : Fin cfg0.N, t.val % 3 = 1 → cfg0.idle 5 (grid0.coords t) = false := by decide +kernel
theorem idleAt0_5 : ∀ t : Fin cfg0.N, ¬t.val % 3 = 1 → cfg0.idle 5 (grid0.coords t) = true := by decide +kernel
theorem quiet0_5 : ∀ t : Fin cfg0.N, ¬t.val % 3 = 2 → (cfg0.win 5).flush t = false := by decide +kernel
theorem liveAt0_6 : ∀ t : Fin cfg0.N, t.val % 3 = 2 → cfg0.idle 6 (grid0.coords t) = false := by decide +kernel
theorem idleAt0_6 : ∀ t : Fin cfg0.N, ¬t.val % 3 = 2 → cfg0.idle 6 (grid0.coords t) = true := by decide +kernel
theorem quiet0_6 : ∀ t : Fin cfg0.N, ¬t.val % 3 = 2 → (cfg0.win 6).flush t = false := by decide +kernel
theorem liveAt0_7 : ∀ t : Fin cfg0.N, t.val % 3 = 2 → cfg0.idle 7 (grid0.coords t) = false := by decide +kernel
theorem idleAt0_7 : ∀ t : Fin cfg0.N, ¬t.val % 3 = 2 → cfg0.idle 7 (grid0.coords t) = true := by decide +kernel
theorem quiet0_7 : ∀ t : Fin cfg0.N, ¬t.val % 3 = 2 → (cfg0.win 7).flush t = false := by decide +kernel
theorem fresh0_3 (n : ℕ) (h : n ≤ cfg0.N) : cfg0.fresh 3 n = decide (n % 3 = 0) :=
  Cfg.fresh_tab cfg0 3 (fun n => decide (n % 3 = 0)) rfl (by decide +kernel) n h
theorem fresh0_4 (n : ℕ) (h : n ≤ cfg0.N) : cfg0.fresh 4 n = decide (¬n % 3 = 2) :=
  Cfg.fresh_tab cfg0 4 (fun n => decide (¬n % 3 = 2)) rfl (by decide +kernel) n h
theorem fresh0_5 (n : ℕ) (h : n ≤ cfg0.N) : cfg0.fresh 5 n = decide (¬n % 3 = 2) :=
  Cfg.fresh_tab cfg0 5 (fun n => decide (¬n % 3 = 2)) rfl (by decide +kernel) n h

abbrev ms0_0 (t : Fin cfg0.N) : Memref sig .tc .vmem S32x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x1024 .bf16 := win0_2.stage (cfg0.slots t 2)
abbrev ms0_3 (t : Fin cfg0.N) : Memref sig .tc .vmem S32x1024 .f32 := win0_3.stage (cfg0.slots t 3)
abbrev ms0_4 (t : Fin cfg0.N) : Memref sig .tc .vmem S32x1024 .f32 := win0_4.stage (cfg0.slots t 4)
abbrev ms0_5 (t : Fin cfg0.N) : Memref sig .tc .vmem S32x1024 .bf16 := win0_5.stage (cfg0.slots t 5)
abbrev ms0_6 (t : Fin cfg0.N) : Memref sig .tc .vmem S32x1024 .f32 := win0_6.stage (cfg0.slots t 6)
abbrev ms0_7 (t : Fin cfg0.N) : Memref sig .tc .vmem S32x1024 .bf16 := win0_7.stage (cfg0.slots t 7)
abbrev scM0_0 : Memref sig .tc .vmem S32x2048 .bf16 := Memref.whole cc0_scratch0

/-- What the launch hands the region: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## A row block's three points -/

theorem lt3 (t : Fin cfg0.N) : t.val < 3 := lt_of_lt_of_eq t.isLt (show cfg0.N = 3 from N_0)

/-- The point of `t`'s row block at column block `j`. -/
def pt (t : Fin cfg0.N) (j : Fin 3) : Fin cfg0.N :=
  ⟨t.val / 3 * 3 + j.val, lt_of_lt_of_eq (show t.val / 3 * 3 + j.val < 3 by have := lt3 t; have := j.isLt; omega) (show cfg0.N = 3 from N_0).symm⟩

theorem pt_self (t : Fin cfg0.N) (j : Fin 3) (h : t.val % 3 = j.val) : pt t j = t :=
  Fin.ext (by show t.val / 3 * 3 + j.val = t.val; omega)

theorem pt_pred (t : Fin cfg0.N) (j : Fin 3) (h : ¬t.val % 3 = 0) (h' : t.val - 1 < cfg0.N) : pt ⟨t.val - 1, h'⟩ j = pt t j :=
  Fin.ext (by show (t.val - 1) / 3 * 3 + j.val = t.val / 3 * 3 + j.val; omega)

/-- The normalised rows of `t`'s row block. -/
def nrm (c : Dev nD) (t : Fin cfg0.N) : Vec F S32x2048 .bf16 := k0_pay1 (iblk m c 0 (pt t 0)) (iblk m c 1 (pt t 0))

theorem nrm_self (c : Dev nD) (t : Fin cfg0.N) (h : t.val % 3 = 0) : nrm m c t = k0_pay1 (iblk m c 0 t) (iblk m c 1 t) := by
  unfold nrm; rw [pt_self t 0 h]

theorem nrm_pred (c : Dev nD) (t : Fin cfg0.N) (h : ¬t.val % 3 = 0) (h' : t.val - 1 < cfg0.N) : nrm m c ⟨t.val - 1, h'⟩ = nrm m c t := by
  unfold nrm; rw [pt_pred t 0 h]

/-! ## The pipeline's proof data -/

/-- What the scratch holds before point `n`: anything before the first, then the normalised rows of the point before. -/
def PhiS (c : Dev nD) : (n : ℕ) → n ≤ cfg0.N → sProp 𝕄
  | 0, _ => Pipeline.ΦA spec0 c
  | n + 1, h => iprop(iprop(owns (c : Thread nD τ) scM0_0 fullShare (nrm m c ⟨n, h⟩)) ∗ (∃ r, prngReg c r))

theorem PhiS_pos (c : Dev nD) (n : ℕ) (h : n ≤ cfg0.N) (h0 : n ≠ 0) :
    PhiS m c n h = iprop(iprop(owns (c : Thread nD τ) scM0_0 fullShare (nrm m c ⟨n - 1, Nat.lt_of_lt_of_le (Nat.sub_lt (Nat.pos_of_ne_zero h0) Nat.one_pos) h⟩)) ∗ (∃ r, prngReg c r)) := by
  obtain ⟨k, rfl⟩ : ∃ k, n = k + 1 := ⟨n - 1, (Nat.succ_pred_eq_of_ne_zero h0).symm⟩
  rfl

theorem PhiS_succ (c : Dev nD) (t : Fin cfg0.N) :
    PhiS m c (t.val + 1) t.isLt = iprop(iprop(owns (c : Thread nD τ) scM0_0 fullShare (nrm m c t)) ∗ (∃ r, prngReg c r)) := rfl

/-- After any point the invariant gives the scratch at some contents. -/
theorem PhiS_out (c : Dev nD) (n : ℕ) (h : n ≤ cfg0.N) : PhiS m c n h ⊢ Pipeline.ΦA spec0 c := by
  match n, h with
  | 0, _ => exact .rfl
  | n + 1, h =>
    rw [PhiA0_eq]; unfold PhiS
    iintro ⟨HS0, Hg⟩
    isplitl [HS0]
    · iexists _; iexact HS0
    iexact Hg

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (nrm m c t) (iblk m c 2 (pt t 0))
    | ⟨4, _⟩ => k0_pay2 (nrm m c t) (iblk m c 2 (pt t 1))
    | ⟨5, _⟩ => k0_pay3 (nrm m c t) (iblk m c 2 (pt t 1))
    | ⟨6, _⟩ => k0_pay2 (nrm m c t) (iblk m c 2 (pt t 2))
    | ⟨7, _⟩ => k0_pay4 (nrm m c t) (iblk m c 2 (pt t 2))
  Φ t := PhiS m c t.val (Nat.lt_succ_iff.mp t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (nrm m c t) (iblk m c 2 (pt t 0)) := by dsimp only [dats]
theorem after0_4 (c : Dev nD) (t : Fin cfg0.N) : (dats m 0 c).after 4 t = k0_pay2 (nrm m c t) (iblk m c 2 (pt t 1)) := by dsimp only [dats]
theorem after0_5 (c : Dev nD) (t : Fin cfg0.N) : (dats m 0 c).after 5 t = k0_pay3 (nrm m c t) (iblk m c 2 (pt t 1)) := by dsimp only [dats]
theorem after0_6 (c : Dev nD) (t : Fin cfg0.N) : (dats m 0 c).after 6 t = k0_pay2 (nrm m c t) (iblk m c 2 (pt t 2)) := by dsimp only [dats]
theorem after0_7 (c : Dev nD) (t : Fin cfg0.N) : (dats m 0 c).after 7 t = k0_pay4 (nrm m c t) (iblk m c 2 (pt t 2)) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## What an output's buffer keeps to the third point -/

theorem carry0_3 (c : Dev nD) (t : Fin cfg0.N) (h : ¬t.val % 3 = 0) (h' : t.val - 1 < cfg0.N) :
    (dats m 0 c).after 3 t = (dats m 0 c).after 3 ⟨t.val - 1, h'⟩ := by
  rw [after0_3, after0_3, nrm_pred m c t h, pt_pred t 0 h]

theorem found0_3 (c : Dev nD) (t : Fin cfg0.N) (h : t.val % 3 = 2) (d) : (dats m 0 c).before 3 t d = (dats m 0 c).after 3 t := by
  rw [(dats m 0 c).before_out_traj 3 rfl (fun _ _ => rfl) (fun t _ _ hf => carry0_3 m c t (fun h => by
      rw [fresh0_3 t.val (Nat.le_of_lt t.isLt)] at hf; simp [h] at hf) _) t.val t rfl d,
    fresh0_3 t.val (Nat.le_of_lt t.isLt), if_neg (by simp [h])]
  exact (carry0_3 m c t (by omega) _).symm

theorem carry0_4 (c : Dev nD) (t : Fin cfg0.N) (h : ¬t.val % 3 = 0) (h' : t.val - 1 < cfg0.N) :
    (dats m 0 c).after 4 t = (dats m 0 c).after 4 ⟨t.val - 1, h'⟩ := by
  rw [after0_4, after0_4, nrm_pred m c t h, pt_pred t 1 h]

theorem found0_4 (c : Dev nD) (t : Fin cfg0.N) (h : t.val % 3 = 2) (d) : (dats m 0 c).before 4 t d = (dats m 0 c).after 4 t := by
  rw [(dats m 0 c).before_out_traj 4 rfl (fun _ _ => rfl) (fun t _ _ hf => carry0_4 m c t (fun h => by
      rw [fresh0_4 t.val (Nat.le_of_lt t.isLt)] at hf; simp [h] at hf) _) t.val t rfl d,
    fresh0_4 t.val (Nat.le_of_lt t.isLt), if_neg (by simp [h])]
  exact (carry0_4 m c t (by omega) _).symm

theorem carry0_5 (c : Dev nD) (t : Fin cfg0.N) (h : ¬t.val % 3 = 0) (h' : t.val - 1 < cfg0.N) :
    (dats m 0 c).after 5 t = (dats m 0 c).after 5 ⟨t.val - 1, h'⟩ := by
  rw [after0_5, after0_5, nrm_pred m c t h, pt_pred t 1 h]

theorem found0_5 (c : Dev nD) (t : Fin cfg0.N) (h : t.val % 3 = 2) (d) : (dats m 0 c).before 5 t d = (dats m 0 c).after 5 t := by
  rw [(dats m 0 c).before_out_traj 5 rfl (fun _ _ => rfl) (fun t _ _ hf => carry0_5 m c t (fun h => by
      rw [fresh0_5 t.val (Nat.le_of_lt t.isLt)] at hf; simp [h] at hf) _) t.val t rfl d,
    fresh0_5 t.val (Nat.le_of_lt t.isLt), if_neg (by simp [h])]
  exact (carry0_5 m c t (by omega) _).symm

/-! ## The body at each point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 3600000 in
/-- The body at any point, by its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from rfl]
  rw [PhiS_succ m c t]
  have hN := lt3 t
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rcases (by omega : t.val % 3 = 0 ∨ t.val % 3 = 1 ∨ t.val % 3 = 2) with h | h | h
  · rw [show (dats m 0 c).leavesExact 3 t = owns (c : Thread nD τ) (ms0_3 t) fullShare ((dats m 0 c).after 3 t) from by
      unfold Dat.leavesExact; rw [liveAt0_3 t h], after0_3, pt_self t 0 h]
    rw [(dats m 0 c).leavesExact_idle 4 t (idleAt0_4 t (by omega)) (quiet0_4 t (by omega))]
    rw [(dats m 0 c).leavesExact_idle 5 t (idleAt0_5 t (by omega)) (quiet0_5 t (by omega))]
    rw [(dats m 0 c).leavesExact_idle 6 t (idleAt0_6 t (by omega)) (quiet0_6 t (by omega))]
    rw [(dats m 0 c).leavesExact_idle 7 t (idleAt0_7 t (by omega)) (quiet0_7 t (by omega))]
    rw [nrm_self m c t h]
    have hΦ := PhiS_out m c t.val (Nat.le_of_lt t.isLt)
    rw [PhiA0_eq] at hΦ
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HP := hΦ $$ HΦ
    icases HP with ⟨HS0, Hg⟩
    iapply (body_A c (grid0.coords t) _ _ _ _ _ _ _ _ _ _ _ _ _ _ _ _ _ _ ((first_iff t).mpr h) ((isQ_iff t).mpr h) (fun e => absurd ((isK_iff t).mp e) (by omega)) (fun e => absurd ((isV_iff t).mp e) (by omega)) (iblk m c 0 t) (iblk m c 1 t) (iblk m c 2 t) _ _ _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iexists _; iexact H7
  · rw [(dats m 0 c).leavesExact_idle 3 t (idleAt0_3 t (by omega)) (quiet0_3 t (by omega))]
    rw [show (dats m 0 c).leavesExact 4 t = owns (c : Thread nD τ) (ms0_4 t) fullShare ((dats m 0 c).after 4 t) from by
      unfold Dat.leavesExact; rw [liveAt0_4 t h], after0_4, pt_self t 1 h]
    rw [show (dats m 0 c).leavesExact 5 t = owns (c : Thread nD τ) (ms0_5 t) fullShare ((dats m 0 c).after 5 t) from by
      unfold Dat.leavesExact; rw [liveAt0_5 t h], after0_5, pt_self t 1 h]
    rw [(dats m 0 c).leavesExact_idle 6 t (idleAt0_6 t (by omega)) (quiet0_6 t (by omega))]
    rw [(dats m 0 c).leavesExact_idle 7 t (idleAt0_7 t (by omega)) (quiet0_7 t (by omega))]
    rw [PhiS_pos m c t.val _ (by omega), nrm_pred m c t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_B c (grid0.coords t) _ _ _ _ _ _ _ _ _ _ _ _ _ _ _ _ _ _ (fun e => absurd ((first_iff t).mp e) (by omega)) (fun e => absurd ((isQ_iff t).mp e) (by omega)) ((isK_iff t).mpr h) (fun e => absurd ((isV_iff t).mp e) (by omega)) (iblk m c 0 t) (iblk m c 1 t) (iblk m c 2 t) (nrm m c t) _ _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexists _; iexact H3
    isplitl [H4]; · iexact H4
    isplitl [H5]; · iexact H5
    isplitl [H6]; · iexists _; iexact H6
    iexists _; iexact H7
  · rw [show (dats m 0 c).leavesExact 3 t = owns (c : Thread nD τ) (ms0_3 t) fullShare ((dats m 0 c).after 3 t) from by
      unfold Dat.leavesExact; rw [idleAt0_3 t (by omega), (flush0_3 t).mpr h]]
    rw [show (dats m 0 c).leavesExact 4 t = owns (c : Thread nD τ) (ms0_4 t) fullShare ((dats m 0 c).after 4 t) from by
      unfold Dat.leavesExact; rw [idleAt0_4 t (by omega), (flush0_4 t).mpr h]]
    rw [show (dats m 0 c).leavesExact 5 t = owns (c : Thread nD τ) (ms0_5 t) fullShare ((dats m 0 c).after 5 t) from by
      unfold Dat.leavesExact; rw [idleAt0_5 t (by omega), (flush0_5 t).mpr h]]
    rw [show (dats m 0 c).leavesExact 6 t = owns (c : Thread nD τ) (ms0_6 t) fullShare ((dats m 0 c).after 6 t) from by
      unfold Dat.leavesExact; rw [liveAt0_6 t h], after0_6, pt_self t 2 h]
    rw [show (dats m 0 c).leavesExact 7 t = owns (c : Thread nD τ) (ms0_7 t) fullShare ((dats m 0 c).after 7 t) from by
      unfold Dat.leavesExact; rw [liveAt0_7 t h], after0_7, pt_self t 2 h]
    simp only [found0_3 m c t h, found0_4 m c t h, found0_5 m c t h]
    rw [PhiS_pos m c t.val _ (by omega), nrm_pred m c t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_C c (grid0.coords t) _ _ _ _ _ _ _ _ _ _ _ _ _ _ _ _ _ _ (fun e => absurd ((first_iff t).mp e) (by omega)) (fun e => absurd ((isQ_iff t).mp e) (by omega)) (fun e => absurd ((isK_iff t).mp e) (by omega)) ((isV_iff t).mpr h) (iblk m c 0 t) (iblk m c 1 t) (iblk m c 2 t) (nrm m c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := .rfl
theorem hout (c : Dev nD) : (dats m 0 c).Φ (Fin.last cfg0.N) ⊢ Pipeline.ΦA spec0 c := by
  have h := PhiS_out m c (Fin.last cfg0.N).val (Nat.le_refl _)
  exact h

set_option backward.isDefEq.respectTransparency.types false in
/-- The launch: every array ends as the proof data says, and every semaphore counter is zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run that names the five output arrays. -/
theorem run_blocks : θ_run defs (onTc (τ := τ) (main (F := F))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_v1_2) = (dats m 0 c).arrAt 5 cfg0.N
      ∧ r.2.mem ((c : Thread nD τ).loc main_v1_3) = (dats m 0 c).arrAt 6 cfg0.N
      ∧ r.2.mem ((c : Thread nD τ).loc main_v1_4) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 3, (h.1 c).1 4, (h.1 c).1 5, (h.1 c).1 6, (h.1 c).1 7, h.2 c⟩) (θ_run_and (run_main m ρ) (unchanged m ρ))

end Cert.Kernel14.SbSample

end
-- ==== Proof.SbSampleValue.lean ====
/- The value of the stick-breaking projection: each output is the reference's product at the queries', keys' or values'
   columns. The rows are normalised once for the three. -/
module

public import proofs.«01_k».proof.Proof.SbSampleFrame
public import proofs.«01_k».proof.Proof.Gen.Kernel14Ideal
public import proofs.«01_k».proof.Proof.Gen.Kernel14.Points
public import proofs.«01_k».proof.Proof.Gen.Reference14Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference14Ideal.SbSample

open Cert.Reference14Ideal Cert.Reference14Ideal.Gen

/-- RMS normalisation of the rows of a matrix, with its gain. -/
def NORM (Y : FVec Ideal S32x2048 .f32) (G : FVec Ideal S1x2048 .f32) : FVec Ideal S32x2048 .f32 :=
  mulf (mulf Y (broadcastInDim S32x2048 ![0, 1] bcast_S32x1_S32x2048_0_1 (Host.rsqrt (addf (Host.divf
    (broadcastInDim S32x1 ![0] bcast_S32_S32x1_0 (Host.reduceAdd (mulf Y Y) (constant S_ .f32 0x00000000#32)
      reducesTo_S32x2048_S32_d1 h_S_)) (broadcastInDim S32x1 ![] bcast_S_S32x1 (constant S_ .f32 0x45000000#32)))
    (broadcastInDim S32x1 ![] bcast_S_S32x1 (constant S_ .f32 0x358637BD#32))))))
    (broadcastInDim S32x2048 ![0, 1] bcast_S1x2048_S32x2048_0_1 (broadcastInDim S1x2048 ![1] bcast_S2048_S1x2048_1
      (shapeCast _ G shapeCasts_S1x2048_S2048)))

/-- The normalised rows times the columns of the queries, the keys and the values, -/
def PROJ (X : FVec Ideal S32x2048 .f32) (G : FVec Ideal S1x2048 .f32) (W : FVec Ideal S2048x3072 .f32) :
    FVec Ideal S32x3072 .f32 :=
  Host.dotGeneral dot_S32x2048_S2048x3072_S32x3072_1_0_0_1_n_n none (NORM X G) W

/-- and its three parts. -/
def QPART (Y : FVec Ideal S32x3072 .f32) : FVec Ideal S32x1024 .f32 := extractStridedSlice S32x1024 ![0, 0] Y slices_S32x3072_S32x1024_0_0
def KPART (Y : FVec Ideal S32x3072 .f32) : FVec Ideal S32x1024 .f32 := extractStridedSlice S32x1024 ![0, 1024] Y slices_S32x3072_S32x1024_0_1024
def VPART (Y : FVec Ideal S32x3072 .f32) : FVec Ideal S32x1024 .f32 := extractStridedSlice S32x1024 ![0, 2048] Y slices_S32x3072_S32x1024_0_2048

theorem proj_apply (X G W) (i : Fin 32) (j : Fin 3072) : PROJ X G W (ix2 i j) = ∑ k : Fin 2048, NORM X G (ix2 i k) * W (ix2 k j) := by
  unfold PROJ
  generalize NORM X G = Y
  pointwise []

theorem qpart_apply (Y) (i : Fin 32) (j : Fin 1024) : QPART Y (ix2 i j) = Y (ix2 i ⟨j.val, Nat.lt_trans j.isLt (by decide)⟩) := by
  pointwise [QPART]
theorem kpart_apply (Y) (i : Fin 32) (j : Fin 1024) : KPART Y (ix2 i j) = Y (ix2 i ⟨1024 + j.val, Nat.lt_trans (Nat.add_lt_add_left j.isLt 1024) (by decide)⟩) := by
  pointwise [KPART]
theorem vpart_apply (Y) (i : Fin 32) (j : Fin 1024) : VPART Y (ix2 i j) = Y (ix2 i ⟨2048 + j.val, Nat.add_lt_add_left j.isLt 2048⟩) := by
  pointwise [VPART]

end Cert.Reference14Ideal.SbSample

namespace Cert.Kernel14.SbSample

open Cert.Reference14Ideal.SbSample
open Cert.Kernel14 Cert.Kernel14.Gen

variable (m : (ℓ : Loc nD τ sig) → Buf (Elt Ideal) ℓ)

theorem idx : ∀ t : Fin cfg0.N, win0_0.index t = ![t.val / 3, 0] ∧ win0_1.index t = ![0, 0]
    ∧ win0_2.index t = ![0, t.val % 3] ∧ win0_3.index t = ![t.val / 3, 0] ∧ win0_4.index t = ![t.val / 3, 0] ∧ win0_5.index t = ![t.val / 3, 0] ∧ win0_6.index t = ![t.val / 3, 0] ∧ win0_7.index t = ![t.val / 3, 0] :=
  (by decide +kernel : ∀ t : Fin grid0.N, _)

abbrev A0 (c : Dev nD) : FVec Ideal Cert.Reference14Ideal.S32x2048 .f32 := m ((c : Thread nD τ).loc main_arg0)
abbrev A1 (c : Dev nD) : FVec Ideal Cert.Reference14Ideal.S1x2048 .f32 := m ((c : Thread nD τ).loc main_arg1)
abbrev A2 (c : Dev nD) : FVec Ideal Cert.Reference14Ideal.S2048x3072 .f32 := m ((c : Thread nD τ).loc main_arg2)

/-- A point's rows, and its columns. -/
def row (t : Fin cfg0.N) (r : Fin 32) : Fin 32 := ⟨t.val / 3 * 32 + r.val, by have := lt3 t; omega⟩
def col (t : Fin cfg0.N) (j : Fin 1024) : Fin 3072 := ⟨t.val % 3 * 1024 + j.val, by omega⟩

theorem row_pt (t : Fin cfg0.N) (j : Fin 3) (r : Fin 32) : row (pt t j) r = row t r :=
  Fin.ext (by have := j.isLt; show (t.val / 3 * 3 + j.val) / 3 * 32 + r.val = t.val / 3 * 32 + r.val; omega)

theorem col_pt (t : Fin cfg0.N) (j : Fin 3) (e : Fin 1024) : (col (pt t j) e).val = j.val * 1024 + e.val := by
  have := j.isLt
  show (t.val / 3 * 3 + j.val) % 3 * 1024 + e.val = j.val * 1024 + e.val
  omega

theorem blk0 (c : Dev nD) (t : Fin cfg0.N) (r : Fin 32) (k : Fin 2048) : (iblk m c 0 t : FVec Ideal S32x2048 .f32) (ix2 r k) = A0 m c (ix2 (row t r) k) := by
  refine Eq.trans ?_ (congrFun (V_main_arg0 m c) _)
  unfold iblk; generalize V m c = V'
  unfold row
  blk_point [idx t]

theorem blk1 (c : Dev nD) (t : Fin cfg0.N) (k : Fin 2048) : (iblk m c 1 t : FVec Ideal S1x2048 .f32) (ix2 0 k) = A1 m c (ix2 0 k) := by
  refine Eq.trans ?_ (congrFun (V_main_arg1 m c) _)
  unfold iblk; generalize V m c = V'
  blk_point [idx t]

theorem V_w (c : Dev nD) : @Eq (FVec Ideal S2048x3072 .bf16) (V m c main_v0)
    (truncf (F := Ideal) (s := S2048x3072) (φ := .f32) .bf16 (m ((c : Thread nD τ).loc main_arg2)) bitsLt_bf16_f32) := by
  unfold V
  after_results

theorem blk2 (c : Dev nD) (t : Fin cfg0.N) (k : Fin 2048) (j : Fin 1024) : (iblk m c 2 t : FVec Ideal S2048x1024 .bf16) (ix2 k j) = A2 m c (ix2 k (col t j)) := by
  have h : (iblk m c 2 t : FVec Ideal S2048x1024 .bf16) (ix2 k j) = (V m c main_v0 : FVec Ideal S2048x3072 .bf16) (ix2 k (col t j)) := by
    unfold iblk; generalize V m c = V'
    unfold col
    blk_point [idx t]
  rw [h, V_w]
  rfl

/-- A normalised row of a block is the reference's. -/
theorem norm_at (x : FVec Ideal S32x2048 .f32) (g : FVec Ideal S1x2048 .f32)
    (Y : FVec Ideal Cert.Reference14Ideal.S32x2048 .f32) (R : FVec Ideal Cert.Reference14Ideal.S1x2048 .f32)
    (r : Fin 32) (i : Fin 32) (h : ∀ k, x (ix2 r k) = Y (ix2 i k)) (hg : ∀ k, g (ix2 0 k) = R (ix2 0 k)) (k : Fin 2048) :
    k0_pay1 (F := Ideal) x g (ix2 r k) = NORM Y R (ix2 i k) := by
  pointwise [k0_pay1, NORM]
  have hs := Finset.sum_congr rfl fun (k : Fin 2048) (_ : k ∈ Finset.univ) => congrArg₂ (fun a b : EReal => a * b) (h k) (h k)
  exact congrArg₂ (fun a b : EReal => a * b) (congrArg₂ (fun a b : EReal => a * b) (h k)
    (congrArg (fun a : EReal => Ideal.rsqrt (Ideal.div a _ + _)) hs)) (hg k)

theorem nrm_apply (c : Dev nD) (t : Fin cfg0.N) (r : Fin 32) (k : Fin 2048) : nrm m c t (ix2 r k) = NORM (A0 m c) (A1 m c) (ix2 (row t r) k) := by
  unfold nrm
  exact norm_at _ _ _ _ r (row t r) (fun k => (blk0 m c (pt t 0) r k).trans (by rw [row_pt])) (blk1 m c _) k

theorem hdot (h w) (r : Fin 32) (j : Fin 1024) : k0_pay2 (F := Ideal) h w (ix2 r j) = ∑ k : Fin 2048, h (ix2 r k) * w (ix2 k j) := by
  pointwise [k0_pay2]

/-- The product at a row block's point of column block `j`. -/
theorem proj_at (c : Dev nD) (t : Fin cfg0.N) (j : Fin 3) (r : Fin 32) (e : Fin 1024) (J : Fin 3072) (hJ : J.val = j.val * 1024 + e.val) :
    k0_pay2 (F := Ideal) (nrm m c t) (iblk m c 2 (pt t j)) (ix2 r e) = PROJ (A0 m c) (A1 m c) (A2 m c) (ix2 (row t r) J) := by
  rw [hdot, proj_apply]
  have hc : col (pt t j) e = J := Fin.ext ((col_pt t j e).trans hJ.symm)
  exact Finset.sum_congr rfl fun k _ => congrArg₂ (fun a b : EReal => a * b) (nrm_apply m c t r k) ((blk2 m c (pt t j) k e).trans (by rw [hc]))

theorem emb3 (t : Fin cfg0.N) (y : S32x1024.Idx) : ((cfg0.win 3).blk t).view.emb y = ix2 (row t (y 0)) (y 1) := by
  unfold row; blk_ext [idx t]
theorem emb4 (t : Fin cfg0.N) (y : S32x1024.Idx) : ((cfg0.win 4).blk t).view.emb y = ix2 (row t (y 0)) (y 1) := by
  unfold row; blk_ext [idx t]
theorem emb5 (t : Fin cfg0.N) (y : S32x1024.Idx) : ((cfg0.win 5).blk t).view.emb y = ix2 (row t (y 0)) (y 1) := by
  unfold row; blk_ext [idx t]
theorem emb6 (t : Fin cfg0.N) (y : S32x1024.Idx) : ((cfg0.win 6).blk t).view.emb y = ix2 (row t (y 0)) (y 1) := by
  unfold row; blk_ext [idx t]
theorem emb7 (t : Fin cfg0.N) (y : S32x1024.Idx) : ((cfg0.win 7).blk t).view.emb y = ix2 (row t (y 0)) (y 1) := by
  unfold row; blk_ext [idx t]

theorem final_0 (c : Dev nD) : (dats m 0 c).arrAt 3 cfg0.N = QPART (PROJ (A0 m c) (A1 m c) (A2 m c)) := by
  refine (dats m 0 c).arrAt_eq_of_covers 3 _ (by decide +kernel) fun t hf y => ?_
  blk_simp
  rw [after0_3, emb3]
  refine (congrArg _ (ix2_eta y).symm).trans ?_
  exact (proj_at m c t 0 (y 0) (y 1) _ (by show (y 1).val = 0 * 1024 + (y 1).val; omega)).trans (qpart_apply _ (row t (y 0)) (y 1)).symm

theorem final_1 (c : Dev nD) : (dats m 0 c).arrAt 4 cfg0.N = KPART (PROJ (A0 m c) (A1 m c) (A2 m c)) := by
  refine (dats m 0 c).arrAt_eq_of_covers 4 _ (by decide +kernel) fun t hf y => ?_
  blk_simp
  rw [after0_4, emb4]
  refine (congrArg _ (ix2_eta y).symm).trans ?_
  exact (proj_at m c t 1 (y 0) (y 1) _ (by rfl)).trans (kpart_apply _ (row t (y 0)) (y 1)).symm

theorem final_2 (c : Dev nD) : (dats m 0 c).arrAt 5 cfg0.N = truncf .bf16 (KPART (PROJ (A0 m c) (A1 m c) (A2 m c))) Cert.Reference14Ideal.Gen.bitsLt_bf16_f32 := by
  refine (dats m 0 c).arrAt_eq_of_covers 5 _ (by decide +kernel) fun t hf y => ?_
  blk_simp
  rw [after0_5, emb5]
  refine (congrArg _ (ix2_eta y).symm).trans ?_
  exact (proj_at m c t 1 (y 0) (y 1) _ (by rfl)).trans (kpart_apply _ (row t (y 0)) (y 1)).symm

theorem final_3 (c : Dev nD) : (dats m 0 c).arrAt 6 cfg0.N = VPART (PROJ (A0 m c) (A1 m c) (A2 m c)) := by
  refine (dats m 0 c).arrAt_eq_of_covers 6 _ (by decide +kernel) fun t hf y => ?_
  blk_simp
  rw [after0_6, emb6]
  refine (congrArg _ (ix2_eta y).symm).trans ?_
  exact (proj_at m c t 2 (y 0) (y 1) _ (by rfl)).trans (vpart_apply _ (row t (y 0)) (y 1)).symm

theorem final_4 (c : Dev nD) : (dats m 0 c).arrAt 7 cfg0.N = truncf .bf16 (VPART (PROJ (A0 m c) (A1 m c) (A2 m c))) Cert.Reference14Ideal.Gen.bitsLt_bf16_f32 := by
  refine (dats m 0 c).arrAt_eq_of_covers 7 _ (by decide +kernel) fun t hf y => ?_
  blk_simp
  rw [after0_7, emb7]
  refine (congrArg _ (ix2_eta y).symm).trans ?_
  exact (proj_at m c t 2 (y 0) (y 1) _ (by rfl)).trans (vpart_apply _ (row t (y 0)) (y 1)).symm

end Cert.Kernel14.SbSample

namespace Cert.Kernel14Ideal.SbSample

open Cert.Kernel14Ideal Cert.Kernel14Ideal.Gen

variable (m : (ℓ : Loc nD τ sig) → Buf (Elt Ideal) ℓ) (ρ : Dev nD → PrngReg)

-- (the two kernels' procedures are matched by unfolding them, which the smart unfolding of the matches stops)
set_option smartUnfolding false in
/-- The ideal kernel is the kernel at the ideal numbers, so it has its run, -/
theorem run_blocks : θ_run defs (onTc (τ := τ) (main (F := Ideal))) ⟨m, fun _ => 0, ρ⟩ fun r => ∀ c : Dev nD,
      r.2.mem ((c : Thread nD τ).loc main_v1_0) = (Cert.Kernel14.SbSample.dats (F := Ideal) m 0 c).arrAt 3 Cert.Kernel14.cfg0.N
      ∧ r.2.mem ((c : Thread nD τ).loc main_v1_1) = (Cert.Kernel14.SbSample.dats (F := Ideal) m 0 c).arrAt 4 Cert.Kernel14.cfg0.N
      ∧ r.2.mem ((c : Thread nD τ).loc main_v1_2) = (Cert.Kernel14.SbSample.dats (F := Ideal) m 0 c).arrAt 5 Cert.Kernel14.cfg0.N
      ∧ r.2.mem ((c : Thread nD τ).loc main_v1_3) = (Cert.Kernel14.SbSample.dats (F := Ideal) m 0 c).arrAt 6 Cert.Kernel14.cfg0.N
      ∧ r.2.mem ((c : Thread nD τ).loc main_v1_4) = (Cert.Kernel14.SbSample.dats (F := Ideal) m 0 c).arrAt 7 Cert.Kernel14.cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.Kernel14.SbSample.run_blocks (F := Ideal) m ρ

set_option smartUnfolding false in
/-- and its frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Cert.Kernel14.SbSample.frame (F := Ideal) m ρ

end Cert.Kernel14Ideal.SbSample

end
-- ==== Proof.DsaSampleBody.lean ====
/- The sparse attention projection, one grid point: what the body leaves in its outputs and in the scratch that keeps the
   normalised rows, at any contents of its windows. Three cases, one per column block: the first (queries) normalises the
   rows and keeps them, the other two (keys, values) project the kept rows. The queries and
   the keys are turned by the rotary tables, a head (128 columns) at a time. -/
module

public import proofs.«01_k».proof.Proof.Gen.Kernel15.Frame
public import proofs.«01_k».proof.Proof.Gen.Kernel15.Skeleton
public import Idealize.ShloMosaic.Lib.Pipeline.ReadBack
public import Idealize.ShloMosaic.Lib.Pipeline.ValueKit
public import Idealize.ShloMosaic.Lib.VecWindow
public import Idealize.ShloMosaic.Lib.WordCmp

@[expose] public section

set_option maxRecDepth 16384

noncomputable section

namespace Cert.Kernel15.DsaSample

open Cert.Kernel15 Cert.Kernel15.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The column block is the first: the rows are normalised, -/
abbrev first (i : grid0.Coords) : Prop := (Scalar.cmpi .ne (Scalar.extui (Scalar.cmpi .eq (BitVec.ofNat 32 (i 1).val) 0#32)) 0#32) = 1#1
/-- it is the queries', -/
abbrev isQ (i : grid0.Coords) : Prop := k0_cond2 i = 1#1
/-- the keys', -/
abbrev isK (i : grid0.Coords) : Prop := k0_cond3 i = 1#1
/-- the values'. -/
abbrev isV (i : grid0.Coords) : Prop := k0_cond4 i = 1#1
theorem first_iff : ∀ t : Fin cfg0.N, first (grid0.coords t) ↔ t.val % 3 = 0 :=
  (fun t => by
    have ht : t.val < 3 := Nat.lt_of_lt_of_eq t.isLt N_0
    have e0 : (grid0.coords t 0).val = t.val / 3 % 1 := Pipeline.Grid.coords_val t 0 (by decide) rfl
    have e1 : (grid0.coords t 1).val = t.val / 1 % 3 := Pipeline.Grid.coords_val t 1 (by decide) rfl
    simp only [first, e0, e1]
    word_cmp
   : ∀ t : Fin grid0.N, first (grid0.coords t) ↔ t.val % 3 = 0)
theorem isQ_iff : ∀ t : Fin cfg0.N, isQ (grid0.coords t) ↔ t.val % 3 = 0 :=
  (fun t => by
    have ht : t.val < 3 := Nat.lt_of_lt_of_eq t.isLt N_0
    have e0 : (grid0.coords t 0).val = t.val / 3 % 1 := Pipeline.Grid.coords_val t 0 (by decide) rfl
    have e1 : (grid0.coords t 1).val = t.val / 1 % 3 := Pipeline.Grid.coords_val t 1 (by decide) rfl
    simp only [isQ, k0_cond2, e0, e1]
    word_cmp
   : ∀ t : Fin grid0.N, isQ (grid0.coords t) ↔ t.val % 3 = 0)
theorem isK_iff : ∀ t : Fin cfg0.N, isK (grid0.coords t) ↔ t.val % 3 = 1 :=
  (fun t => by
    have ht : t.val < 3 := Nat.lt_of_lt_of_eq t.isLt N_0
    have e0 : (grid0.coords t 0).val = t.val / 3 % 1 := Pipeline.Grid.coords_val t 0 (by decide) rfl
    have e1 : (grid0.coords t 1).val = t.val / 1 % 3 := Pipeline.Grid.coords_val t 1 (by decide) rfl
    simp only [isK, k0_cond3, e0, e1]
    word_cmp
   : ∀ t : Fin grid0.N, isK (grid0.coords t) ↔ t.val % 3 = 1)
theorem isV_iff : ∀ t : Fin cfg0.N, isV (grid0.coords t) ↔ t.val % 3 = 2 :=
  (fun t => by
    have ht : t.val < 3 := Nat.lt_of_lt_of_eq t.isLt N_0
    have e0 : (grid0.coords t 0).val = t.val / 3 % 1 := Pipeline.Grid.coords_val t 0 (by decide) rfl
    have e1 : (grid0.coords t 1).val = t.val / 1 % 3 := Pipeline.Grid.coords_val t 1 (by decide) rfl
    simp only [isV, k0_cond4, e0, e1]
    word_cmp
   : ∀ t : Fin grid0.N, isV (grid0.coords t) ↔ t.val % 3 = 2)

/-! ## The turned heads, as they are stored -/

/-- The queries' block: the product's eight heads, each turned. -/
def qRot (h : Vec F S32x2048 .bf16) (w : Vec F S2048x1024 .bf16) (cs sn : Vec F S32x128 .f32) : Vec F S32x1024 .f32 :=
  View.canon [⟨Rect.unit (s := S32x1024) ![0, 896] S32x128.size inb_S32x1024_S32x128_0_896, k0_pay5 h w (k0_pay8 cs) (k0_pay9 sn)⟩,
    ⟨Rect.unit (s := S32x1024) ![0, 768] S32x128.size inb_S32x1024_S32x128_0_768, k0_pay4 h w (k0_pay8 cs) (k0_pay9 sn)⟩,
    ⟨Rect.unit (s := S32x1024) ![0, 640] S32x128.size inb_S32x1024_S32x128_0_640, k0_pay3 (k0_pay9 sn) (k0_pay15 (k0_pay2 h w)) (k0_pay16 (k0_pay2 h w) cs)⟩,
    ⟨Rect.unit (s := S32x1024) ![0, 512] S32x128.size inb_S32x1024_S32x128_0_512, k0_pay14 (k0_pay2 h w) cs sn⟩,
    ⟨Rect.unit (s := S32x1024) ![0, 384] S32x128.size inb_S32x1024_S32x128_0_384, k0_pay13 (k0_pay2 h w) cs sn⟩,
    ⟨Rect.unit (s := S32x1024) ![0, 256] S32x128.size inb_S32x1024_S32x128_0_256, k0_pay12 (k0_pay2 h w) cs sn⟩,
    ⟨Rect.unit (s := S32x1024) ![0, 128] S32x128.size inb_S32x1024_S32x128_0_128, k0_pay11 (k0_pay2 h w) cs sn⟩,
    ⟨Rect.unit (s := S32x1024) ![0, 0] S32x128.size inb_S32x1024_S32x128_0_0, k0_pay10 (k0_pay2 h w) cs sn⟩]

/-- The keys' block, unrounded -/
def kRot (h : Vec F S32x2048 .bf16) (w : Vec F S2048x1024 .bf16) (cs sn : Vec F S32x128 .f32) : Vec F S32x1024 .f32 :=
  View.canon [⟨Rect.unit (s := S32x1024) ![0, 896] S32x128.size inb_S32x1024_S32x128_0_896, k0_pay33 (k0_pay2 h w) (k0_pay17 cs) (k0_pay18 sn)⟩,
    ⟨Rect.unit (s := S32x1024) ![0, 768] S32x128.size inb_S32x1024_S32x128_0_768, k0_pay31 (k0_pay2 h w) (k0_pay17 cs) (k0_pay18 sn)⟩,
    ⟨Rect.unit (s := S32x1024) ![0, 640] S32x128.size inb_S32x1024_S32x128_0_640, k0_pay29 (k0_pay2 h w) (k0_pay17 cs) (k0_pay18 sn)⟩,
    ⟨Rect.unit (s := S32x1024) ![0, 512] S32x128.size inb_S32x1024_S32x128_0_512, k0_pay27 (k0_pay2 h w) (k0_pay17 cs) (k0_pay18 sn)⟩,
    ⟨Rect.unit (s := S32x1024) ![0, 384] S32x128.size inb_S32x1024_S32x128_0_384, k0_pay25 (k0_pay2 h w) cs sn⟩,
    ⟨Rect.unit (s := S32x1024) ![0, 256] S32x128.size inb_S32x1024_S32x128_0_256, k0_pay23 (k0_pay2 h w) cs sn⟩,
    ⟨Rect.unit (s := S32x1024) ![0, 128] S32x128.size inb_S32x1024_S32x128_0_128, k0_pay21 (k0_pay2 h w) cs sn⟩,
    ⟨Rect.unit (s := S32x1024) ![0, 0] S32x128.size inb_S32x1024_S32x128_0_0, k0_pay19 (k0_pay2 h w) cs sn⟩]

/-- and rounded. -/
def kRotB (h : Vec F S32x2048 .bf16) (w : Vec F S2048x1024 .bf16) (cs sn : Vec F S32x128 .f32) : Vec F S32x1024 .bf16 :=
  View.canon [⟨Rect.unit (s := S32x1024) ![0, 896] S32x128.size inb_S32x1024_S32x128_0_896, k0_pay6 (k0_pay33 (k0_pay2 h w) (k0_pay17 cs) (k0_pay18 sn))⟩,
    ⟨Rect.unit (s := S32x1024) ![0, 768] S32x128.size inb_S32x1024_S32x128_0_768, k0_pay32 (k0_pay2 h w) (k0_pay17 cs) (k0_pay18 sn)⟩,
    ⟨Rect.unit (s := S32x1024) ![0, 640] S32x128.size inb_S32x1024_S32x128_0_640, k0_pay30 (k0_pay2 h w) (k0_pay17 cs) (k0_pay18 sn)⟩,
    ⟨Rect.unit (s := S32x1024) ![0, 512] S32x128.size inb_S32x1024_S32x128_0_512, k0_pay28 (k0_pay2 h w) (k0_pay17 cs) (k0_pay18 sn)⟩,
    ⟨Rect.unit (s := S32x1024) ![0, 384] S32x128.size inb_S32x1024_S32x128_0_384, k0_pay26 (k0_pay25 (k0_pay2 h w) cs sn)⟩,
    ⟨Rect.unit (s := S32x1024) ![0, 256] S32x128.size inb_S32x1024_S32x128_0_256, k0_pay24 (k0_pay2 h w) cs sn⟩,
    ⟨Rect.unit (s := S32x1024) ![0, 128] S32x128.size inb_S32x1024_S32x128_0_128, k0_pay22 (k0_pay2 h w) cs sn⟩,
    ⟨Rect.unit (s := S32x1024) ![0, 0] S32x128.size inb_S32x1024_S32x128_0_0, k0_pay20 (k0_pay2 h w) cs sn⟩]

-- (the run's proof term is large: checking it walks past the default budget)
set_option maxHeartbeats 2000000 in
/-- The body at the queries: whatever the scratch holds, it takes the normalised rows. -/
theorem body_A (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S32x128 .f32) (harg5 : arg5.IsWhole) (arg6 : Memref sig .tc .vmem S32x128 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .bf16) (harg9 : arg9.IsWhole) (arg10 : Memref sig .tc .vmem S32x1024 .f32) (harg10 : arg10.IsWhole) (arg11 : Memref sig .tc .vmem S32x1024 .bf16) (harg11 : arg11.IsWhole) (arg12 : Memref sig .tc .vmem S32x2048 .bf16) (harg12 : arg12.IsWhole) (hc0 : first i) (hc1 : isQ i) (hc2 : ¬isK i) (hc3 : ¬isV i)
    (x0 : Vec F S32x2048 .f32) (x1 : Vec F S1x2048 .f32) (x2 : Vec F S2048x1024 .bf16) (x3 : Vec F S32x128 .f32) (x4 : Vec F S32x128 .f32) (y6 : Vec F S32x1024 .f32) (y7 : Vec F S32x1024 .bf16) (y8 : Vec F S32x1024 .f32) (y9 : Vec F S32x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y6 ∗ owns (c : Thread nD τ) arg9 fullShare y7 ∗ owns (c : Thread nD τ) arg10 fullShare y8 ∗ owns (c : Thread nD τ) arg11 fullShare y9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (qRot (k0_pay1 x0 x1) x2 x3 x4) ∗ owns (c : Thread nD τ) arg8 fullShare y6 ∗ owns (c : Thread nD τ) arg9 fullShare y7 ∗ owns (c : Thread nD τ) arg10 fullShare y8 ∗ owns (c : Thread nD τ) arg11 fullShare y9 ∗ owns (c : Thread nD τ) arg12 fullShare (k0_pay1 x0 x1)) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10 arg11 harg11 arg12 harg12) K := by
  simp only [cc0_norm_proj_plain_eq_skeleton]; unfold cc0_norm_proj_plain_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    refine (View.read_writes_eq_canon (Val := Elt F) arg7.view _ _ ?_).trans ?_; · exact View.cover_of_tiledL _ S32x128.size (by sl_kernel_rfl)
    frame_out
    try rfl
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  iexists _; isplitr; swap; · iexact HS
  ipureintro
  refine (View.read_writes_full arg12.view _ inb_S32x2048_S32x2048_0_0 _ []).trans ?_
  frame_out
  try rfl

-- (the run's proof term is large: checking it walks past the default budget)
set_option maxHeartbeats 2000000 in
/-- The body at the keys. -/
theorem body_B (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S32x128 .f32) (harg5 : arg5.IsWhole) (arg6 : Memref sig .tc .vmem S32x128 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .bf16) (harg9 : arg9.IsWhole) (arg10 : Memref sig .tc .vmem S32x1024 .f32) (harg10 : arg10.IsWhole) (arg11 : Memref sig .tc .vmem S32x1024 .bf16) (harg11 : arg11.IsWhole) (arg12 : Memref sig .tc .vmem S32x2048 .bf16) (harg12 : arg12.IsWhole) (hc0 : ¬first i) (hc1 : ¬isQ i) (hc2 : isK i) (hc3 : ¬isV i)
    (x0 : Vec F S32x2048 .f32) (x1 : Vec F S1x2048 .f32) (x2 : Vec F S2048x1024 .bf16) (x3 : Vec F S32x128 .f32) (x4 : Vec F S32x128 .f32) (s : Vec F S32x2048 .bf16) (y5 : Vec F S32x1024 .f32) (y8 : Vec F S32x1024 .f32) (y9 : Vec F S32x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ (∃ d, owns (c : Thread nD τ) arg8 fullShare d) ∗ (∃ d, owns (c : Thread nD τ) arg9 fullShare d) ∗ owns (c : Thread nD τ) arg10 fullShare y8 ∗ owns (c : Thread nD τ) arg11 fullShare y9 ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare (kRot s x2 x3 x4) ∗ owns (c : Thread nD τ) arg9 fullShare (kRotB s x2 x3 x4) ∗ owns (c : Thread nD τ) arg10 fullShare y8 ∗ owns (c : Thread nD τ) arg11 fullShare y9 ∗ owns (c : Thread nD τ) arg12 fullShare s) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10 arg11 harg11 arg12 harg12) K := by
  simp only [cc0_norm_proj_plain_eq_skeleton]; unfold cc0_norm_proj_plain_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4
  obtain rfl := harg12.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact hf5
  isplitl [H6]
  · iexists _; isplitr; swap; · iexact H6
    ipureintro
    refine (View.read_writes_eq_canon (Val := Elt F) arg8.view _ _ ?_).trans ?_; · exact View.cover_of_tiledL _ S32x128.size (by sl_kernel_rfl)
    frame_out
    try rfl
  isplitl [H7]
  · iexists _; isplitr; swap; · iexact H7
    ipureintro
    refine (View.read_writes_eq_canon (Val := Elt F) arg9.view _ _ ?_).trans ?_; · exact View.cover_of_tiledL _ S32x128.size (by sl_kernel_rfl)
    frame_out
    try rfl
  isplitl [H8]
  · iexists _; isplitr; swap; · iexact H8
    ipureintro; exact hf8
  isplitl [H9]
  · iexists _; isplitr; swap; · iexact H9
    ipureintro; exact hf9
  iexists _; isplitr; · ipureintro; exact harg12.read_unread _
  iexact HS

-- (the run's proof term is large: checking it walks past the default budget)
set_option maxHeartbeats 2000000 in
/-- The body at the values. -/
theorem body_C (c : Dev nD) (i : grid0.Coords) (arg2 : Memref sig .tc .vmem S32x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S32x128 .f32) (harg5 : arg5.IsWhole) (arg6 : Memref sig .tc .vmem S32x128 .f32) (harg6 : arg6.IsWhole) (arg7 : Memref sig .tc .vmem S32x1024 .f32) (harg7 : arg7.IsWhole) (arg8 : Memref sig .tc .vmem S32x1024 .f32) (harg8 : arg8.IsWhole) (arg9 : Memref sig .tc .vmem S32x1024 .bf16) (harg9 : arg9.IsWhole) (arg10 : Memref sig .tc .vmem S32x1024 .f32) (harg10 : arg10.IsWhole) (arg11 : Memref sig .tc .vmem S32x1024 .bf16) (harg11 : arg11.IsWhole) (arg12 : Memref sig .tc .vmem S32x2048 .bf16) (harg12 : arg12.IsWhole) (hc0 : ¬first i) (hc1 : ¬isQ i) (hc2 : ¬isK i) (hc3 : isV i)
    (x0 : Vec F S32x2048 .f32) (x1 : Vec F S1x2048 .f32) (x2 : Vec F S2048x1024 .bf16) (x3 : Vec F S32x128 .f32) (x4 : Vec F S32x128 .f32) (s : Vec F S32x2048 .bf16) (y5 : Vec F S32x1024 .f32) (y6 : Vec F S32x1024 .f32) (y7 : Vec F S32x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ (∃ d, owns (c : Thread nD τ) arg10 fullShare d) ∗ (∃ d, owns (c : Thread nD τ) arg11 fullShare d) ∗ owns (c : Thread nD τ) arg12 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare y5 ∗ owns (c : Thread nD τ) arg8 fullShare y6 ∗ owns (c : Thread nD τ) arg9 fullShare y7 ∗ owns (c : Thread nD τ) arg10 fullShare (k0_pay2 s x2) ∗ owns (c : Thread nD τ) arg11 fullShare (k0_pay7 s x2) ∗ owns (c : Thread nD τ) arg12 fullShare s) -∗ K ⟨⟩))
      ⊢ wp frame (wpE (defs₀ (F := F)) Variants.none c none) E (cc0_norm_proj_plain i arg2 harg2 arg3 harg3 arg4 harg4 arg5 harg5 arg6 harg6 arg7 harg7 arg8 harg8 arg9 harg9 arg10 harg10 arg11 harg11 arg12 harg12) K := by
  simp only [cc0_norm_proj_plain_eq_skeleton]; unfold cc0_norm_proj_plain_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4
  obtain rfl := harg12.eq_unread hfs
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro
    refine (View.read_writes_full arg10.view _ inb_S32x1024_S32x1024_0_0 _ []).trans ?_
    frame_out
    try rfl
  isplitl [H9]
  · iexists _; isplitr; swap; · iexact H9
    ipureintro
    refine (View.read_writes_full arg11.view _ inb_S32x1024_S32x1024_0_0 _ []).trans ?_
    frame_out
    try rfl
  iexists _; isplitr; · ipureintro; exact harg12.read_unread _
  iexact HS

end Cert.Kernel15.DsaSample

end
-- ==== Proof.DsaSampleFrame.lean ====
/- The sparse attention projection over its grid: the proof data (what every window and the scratch hold at each point), the body at
   each point, the run that names the five arrays the kernel leaves, and the frame. A row block is visited three times, and
   each output is stored at one of the three and written back at the third: in between its buffer keeps what was stored. -/
module

public import proofs.«01_k».proof.Proof.DsaSampleBody
public import Idealize.ShloMosaic.Lib.Claim
public import Idealize.ShloMosaic.Lib.Pipeline.TableIdle

@[expose] public section

set_option maxRecDepth 16384

noncomputable section

namespace Cert.Kernel15.DsaSample

open Cert.Kernel15 Cert.Kernel15.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows are idle, and their memrefs -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, t.val % 3 = 0 → cfg0.idle 5 (grid0.coords t) = false := by decide +kernel
theorem idleAt0_5 : ∀ t : Fin cfg0.N, ¬t.val % 3 = 0 → cfg0.idle 5 (grid0.coords t) = true := by decide +kernel
theorem quiet0_5 : ∀ t : Fin cfg0.N, ¬t.val % 3 = 2 → (cfg0.win 5).flush t = false := by decide +kernel
theorem liveAt0_6 : ∀ t : Fin cfg0.N, t.val % 3 = 1 → cfg0.idle 6 (grid0.coords t) = false := by decide +kernel
theorem idleAt0_6 : ∀ t : Fin cfg0.N, ¬t.val % 3 = 1 → cfg0.idle 6 (grid0.coords t) = true := by decide +kernel
theorem quiet0_6 : ∀ t : Fin cfg0.N, ¬t.val % 3 = 2 → (cfg0.win 6).flush t = false := by decide +kernel
theorem liveAt0_7 : ∀ t : Fin cfg0.N, t.val % 3 = 1 → cfg0.idle 7 (grid0.coords t) = false := by decide +kernel
theorem idleAt0_7 : ∀ t : Fin cfg0.N, ¬t.val % 3 = 1 → cfg0.idle 7 (grid0.coords t) = true := by decide +kernel
theorem quiet0_7 : ∀ t : Fin cfg0.N, ¬t.val % 3 = 2 → (cfg0.win 7).flush t = false := by decide +kernel
theorem liveAt0_8 : ∀ t : Fin cfg0.N, t.val % 3 = 2 → cfg0.idle 8 (grid0.coords t) = false := by decide +kernel
theorem idleAt0_8 : ∀ t : Fin cfg0.N, ¬t.val % 3 = 2 → cfg0.idle 8 (grid0.coords t) = true := by decide +kernel
theorem quiet0_8 : ∀ t : Fin cfg0.N, ¬t.val % 3 = 2 → (cfg0.win 8).flush t = false := by decide +kernel
theorem liveAt0_9 : ∀ t : Fin cfg0.N, t.val % 3 = 2 → cfg0.idle 9 (grid0.coords t) = false := by decide +kernel
theorem idleAt0_9 : ∀ t : Fin cfg0.N, ¬t.val % 3 = 2 → cfg0.idle 9 (grid0.coords t) = true := by decide +kernel
theorem quiet0_9 : ∀ t : Fin cfg0.N, ¬t.val % 3 = 2 → (cfg0.win 9).flush t = false := by decide +kernel
theorem fresh0_5 (n : ℕ) (h : n ≤ cfg0.N) : cfg0.fresh 5 n = decide (n % 3 = 0) :=
  Cfg.fresh_tab cfg0 5 (fun n => decide (n % 3 = 0)) rfl (by decide +kernel) n h
theorem fresh0_6 (n : ℕ) (h : n ≤ cfg0.N) : cfg0.fresh 6 n = decide (¬n % 3 = 2) :=
  Cfg.fresh_tab cfg0 6 (fun n => decide (¬n % 3 = 2)) rfl (by decide +kernel) n h
theorem fresh0_7 (n : ℕ) (h : n ≤ cfg0.N) : cfg0.fresh 7 n = decide (¬n % 3 = 2) :=
  Cfg.fresh_tab cfg0 7 (fun n => decide (¬n % 3 = 2)) rfl (by decide +kernel) n h

abbrev ms0_0 (t : Fin cfg0.N) : Memref sig .tc .vmem S32x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x1024 .bf16 := win0_2.stage (cfg0.slots t 2)
abbrev ms0_3 (t : Fin cfg0.N) : Memref sig .tc .vmem S32x128 .f32 := win0_3.stage (cfg0.slots t 3)
abbrev ms0_4 (t : Fin cfg0.N) : Memref sig .tc .vmem S32x128 .f32 := win0_4.stage (cfg0.slots t 4)
abbrev ms0_5 (t : Fin cfg0.N) : Memref sig .tc .vmem S32x1024 .f32 := win0_5.stage (cfg0.slots t 5)
abbrev ms0_6 (t : Fin cfg0.N) : Memref sig .tc .vmem S32x1024 .f32 := win0_6.stage (cfg0.slots t 6)
abbrev ms0_7 (t : Fin cfg0.N) : Memref sig .tc .vmem S32x1024 .bf16 := win0_7.stage (cfg0.slots t 7)
abbrev ms0_8 (t : Fin cfg0.N) : Memref sig .tc .vmem S32x1024 .f32 := win0_8.stage (cfg0.slots t 8)
abbrev ms0_9 (t : Fin cfg0.N) : Memref sig .tc .vmem S32x1024 .bf16 := win0_9.stage (cfg0.slots t 9)
abbrev scM0_0 : Memref sig .tc .vmem S32x2048 .bf16 := Memref.whole cc0_scratch0

/-- What the launch hands the region: the scratch at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## A row block's three points -/

theorem lt3 (t : Fin cfg0.N) : t.val < 3 := lt_of_lt_of_eq t.isLt (show cfg0.N = 3 from N_0)

/-- The point of `t`'s row block at column block `j`. -/
def pt (t : Fin cfg0.N) (j : Fin 3) : Fin cfg0.N :=
  ⟨t.val / 3 * 3 + j.val, lt_of_lt_of_eq (show t.val / 3 * 3 + j.val < 3 by have := lt3 t; have := j.isLt; omega) (show cfg0.N = 3 from N_0).symm⟩

theorem pt_self (t : Fin cfg0.N) (j : Fin 3) (h : t.val % 3 = j.val) : pt t j = t :=
  Fin.ext (by show t.val / 3 * 3 + j.val = t.val; omega)

theorem pt_pred (t : Fin cfg0.N) (j : Fin 3) (h : ¬t.val % 3 = 0) (h' : t.val - 1 < cfg0.N) : pt ⟨t.val - 1, h'⟩ j = pt t j :=
  Fin.ext (by show (t.val - 1) / 3 * 3 + j.val = t.val / 3 * 3 + j.val; omega)

/-- The normalised rows of `t`'s row block. -/
def nrm (c : Dev nD) (t : Fin cfg0.N) : Vec F S32x2048 .bf16 := k0_pay1 (iblk m c 0 (pt t 0)) (iblk m c 1 (pt t 0))

theorem nrm_self (c : Dev nD) (t : Fin cfg0.N) (h : t.val % 3 = 0) : nrm m c t = k0_pay1 (iblk m c 0 t) (iblk m c 1 t) := by
  unfold nrm; rw [pt_self t 0 h]

theorem nrm_pred (c : Dev nD) (t : Fin cfg0.N) (h : ¬t.val % 3 = 0) (h' : t.val - 1 < cfg0.N) : nrm m c ⟨t.val - 1, h'⟩ = nrm m c t := by
  unfold nrm; rw [pt_pred t 0 h]

/-! ## The pipeline's proof data -/

/-- What the scratch holds before point `n`: anything before the first, then the normalised rows of the point before. -/
def PhiS (c : Dev nD) : (n : ℕ) → n ≤ cfg0.N → sProp 𝕄
  | 0, _ => Pipeline.ΦA spec0 c
  | n + 1, h => iprop(iprop(owns (c : Thread nD τ) scM0_0 fullShare (nrm m c ⟨n, h⟩)) ∗ (∃ r, prngReg c r))

theorem PhiS_pos (c : Dev nD) (n : ℕ) (h : n ≤ cfg0.N) (h0 : n ≠ 0) :
    PhiS m c n h = iprop(iprop(owns (c : Thread nD τ) scM0_0 fullShare (nrm m c ⟨n - 1, Nat.lt_of_lt_of_le (Nat.sub_lt (Nat.pos_of_ne_zero h0) Nat.one_pos) h⟩)) ∗ (∃ r, prngReg c r)) := by
  obtain ⟨k, rfl⟩ : ∃ k, n = k + 1 := ⟨n - 1, (Nat.succ_pred_eq_of_ne_zero h0).symm⟩
  rfl

theorem PhiS_succ (c : Dev nD) (t : Fin cfg0.N) :
    PhiS m c (t.val + 1) t.isLt = iprop(iprop(owns (c : Thread nD τ) scM0_0 fullShare (nrm m c t)) ∗ (∃ r, prngReg c r)) := rfl

/-- After any point the invariant gives the scratch at some contents. -/
theorem PhiS_out (c : Dev nD) (n : ℕ) (h : n ≤ cfg0.N) : PhiS m c n h ⊢ Pipeline.ΦA spec0 c := by
  match n, h with
  | 0, _ => exact .rfl
  | n + 1, h =>
    rw [PhiA0_eq]; unfold PhiS
    iintro ⟨HS0, Hg⟩
    isplitl [HS0]
    · iexists _; iexact HS0
    iexact Hg

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qRot (nrm m c t) (iblk m c 2 (pt t 0)) (iblk m c 3 (pt t 0)) (iblk m c 4 (pt t 0))
    | ⟨6, _⟩ => kRot (nrm m c t) (iblk m c 2 (pt t 1)) (iblk m c 3 (pt t 1)) (iblk m c 4 (pt t 1))
    | ⟨7, _⟩ => kRotB (nrm m c t) (iblk m c 2 (pt t 1)) (iblk m c 3 (pt t 1)) (iblk m c 4 (pt t 1))
    | ⟨8, _⟩ => k0_pay2 (nrm m c t) (iblk m c 2 (pt t 2))
    | ⟨9, _⟩ => k0_pay7 (nrm m c t) (iblk m c 2 (pt t 2))
  Φ t := PhiS m c t.val (Nat.lt_succ_iff.mp t.isLt)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = qRot (nrm m c t) (iblk m c 2 (pt t 0)) (iblk m c 3 (pt t 0)) (iblk m c 4 (pt t 0)) := by dsimp only [dats]
theorem after0_6 (c : Dev nD) (t : Fin cfg0.N) : (dats m 0 c).after 6 t = kRot (nrm m c t) (iblk m c 2 (pt t 1)) (iblk m c 3 (pt t 1)) (iblk m c 4 (pt t 1)) := by dsimp only [dats]
theorem after0_7 (c : Dev nD) (t : Fin cfg0.N) : (dats m 0 c).after 7 t = kRotB (nrm m c t) (iblk m c 2 (pt t 1)) (iblk m c 3 (pt t 1)) (iblk m c 4 (pt t 1)) := by dsimp only [dats]
theorem after0_8 (c : Dev nD) (t : Fin cfg0.N) : (dats m 0 c).after 8 t = k0_pay2 (nrm m c t) (iblk m c 2 (pt t 2)) := by dsimp only [dats]
theorem after0_9 (c : Dev nD) (t : Fin cfg0.N) : (dats m 0 c).after 9 t = k0_pay7 (nrm m c t) (iblk m c 2 (pt t 2)) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## What an output's buffer keeps to the third point -/

theorem carry0_5 (c : Dev nD) (t : Fin cfg0.N) (h : ¬t.val % 3 = 0) (h' : t.val - 1 < cfg0.N) :
    (dats m 0 c).after 5 t = (dats m 0 c).after 5 ⟨t.val - 1, h'⟩ := by
  rw [after0_5, after0_5, nrm_pred m c t h, pt_pred t 0 h]

theorem found0_5 (c : Dev nD) (t : Fin cfg0.N) (h : t.val % 3 = 2) (d) : (dats m 0 c).before 5 t d = (dats m 0 c).after 5 t := by
  rw [(dats m 0 c).before_out_traj 5 rfl (fun _ _ => rfl) (fun t _ _ hf => carry0_5 m c t (fun h => by
      rw [fresh0_5 t.val (Nat.le_of_lt t.isLt)] at hf; simp [h] at hf) _) t.val t rfl d,
    fresh0_5 t.val (Nat.le_of_lt t.isLt), if_neg (by simp [h])]
  exact (carry0_5 m c t (by omega) _).symm

theorem carry0_6 (c : Dev nD) (t : Fin cfg0.N) (h : ¬t.val % 3 = 0) (h' : t.val - 1 < cfg0.N) :
    (dats m 0 c).after 6 t = (dats m 0 c).after 6 ⟨t.val - 1, h'⟩ := by
  rw [after0_6, after0_6, nrm_pred m c t h, pt_pred t 1 h]

theorem found0_6 (c : Dev nD) (t : Fin cfg0.N) (h : t.val % 3 = 2) (d) : (dats m 0 c).before 6 t d = (dats m 0 c).after 6 t := by
  rw [(dats m 0 c).before_out_traj 6 rfl (fun _ _ => rfl) (fun t _ _ hf => carry0_6 m c t (fun h => by
      rw [fresh0_6 t.val (Nat.le_of_lt t.isLt)] at hf; simp [h] at hf) _) t.val t rfl d,
    fresh0_6 t.val (Nat.le_of_lt t.isLt), if_neg (by simp [h])]
  exact (carry0_6 m c t (by omega) _).symm

theorem carry0_7 (c : Dev nD) (t : Fin cfg0.N) (h : ¬t.val % 3 = 0) (h' : t.val - 1 < cfg0.N) :
    (dats m 0 c).after 7 t = (dats m 0 c).after 7 ⟨t.val - 1, h'⟩ := by
  rw [after0_7, after0_7, nrm_pred m c t h, pt_pred t 1 h]

theorem found0_7 (c : Dev nD) (t : Fin cfg0.N) (h : t.val % 3 = 2) (d) : (dats m 0 c).before 7 t d = (dats m 0 c).after 7 t := by
  rw [(dats m 0 c).before_out_traj 7 rfl (fun _ _ => rfl) (fun t _ _ hf => carry0_7 m c t (fun h => by
      rw [fresh0_7 t.val (Nat.le_of_lt t.isLt)] at hf; simp [h] at hf) _) t.val t rfl d,
    fresh0_7 t.val (Nat.le_of_lt t.isLt), if_neg (by simp [h])]
  exact (carry0_7 m c t (by omega) _).symm

/-! ## The body at each point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 3600000 in
/-- The body at any point, by its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl,
    show (dats m 0 c).Φ t.castSucc = PhiS m c t.val (Nat.le_of_lt t.isLt) from rfl]
  rw [PhiS_succ m c t]
  have hN := lt3 t
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rcases (by omega : t.val % 3 = 0 ∨ t.val % 3 = 1 ∨ t.val % 3 = 2) with h | h | h
  · rw [show (dats m 0 c).leavesExact 5 t = owns (c : Thread nD τ) (ms0_5 t) fullShare ((dats m 0 c).after 5 t) from by
      unfold Dat.leavesExact; rw [liveAt0_5 t h], after0_5, pt_self t 0 h]
    rw [(dats m 0 c).leavesExact_idle 6 t (idleAt0_6 t (by omega)) (quiet0_6 t (by omega))]
    rw [(dats m 0 c).leavesExact_idle 7 t (idleAt0_7 t (by omega)) (quiet0_7 t (by omega))]
    rw [(dats m 0 c).leavesExact_idle 8 t (idleAt0_8 t (by omega)) (quiet0_8 t (by omega))]
    rw [(dats m 0 c).leavesExact_idle 9 t (idleAt0_9 t (by omega)) (quiet0_9 t (by omega))]
    rw [nrm_self m c t h]
    have hΦ := PhiS_out m c t.val (Nat.le_of_lt t.isLt)
    rw [PhiA0_eq] at hΦ
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HP := hΦ $$ HΦ
    icases HP with ⟨HS0, Hg⟩
    iapply (body_A c (grid0.coords t) _ _ _ _ _ _ _ _ _ _ _ _ _ _ _ _ _ _ _ _ _ _ ((first_iff t).mpr h) ((isQ_iff t).mpr h) (fun e => absurd ((isK_iff t).mp e) (by omega)) (fun e => absurd ((isV_iff t).mp e) (by omega)) (iblk m c 0 t) (iblk m c 1 t) (iblk m c 2 t) (iblk m c 3 t) (iblk m c 4 t) _ _ _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iexists _; iexact H9
  · rw [(dats m 0 c).leavesExact_idle 5 t (idleAt0_5 t (by omega)) (quiet0_5 t (by omega))]
    rw [show (dats m 0 c).leavesExact 6 t = owns (c : Thread nD τ) (ms0_6 t) fullShare ((dats m 0 c).after 6 t) from by
      unfold Dat.leavesExact; rw [liveAt0_6 t h], after0_6, pt_self t 1 h]
    rw [show (dats m 0 c).leavesExact 7 t = owns (c : Thread nD τ) (ms0_7 t) fullShare ((dats m 0 c).after 7 t) from by
      unfold Dat.leavesExact; rw [liveAt0_7 t h], after0_7, pt_self t 1 h]
    rw [(dats m 0 c).leavesExact_idle 8 t (idleAt0_8 t (by omega)) (quiet0_8 t (by omega))]
    rw [(dats m 0 c).leavesExact_idle 9 t (idleAt0_9 t (by omega)) (quiet0_9 t (by omega))]
    rw [PhiS_pos m c t.val _ (by omega), nrm_pred m c t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_B c (grid0.coords t) _ _ _ _ _ _ _ _ _ _ _ _ _ _ _ _ _ _ _ _ _ _ (fun e => absurd ((first_iff t).mp e) (by omega)) (fun e => absurd ((isQ_iff t).mp e) (by omega)) ((isK_iff t).mpr h) (fun e => absurd ((isV_iff t).mp e) (by omega)) (iblk m c 0 t) (iblk m c 1 t) (iblk m c 2 t) (iblk m c 3 t) (iblk m c 4 t) (nrm m c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexists _; iexact H8
    iexists _; iexact H9
  · rw [show (dats m 0 c).leavesExact 5 t = owns (c : Thread nD τ) (ms0_5 t) fullShare ((dats m 0 c).after 5 t) from by
      unfold Dat.leavesExact; rw [idleAt0_5 t (by omega), (flush0_5 t).mpr h]]
    rw [show (dats m 0 c).leavesExact 6 t = owns (c : Thread nD τ) (ms0_6 t) fullShare ((dats m 0 c).after 6 t) from by
      unfold Dat.leavesExact; rw [idleAt0_6 t (by omega), (flush0_6 t).mpr h]]
    rw [show (dats m 0 c).leavesExact 7 t = owns (c : Thread nD τ) (ms0_7 t) fullShare ((dats m 0 c).after 7 t) from by
      unfold Dat.leavesExact; rw [idleAt0_7 t (by omega), (flush0_7 t).mpr h]]
    rw [show (dats m 0 c).leavesExact 8 t = owns (c : Thread nD τ) (ms0_8 t) fullShare ((dats m 0 c).after 8 t) from by
      unfold Dat.leavesExact; rw [liveAt0_8 t h], after0_8, pt_self t 2 h]
    rw [show (dats m 0 c).leavesExact 9 t = owns (c : Thread nD τ) (ms0_9 t) fullShare ((dats m 0 c).after 9 t) from by
      unfold Dat.leavesExact; rw [liveAt0_9 t h], after0_9, pt_self t 2 h]
    simp only [found0_5 m c t h, found0_6 m c t h, found0_7 m c t h]
    rw [PhiS_pos m c t.val _ (by omega), nrm_pred m c t (by omega)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_C c (grid0.coords t) _ _ _ _ _ _ _ _ _ _ _ _ _ _ _ _ _ _ _ _ _ _ (fun e => absurd ((first_iff t).mp e) (by omega)) (fun e => absurd ((isQ_iff t).mp e) (by omega)) (fun e => absurd ((isK_iff t).mp e) (by omega)) ((isV_iff t).mpr h) (iblk m c 0 t) (iblk m c 1 t) (iblk m c 2 t) (iblk m c 3 t) (iblk m c 4 t) (nrm m c t) _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    iintro ⟨H0, H1, H2, H3, H4, H5, H6, H7, H8, H9, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hin (c : Dev nD) : Pipeline.ΦA spec0 c ⊢ (dats m 0 c).Φ 0 := .rfl
theorem hout (c : Dev nD) : (dats m 0 c).Φ (Fin.last cfg0.N) ⊢ Pipeline.ΦA spec0 c := by
  have h := PhiS_out m c (Fin.last cfg0.N).val (Nat.le_refl _)
  exact h

set_option backward.isDefEq.respectTransparency.types false in
/-- The launch: every array ends as the proof data says, and every semaphore counter is zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The run that names the five output arrays. -/
theorem run_blocks : θ_run defs (onTc (τ := τ) (main (F := F))) ⟨m, fun _ => 0, ρ⟩ fun r => ∀ c : Dev nD,
      r.2.mem ((c : Thread nD τ).loc main_v4_0) = (dats m 0 c).arrAt 5 cfg0.N
      ∧ r.2.mem ((c : Thread nD τ).loc main_v4_1) = (dats m 0 c).arrAt 6 cfg0.N
      ∧ r.2.mem ((c : Thread nD τ).loc main_v4_2) = (dats m 0 c).arrAt 7 cfg0.N
      ∧ r.2.mem ((c : Thread nD τ).loc main_v4_3) = (dats m 0 c).arrAt 8 cfg0.N
      ∧ r.2.mem ((c : Thread nD τ).loc main_v4_4) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 5, (h.1 c).1 6, (h.1 c).1 7, (h.1 c).1 8, (h.1 c).1 9, h.2 c⟩) (θ_run_and (run_main m ρ) (unchanged m ρ))

end Cert.Kernel15.DsaSample

end
-- ==== Proof.DsaSampleValue.lean ====
/- The value of the sparse attention's projection: the queries' and the keys' columns of the reference's product turned by
   the rotary tables, and the values' columns. The rows are normalised once for the three. -/
module

public import proofs.«01_k».proof.Proof.DsaSampleFrame
public import proofs.«01_k».proof.Proof.Gen.Kernel15Ideal
public import proofs.«01_k».proof.Proof.Gen.Kernel15.Points
public import proofs.«01_k».proof.Proof.Gen.Reference15Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference15Ideal.DsaSample

open Cert.Reference15Ideal Cert.Reference15Ideal.Gen

/-- RMS normalisation of the rows of a matrix, with its gain. -/
def NORM (Y : FVec Ideal S32x2048 .f32) (G : FVec Ideal S1x2048 .f32) : FVec Ideal S32x2048 .f32 :=
  mulf (mulf Y (broadcastInDim S32x2048 ![0, 1] bcast_S32x1_S32x2048_0_1 (Host.rsqrt (addf (Host.divf
    (broadcastInDim S32x1 ![0] bcast_S32_S32x1_0 (Host.reduceAdd (mulf Y Y) (constant S_ .f32 0x00000000#32)
      reducesTo_S32x2048_S32_d1 h_S_)) (broadcastInDim S32x1 ![] bcast_S_S32x1 (constant S_ .f32 0x45000000#32)))
    (broadcastInDim S32x1 ![] bcast_S_S32x1 (constant S_ .f32 0x358637BD#32))))))
    (broadcastInDim S32x2048 ![0, 1] bcast_S1x2048_S32x2048_0_1 (broadcastInDim S1x2048 ![1] bcast_S2048_S1x2048_1
      (shapeCast _ G shapeCasts_S1x2048_S2048)))

/-- The normalised rows times the columns of the queries, the keys and the values, -/
def PROJ (X : FVec Ideal S32x2048 .f32) (G : FVec Ideal S1x2048 .f32) (W : FVec Ideal S2048x3072 .f32) :
    FVec Ideal S32x3072 .f32 :=
  Host.dotGeneral dot_S32x2048_S2048x3072_S32x3072_1_0_0_1_n_n none (NORM X G) W

/-- and its three parts. -/
def QPART (Y : FVec Ideal S32x3072 .f32) : FVec Ideal S32x1024 .f32 := extractStridedSlice S32x1024 ![0, 0] Y slices_S32x3072_S32x1024_0_0
def KPART (Y : FVec Ideal S32x3072 .f32) : FVec Ideal S32x1024 .f32 := extractStridedSlice S32x1024 ![0, 1024] Y slices_S32x3072_S32x1024_0_1024
def VPART (Y : FVec Ideal S32x3072 .f32) : FVec Ideal S32x1024 .f32 := extractStridedSlice S32x1024 ![0, 2048] Y slices_S32x3072_S32x1024_0_2048

theorem proj_apply (X G W) (i : Fin 32) (j : Fin 3072) : PROJ X G W (ix2 i j) = ∑ k : Fin 2048, NORM X G (ix2 i k) * W (ix2 k j) := by
  unfold PROJ
  generalize NORM X G = Y
  pointwise []

theorem qpart_apply (Y) (i : Fin 32) (j : Fin 1024) : QPART Y (ix2 i j) = Y (ix2 i ⟨j.val, Nat.lt_trans j.isLt (by decide)⟩) := by
  pointwise [QPART]
theorem kpart_apply (Y) (i : Fin 32) (j : Fin 1024) : KPART Y (ix2 i j) = Y (ix2 i ⟨1024 + j.val, Nat.lt_trans (Nat.add_lt_add_left j.isLt 1024) (by decide)⟩) := by
  pointwise [KPART]
theorem vpart_apply (Y) (i : Fin 32) (j : Fin 1024) : VPART Y (ix2 i j) = Y (ix2 i ⟨2048 + j.val, Nat.add_lt_add_left j.isLt 2048⟩) := by
  pointwise [VPART]

/-- The rotary embedding, a head (128 columns) at a time: the two halves of a head turned by the angle of the row. -/
def ROPE (Z : FVec Ideal S32x1024 .f32) (C S : FVec Ideal S32x64 .f32) : FVec Ideal S32x1024 .f32 :=
  shapeCast _ (concatenate S32x8x128 2 [⟨S32x8x64, (subf
      (mulf (extractStridedSlice S32x8x64 ![0, 0, 0] (shapeCast _ Z shapeCasts_S32x1024_S32x8x128) slices_S32x8x128_S32x8x64_0_0_0)
        (broadcastInDim S32x8x64 ![0, 1, 2] bcast_S32x1x64_S32x8x64_0_1_2 (broadcastInDim S32x1x64 ![0, 2] bcast_S32x64_S32x1x64_0_2 C)))
      (mulf (extractStridedSlice S32x8x64 ![0, 0, 64] (shapeCast _ Z shapeCasts_S32x1024_S32x8x128) slices_S32x8x128_S32x8x64_0_0_64)
        (broadcastInDim S32x8x64 ![0, 1, 2] bcast_S32x1x64_S32x8x64_0_1_2 (broadcastInDim S32x1x64 ![0, 2] bcast_S32x64_S32x1x64_0_2 S))))⟩,
    ⟨S32x8x64, (addf
      (mulf (extractStridedSlice S32x8x64 ![0, 0, 64] (shapeCast _ Z shapeCasts_S32x1024_S32x8x128) slices_S32x8x128_S32x8x64_0_0_64)
        (broadcastInDim S32x8x64 ![0, 1, 2] bcast_S32x1x64_S32x8x64_0_1_2 (broadcastInDim S32x1x64 ![0, 2] bcast_S32x64_S32x1x64_0_2 C)))
      (mulf (extractStridedSlice S32x8x64 ![0, 0, 0] (shapeCast _ Z shapeCasts_S32x1024_S32x8x128) slices_S32x8x128_S32x8x64_0_0_0)
        (broadcastInDim S32x8x64 ![0, 1, 2] bcast_S32x1x64_S32x8x64_0_1_2 (broadcastInDim S32x1x64 ![0, 2] bcast_S32x64_S32x1x64_0_2 S))))⟩]
    concatenates_S32x8x64_S32x8x64_S32x8x128_d2) shapeCasts_S32x8x128_S32x1024

/-- Column `d` of head `h`, in its first half and in its second. -/
def lo (h : Fin 8) (d : Fin 64) : Fin 1024 := ⟨h.val * 128 + d.val, by omega⟩
def hi (h : Fin 8) (d : Fin 64) : Fin 1024 := ⟨h.val * 128 + (d.val + 64), by omega⟩

theorem lo_or_hi (e : Fin 1024) : ∃ h d, e = lo h d ∨ e = hi h d :=
  ⟨⟨e.val / 128, by omega⟩, ⟨e.val % 64, by omega⟩, by
    rcases (by omega : e.val % 128 < 64 ∨ 64 ≤ e.val % 128) with g | g
    · exact .inl (Fin.ext (by show e.val = e.val / 128 * 128 + e.val % 64; omega))
    · exact .inr (Fin.ext (by show e.val = e.val / 128 * 128 + (e.val % 64 + 64); omega))⟩

theorem split_apply (Z : FVec Ideal S32x1024 .f32) (r : Fin 32) (h : Fin 8) (d : Fin 128) :
    shapeCast S32x8x128 Z shapeCasts_S32x1024_S32x8x128 (ix3 r h d) = Z (ix2 r ⟨h.val * 128 + d.val, by omega⟩) := by
  pointwise []
  blk_ext []

theorem join_apply (Y : FVec Ideal S32x8x128 .f32) (r : Fin 32) (h : Fin 8) (d : Fin 128) :
    shapeCast S32x1024 Y shapeCasts_S32x8x128_S32x1024 (ix2 r ⟨h.val * 128 + d.val, by omega⟩) = Y (ix3 r h d) := by
  pointwise []
  blk_ext []

theorem rope_lo (Z C S) (r : Fin 32) (h : Fin 8) (d : Fin 64) :
    ROPE Z C S (ix2 r (lo h d)) = Z (ix2 r (lo h d)) * C (ix2 r d) - Z (ix2 r (hi h d)) * S (ix2 r d) := by
  refine (join_apply _ r h ⟨d.val, Nat.lt_trans d.isLt (by decide)⟩).trans ?_
  pointwise []
  exact congrArg₂ (fun a b : EReal => a - b) rfl (congrArg₂ (fun a b : EReal => a * b)
    (congrArg Z (congrArg (ix2 r) (Fin.ext (by show h.val * 128 + (64 + d.val) = h.val * 128 + (d.val + 64); omega)))) rfl)

theorem rope_hi (Z C S) (r : Fin 32) (h : Fin 8) (d : Fin 64) :
    ROPE Z C S (ix2 r (hi h d)) = Z (ix2 r (hi h d)) * C (ix2 r d) + Z (ix2 r (lo h d)) * S (ix2 r d) := by
  refine (join_apply _ r h ⟨d.val + 64, Nat.add_lt_add_right d.isLt 64⟩).trans ?_
  pointwise []
  rw [dif_neg (show ¬d.val + 64 < 64 by omega)]
  exact congrArg₂ (fun a b : EReal => a + b)
    (congrArg₂ (fun a b : EReal => a * b)
      (congrArg Z (congrArg (ix2 r) (Fin.ext (by show h.val * 128 + (64 + (d.val + 64 - 64)) = h.val * 128 + (d.val + 64); omega))))
      (congrArg C (congrArg (ix2 r) (Fin.ext (by show d.val + 64 - 64 = d.val; omega)))))
    (congrArg₂ (fun a b : EReal => a * b)
      (congrArg Z (congrArg (ix2 r) (Fin.ext (by show h.val * 128 + (d.val + 64 - 64) = h.val * 128 + d.val; omega))))
      (congrArg S (congrArg (ix2 r) (Fin.ext (by show d.val + 64 - 64 = d.val; omega)))))

end Cert.Reference15Ideal.DsaSample

namespace Cert.Kernel15.DsaSample

open Cert.Reference15Ideal.DsaSample
open Cert.Kernel15 Cert.Kernel15.Gen

variable (m : (ℓ : Loc nD τ sig) → Buf (Elt Ideal) ℓ)

theorem idx : ∀ t : Fin cfg0.N, win0_0.index t = ![t.val / 3, 0] ∧ win0_1.index t = ![0, 0]
    ∧ win0_2.index t = ![0, t.val % 3] ∧ win0_3.index t = ![t.val / 3, 0] ∧ win0_4.index t = ![t.val / 3, 0] ∧ win0_5.index t = ![t.val / 3, 0] ∧ win0_6.index t = ![t.val / 3, 0] ∧ win0_7.index t = ![t.val / 3, 0] ∧ win0_8.index t = ![t.val / 3, 0] ∧ win0_9.index t = ![t.val / 3, 0] :=
  (by decide +kernel : ∀ t : Fin grid0.N, _)

abbrev A0 (c : Dev nD) : FVec Ideal Cert.Reference15Ideal.S32x2048 .f32 := m ((c : Thread nD τ).loc main_arg0)
abbrev A1 (c : Dev nD) : FVec Ideal Cert.Reference15Ideal.S1x2048 .f32 := m ((c : Thread nD τ).loc main_arg1)
abbrev A2 (c : Dev nD) : FVec Ideal Cert.Reference15Ideal.S2048x3072 .f32 := m ((c : Thread nD τ).loc main_arg2)

/-- A point's rows, and its columns. -/
def row (t : Fin cfg0.N) (r : Fin 32) : Fin 32 := ⟨t.val / 3 * 32 + r.val, by have := lt3 t; omega⟩
def col (t : Fin cfg0.N) (j : Fin 1024) : Fin 3072 := ⟨t.val % 3 * 1024 + j.val, by omega⟩

theorem row_pt (t : Fin cfg0.N) (j : Fin 3) (r : Fin 32) : row (pt t j) r = row t r :=
  Fin.ext (by have := j.isLt; show (t.val / 3 * 3 + j.val) / 3 * 32 + r.val = t.val / 3 * 32 + r.val; omega)

theorem col_pt (t : Fin cfg0.N) (j : Fin 3) (e : Fin 1024) : (col (pt t j) e).val = j.val * 1024 + e.val := by
  have := j.isLt
  show (t.val / 3 * 3 + j.val) % 3 * 1024 + e.val = j.val * 1024 + e.val
  omega

theorem blk0 (c : Dev nD) (t : Fin cfg0.N) (r : Fin 32) (k : Fin 2048) : (iblk m c 0 t : FVec Ideal S32x2048 .f32) (ix2 r k) = A0 m c (ix2 (row t r) k) := by
  refine Eq.trans ?_ (congrFun (V_main_arg0 m c) _)
  unfold iblk; generalize V m c = V'
  unfold row
  blk_point [idx t]

theorem blk1 (c : Dev nD) (t : Fin cfg0.N) (k : Fin 2048) : (iblk m c 1 t : FVec Ideal S1x2048 .f32) (ix2 0 k) = A1 m c (ix2 0 k) := by
  refine Eq.trans ?_ (congrFun (V_main_arg1 m c) _)
  unfold iblk; generalize V m c = V'
  blk_point [idx t]

theorem V_w (c : Dev nD) : @Eq (FVec Ideal S2048x3072 .bf16) (V m c main_v0)
    (truncf (F := Ideal) (s := S2048x3072) (φ := .f32) .bf16 (m ((c : Thread nD τ).loc main_arg2)) bitsLt_bf16_f32) := by
  unfold V
  after_results

theorem blk2 (c : Dev nD) (t : Fin cfg0.N) (k : Fin 2048) (j : Fin 1024) : (iblk m c 2 t : FVec Ideal S2048x1024 .bf16) (ix2 k j) = A2 m c (ix2 k (col t j)) := by
  have h : (iblk m c 2 t : FVec Ideal S2048x1024 .bf16) (ix2 k j) = (V m c main_v0 : FVec Ideal S2048x3072 .bf16) (ix2 k (col t j)) := by
    unfold iblk; generalize V m c = V'
    unfold col
    blk_point [idx t]
  rw [h, V_w]
  rfl

/-- A normalised row of a block is the reference's. -/
theorem norm_at (x : FVec Ideal S32x2048 .f32) (g : FVec Ideal S1x2048 .f32)
    (Y : FVec Ideal Cert.Reference15Ideal.S32x2048 .f32) (R : FVec Ideal Cert.Reference15Ideal.S1x2048 .f32)
    (r : Fin 32) (i : Fin 32) (h : ∀ k, x (ix2 r k) = Y (ix2 i k)) (hg : ∀ k, g (ix2 0 k) = R (ix2 0 k)) (k : Fin 2048) :
    k0_pay1 (F := Ideal) x g (ix2 r k) = NORM Y R (ix2 i k) := by
  pointwise [k0_pay1, NORM]
  have hs := Finset.sum_congr rfl fun (k : Fin 2048) (_ : k ∈ Finset.univ) => congrArg₂ (fun a b : EReal => a * b) (h k) (h k)
  exact congrArg₂ (fun a b : EReal => a * b) (congrArg₂ (fun a b : EReal => a * b) (h k)
    (congrArg (fun a : EReal => Ideal.rsqrt (Ideal.div a _ + _)) hs)) (hg k)

theorem nrm_apply (c : Dev nD) (t : Fin cfg0.N) (r : Fin 32) (k : Fin 2048) : nrm m c t (ix2 r k) = NORM (A0 m c) (A1 m c) (ix2 (row t r) k) := by
  unfold nrm
  exact norm_at _ _ _ _ r (row t r) (fun k => (blk0 m c (pt t 0) r k).trans (by rw [row_pt])) (blk1 m c _) k

theorem hdot (h w) (r : Fin 32) (j : Fin 1024) : k0_pay2 (F := Ideal) h w (ix2 r j) = ∑ k : Fin 2048, h (ix2 r k) * w (ix2 k j) := by
  pointwise [k0_pay2]

/-- The product at a row block's point of column block `j`. -/
theorem proj_at (c : Dev nD) (t : Fin cfg0.N) (j : Fin 3) (r : Fin 32) (e : Fin 1024) (J : Fin 3072) (hJ : J.val = j.val * 1024 + e.val) :
    k0_pay2 (F := Ideal) (nrm m c t) (iblk m c 2 (pt t j)) (ix2 r e) = PROJ (A0 m c) (A1 m c) (A2 m c) (ix2 (row t r) J) := by
  rw [hdot, proj_apply]
  have hc : col (pt t j) e = J := Fin.ext ((col_pt t j e).trans hJ.symm)
  exact Finset.sum_congr rfl fun k _ => congrArg₂ (fun a b : EReal => a * b) (nrm_apply m c t r k) ((blk2 m c (pt t j) k e).trans (by rw [hc]))

theorem V_cos (c : Dev nD) : @Eq (FVec Ideal S32x128 .f32) (V m c main_v1) (concatenate S32x128 1
    [⟨S32x64, (m ((c : Thread nD τ).loc main_arg3) : FVec Ideal S32x64 .f32)⟩,
     ⟨S32x64, (m ((c : Thread nD τ).loc main_arg3) : FVec Ideal S32x64 .f32)⟩] concatenates_S32x64_S32x64_S32x128_d1) := by
  unfold V
  after_results

theorem V_sin (c : Dev nD) : @Eq (FVec Ideal S32x128 .f32) (V m c main_v3) (concatenate S32x128 1
    [⟨S32x64, Host.negf (m ((c : Thread nD τ).loc main_arg4) : FVec Ideal S32x64 .f32)⟩,
     ⟨S32x64, (m ((c : Thread nD τ).loc main_arg4) : FVec Ideal S32x64 .f32)⟩] concatenates_S32x64_S32x64_S32x128_d1) := by
  unfold V
  after_results

theorem blk3 (c : Dev nD) (t : Fin cfg0.N) (r : Fin 32) (q : Fin 128) :
    (iblk m c 3 t : FVec Ideal S32x128 .f32) (ix2 r q) = (V m c main_v1 : FVec Ideal S32x128 .f32) (ix2 (row t r) q) := by
  unfold iblk row
  generalize V m c = B
  blk_point [idx t]

theorem blk4 (c : Dev nD) (t : Fin cfg0.N) (r : Fin 32) (q : Fin 128) :
    (iblk m c 4 t : FVec Ideal S32x128 .f32) (ix2 r q) = (V m c main_v3 : FVec Ideal S32x128 .f32) (ix2 (row t r) q) := by
  unfold iblk row
  generalize V m c = B
  blk_point [idx t]

/-- Two tables side by side, read in either half. -/
theorem cat_left (a b : FVec Ideal S32x64 .f32) (r : Fin 32) (c : Fin 64) (h : c.val < 128) :
    concatenate S32x128 1 [⟨S32x64, a⟩, ⟨S32x64, b⟩] concatenates_S32x64_S32x64_S32x128_d1 (ix2 r ⟨c.val, h⟩)
      = a (ix2 r c) := by
  pointwise []

theorem cat_right (a b : FVec Ideal S32x64 .f32) (r : Fin 32) (c : Fin 64) (h : c.val + 64 < 128) :
    concatenate S32x128 1 [⟨S32x64, a⟩, ⟨S32x64, b⟩] concatenates_S32x64_S32x64_S32x128_d1 (ix2 r ⟨c.val + 64, h⟩)
      = b (ix2 r c) := by
  pointwise []
  rw [dif_neg (show ¬c.val + 64 < 64 by omega)]
  exact congrArg b (congrArg (ix2 r) (Fin.ext (by show c.val + 64 - 64 = c.val; omega)))

abbrev A3 (c : Dev nD) : FVec Ideal Cert.Reference15Ideal.S32x64 .f32 := m ((c : Thread nD τ).loc main_arg3)
abbrev A4 (c : Dev nD) : FVec Ideal Cert.Reference15Ideal.S32x64 .f32 := m ((c : Thread nD τ).loc main_arg4)

/-- The block of eight heads turned by the tables `cs` and `sn`: each column with the one half a head away. -/
def ROT (p : FVec Ideal S32x1024 .f32) (cs sn : FVec Ideal S32x128 .f32) (r : Fin 32) (e : Fin 1024) : EReal :=
  p (ix2 r e) * cs (ix2 r ⟨e.val % 128, by omega⟩)
    + p (ix2 r ⟨e.val / 128 * 128 + (e.val % 128 + 64) % 128, by omega⟩) * sn (ix2 r ⟨e.val % 128, by omega⟩)

/-- A turned block is the reference's rows, when the product and the tables are. -/
theorem rot_at (p : FVec Ideal S32x1024 .f32) (cs sn : FVec Ideal S32x128 .f32)
    (Z : FVec Ideal Cert.Reference15Ideal.S32x1024 .f32) (C S : FVec Ideal Cert.Reference15Ideal.S32x64 .f32) (r : Fin 32) (i : Fin 32)
    (hp : ∀ e, p (ix2 r e) = Z (ix2 i e))
    (hc : ∀ d : Fin 64, cs (ix2 r ⟨d.val, Nat.lt_trans d.isLt (by decide)⟩) = C (ix2 i d)) (hc' : ∀ d : Fin 64, cs (ix2 r ⟨d.val + 64, Nat.add_lt_add_right d.isLt 64⟩) = C (ix2 i d))
    (hs : ∀ d : Fin 64, sn (ix2 r ⟨d.val, Nat.lt_trans d.isLt (by decide)⟩) = (-(S (ix2 i d) : EReal) : EReal)) (hs' : ∀ d : Fin 64, sn (ix2 r ⟨d.val + 64, Nat.add_lt_add_right d.isLt 64⟩) = S (ix2 i d))
    (e : Fin 1024) : ROT p cs sn r e = ROPE Z C S (ix2 i e) := by
  obtain ⟨h, d, rfl | rfl⟩ := lo_or_hi e
  · have h1 : (⟨(lo h d).val % 128, by omega⟩ : Fin 128) = ⟨d.val, by omega⟩ := Fin.ext (by show (h.val * 128 + d.val) % 128 = d.val; omega)
    have h2 : (⟨(lo h d).val / 128 * 128 + ((lo h d).val % 128 + 64) % 128, by omega⟩ : Fin 1024) = hi h d :=
      Fin.ext (by show (h.val * 128 + d.val) / 128 * 128 + ((h.val * 128 + d.val) % 128 + 64) % 128 = h.val * 128 + (d.val + 64); omega)
    unfold ROT
    rw [h1, h2, hp, hp, hc, hs, rope_lo]
    show _ * _ + _ * -(_ : EReal) = _
    rw [mul_neg, sub_eq_add_neg]
  · have h1 : (⟨(hi h d).val % 128, by omega⟩ : Fin 128) = ⟨d.val + 64, by omega⟩ := Fin.ext (by show (h.val * 128 + (d.val + 64)) % 128 = d.val + 64; omega)
    have h2 : (⟨(hi h d).val / 128 * 128 + ((hi h d).val % 128 + 64) % 128, by omega⟩ : Fin 1024) = lo h d :=
      Fin.ext (by show (h.val * 128 + (d.val + 64)) / 128 * 128 + ((h.val * 128 + (d.val + 64)) % 128 + 64) % 128 = h.val * 128 + d.val; omega)
    unfold ROT
    rw [h1, h2, hp, hp, hc', hs', rope_hi]

/-- The product's block turned by a point's tables. -/
theorem turn_at (c : Dev nD) (t u : Fin cfg0.N) (r : Fin 32) (hu : row u r = row t r) (p : FVec Ideal S32x1024 .f32)
    (Z : FVec Ideal Cert.Reference15Ideal.S32x1024 .f32) (hp : ∀ e, p (ix2 r e) = Z (ix2 (row t r) e)) (e : Fin 1024) :
    ROT p (iblk m c 3 u) (iblk m c 4 u) r e = ROPE Z (A3 m c) (A4 m c) (ix2 (row t r) e) := by
  refine rot_at _ _ _ _ _ _ r (row t r) hp (fun d => ?_) (fun d => ?_) (fun d => ?_) (fun d => ?_) e
  · rw [blk3, V_cos, cat_left, hu]
  · rw [blk3, V_cos, cat_right, hu]
  · rw [blk4, V_sin, cat_left, hu]; rfl
  · rw [blk4, V_sin, cat_right, hu]

theorem qRot_apply (h : FVec Ideal S32x2048 .bf16) (w : FVec Ideal S2048x1024 .bf16) (cs sn : FVec Ideal S32x128 .f32) (y : S32x1024.Idx) :
    qRot (F := Ideal) h w cs sn y = ROT (k0_pay2 (F := Ideal) h w) cs sn (y 0) (y 1) := by
  unfold qRot ROT k0_pay3 k0_pay16 k0_pay15 k0_pay4 k0_pay5 k0_pay8 k0_pay9 k0_pay10 k0_pay11 k0_pay12 k0_pay13 k0_pay14
  generalize k0_pay2 (F := Ideal) h w = p
  canon_tiles x hx
  all_goals
    pointwise []
    refine congrArg₂ (fun a b : EReal => a + b) (congrArg₂ (fun a b : EReal => a * b) (congrArg p ?_) (congrArg cs ?_))
      (congrArg₂ (fun a b : EReal => a * b) (congrArg p ?_) (congrArg sn ?_)) <;> (try rw [Shape.reshapeEquiv_self]) <;> blk_ext []

theorem kRot_apply (h : FVec Ideal S32x2048 .bf16) (w : FVec Ideal S2048x1024 .bf16) (cs sn : FVec Ideal S32x128 .f32) (y : S32x1024.Idx) :
    kRot (F := Ideal) h w cs sn y = ROT (k0_pay2 (F := Ideal) h w) cs sn (y 0) (y 1) := by
  unfold kRot ROT k0_pay19 k0_pay21 k0_pay23 k0_pay25 k0_pay27 k0_pay29 k0_pay31 k0_pay33 k0_pay17 k0_pay18
  generalize k0_pay2 (F := Ideal) h w = p
  canon_tiles x hx
  all_goals
    pointwise []
    refine congrArg₂ (fun a b : EReal => a + b) (congrArg₂ (fun a b : EReal => a * b) (congrArg p ?_) (congrArg cs ?_))
      (congrArg₂ (fun a b : EReal => a * b) (congrArg p ?_) (congrArg sn ?_)) <;> (try rw [Shape.reshapeEquiv_self]) <;> blk_ext []

theorem kRotB_apply (h : FVec Ideal S32x2048 .bf16) (w : FVec Ideal S2048x1024 .bf16) (cs sn : FVec Ideal S32x128 .f32) (y : S32x1024.Idx) :
    kRotB (F := Ideal) h w cs sn y = ROT (k0_pay2 (F := Ideal) h w) cs sn (y 0) (y 1) := by
  unfold kRotB ROT k0_pay6 k0_pay20 k0_pay22 k0_pay24 k0_pay26 k0_pay28 k0_pay30 k0_pay32 k0_pay19 k0_pay21 k0_pay23 k0_pay25 k0_pay27 k0_pay29 k0_pay31 k0_pay33 k0_pay17 k0_pay18
  generalize k0_pay2 (F := Ideal) h w = p
  canon_tiles x hx
  all_goals
    pointwise []
    refine congrArg₂ (fun a b : EReal => a + b) (congrArg₂ (fun a b : EReal => a * b) (congrArg p ?_) (congrArg cs ?_))
      (congrArg₂ (fun a b : EReal => a * b) (congrArg p ?_) (congrArg sn ?_)) <;> (try rw [Shape.reshapeEquiv_self]) <;> blk_ext []

theorem emb5 (t : Fin cfg0.N) (y : S32x1024.Idx) : ((cfg0.win 5).blk t).view.emb y = ix2 (row t (y 0)) (y 1) := by
  unfold row; blk_ext [idx t]
theorem emb6 (t : Fin cfg0.N) (y : S32x1024.Idx) : ((cfg0.win 6).blk t).view.emb y = ix2 (row t (y 0)) (y 1) := by
  unfold row; blk_ext [idx t]
theorem emb7 (t : Fin cfg0.N) (y : S32x1024.Idx) : ((cfg0.win 7).blk t).view.emb y = ix2 (row t (y 0)) (y 1) := by
  unfold row; blk_ext [idx t]
theorem emb8 (t : Fin cfg0.N) (y : S32x1024.Idx) : ((cfg0.win 8).blk t).view.emb y = ix2 (row t (y 0)) (y 1) := by
  unfold row; blk_ext [idx t]
theorem emb9 (t : Fin cfg0.N) (y : S32x1024.Idx) : ((cfg0.win 9).blk t).view.emb y = ix2 (row t (y 0)) (y 1) := by
  unfold row; blk_ext [idx t]

theorem final_0 (c : Dev nD) : (dats m 0 c).arrAt 5 cfg0.N = ROPE (QPART (PROJ (A0 m c) (A1 m c) (A2 m c))) (A3 m c) (A4 m c) := by
  refine (dats m 0 c).arrAt_eq_of_covers 5 _ (by decide +kernel) fun t hf y => ?_
  blk_simp
  rw [after0_5, emb5]
  refine (qRot_apply _ _ _ _ y).trans ?_
  exact turn_at m c t (pt t 0) (y 0) (row_pt t 0 (y 0)) _ _
    (fun e => (proj_at m c t 0 (y 0) e _ (by show e.val = 0 * 1024 + e.val; omega)).trans (qpart_apply _ (row t (y 0)) e).symm) (y 1)

theorem final_1 (c : Dev nD) : (dats m 0 c).arrAt 6 cfg0.N = ROPE (KPART (PROJ (A0 m c) (A1 m c) (A2 m c))) (A3 m c) (A4 m c) := by
  refine (dats m 0 c).arrAt_eq_of_covers 6 _ (by decide +kernel) fun t hf y => ?_
  blk_simp
  rw [after0_6, emb6]
  refine (kRot_apply _ _ _ _ y).trans ?_
  exact turn_at m c t (pt t 1) (y 0) (row_pt t 1 (y 0)) _ _
    (fun e => (proj_at m c t 1 (y 0) e _ (by rfl)).trans (kpart_apply _ (row t (y 0)) e).symm) (y 1)

theorem final_2 (c : Dev nD) : (dats m 0 c).arrAt 7 cfg0.N = truncf .bf16 (ROPE (KPART (PROJ (A0 m c) (A1 m c) (A2 m c))) (A3 m c) (A4 m c)) Cert.Reference15Ideal.Gen.bitsLt_bf16_f32 := by
  refine (dats m 0 c).arrAt_eq_of_covers 7 _ (by decide +kernel) fun t hf y => ?_
  blk_simp
  rw [after0_7, emb7]
  refine (kRotB_apply _ _ _ _ y).trans ?_
  exact turn_at m c t (pt t 1) (y 0) (row_pt t 1 (y 0)) _ _
    (fun e => (proj_at m c t 1 (y 0) e _ (by rfl)).trans (kpart_apply _ (row t (y 0)) e).symm) (y 1)

theorem final_3 (c : Dev nD) : (dats m 0 c).arrAt 8 cfg0.N = VPART (PROJ (A0 m c) (A1 m c) (A2 m c)) := by
  refine (dats m 0 c).arrAt_eq_of_covers 8 _ (by decide +kernel) fun t hf y => ?_
  blk_simp
  rw [after0_8, emb8]
  refine (congrArg _ (ix2_eta y).symm).trans ?_
  exact (proj_at m c t 2 (y 0) (y 1) _ (by rfl)).trans (vpart_apply _ (row t (y 0)) (y 1)).symm

theorem final_4 (c : Dev nD) : (dats m 0 c).arrAt 9 cfg0.N = truncf .bf16 (VPART (PROJ (A0 m c) (A1 m c) (A2 m c))) Cert.Reference15Ideal.Gen.bitsLt_bf16_f32 := by
  refine (dats m 0 c).arrAt_eq_of_covers 9 _ (by decide +kernel) fun t hf y => ?_
  blk_simp
  rw [after0_9, emb9]
  refine (congrArg _ (ix2_eta y).symm).trans ?_
  exact (proj_at m c t 2 (y 0) (y 1) _ (by rfl)).trans (vpart_apply _ (row t (y 0)) (y 1)).symm

end Cert.Kernel15.DsaSample

namespace Cert.Reference15Ideal.DsaSample

open Cert.Reference15Ideal Cert.Reference15Ideal.Gen

variable (m : (ℓ : Loc nD τ sig) → Buf (Elt Ideal) ℓ)

/-- The product of a device's arguments in the reference. -/
abbrev RP (c : Dev nD) : FVec Ideal S32x3072 .f32 :=
  PROJ (m ((c : Thread nD τ).loc main_arg0)) (m ((c : Thread nD τ).loc main_arg1)) (m ((c : Thread nD τ).loc main_arg2))

theorem res_0 (c : Dev nD) : Cert.Reference15Ideal.Value.res_out0 (F := Ideal) m c
    = ROPE (QPART (RP m c)) (m ((c : Thread nD τ).loc main_arg3)) (m ((c : Thread nD τ).loc main_arg4)) := by
  unfold Cert.Reference15Ideal.Value.res_out0 Cert.Reference15Ideal.Value.res_main_v34; rfl

theorem res_1 (c : Dev nD) : Cert.Reference15Ideal.Value.res_out1 (F := Ideal) m c
    = ROPE (KPART (RP m c)) (m ((c : Thread nD τ).loc main_arg3)) (m ((c : Thread nD τ).loc main_arg4)) := by
  unfold Cert.Reference15Ideal.Value.res_out1 Cert.Reference15Ideal.Value.res_main_v51; rfl

theorem res_2 (c : Dev nD) : Cert.Reference15Ideal.Value.res_out2 (F := Ideal) m c
    = truncf .bf16 (ROPE (KPART (RP m c)) (m ((c : Thread nD τ).loc main_arg3)) (m ((c : Thread nD τ).loc main_arg4))) bitsLt_bf16_f32 := by
  unfold Cert.Reference15Ideal.Value.res_out2 Cert.Reference15Ideal.Value.res_main_v52; rfl

end Cert.Reference15Ideal.DsaSample

namespace Cert.Kernel15Ideal.DsaSample

open Cert.Kernel15Ideal Cert.Kernel15Ideal.Gen

variable (m : (ℓ : Loc nD τ sig) → Buf (Elt Ideal) ℓ) (ρ : Dev nD → PrngReg)

-- (the two kernels' procedures are matched by unfolding them, which the smart unfolding of the matches stops)
set_option smartUnfolding false in
/-- The ideal kernel is the kernel at the ideal numbers, so it has its run, -/
theorem run_blocks : θ_run defs (onTc (τ := τ) (main (F := Ideal))) ⟨m, fun _ => 0, ρ⟩ fun r => ∀ c : Dev nD,
      r.2.mem ((c : Thread nD τ).loc main_v4_0) = (Cert.Kernel15.DsaSample.dats (F := Ideal) m 0 c).arrAt 5 Cert.Kernel15.cfg0.N
      ∧ r.2.mem ((c : Thread nD τ).loc main_v4_1) = (Cert.Kernel15.DsaSample.dats (F := Ideal) m 0 c).arrAt 6 Cert.Kernel15.cfg0.N
      ∧ r.2.mem ((c : Thread nD τ).loc main_v4_2) = (Cert.Kernel15.DsaSample.dats (F := Ideal) m 0 c).arrAt 7 Cert.Kernel15.cfg0.N
      ∧ r.2.mem ((c : Thread nD τ).loc main_v4_3) = (Cert.Kernel15.DsaSample.dats (F := Ideal) m 0 c).arrAt 8 Cert.Kernel15.cfg0.N
      ∧ r.2.mem ((c : Thread nD τ).loc main_v4_4) = (Cert.Kernel15.DsaSample.dats (F := Ideal) m 0 c).arrAt 9 Cert.Kernel15.cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Kernel15.DsaSample.run_blocks (F := Ideal) m ρ

set_option smartUnfolding false in
/-- and its frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Cert.Kernel15.DsaSample.frame (F := Ideal) m ρ

end Cert.Kernel15Ideal.DsaSample

end
-- ==== Proof.DownSampleValue.lean ====
/- The value of the down projection for the sample: the sum of the partial products, and its RMS normalisation. -/
module

public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference12Ideal.DownSample

open Cert.Reference12Ideal Cert.Reference12Ideal.Gen

/-- The residual sum the reference normalises. -/
def SUM (A : FVec Ideal S32x5632 .bf16) (W : FVec Ideal S5632x2048 .bf16) (R : FVec Ideal S32x2048 .f32) :
    FVec Ideal S32x2048 .f32 :=
  addf R (Host.dotGeneral dot_S32x5632_S5632x2048_S32x2048_1_0_0_1_n_n none
    (extf .f32 A bitsLt_bf16_f32) (extf .f32 W bitsLt_bf16_f32))

/-- RMS normalisation of the rows of a matrix, with its gain. -/
def NORM (Y : FVec Ideal S32x2048 .f32) (G : FVec Ideal S1x2048 .f32) : FVec Ideal S32x2048 .f32 :=
  mulf (mulf Y (broadcastInDim S32x2048 ![0, 1] bcast_S32x1_S32x2048_0_1 (Host.rsqrt (addf (Host.divf
    (broadcastInDim S32x1 ![0] bcast_S32_S32x1_0 (Host.reduceAdd (mulf Y Y) (constant S_ .f32 0x00000000#32)
      reducesTo_S32x2048_S32_d1 h_S_)) (broadcastInDim S32x1 ![] bcast_S_S32x1 (constant S_ .f32 0x45000000#32)))
    (broadcastInDim S32x1 ![] bcast_S_S32x1 (constant S_ .f32 0x358637BD#32))))))
    (broadcastInDim S32x2048 ![0, 1] bcast_S1x2048_S32x2048_0_1 (broadcastInDim S1x2048 ![1] bcast_S2048_S1x2048_1
      (shapeCast _ G shapeCasts_S1x2048_S2048)))

end Cert.Reference12Ideal.DownSample

namespace Cert.Kernel12Ideal.DownSample

open Cert.Reference12Ideal.DownSample

open Cert.Kernel12Ideal Cert.Kernel12Ideal.Gen

variable (m : (ℓ : Loc nD τ sig) → Buf (Elt Ideal) ℓ)

theorem hzero (j) : k0_pay1 (F := Ideal) j = 0 := by pointwise [k0_pay1]

theorem hpay (acc x0 x1 j) : k0_pay2 (F := Ideal) acc x0 x1 j
    = acc j + ∑ k : Fin 1408, x0 (ix2 (j 0) k) * x1 (ix2 k (j 1)) := by pointwise [k0_pay2]

theorem href (A W R j) : SUM A W R j = R j + ∑ k : Fin 5632, A (ix2 (j 0) k) * W (ix2 k (j 1)) := by pointwise [SUM]

theorem idx : ∀ t : Fin cfg0.N, win0_0.index t = ![t.val / 4, t.val % 4] ∧ win0_1.index t = ![t.val % 4, 0]
    ∧ win0_2.index t = ![t.val / 4, 0] ∧ win0_3.index t = ![0, 0] ∧ win0_4.index t = ![t.val / 4, 0] :=
  (by decide +kernel : ∀ t : Fin grid0.N, _)

/-- What the accumulator holds when a row block is written back. -/
theorem acc_at (c : Dev nD) (t : Fin cfg0.N) (hf : t.val % 4 = 3) (y : S32x2048.Idx) :
    addf (F := Ideal) (s := S32x2048) (φ := .f32) (iblk m c 2 t) (outsAt0 m c t.val t.isLt).2 y
      = SUM (m ((c : Thread nD τ).loc main_arg0)) (m ((c : Thread nD τ).loc main_arg1)) (m ((c : Thread nD τ).loc main_arg2))
          (((cfg0.win 4).blk t).view.emb y) := by
  rw [addf_apply, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h3 : t.val % 4 = 3
      · rw [outsAt0_C m c t h h3]; frame_out; rw [read_unread_whole, hpay]
      · rw [outsAt0_B m c t h h3]; frame_out; rw [read_unread_whole, hpay])
    t hf y, zero_add]
  rw [href, Ideal.addf_def]
  refine congrArg₂ (fun a b : EReal => a + b) ?_ ?_
  · blk_point [iblk, V, idx t]
  · refine Fin.sum_mul_add_congr fun s k hl => ?_
    blk_point [iblk, V, idx t, idx ⟨_, Pipeline.run_point_lt_of_flush t hf s⟩]

theorem out_at (c : Dev nD) (t : Fin cfg0.N) (hf : t.val % 4 = 3) :
    (outsAt0 m c t.val t.isLt).1 = k0_pay3 (iblk m c 2 t) (outsAt0 m c t.val t.isLt).2 (iblk m c 3 t) := by
  rw [outsAt0_C m c t (by omega) hf]
  frame_out

theorem norm_at (t : Fin cfg0.N) (x r : FVec Ideal S32x2048 .f32) (g : FVec Ideal S1x2048 .f32)
    (Y : FVec Ideal Cert.Reference12Ideal.S32x2048 .f32) (G : FVec Ideal Cert.Reference12Ideal.S1x2048 .f32)
    (h : ∀ y, addf (F := Ideal) (s := S32x2048) (φ := .f32) x r y = Y (((cfg0.win 4).blk t).view.emb y))
    (hg : g = G) (y : S32x2048.Idx) :
    k0_pay3 x r g y = NORM Y G (((cfg0.win 4).blk t).view.emb y) := by
  have h' : ∀ y : S32x2048.Idx, x y + r y = Y (((cfg0.win 4).blk t).view.emb y) := h
  pointwise [k0_pay3, NORM]
  have hY : ∀ k : Fin 2048, x (ix2 (y 0) k) + r (ix2 (y 0) k) = Y (ix2 (((cfg0.win 4).blk t).view.emb y 0) k) := fun k => by
    rw [h' (ix2 (y 0) k)]
    blk_ext [idx t]
  have hG : g (ix2 0 (y 1)) = G (ix2 0 (((cfg0.win 4).blk t).view.emb y 1)) := by
    rw [hg]
    blk_ext [idx t]
  have hs := Finset.sum_congr rfl fun (k : Fin 2048) (_ : k ∈ Finset.univ) => congrArg₂ (fun a b : EReal => a * b) (hY k) (hY k)
  refine congrArg₂ (fun a b : EReal => a * b) (congrArg₂ (fun a b : EReal => a * b) (h' y)
    (congrArg (fun a : EReal => Ideal.rsqrt (Ideal.div a _ + _)) hs)) hG

/-- The result array after the run. -/
theorem final (c : Dev nD) : (dats m 0 c).arrAt 4 (cfgs 0).N
    = NORM (SUM (m ((c : Thread nD τ).loc main_arg0)) (m ((c : Thread nD τ).loc main_arg1)) (m ((c : Thread nD τ).loc main_arg2)))
        (m ((c : Thread nD τ).loc main_arg3)) := by
  refine (dats m 0 c).arrAt_eq_of_covers 4 _ (by decide +kernel) fun t hf y => ?_
  have hf' := (flush0_4 t).mp hf
  blk_simp
  rw [after0_4, out_at m c t hf']
  exact norm_at t _ _ _ _ _ (acc_at m c t hf') (by blk_ext! [iblk, V, idx t]) y

end Cert.Kernel12Ideal.DownSample

end
-- ==== Proof.KiwiSampleValue.lean ====
/- The value of the indexer's key and head-weight projection for the sample. -/
module

public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference13Ideal.KiwiSample

open Cert.Reference13Ideal Cert.Reference13Ideal.Gen

/-- RMS normalisation of the rows of a matrix, with its gain. -/
def NORM (Y : FVec Ideal S32x2048 .f32) (G : FVec Ideal S1x2048 .f32) : FVec Ideal S32x2048 .f32 :=
  mulf (mulf Y (broadcastInDim S32x2048 ![0, 1] bcast_S32x1_S32x2048_0_1 (Host.rsqrt (addf (Host.divf
    (broadcastInDim S32x1 ![0] bcast_S32_S32x1_0 (Host.reduceAdd (mulf Y Y) (constant S_ .f32 0x00000000#32)
      reducesTo_S32x2048_S32_d1 h_S_)) (broadcastInDim S32x1 ![] bcast_S_S32x1 (constant S_ .f32 0x45000000#32)))
    (broadcastInDim S32x1 ![] bcast_S_S32x1 (constant S_ .f32 0x358637BD#32))))))
    (broadcastInDim S32x2048 ![0, 1] bcast_S1x2048_S32x2048_0_1 (broadcastInDim S1x2048 ![1] bcast_S2048_S1x2048_1
      (shapeCast _ G shapeCasts_S1x2048_S2048)))

/-- The normalised rows times the weight of the keys and the heads. -/
def PROJ (X : FVec Ideal S32x2048 .f32) (G : FVec Ideal S1x2048 .f32) (W : FVec Ideal S2048x256 .f32) :
    FVec Ideal S32x256 .f32 :=
  Host.dotGeneral dot_S32x2048_S2048x256_S32x256_1_0_0_1_n_n none (NORM X G) W

/-- The rotary embedding of the first 128 columns: the two halves turned by the angle of the row. -/
def ROPE (D : FVec Ideal S32x256 .f32) (C S : FVec Ideal S32x64 .f32) : FVec Ideal S32x128 .f32 :=
  concatenate S32x128 1 [⟨S32x64, (subf
      (mulf (extractStridedSlice S32x64 ![0, 0] (extractStridedSlice S32x128 ![0, 0] D slices_S32x256_S32x128_0_0) slices_S32x128_S32x64_0_0) C)
      (mulf (extractStridedSlice S32x64 ![0, 64] (extractStridedSlice S32x128 ![0, 0] D slices_S32x256_S32x128_0_0) slices_S32x128_S32x64_0_64) S))⟩,
    ⟨S32x64, (addf
      (mulf (extractStridedSlice S32x64 ![0, 64] (extractStridedSlice S32x128 ![0, 0] D slices_S32x256_S32x128_0_0) slices_S32x128_S32x64_0_64) C)
      (mulf (extractStridedSlice S32x64 ![0, 0] (extractStridedSlice S32x128 ![0, 0] D slices_S32x256_S32x128_0_0) slices_S32x128_S32x64_0_0) S))⟩]
    concatenates_S32x64_S32x64_S32x128_d1

/-- The last 128 columns scaled. -/
def SCALE (D : FVec Ideal S32x256 .f32) : FVec Ideal S32x128 .f32 :=
  mulf (mulf (extractStridedSlice S32x128 ![0, 128] D slices_S32x256_S32x128_0_128)
    (broadcastInDim S32x128 ![] bcast_S_S32x128 (constant S_ .f32 0x3E800000#32)))
    (broadcastInDim S32x128 ![] bcast_S_S32x128 (constant S_ .f32 0x3DB504F3#32))

theorem proj_apply (X G W) (i : S32x256.Idx) : PROJ X G W i = ∑ k : Fin 2048, NORM X G (ix2 (i 0) k) * W (ix2 k (i 1)) := by
  unfold PROJ
  generalize NORM X G = Y
  pointwise []

/-- The rotation read at a column of the first half, and of the second. -/
theorem rope_left (D C S) (r : Fin 32) (c : Fin 64) (h : c.val < 128) (h1 : c.val < 256) (h2 : c.val + 64 < 256) :
    ROPE D C S (ix2 r ⟨c.val, h⟩) = D (ix2 r ⟨c.val, h1⟩) * C (ix2 r c) - D (ix2 r ⟨c.val + 64, h2⟩) * S (ix2 r c) := by
  pointwise [ROPE]
  simp only [Nat.add_comm 64]

theorem rope_right (D C S) (r : Fin 32) (c : Fin 64) (h : c.val + 64 < 128) (h1 : c.val < 256) (h2 : c.val + 64 < 256) :
    ROPE D C S (ix2 r ⟨c.val + 64, h⟩) = D (ix2 r ⟨c.val + 64, h2⟩) * C (ix2 r c) + D (ix2 r ⟨c.val, h1⟩) * S (ix2 r c) := by
  pointwise [ROPE]
  rw [dif_neg (by omega)]
  simp only [Nat.add_sub_cancel, Nat.add_comm 64]

theorem scale_apply (D) (r : Fin 32) (c : Fin 128) (h : 128 + c.val < 256) :
    SCALE D (ix2 r c) = D (ix2 r ⟨128 + c.val, h⟩) * Ideal.ofBits .f32 0x3E800000#32 * Ideal.ofBits .f32 0x3DB504F3#32 := by
  pointwise [SCALE]

/-- The reference's results of a device's arguments. -/
theorem res_0 (m : (ℓ : Loc nD τ sig) → Buf (Elt Ideal) ℓ) (c : Dev nD) : Cert.Reference13Ideal.Value.res_out0 m c
    = ROPE (PROJ (m ((c : Thread nD τ).loc main_arg0)) (m ((c : Thread nD τ).loc main_arg1)) (m ((c : Thread nD τ).loc main_arg2)))
      (m ((c : Thread nD τ).loc main_arg3)) (m ((c : Thread nD τ).loc main_arg4)) := by
  unfold Cert.Reference13Ideal.Value.res_out0 Cert.Reference13Ideal.Value.res_main_v25
  rfl

theorem res_1 (m : (ℓ : Loc nD τ sig) → Buf (Elt Ideal) ℓ) (c : Dev nD) : Cert.Reference13Ideal.Value.res_out1 m c
    = truncf (F := Ideal) (s := S32x128) (φ := .f32) .bf16 (ROPE (PROJ (m ((c : Thread nD τ).loc main_arg0))
      (m ((c : Thread nD τ).loc main_arg1)) (m ((c : Thread nD τ).loc main_arg2)))
      (m ((c : Thread nD τ).loc main_arg3)) (m ((c : Thread nD τ).loc main_arg4))) bitsLt_bf16_f32 := by
  unfold Cert.Reference13Ideal.Value.res_out1 Cert.Reference13Ideal.Value.res_main_v26
  rfl

end Cert.Reference13Ideal.KiwiSample

namespace Cert.Kernel13Ideal.KiwiSample

open Cert.Reference13Ideal.KiwiSample

open Cert.Kernel13Ideal Cert.Kernel13Ideal.Gen

variable (m : (ℓ : Loc nD τ sig) → Buf (Elt Ideal) ℓ)

/-- The blocks of a point: activations, gain, weight, and the two tables of the rotation. -/
abbrev X (c : Dev nD) (t : Fin cfg0.N) : FVec Ideal S32x2048 .f32 := iblk m c 0 t
abbrev G (c : Dev nD) (t : Fin cfg0.N) : FVec Ideal S1x2048 .f32 := iblk m c 1 t
abbrev W (c : Dev nD) (t : Fin cfg0.N) : FVec Ideal S2048x256 .bf16 := iblk m c 2 t
abbrev C (c : Dev nD) (t : Fin cfg0.N) : FVec Ideal S32x128 .f32 := iblk m c 3 t
abbrev S (c : Dev nD) (t : Fin cfg0.N) : FVec Ideal S32x128 .f32 := iblk m c 4 t

theorem idx : ∀ t : Fin cfg0.N, win0_0.index t = ![t.val, 0] ∧ win0_1.index t = ![0, 0]
    ∧ win0_2.index t = ![0, 0] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

theorem outs (c : Dev nD) (t : Fin cfg0.N) :
    (outsAt0 m c t).1 = k0_pay3 (F := Ideal) (k0_pay1 (F := Ideal) (X m c t) (G m c t)) (W m c t) (C m c t) (S m c t)
    ∧ (outsAt0 m c t).2.1 = truncf .bf16 (k0_pay3 (F := Ideal) (k0_pay1 (F := Ideal) (X m c t) (G m c t)) (W m c t) (C m c t) (S m c t)) bitsLt_bf16_f32
    ∧ (outsAt0 m c t).2.2 = k0_pay5 (F := Ideal) (k0_pay1 (F := Ideal) (X m c t) (G m c t)) (W m c t) := by
  unfold outsAt0
  refine ⟨?_, ?_, ?_⟩ <;> frame_out <;> rfl

theorem hdot (h w) (j) : k0_pay2 (F := Ideal) h w j = ∑ k : Fin 2048, h (ix2 (j 0) k) * w (ix2 k (j 1)) := by
  pointwise [k0_pay2]

/-- The rotation of a block: each column with the one half a turn away. -/
theorem rope_left (h : FVec Ideal S32x2048 .bf16) (w : FVec Ideal S2048x256 .bf16) (C S : FVec Ideal S32x128 .f32)
    (r : Fin 32) (c : Fin 64) (h0 : c.val < 128) (h1 : c.val < 256) (h2 : c.val + 64 < 256) :
    k0_pay3 (F := Ideal) h w C S (ix2 r ⟨c.val, h0⟩)
      = k0_pay2 (F := Ideal) h w (ix2 r ⟨c.val, h1⟩) * C (ix2 r ⟨c.val, h0⟩)
        + k0_pay2 (F := Ideal) h w (ix2 r ⟨c.val + 64, h2⟩) * S (ix2 r ⟨c.val, h0⟩) := by
  unfold k0_pay3
  generalize k0_pay2 (F := Ideal) h w = D
  have e : (c.val + 128 - 64) % 128 = c.val + 64 := by omega
  pointwise []
  simp only [e]

theorem rope_right (h : FVec Ideal S32x2048 .bf16) (w : FVec Ideal S2048x256 .bf16) (C S : FVec Ideal S32x128 .f32)
    (r : Fin 32) (c : Fin 64) (h0 : c.val + 64 < 128) (h1 : c.val < 256) (h2 : c.val + 64 < 256) :
    k0_pay3 (F := Ideal) h w C S (ix2 r ⟨c.val + 64, h0⟩)
      = k0_pay2 (F := Ideal) h w (ix2 r ⟨c.val + 64, h2⟩) * C (ix2 r ⟨c.val + 64, h0⟩)
        + k0_pay2 (F := Ideal) h w (ix2 r ⟨c.val, h1⟩) * S (ix2 r ⟨c.val + 64, h0⟩) := by
  unfold k0_pay3
  generalize k0_pay2 (F := Ideal) h w = D
  have e : (c.val + 64 + 128 - 64) % 128 = c.val := by omega
  pointwise []
  simp only [e]

theorem scale_at (h : FVec Ideal S32x2048 .bf16) (w : FVec Ideal S2048x256 .bf16) (r : Fin 32) (c : Fin 128) (h2 : 128 + c.val < 256) :
    k0_pay5 (F := Ideal) h w (ix2 r c) = k0_pay2 (F := Ideal) h w (ix2 r ⟨128 + c.val, h2⟩) * Ideal.ofBits .f32 0x3CB504F3#32 := by
  unfold k0_pay5
  generalize k0_pay2 (F := Ideal) h w = D
  pointwise []

theorem V_w (c : Dev nD) : @Eq (FVec Ideal S2048x256 .bf16) (V m c main_v0)
    (truncf (F := Ideal) (s := S2048x256) (φ := .f32) .bf16 (m ((c : Thread nD τ).loc main_arg2)) bitsLt_bf16_f32) := by
  unfold V
  after_results

theorem V_cos (c : Dev nD) : @Eq (FVec Ideal S32x128 .f32) (V m c main_v1) (concatenate S32x128 1
    [⟨S32x64, (m ((c : Thread nD τ).loc main_arg3) : FVec Ideal S32x64 .f32)⟩,
     ⟨S32x64, (m ((c : Thread nD τ).loc main_arg3) : FVec Ideal S32x64 .f32)⟩] concatenates_S32x64_S32x64_S32x128_d1) := by
  unfold V
  after_results

theorem V_sin (c : Dev nD) : @Eq (FVec Ideal S32x128 .f32) (V m c main_v3) (concatenate S32x128 1
    [⟨S32x64, Host.negf (m ((c : Thread nD τ).loc main_arg4) : FVec Ideal S32x64 .f32)⟩,
     ⟨S32x64, (m ((c : Thread nD τ).loc main_arg4) : FVec Ideal S32x64 .f32)⟩] concatenates_S32x64_S32x64_S32x128_d1) := by
  unfold V
  after_results

/-- The gain read off its block. -/
theorem gain_at (c : Dev nD) (t : Fin cfg0.N) (k : Fin 2048) :
    G m c t (ix2 0 k) = (m ((c : Thread nD τ).loc main_arg1) : FVec Ideal S1x2048 .f32) (ix2 0 k) := by
  rw [← V_main_arg1 m c]
  show iblk m c 1 t (ix2 0 k) = _
  unfold iblk
  generalize V m c = B
  blk_point [idx t]

/-- The row of the arrays that a row of a point's blocks is. -/
def row (t : Fin cfg0.N) (r : Fin 32) : Fin 32 := ⟨t.val * 32 + r.val, by have : t.val < 1 := t.isLt; omega⟩

/-- The activations read off their block. -/
theorem row_at (c : Dev nD) (t : Fin cfg0.N) (r : Fin 32) (k : Fin 2048) :
    X m c t (ix2 r k) = (m ((c : Thread nD τ).loc main_arg0) : FVec Ideal S32x2048 .f32) (ix2 (row t r) k) := by
  rw [← V_main_arg0 m c]
  show iblk m c 0 t (ix2 r k) = _
  unfold iblk row
  generalize V m c = B
  blk_point [idx t]

/-- The weight read off its block. -/
theorem col_at (c : Dev nD) (t : Fin cfg0.N) (k : Fin 2048) (q : Fin 256) :
    W m c t (ix2 k q) = (m ((c : Thread nD τ).loc main_arg2) : FVec Ideal S2048x256 .f32) (ix2 k q) := by
  have h : W m c t (ix2 k q) = (V m c main_v0 : FVec Ideal S2048x256 .bf16) (ix2 k q) := by
    show iblk m c 2 t (ix2 k q) = _
    unfold iblk
    generalize V m c = B
    blk_point [idx t]
  rw [h, V_w]
  rfl

/-- The rotation's tables read off their blocks. -/
theorem cos_at (c : Dev nD) (t : Fin cfg0.N) (r : Fin 32) (q : Fin 128) :
    C m c t (ix2 r q) = (V m c main_v1 : FVec Ideal S32x128 .f32) (ix2 (row t r) q) := by
  show iblk m c 3 t (ix2 r q) = _
  unfold iblk row
  generalize V m c = B
  blk_point [idx t]

theorem sin_at (c : Dev nD) (t : Fin cfg0.N) (r : Fin 32) (q : Fin 128) :
    S m c t (ix2 r q) = (V m c main_v3 : FVec Ideal S32x128 .f32) (ix2 (row t r) q) := by
  show iblk m c 4 t (ix2 r q) = _
  unfold iblk row
  generalize V m c = B
  blk_point [idx t]

/-- Two tables side by side, read in either half. -/
theorem cat_left (a b : FVec Ideal S32x64 .f32) (r : Fin 32) (c : Fin 64) (h : c.val < 128) :
    concatenate S32x128 1 [⟨S32x64, a⟩, ⟨S32x64, b⟩] concatenates_S32x64_S32x64_S32x128_d1 (ix2 r ⟨c.val, h⟩)
      = a (ix2 r c) := by
  pointwise []

theorem cat_right (a b : FVec Ideal S32x64 .f32) (r : Fin 32) (c : Fin 64) (h : c.val + 64 < 128) :
    concatenate S32x128 1 [⟨S32x64, a⟩, ⟨S32x64, b⟩] concatenates_S32x64_S32x64_S32x128_d1 (ix2 r ⟨c.val + 64, h⟩)
      = b (ix2 r c) := by
  pointwise []
  rw [dif_neg (by omega)]
  simp

/-- A normalised row of a block is the reference's. -/
theorem norm_at (x : FVec Ideal S32x2048 .f32) (g : FVec Ideal S1x2048 .f32)
    (Y : FVec Ideal Cert.Reference13Ideal.S32x2048 .f32) (R : FVec Ideal Cert.Reference13Ideal.S1x2048 .f32)
    (r : Fin 32) (i : Fin 32) (h : ∀ k, x (ix2 r k) = Y (ix2 i k)) (hg : ∀ k, g (ix2 0 k) = R (ix2 0 k)) (k : Fin 2048) :
    k0_pay1 (F := Ideal) x g (ix2 r k) = NORM Y R (ix2 i k) := by
  pointwise [k0_pay1, NORM]
  have hs := Finset.sum_congr rfl fun (k : Fin 2048) (_ : k ∈ Finset.univ) => congrArg₂ (fun a b : EReal => a * b) (h k) (h k)
  exact congrArg₂ (fun a b : EReal => a * b) (congrArg₂ (fun a b : EReal => a * b) (h k)
    (congrArg (fun a : EReal => Ideal.rsqrt (Ideal.div a _ + _)) hs)) (hg k)

/-- The reference's product of a device's arguments. -/
abbrev P (c : Dev nD) : FVec Ideal Cert.Reference13Ideal.S32x256 .f32 :=
  PROJ (m ((c : Thread nD τ).loc main_arg0)) (m ((c : Thread nD τ).loc main_arg1)) (m ((c : Thread nD τ).loc main_arg2))

theorem prod_at (c : Dev nD) (t : Fin cfg0.N) (r : Fin 32) (q : Fin 256) : k0_pay2 (F := Ideal) (k0_pay1 (F := Ideal) (X m c t) (G m c t)) (W m c t) (ix2 r q) = P m c (ix2 (row t r) q) := by
  refine (hdot _ _ _).trans (Eq.trans ?_ (proj_apply _ _ _ _).symm)
  exact congrArg (fun a : EReal => a) (Finset.sum_congr rfl fun k _ => congrArg₂ (fun a b : EReal => a * b)
    (norm_at _ _ _ _ _ _ (row_at m c t r) (gain_at m c t) k) (col_at m c t k q))

/-- A rotated block is the reference's. -/
theorem rope_at (c : Dev nD) (t : Fin cfg0.N) (r : Fin 32) (q : Fin 128) :
    k0_pay3 (F := Ideal) (k0_pay1 (F := Ideal) (X m c t) (G m c t)) (W m c t) (C m c t) (S m c t) (ix2 r q)
      = ROPE (P m c) (m ((c : Thread nD τ).loc main_arg3)) (m ((c : Thread nD τ).loc main_arg4)) (ix2 (row t r) q) := by
  by_cases h : q.val < 64
  · obtain ⟨e, he⟩ : ∃ e : Fin 64, q = ⟨e.val, Nat.lt_trans e.isLt (by decide)⟩ := ⟨⟨q.val, h⟩, rfl⟩
    subst he
    rw [rope_left _ _ _ _ r e _ (by omega) (by omega), Cert.Reference13Ideal.KiwiSample.rope_left _ _ _ _ e _ (by omega) (by omega),
      prod_at m c t r, prod_at m c t r, cos_at, sin_at, V_cos, V_sin, cat_left, cat_left]
    show _ * _ + _ * -(_ : EReal) = _
    rw [mul_neg, sub_eq_add_neg]
  · obtain ⟨e, he⟩ : ∃ e : Fin 64, q = ⟨e.val + 64, Nat.add_lt_add_right e.isLt 64⟩ := ⟨⟨q.val - 64, by omega⟩, Fin.ext (by simp; omega)⟩
    subst he
    rw [rope_right _ _ _ _ r e _ (by omega) (by omega), Cert.Reference13Ideal.KiwiSample.rope_right _ _ _ _ e _ (by omega) (by omega),
      prod_at m c t r, prod_at m c t r, cos_at, sin_at, V_cos, V_sin, cat_right, cat_right]

/-- The two scalings of the reference are the kernel's one. -/
theorem scales (a : EReal) : a * Ideal.ofBits .f32 0x3CB504F3#32
    = a * Ideal.ofBits .f32 0x3E800000#32 * Ideal.ofBits .f32 0x3DB504F3#32 := by
  rw [mul_assoc]
  congr 1
  simp [Ideal.ofBits, Ideal.ieee, -EReal.coe_mul]
  rw [← EReal.coe_mul]
  norm_num

theorem weight_at (c : Dev nD) (t : Fin cfg0.N) (r : Fin 32) (q : Fin 128) :
    k0_pay5 (F := Ideal) (k0_pay1 (F := Ideal) (X m c t) (G m c t)) (W m c t) (ix2 r q) = SCALE (P m c) (ix2 (row t r) q) := by
  rw [scale_at _ _ r q (by omega), scale_apply _ _ _ (by omega), prod_at m c t r]
  exact scales _

theorem emb5 (t : Fin cfg0.N) (y : S32x128.Idx) : ((cfg0.win 5).blk t).view.emb y = ix2 (row t (y 0)) (y 1) := by
  unfold row
  blk_ext [idx t]

theorem emb6 (t : Fin cfg0.N) (y : S32x128.Idx) : ((cfg0.win 6).blk t).view.emb y = ix2 (row t (y 0)) (y 1) := by
  unfold row
  blk_ext [idx t]

theorem emb7 (t : Fin cfg0.N) (y : S32x128.Idx) : ((cfg0.win 7).blk t).view.emb y = ix2 (row t (y 0)) (y 1) := by
  unfold row
  blk_ext [idx t]

/-- The result arrays after the run: the rotated keys, their rounding, and the head weights. -/
theorem final_key (c : Dev nD) : (dats m 0 c).arrAt 5 (cfgs 0).N
    = ROPE (P m c) (m ((c : Thread nD τ).loc main_arg3)) (m ((c : Thread nD τ).loc main_arg4)) := by
  refine (dats m 0 c).arrAt_eq_of_covers 5 _ (by decide +kernel) fun t hf y => ?_
  blk_simp
  rw [after0_5, (outs m c t).1, emb5]
  exact (congrArg _ (ix2_eta y).symm).trans (rope_at m c t (y 0) (y 1))

theorem final_rounded (c : Dev nD) : (dats m 0 c).arrAt 6 (cfgs 0).N
    = truncf (F := Ideal) (s := Cert.Reference13Ideal.S32x128) (φ := .f32) .bf16
        (ROPE (P m c) (m ((c : Thread nD τ).loc main_arg3)) (m ((c : Thread nD τ).loc main_arg4))) bitsLt_bf16_f32 := by
  refine (dats m 0 c).arrAt_eq_of_covers 6 _ (by decide +kernel) fun t hf y => ?_
  blk_simp
  rw [after0_6, (outs m c t).2.1, emb6]
  exact (congrArg _ (ix2_eta y).symm).trans (rope_at m c t (y 0) (y 1))

theorem final_weight (c : Dev nD) : (dats m 0 c).arrAt 7 (cfgs 0).N = SCALE (P m c) := by
  refine (dats m 0 c).arrAt_eq_of_covers 7 _ (by decide +kernel) fun t hf y => ?_
  blk_simp
  rw [after0_7, (outs m c t).2.2, emb7]
  exact (congrArg _ (ix2_eta y).symm).trans (weight_at m c t (y 0) (y 1))

end Cert.Kernel13Ideal.KiwiSample

end
-- ==== Proof.SbIdealLoop.lean ====
/- Stick-breaking attention, the body of one grid point: what the walk over the earlier key blocks leaves, and the
   body's triple with that walk answered through a specification of its label at "`n` blocks still to visit". -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The label of the walk is entered at a natural number that descends: the blocks still to visit. -/
abbrev 𝒱₀ : Variants := Variants.nat

/-! ### Blocks and words -/

/-- Rows `256 n … 256 n + 255` of a key or value column. -/
def rows (X : Vec F S8192x128 .bf16) (n : ℕ) : Vec F S256x128 .bf16 :=
  fun y => X (ix2 (⟨(256 * n + (y 0).val) % 8192, Nat.mod_lt _ (by norm_num)⟩ : Fin 8192) (y 1))

/-- The loop's counter with `n` blocks still to visit: the index of the next one. -/
def cw (n : ℕ) : BitVec 32 := Scalar.subi (BitVec.ofNat 32 n) 1#32

theorem cw_succ (n : ℕ) : cw (n + 1) = BitVec.ofNat 32 n := by
  unfold cw Scalar.subi
  rw [BitVec.ofNat_add]
  exact BitVec.add_sub_cancel _ _

theorem cw_zero_test : Scalar.cmpi .sge (cw 0) 0#32 = 0#1 := by decide

theorem cw_succ_test : ∀ n : Fin 32, Scalar.cmpi .sge (cw (n.val + 1)) 0#32 = 1#1 := by decide

theorem off2_eq : ∀ n : Fin 32, k0_off2 (cw (n.val + 1)) = ![256 * n.val, 0] := by decide

theorem chk : ∀ n : Fin 32, k0_chk1 (cw (n.val + 1)) := by decide

/-- A load of 256 whole rows through a whole memref is those rows of what it holds. -/
theorem load_rows (a : Memref sig .tc .vmem S8192x128 .bf16) (h : a.IsWhole) (X : Vec F S8192x128 .bf16) (n : Fin 32)
    (off : Fin 2 → ℕ) (hoff : off = ![256 * n.val, 0]) (inb) :
    a.view.readAt (Elt F) (Rect.unit (s := S8192x128) off S256x128.size inb).toLoadRect (h.unread X) = rows X n.val := by
  subst hoff
  funext y
  change a.view.read (Elt F) (h.unread X) _ = _
  rw [h.read_unread]
  unfold rows
  have hn := n.isLt
  have hy : (y 0).val < 256 := (y 0).isLt
  refine congrArg X (funext fun d => Fin.ext ?_)
  match d with
  | ⟨0, _⟩ =>
    refine Eq.trans ?_ (Nat.mod_eq_of_lt (by omega : 256 * n.val + (y 0).val < 8192)).symm
    exact Rect.idx_unit_val _ _ inb y 0
  | ⟨1, _⟩ =>
    refine (Rect.idx_unit_val _ _ inb y 1).trans ?_
    exact Nat.zero_add _
  | ⟨k + 2, h⟩ => exact absurd h (by simp)

/-! ### The walk -/

section Walk

variable (q : Vec F S256x128 .bf16) (tri : FVec F S256x256 .bf16) (X Y : Vec F S8192x128 .bf16)

/-- The accumulator and the carry the walk leaves from `(a, b)` with `n` blocks still to visit: while the largest
    carry is above the cut-off, block `n - 1` is added and the walk goes on below it. -/
def walk : ℕ → FVec F S256x128 .f32 → FVec F S256x1 .f32 → FVec F S256x128 .f32 × FVec F S256x1 .f32
  | 0, a, b => (a, b)
  | n + 1, a, b =>
    if Scalar.cmpf .ogt (k0_pay4 b) (Named.named κ "exp_zero_below" 0xC2D00000#32 : F .f32) = 1#1 then
      walk n (k0_pay7 q tri a b (rows X n) (rows Y n)) (k0_pay8 q b (rows X n))
    else (a, b)

end Walk

section Label

variable (c : Dev nD) (i : grid0.Coords) (arg3 : Memref sig .tc .vmem S8192x128 .bf16) (harg3 : arg3.IsWhole)
  (arg4 : Memref sig .tc .vmem S8192x128 .bf16) (harg4 : arg4.IsWhole)
  (q : Vec F S256x128 .bf16) (tri : FVec F S256x256 .bf16) (X Y : Vec F S8192x128 .bf16)

/-- The key and the value column, held whole. -/
def held : sProp 𝕄 :=
  iprop((arg3.view.loc (c : Thread nD τ) ↦[arg3.view.set]{fullShare} harg3.unread X)
    ∗ (arg4.view.loc (c : Thread nD τ) ↦[arg4.view.set]{fullShare} harg4.unread Y))

/-- The walk's label with `n` blocks still to visit: it gives the two columns back and returns some word with the
    walk's accumulator and carry. -/
def spec (n : ℕ) (a : FVec F S256x128 .f32) (b : FVec F S256x1 .f32) :
    sWPT 𝕄 (BitVec 32 × FVec F S256x128 .f32 × FVec F S256x1 .f32) := do
  sWPT.consume (held c arg3 harg3 arg4 harg4 X Y)
  let w ← sWPT.arbitrary
  sWPT.produce (held c arg3 harg3 arg4 harg4 X Y)
  pure (w, walk q tri X Y n a b)

theorem spec_apply (n : ℕ) (a : FVec F S256x128 .f32) (b : FVec F S256x1 .f32)
    (K : BitVec 32 × FVec F S256x128 .f32 × FVec F S256x1 .f32 → sProp 𝕄) :
    spec c arg3 harg3 arg4 harg4 q tri X Y n a b K
      = iprop(held c arg3 harg3 arg4 harg4 X Y
          ∗ ∀ w : BitVec 32, (held c arg3 harg3 arg4 harg4 X Y -∗ K (w, walk q tri X Y n a b))) := rfl

/-- The label's body meets the specification, by induction on the blocks still to visit. -/
theorem spec_le (E : Set ℕ) : ∀ n, n ≤ 32 → ∀ a b K, spec c arg3 harg3 arg4 harg4 q tri X Y n a b K
      ⊢ wp frame (wpE (defs₀ (F := F)) 𝒱₀ (c : Thread nD τ) (some n)) E
          (defs₀ (F := F) .tc 1 ⟨i, arg3, harg3, arg4, harg4, q, tri, cw n, a, b⟩) K := by
  intro n
  induction n with
  | zero =>
    intro _ a b K
    rw [spec_apply]
    show _ ⊢ wp frame (wpE (defs₀ (F := F)) 𝒱₀ (c : Thread nD τ) (some 0)) E
      (cc0_while1 i arg3 harg3 arg4 harg4 q tri (cw 0) a b) K
    simp only [cc0_while1_eq_skeleton]; unfold cc0_while1_skel
    have ht : ¬ Scalar.andi (Scalar.cmpi .sge (cw 0) 0#32)
        (Scalar.cmpf .ogt (k0_pay4 b) (Named.named κ "exp_zero_below" 0xC2D00000#32 : F .f32)) = 1#1 := by
      rw [cw_zero_test]
      generalize Scalar.cmpf .ogt (k0_pay4 b) (Named.named κ "exp_zero_below" 0xC2D00000#32 : F .f32) = z
      revert z; decide
    simp only [ht, ↓reduceIte, Prog.pure_eq_ret]
    iintro ⟨H, Hk⟩
    rw [wp_ret]; imodintro
    rw [show walk q tri X Y 0 a b = (a, b) from rfl]
    iapply Hk $$ H
  | succ n ih =>
    intro hn a b K
    have htest := cw_succ_test ⟨n, hn⟩
    have hchk := chk ⟨n, hn⟩
    rw [spec_apply]
    show _ ⊢ wp frame (wpE (defs₀ (F := F)) 𝒱₀ (c : Thread nD τ) (some (n + 1))) E
      (cc0_while1 i arg3 harg3 arg4 harg4 q tri (cw (n + 1)) a b) K
    simp only [cc0_while1_eq_skeleton]; unfold cc0_while1_skel
    by_cases hc : Scalar.cmpf .ogt (k0_pay4 b) (Named.named κ "exp_zero_below" 0xC2D00000#32 : F .f32) = 1#1
    · have ht : Scalar.andi (Scalar.cmpi .sge (cw (n + 1)) 0#32)
          (Scalar.cmpf .ogt (k0_pay4 b) (Named.named κ "exp_zero_below" 0xC2D00000#32 : F .f32)) = 1#1 := by
        rw [htest, hc]; decide
      simp only [ht, ↓reduceIte, Prog.lift, Prog.bind_op, Prog.bind_ret, Prog.pure_eq_ret]
      unfold held
      iintro ⟨⟨H3, H4⟩, Hk⟩
      iapply (wp_assume 𝒱₀ (c : Thread nD τ) (some (n + 1)) E hchk)
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      rw [load_rows arg3 harg3 X ⟨n, hn⟩ _ (off2_eq ⟨n, hn⟩), load_rows arg4 harg4 Y ⟨n, hn⟩ _ (off2_eq ⟨n, hn⟩)]
      rw [show Scalar.subi (cw (n + 1)) 1#32 = cw n by rw [cw_succ]; rfl]
      iapply (wp_call_spec 𝒱₀ (c : Thread nD τ) (some (n + 1)) E
        (spec c arg3 harg3 arg4 harg4 q tri X Y n _ _) n
        (fun u hu => by cases hu; exact Nat.lt_succ_self n) (ih (by omega) _ _))
      rw [spec_apply]; unfold held
      isplitl [H3 H4]
      · isplitl [H3]; · iexact H3
        iexact H4
      iintro %w H
      rw [wp_ret]; imodintro
      have hw : walk q tri X Y (n + 1) a b
          = walk q tri X Y n (k0_pay7 q tri a b (rows X n) (rows Y n)) (k0_pay8 q b (rows X n)) := by
        rw [walk, if_pos hc]
      rw [hw]
      iapply Hk $$ H
    · have ht : ¬ Scalar.andi (Scalar.cmpi .sge (cw (n + 1)) 0#32)
          (Scalar.cmpf .ogt (k0_pay4 b) (Named.named κ "exp_zero_below" 0xC2D00000#32 : F .f32)) = 1#1 := by
        rw [htest]; intro h; apply hc; revert h
        generalize Scalar.cmpf .ogt (k0_pay4 b) (Named.named κ "exp_zero_below" 0xC2D00000#32 : F .f32) = z
        revert z; decide
      simp only [ht, ↓reduceIte, Prog.pure_eq_ret]
      iintro ⟨H, Hk⟩
      rw [wp_ret]; imodintro
      rw [show walk q tri X Y (n + 1) a b = (a, b) by rw [walk, if_neg hc]]
      iapply Hk $$ H

end Label

/-! ### The body at one grid point -/

/-- What the body leaves in the output's block: the diagonal block's contribution, then the walk's over the blocks
    before it. -/
def out (i : grid0.Coords) (q : Vec F S256x128 .bf16) (X Y : Vec F S8192x128 .bf16) (tri : Vec F S256x256 .bf16) :
    Vec F S256x128 .bf16 :=
  k0_pay3 (walk q (k0_pay9 tri) X Y (i 1).val
    (k0_pay1 (k0_pay10 (F := F)) (k0_pay11 (F := F)) (rows Y (i 1).val) k0_pay13 (k0_pay15 q tri (rows X (i 1).val)))
    (k0_pay2 (k0_pay11 (F := F)) (k0_pay14 q (rows X (i 1).val)))).1

/-- The body's triple: the inputs' staging memrefs given back, the output's left at `out`. -/
theorem body (c : Dev nD) (i : grid0.Coords) (arg2 : Memref sig .tc .vmem S256x128 .bf16) (harg2 : arg2.IsWhole)
    (arg3 : Memref sig .tc .vmem S8192x128 .bf16) (harg3 : arg3.IsWhole)
    (arg4 : Memref sig .tc .vmem S8192x128 .bf16) (harg4 : arg4.IsWhole)
    (arg5 : Memref sig .tc .vmem S256x256 .bf16) (harg5 : arg5.IsWhole)
    (arg6 : Memref sig .tc .vmem S256x128 .bf16) (harg6 : arg6.IsWhole)
    (q : Vec F S256x128 .bf16) (X Y : Vec F S8192x128 .bf16) (tri : Vec F S256x256 .bf16)
    (K : PUnit → sProp 𝕄) :
    iprop(owns (c : Thread nD τ) arg2 fullShare q ∗ owns (c : Thread nD τ) arg3 fullShare X
        ∗ owns (c : Thread nD τ) arg4 fullShare Y ∗ owns (c : Thread nD τ) arg5 fullShare tri
        ∗ (∃ d, owns (c : Thread nD τ) arg6 fullShare d)
        ∗ (iprop(owns (c : Thread nD τ) arg2 fullShare q ∗ owns (c : Thread nD τ) arg3 fullShare X
            ∗ owns (c : Thread nD τ) arg4 fullShare Y ∗ owns (c : Thread nD τ) arg5 fullShare tri
            ∗ owns (c : Thread nD τ) arg6 fullShare (out i q X Y tri)) -∗ K ⟨⟩))
      ⊢ wp frame (wpE (defs₀ (F := F)) 𝒱₀ (c : Thread nD τ) none) Set.univ
          (cc0_sb_prompt i arg2 harg2 arg3 harg3 arg4 harg4 arg5 harg5 arg6 harg6) K := by
  have hi : (i 1).val < 32 := (i 1).isLt
  simp only [cc0_sb_prompt_eq_skeleton]; unfold cc0_sb_prompt_skel
  simp only [k0_part1_eq_skeleton]; unfold k0_part1_skel
  simp only [Prog.lift, Prog.bind_op, Prog.bind_ret, Prog.pure_eq_ret]
  unfold owns
  iintro ⟨⟨%f2, %h2, H2⟩, ⟨%f3, %h3, H3⟩, ⟨%f4, %h4, H4⟩, ⟨%f5, %h5, H5⟩, ⟨%d6, %f6, -, H6⟩, Hk⟩
  obtain rfl := harg2.eq_unread h2; obtain rfl := harg3.eq_unread h3
  obtain rfl := harg4.eq_unread h4; obtain rfl := harg5.eq_unread h5
  iapply (wp_load 𝒱₀ (c : Thread nD τ) none Set.univ (m := arg2) (View.setOn_subset_set _ _)) $$ H2; iintro H2
  iapply (wp_load 𝒱₀ (c : Thread nD τ) none Set.univ (m := arg5) (View.setOn_subset_set _ _)) $$ H5; iintro H5
  iapply (wp_load 𝒱₀ (c : Thread nD τ) none Set.univ (m := arg3) (View.setOn_subset_set _ _)) $$ H3; iintro H3
  iapply (wp_load 𝒱₀ (c : Thread nD τ) none Set.univ (m := arg4) (View.setOn_subset_set _ _)) $$ H4; iintro H4
  rw [load_rows arg3 harg3 X ⟨(i 1).val, hi⟩ _ (k0_off1_eq i), load_rows arg4 harg4 Y ⟨(i 1).val, hi⟩ _ (k0_off1_eq i)]
  rw [View.readAt_full, View.readAt_full, harg2.read_unread, harg5.read_unread]
  iapply (wp_call_spec 𝒱₀ (c : Thread nD τ) none Set.univ
    (spec c arg3 harg3 arg4 harg4 q (k0_pay9 tri) X Y (i 1).val _ _) (i 1).val
    (fun u hu => nomatch hu) (spec_le c i arg3 harg3 arg4 harg4 q (k0_pay9 tri) X Y Set.univ (i 1).val (by omega) _ _))
  rw [spec_apply]; unfold held
  isplitl [H3 H4]
  · isplitl [H3]; · iexact H3
    iexact H4
  iintro %w ⟨H3, H4⟩
  iapply (wp_load 𝒱₀ (c : Thread nD τ) none Set.univ (m := arg6) (View.setOn_subset_set _ _)) $$ H6; iintro H6
  iapply (wp_store 𝒱₀ (c : Thread nD τ) none Set.univ (m := arg6)
    (r := Rect.unit (s := S256x128) ![0, 0] S256x128.size inb_S256x128_S256x128_0_0) (Mk := Finset.univ)
    (by rw [View.setOn_univ]; exact View.set_slice_subset _ _)) $$ H6; iintro H6
  rw [wp_ret]; imodintro
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr
  swap; · iexact H6
  ipureintro
  exact View.read_writes_full arg6.view _ inb_S256x128_S256x128_0_0 _ []

end Cert.KernelIdeal.Sb

end
-- ==== Proof.SbIdealFrame.lean ====
/- Stick-breaking attention, the run: the proof data of its pipeline over `SbIdealLoop`'s body triple, the body obligation at every
   grid point, the launch and the frame. -/
module

public import proofs.«01_k».proof.Proof.SbIdealLoop
public import proofs.«01_k».proof.Proof.Gen.KernelIdeal.Points
public import Idealize.ShloMosaic.Lib.Claim

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain : Pipeline.HMain (Ix := Unit) (Name := ℕ) (U := UR sig nD τ) (Lvl := ℕ) (cfgs (F := F)) 0 defs₀ 𝒱₀ m (main (F := F)) (V m) :=
  Pipeline.hmain_prefix (cfgs (F := F)) 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ ((cfgs (F := F)) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-! ## The staging memrefs -/

/-- Each window's current staging memref at point `t`, spelled as the pipeline passes it (`bodyAt0`), and its wholeness. -/
abbrev ms0_0 (t : Fin (cfg0 (F := F)).N) : Memref sig .tc .vmem S256x128 .bf16 := win0_0.stage ((cfg0 (F := F)).slots t 0)
abbrev hs0_0 (t : Fin (cfg0 (F := F)).N) : (ms0_0 t).IsWhole := hstage0_0 (((cfg0 (F := F)).slots t 0).cast nbuf0_0)
abbrev ms0_1 (t : Fin (cfg0 (F := F)).N) : Memref sig .tc .vmem S8192x128 .bf16 := win0_1.stage ((cfg0 (F := F)).slots t 1)
abbrev hs0_1 (t : Fin (cfg0 (F := F)).N) : (ms0_1 t).IsWhole := hstage0_1 (((cfg0 (F := F)).slots t 1).cast nbuf0_1)
abbrev ms0_2 (t : Fin (cfg0 (F := F)).N) : Memref sig .tc .vmem S8192x128 .bf16 := win0_2.stage ((cfg0 (F := F)).slots t 2)
abbrev hs0_2 (t : Fin (cfg0 (F := F)).N) : (ms0_2 t).IsWhole := hstage0_2 (((cfg0 (F := F)).slots t 2).cast nbuf0_2)
abbrev ms0_3 (t : Fin (cfg0 (F := F)).N) : Memref sig .tc .vmem S256x256 .bf16 := win0_3.stage ((cfg0 (F := F)).slots t 3)
abbrev hs0_3 (t : Fin (cfg0 (F := F)).N) : (ms0_3 t).IsWhole := hstage0_3 (((cfg0 (F := F)).slots t 3).cast nbuf0_3)
abbrev ms0_4 (t : Fin (cfg0 (F := F)).N) : Memref sig .tc .vmem S256x128 .bf16 := win0_4.stage ((cfg0 (F := F)).slots t 4)
abbrev hs0_4 (t : Fin (cfg0 (F := F)).N) : (ms0_4 t).IsWhole := hstage0_4 (((cfg0 (F := F)).slots t 4).cast nbuf0_4)

/-! ## What the outputs hold after each point -/

/-- What the output's staging buffer holds after the body at point `t`: `out` at the point's input blocks. -/
def outsAt0 (c : Dev nD) (t : Fin (cfg0 (F := F)).N) : Vec F S256x128 .bf16 :=
  out (grid0.coords t) (iblk m c 0 t) (iblk m c 1 t) (iblk m c 2 t) (iblk m c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = (outsAt0 m c t) := rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks (`before0_W`); so the
    run applies; the invariant passes through unread; the core owes nothing throughout. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outsAt0
  iintro ⟨HΦ, Ho, ⟨%d0, H0⟩, ⟨%d1, H1⟩, ⟨%d2, H2⟩, ⟨%d3, H3⟩, ⟨%d4, H4⟩⟩
  iapply (body c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Sb

end
-- ==== Proof.SbMath.lean ====
/- The arithmetic of stick-breaking over the extended reals: the logarithm of the sigmoid and of its complement, the
   exact product with a triangle of ones of an array split in two, and the sums of one row of the attention taken
   256 keys at a time from the last block to the first. -/
module

public import Idealize.ShloMosaic.Lib.Pointwise
public import Idealize.ShloMosaic.Lib.WordCmp

@[expose] public section

noncomputable section

open Idealize.ShloMosaic

namespace StickBreaking

/-- The logarithm of the complement of the sigmoid. -/
def lg (z : EReal) : EReal := 0 - (max z 0 + Ideal.log (1 + Ideal.exp (0 - max z (-z))))

/-- The logarithm of the sigmoid. -/
def ls (z : EReal) : EReal := -(max (-z) 0 + Ideal.log1p (Ideal.exp (-max (-z) (- -z))))

theorem lg_bot : lg ⊥ = 0 := by
  have h : Ideal.log (1 : EReal) = 0 := by
    rw [← EReal.coe_one, Ideal.log_coe]; norm_num
  simp [lg, h]

theorem lg_top : lg ⊤ = ⊥ := by
  have h : Ideal.log (1 : EReal) = 0 := by
    rw [← EReal.coe_one, Ideal.log_coe]; norm_num
  simp [lg, h]

/-- The correction of the softplus at a real number. -/
def cor (r : ℝ) : ℝ := Real.log (1 + Real.exp (-|r|))

theorem cor_nonneg (r : ℝ) : 0 ≤ cor r :=
  Real.log_nonneg (by have := Real.exp_pos (-|r|); linarith)

theorem coe_max (a b : ℝ) : ((max a b : ℝ) : EReal) = max (a : EReal) (b : EReal) := EReal.coe_strictMono.monotone.map_max

theorem abs_coe (r : ℝ) : max (r : EReal) (-(r : EReal)) = ((|r| : ℝ) : EReal) := by
  rw [← EReal.coe_neg, ← coe_max]; rfl

theorem log_coe (r : ℝ) : Ideal.log (1 + Ideal.exp (-((|r| : ℝ) : EReal))) = (cor r : EReal) := by
  rw [← EReal.coe_neg, Ideal.exp_coe, ← EReal.coe_one, ← EReal.coe_add, Ideal.log_coe, if_neg]
  · rfl
  · have := Real.exp_pos (-|r|); linarith

theorem lg_coe (r : ℝ) : lg r = ((-(max r 0 + cor r) : ℝ) : EReal) := by
  rw [lg, abs_coe, zero_sub, zero_sub, log_coe, ← EReal.coe_zero, ← coe_max, ← EReal.coe_add, ← EReal.coe_neg]

theorem ls_coe (r : ℝ) : ls r = ((-(max (-r) 0 + cor r) : ℝ) : EReal) := by
  rw [ls, neg_neg, max_comm (-(r : EReal)) (r : EReal), abs_coe, Ideal.log1p, log_coe, ← EReal.coe_zero, ← EReal.coe_neg,
    ← coe_max, ← EReal.coe_add, ← EReal.coe_neg]

theorem ls_bot : ls ⊥ = ⊥ := by
  have h : Ideal.log (1 : EReal) = 0 := by
    rw [← EReal.coe_one, Ideal.log_coe]; norm_num
  simp [ls, h, Ideal.log1p]

theorem ls_top : ls ⊤ = 0 := by
  have h : Ideal.log (1 : EReal) = 0 := by
    rw [← EReal.coe_one, Ideal.log_coe]; norm_num
  simp [ls, h, Ideal.log1p]

/-- The logarithm of the complement is the logarithm of the sigmoid of the minus. -/
theorem ls_neg (z : EReal) : ls (-z) = lg z := by
  rw [ls, lg, neg_neg, zero_sub, zero_sub, Ideal.log1p]

theorem lg_nonpos (z : EReal) : lg z ≤ 0 := by
  induction z with
  | bot => rw [lg_bot]
  | top => rw [lg_top]; exact bot_le
  | coe r =>
    rw [lg_coe, ← EReal.coe_zero, EReal.coe_le_coe_iff]
    have := cor_nonneg r
    have := le_max_right r 0
    linarith

/-- The exponent of a weight, as the kernel and as the reference add it up. -/
theorem weight_eq (z T : EReal) (hT : T ≤ 0) : ls z + ((lg z + T) - lg z) = z + lg z + T := by
  induction z with
  | bot => rw [ls_bot]; simp
  | top => rw [lg_top, ls_top]; simp
  | coe r =>
    induction T with
    | bot => simp
    | top => exact absurd hT (by simp)
    | coe t =>
      rw [lg_coe, ls_coe]
      norm_cast
      rcases max_cases r 0 with h | h <;> rcases max_cases (-r) 0 with h' | h' <;> rw [h.1, h'.1] <;> linarith

/-- A number split in two and put together again. -/
theorem add_sub_self (a : EReal) (ha : a ≠ ⊤) : a + (a - a) = a := by
  induction a with
  | bot => simp
  | top => exact absurd rfl ha
  | coe r => norm_cast; ring

/-- The product of a row split in two with a triangle of ones is the sum of the row past the column. -/
theorem split_dot (f : Fin 256 → EReal) (hf : ∀ x, f x ≤ 0) (t : Fin 256 → EReal) (x : Fin 256)
    (ht : ∀ y : Fin 256, t y = if x.val < y.val then 1 else 0) :
    ∑ y : Fin 256, f y * t y + ∑ y : Fin 256, (f y - f y) * t y = ∑ y : Fin 256, if x.val < y.val then f y else 0 := by
  rw [← Finset.sum_add_distrib]
  refine Finset.sum_congr rfl fun y _ => ?_
  rw [ht y]
  by_cases h : x.val < y.val
  · rw [if_pos h, if_pos h, mul_one, mul_one]
    exact add_sub_self _ fun e => by have := hf y; rw [e] at this; exact absurd this (by simp)
  · rw [if_neg h, if_neg h, mul_zero, mul_zero, add_zero]

variable (z v : ℕ → EReal) (r : ℕ)

/-- The logarithm a key of the row contributes to the weights of the keys before it. -/
def L (k : ℕ) : EReal := if k < r then lg (z k) else 0

/-- The sum of the logarithms after a key. -/
def T (k : ℕ) : EReal := ∑ j ∈ Finset.Ico (k + 1) 8192, L z r j

/-- The weight of a key. -/
def W (k : ℕ) : EReal := if k < r then Ideal.exp (z k + lg (z k) + T z r k) else 0

/-- The weighted sum of the values from block `n` on. -/
def acc (n : ℕ) : EReal := ∑ k ∈ Finset.Ico (256 * n) 8192, W z r k * v k

/-- The sum of the logarithms from block `n` on. -/
def car (n : ℕ) : EReal := ∑ k ∈ Finset.Ico (256 * n) 8192, L z r k

theorem L_nonpos (k : ℕ) : L z r k ≤ 0 := by
  unfold L; split
  · exact lg_nonpos _
  · exact le_rfl

theorem T_nonpos (k : ℕ) : T z r k ≤ 0 := Finset.sum_nonpos fun j _ => L_nonpos z r j

theorem acc_past (n : ℕ) (h : r ≤ 256 * n) : acc z v r n = 0 :=
  Finset.sum_eq_zero fun k hk => by
    have := (Finset.mem_Ico.mp hk).1
    rw [W, if_neg (by omega), zero_mul]

theorem car_past (n : ℕ) (h : r ≤ 256 * n) : car z r n = 0 :=
  Finset.sum_eq_zero fun k hk => by
    have := (Finset.mem_Ico.mp hk).1
    rw [L, if_neg (by omega)]

theorem sum_block (f : ℕ → EReal) (n : ℕ) :
    ∑ x : Fin 256, f (256 * n + x.val) = ∑ k ∈ Finset.Ico (256 * n) (256 * (n + 1)), f k := by
  rw [Fin.sum_univ_eq_sum_range (fun k => f (256 * n + k)) 256, Finset.sum_Ico_eq_sum_range]
  congr 2; omega

theorem sum_after (f : ℕ → EReal) (n : ℕ) (x : Fin 256) :
    (∑ y : Fin 256, if x.val < y.val then f (256 * n + y.val) else 0)
      = ∑ k ∈ Finset.Ico (256 * n + x.val + 1) (256 * (n + 1)), f k := by
  have h := sum_block (fun k => if 256 * n + x.val < k then f k else 0) n
  refine (Finset.sum_congr rfl fun y _ => ?_).trans (h.trans ((Finset.sum_filter _ _).symm.trans
    (Finset.sum_congr ?_ fun _ _ => rfl)))
  · by_cases hx : x.val < y.val
    · rw [if_pos hx, if_pos (by omega)]
    · rw [if_neg hx, if_neg (by omega)]
  · ext k; simp only [Finset.mem_filter, Finset.mem_Ico]; omega

/-- The sum of the logarithms goes on by one block. -/
theorem car_step (n : ℕ) (hn : n < 32) :
    car z r (n + 1) + ∑ x : Fin 256, L z r (256 * n + x.val) = car z r n := by
  rw [sum_block (L z r) n, add_comm, car, car]
  exact Finset.sum_Ico_consecutive _ (by omega) (by omega)

theorem T_eq (n : ℕ) (hn : n < 32) (x : Fin 256) :
    (∑ y : Fin 256, if x.val < y.val then L z r (256 * n + y.val) else 0) + car z r (n + 1) = T z r (256 * n + x.val) := by
  rw [sum_after (L z r) n x, car, T]
  exact Finset.sum_Ico_consecutive _ (by omega) (by omega)

/-- The weighted sum goes on by one block, the weights read as the kernel computes them. -/
theorem acc_step (n : ℕ) (hn : n < 32) :
    acc z v r (n + 1) + ∑ x : Fin 256, (if 256 * n + x.val < r then
        Ideal.exp (z (256 * n + x.val) + L z r (256 * n + x.val)
          + (∑ y : Fin 256, if x.val < y.val then L z r (256 * n + y.val) else 0) + car z r (n + 1)) else 0)
        * v (256 * n + x.val) = acc z v r n := by
  have h : ∀ x : Fin 256, (if 256 * n + x.val < r then
        Ideal.exp (z (256 * n + x.val) + L z r (256 * n + x.val)
          + (∑ y : Fin 256, if x.val < y.val then L z r (256 * n + y.val) else 0) + car z r (n + 1)) else 0)
        = W z r (256 * n + x.val) := fun x => by
    rw [add_assoc (z _ + _), T_eq z r n hn x, W]
    by_cases hx : 256 * n + x.val < r
    · rw [if_pos hx, if_pos hx, L, if_pos hx]
    · rw [if_neg hx, if_neg hx]
  simp only [h]
  rw [sum_block (fun k => W z r k * v k) n, add_comm, acc, acc]
  exact Finset.sum_Ico_consecutive _ (by omega) (by omega)

/-- Once the sum of the logarithms is `-∞`, no key before contributes. -/
theorem acc_stop (n : ℕ) (hn : n ≤ 32) (h : car z r n = ⊥) : acc z v r n = acc z v r 0 := by
  have h0 : ∑ k ∈ Finset.Ico (256 * 0) (256 * n), W z r k * v k = 0 := Finset.sum_eq_zero fun k hk => by
    have hk := (Finset.mem_Ico.mp hk).2
    have hT : T z r k = ⊥ := by
      rw [T, ← Finset.sum_Ico_consecutive _ (show k + 1 ≤ 256 * n by omega) (show 256 * n ≤ 8192 by omega)]
      rw [show ∑ j ∈ Finset.Ico (256 * n) 8192, L z r j = ⊥ from h, EReal.add_bot]
    rw [W, hT]
    split
    · rw [EReal.add_bot, Ideal.exp_bot, zero_mul]
    · rw [zero_mul]
  rw [acc, acc, ← Finset.sum_Ico_consecutive _ (show 256 * 0 ≤ 256 * n by omega) (show 256 * n ≤ 8192 by omega), h0, zero_add]

/-- The reference's weight: the logarithm of the sigmoid plus the sum from the key on less the key's own. -/
theorem W_eq (k : ℕ) (hk : k < 8192) :
    (if k < r then Ideal.exp (ls (z k) + (∑ j ∈ Finset.Ico k 8192, L z r j - L z r k)) else 0) = W z r k := by
  rw [W]
  by_cases h : k < r
  · rw [if_pos h, if_pos h, Finset.sum_eq_sum_Ico_succ_bot hk, ← T, L, if_pos h, weight_eq _ _ (T_nonpos z r k)]
  · rw [if_neg h, if_neg h]

/-- The scaled score of a query with the `n`-th key. -/
def score (q : Fin 128 → EReal) (k : ℕ → Fin 128 → EReal) (n : ℕ) : EReal :=
  (∑ x : Fin 128, q x * k n x) * Ideal.ofBits .f32 0x3DB504F3#32

theorem slt_select (a b : ℕ) (ha : a < 8192) (hb : b < 8192) (x y : EReal) :
    Scalar.select (IntOp.cmpi .slt (BitVec.ofNat 32 a) (BitVec.ofNat 32 b)) x y = if a < b then x else y := by
  unfold Scalar.select
  exact if_congr (WordCmp.cmpi_slt_ofNat_eq_one_iff (by omega) (by omega)) rfl rfl

theorem foldl_add {α : Type*} (l : List α) (f : α → EReal) (v : EReal) :
    l.foldl (fun r n => r + f n) v = v + (l.map f).sum := by
  induction l generalizing v with
  | nil => simp
  | cons a l ih => rw [List.foldl_cons, ih, List.map_cons, List.sum_cons, add_assoc]

/-- A sum over a window of 8192 positions that starts at a key and runs off the end of the row. -/
theorem sum_window (f : ℕ → EReal) (k : ℕ) (hk : k < 8192) :
    ∑ w : Fin 8192, (if k + w.val < 8192 then f (k + w.val) else 0) = ∑ j ∈ Finset.Ico k 8192, f j := by
  rw [Fin.sum_univ_eq_sum_range (fun w => if k + w < 8192 then f (k + w) else 0) 8192, ← Finset.sum_filter,
    Finset.sum_Ico_eq_sum_range]
  refine Finset.sum_congr ?_ fun _ _ => rfl
  ext w; simp only [Finset.mem_filter, Finset.mem_range]; omega

end StickBreaking

end
-- ==== Proof.SbRef.lean ====
/- The reference's stick-breaking attention read at an index: the score of a query and a key, the masked logarithms, the
   weights, and the weighted sum of the values. -/
module

public import proofs.«01_k».proof.Proof.Gen.ReferenceIdeal.Run
public import proofs.«01_k».proof.Proof.SbMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.ReferenceIdeal.Sb

open Cert.ReferenceIdeal Cert.ReferenceIdeal.Gen StickBreaking

/-- The keys before each query. -/
def mask : IVec S8x8192x8192 1 :=
  broadcastInDim S8x8192x8192 ![1, 2] bcast_S8192x8192_S8x8192x8192_1_2 (cmpi .slt
    (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0))))

/-- A constant array of the scores' shape. -/
def fill (b : BitVec 32) : FVec Ideal S8x8192x8192 .f32 := broadcastInDim S8x8192x8192 ![] bcast_S_S8x8192x8192 (constant S_ .f32 b)

/-- The heads of an argument. -/
def heads (X : FVec Ideal S8192x1024 .bf16) : FVec Ideal S8192x8x128 .f32 :=
  shapeCast _ (extf .f32 X bitsLt_bf16_f32) shapeCasts_S8192x1024_S8192x8x128

/-- The scaled scores. -/
def scores (Q K : FVec Ideal S8192x1024 .bf16) : FVec Ideal S8x8192x8192 .f32 :=
  mulf (Host.dotGeneral dot_S8192x8x128_S8192x8x128_S8x8192x8192_2_2_0_0_1_1 none (heads Q) (heads K)) (fill 0x3DB504F3#32)

/-- The logarithm of the sigmoid, as the minus softplus of the minus. -/
def logsig (Z : FVec Ideal S8x8192x8192 .f32) : FVec Ideal S8x8192x8192 .f32 :=
  Host.negf (select (cmpf .une (subf (Host.negf Z) (fill 0x00000000#32)) (subf (Host.negf Z) (fill 0x00000000#32)))
    (addf (Host.negf Z) (fill 0x00000000#32)) (addf (maximumf (Host.negf Z) (fill 0x00000000#32))
      (Host.log1p (Host.exp (Host.negf (Host.absf (subf (Host.negf Z) (fill 0x00000000#32))))))))

/-- The logarithms of what a key leaves to the ones before it, zero past the query. -/
def left (Z : FVec Ideal S8x8192x8192 .f32) : FVec Ideal S8x8192x8192 .f32 :=
  select mask (logsig (Host.negf Z)) (fill 0x00000000#32)

/-- The sums of a row from each key on. -/
def sums (L : FVec Ideal S8x8192x8192 .f32) : FVec Ideal S8x8192x8192 .f32 :=
  Host.reduceWindowAdd ![1, 1, 8192] ![1, 1, 1] ![0, 0, 0] ![0, 0, 8191] L
    (broadcastInDim S_ ![] bcast_S_S_ (constant S_ .f32 0x00000000#32))
    reduceWindows_S8x8192x8192_S8x8192x8192_w1s1p0_0_w1s1p0_0_w8192s1p0_8191 h_S_

/-- The attention weights. -/
def weights (Z : FVec Ideal S8x8192x8192 .f32) : FVec Ideal S8x8192x8192 .f32 :=
  select mask (Host.exp (addf (logsig Z) (subf (sums (left Z)) (left Z)))) (fill 0x00000000#32)

/-- The weighted sums of the values. -/
def attend (W : FVec Ideal S8x8192x8192 .f32) (V : FVec Ideal S8192x1024 .bf16) : FVec Ideal S8192x1024 .bf16 :=
  truncf .bf16 (shapeCast _ (transpose S8192x8x128 [2, 0, 1]
    (Host.dotGeneral dot_S8192x8x128_S8x8192x8192_S8x128x8192_0_2_2_1_1_0 none (heads V) W)
    transposes_S8x128x8192_S8192x8x128_2_0_1) shapeCasts_S8192x8x128_S8192x1024) bitsLt_bf16_f32

theorem res_eq (m : (ℓ : Loc nD τ sig) → Buf (Elt Ideal) ℓ) (c : Dev nD) :
    Cert.ReferenceIdeal.Value.res_main_v27 m c
      = attend (weights (scores (m ((c : Thread nD τ).loc main_arg0)) (m ((c : Thread nD τ).loc main_arg1))))
          (m ((c : Thread nD τ).loc main_arg2)) := rfl

theorem mask_at (h : Fin 8) (r k : Fin 8192) :
    mask (ix3 h r k) = IntOp.cmpi .slt (BitVec.ofNat 32 k.val) (BitVec.ofNat 32 r.val) := by
  pointwise [mask]

theorem fill_at (j) : fill 0x00000000#32 j = 0 := by pointwise [fill]

/-- The score of a query and a key. -/
theorem scores_at (Q K) (h : Fin 8) (r k : Fin 8192) : scores Q K (ix3 h r k)
    = score (fun x => Q (ix2 r (⟨h.val * 128 + x.val, by omega⟩ : Fin 1024)))
        (fun n x => K (ix2 (⟨n % 8192, Nat.mod_lt _ (by norm_num)⟩ : Fin 8192) (⟨h.val * 128 + x.val, by omega⟩ : Fin 1024))) k.val := by
  have hk : (⟨k.val % 8192, Nat.mod_lt _ (by norm_num)⟩ : Fin 8192) = k := Fin.ext (Nat.mod_eq_of_lt k.isLt)
  pointwise [scores, heads, fill]
  simp only [score, hk]

theorem logsig_at (Z) (h : Fin 8) (r k : Fin 8192) : logsig Z (ix3 h r k) = ls (Z (ix3 h r k)) := by
  pointwise [logsig, fill]
  rw [if_neg (not_not.mpr rfl)]
  rfl

theorem left_at (Z) (h : Fin 8) (r k : Fin 8192) :
    left Z (ix3 h r k) = if k.val < r.val then lg (Z (ix3 h r k)) else 0 := by
  pointwise [left]
  rw [mask_at, fill_at, slt_select _ _ k.isLt r.isLt, logsig_at]
  exact if_congr Iff.rfl (ls_neg _) rfl

theorem fill_init (j) : broadcastInDim S_ ![] bcast_S_S_ (constant (F := Ideal) S_ .f32 0x00000000#32) j = 0 := by pointwise

/-- An element of the scores' array, zero past its end. -/
def padded (X : FVec Ideal S8x8192x8192 .f32) (p : Fin 3 → Nat) : EReal :=
  if hin : ∀ a, (![0, 0, 0] : Fin 3 → Nat) a ≤ p a ∧ p a - (![0, 0, 0] : Fin 3 → Nat) a < S8x8192x8192.size a then
    X (fun a => ⟨p a - (![0, 0, 0] : Fin 3 → Nat) a, (hin a).2⟩) else 0

/-- The sum from a key on. -/
theorem sums_at (X : FVec Ideal S8x8192x8192 .f32) (h : Fin 8) (r k : Fin 8192) (f : ℕ → EReal)
    (hf : ∀ k : Fin 8192, X (ix3 h r k) = f k.val) : sums X (ix3 h r k) = ∑ j ∈ Finset.Ico k.val 8192, f j := by
  rw [← sum_window f k.val k.isLt]
  unfold sums Host.reduceWindowAdd
  rw [Ideal.hostReduceWindowAdd_def]
  unfold Ideal.hostReduceWindowAdd Host.reduceWindow
  dsimp only
  rw [foldl_add, ← Fin.sum_univ_def, fill_init, zero_add]
  refine (Finset.sum_congr rfl fun i _ => ?_).trans ((Equiv.sum_comp ((⟨3, ![1, 1, 8192]⟩ : Shape).rowMajor.symm) (fun i => padded X (fun a =>
    ((ix3 h r k : S8x8192x8192.Idx) (a.cast rfl)).val * (![1, 1, 1] : Fin 3 → Nat) a + (i a).val))).trans ?_)
  · unfold padded
    exact dite_congr rfl (fun _ => rfl) fun _ => rfl
  rw [sum_idx3, Fin.sum_univ_one, Fin.sum_univ_one]
  refine Finset.sum_congr rfl fun w _ => ?_
  unfold padded
  by_cases hw : k.val + w.val < 8192
  · rw [if_pos hw, dif_pos (by
      intro a
      fin_cases a
      · exact ⟨Nat.zero_le _, by show h.val * 1 + 0 - 0 < 8; omega⟩
      · exact ⟨Nat.zero_le _, by show r.val * 1 + 0 - 0 < 8192; omega⟩
      · exact ⟨Nat.zero_le _, by show k.val * 1 + w.val - 0 < 8192; omega⟩), ← hf ⟨k.val + w.val, hw⟩]
    refine congrArg X (funext fun a => Fin.ext ?_)
    fin_cases a
    · show h.val * 1 + 0 - 0 = h.val; omega
    · show r.val * 1 + 0 - 0 = r.val; omega
    · show k.val * 1 + w.val - 0 = k.val + w.val; omega
  · rw [if_neg hw, dif_neg]
    intro hin
    have h2 : k.val * 1 + w.val - 0 < 8192 := (hin 2).2
    omega

/-- A weight, in the shape the kernel computes it. -/
theorem weights_at (Z) (h : Fin 8) (r k : Fin 8192) (z : ℕ → EReal) (hz : ∀ k : Fin 8192, Z (ix3 h r k) = z k.val) :
    weights Z (ix3 h r k) = W z r.val k.val := by
  pointwise [weights]
  rw [mask_at, fill_at, slt_select _ _ k.isLt r.isLt, logsig_at, sums_at (left Z) h r k (L z r.val)
    (fun k => by rw [left_at, hz]; rfl), left_at, hz]
  exact W_eq z r.val k.val k.isLt

/-- The reference's result at an index: the weighted sum of the values, by the keys' numbers. -/
theorem attend_at (Q K V) (r : Fin 8192) (j : Fin 1024) : attend (weights (scores Q K)) V (ix2 r j)
    = acc (score (fun x => Q (ix2 r (⟨j.val / 128 * 128 + x.val, by omega⟩ : Fin 1024)))
        (fun n x => K (ix2 (⟨n % 8192, Nat.mod_lt _ (by norm_num)⟩ : Fin 8192) (⟨j.val / 128 * 128 + x.val, by omega⟩ : Fin 1024))))
      (fun n => V (ix2 (⟨n % 8192, Nat.mod_lt _ (by norm_num)⟩ : Fin 8192) j)) r.val 0 := by
  pointwise [attend, heads]
  rw [acc, mul_zero, ← Finset.range_eq_Ico, ← Fin.sum_univ_eq_sum_range]
  refine Finset.sum_congr rfl fun k _ => ?_
  have hk : (⟨k.val % 8192, Nat.mod_lt _ (by norm_num)⟩ : Fin 8192) = k := Fin.ext (Nat.mod_eq_of_lt k.isLt)
  rw [hk, mul_comm]
  refine congrArg₂ (fun a b : EReal => a * b) ?_ rfl
  exact weights_at _ _ r k _ fun k => scores_at Q K _ r k

end Cert.ReferenceIdeal.Sb

end
-- ==== Proof.SbValue.lean ====
/- The value of stick-breaking attention: each query block's walk over the key blocks before it, from the last to the
   first, leaves the sums of `SbMath`, and so the array the kernel writes is the reference's. -/
module

public import proofs.«01_k».proof.Proof.SbIdealFrame
public import proofs.«01_k».proof.Proof.SbRef
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Sb

open Cert.KernelIdeal Cert.KernelIdeal.Gen StickBreaking

/-! ### The body's values at an index -/

theorem pay5_at (q k : FVec Ideal S256x128 .bf16) (y x : Fin 256) : k0_pay5 (F := Ideal) q k (ix2 y x)
    = (∑ d : Fin 128, q (ix2 y d) * k (ix2 x d)) * Ideal.ofBits .f32 0x3DB504F3#32 := by pointwise [k0_pay5]

theorem pay6_at (q k : FVec Ideal S256x128 .bf16) (y x : Fin 256) :
    k0_pay6 (F := Ideal) q k (ix2 y x) = lg (k0_pay5 (F := Ideal) q k (ix2 y x)) := by
  pointwise [k0_pay6]
  rfl

theorem pay7_at (q k v : FVec Ideal S256x128 .bf16) (tri : FVec Ideal S256x256 .bf16) (a : FVec Ideal S256x128 .f32)
    (b : FVec Ideal S256x1 .f32) (y : Fin 256) (d : Fin 128) : k0_pay7 (F := Ideal) q tri a b k v (ix2 y d)
    = a (ix2 y d) + ∑ x : Fin 256, Ideal.exp (k0_pay5 (F := Ideal) q k (ix2 y x) + k0_pay6 (F := Ideal) q k (ix2 y x)
        + (∑ j : Fin 256, k0_pay6 (F := Ideal) q k (ix2 y j) * tri (ix2 j x)
          + ∑ j : Fin 256, (k0_pay6 (F := Ideal) q k (ix2 y j) - k0_pay6 (F := Ideal) q k (ix2 y j)) * tri (ix2 j x))
        + b (ix2 y 0)) * v (ix2 x d) := by pointwise [k0_pay7]

theorem pay8_at (q k : FVec Ideal S256x128 .bf16) (b : FVec Ideal S256x1 .f32) (y : Fin 256) :
    k0_pay8 (F := Ideal) q b k (ix2 y 0) = b (ix2 y 0) + ∑ x : Fin 256, k0_pay6 (F := Ideal) q k (ix2 y x) := by
  pointwise [k0_pay8]

theorem pay4_at (b : FVec Ideal S256x1 .f32) : k0_pay4 (F := Ideal) b
    = (Finset.univ : Finset (Fin 256 × Fin 1)).fold max (Ideal.ofBits .f32 0xFF800000#32) (fun x => b (ix2 x.1 0)) := by
  pointwise [k0_pay4]

theorem pay12_eq (q k : FVec Ideal S256x128 .bf16) : k0_pay12 (F := Ideal) q k = k0_pay5 (F := Ideal) q k := rfl

theorem pay14_at (q k : FVec Ideal S256x128 .bf16) (y x : Fin 256) : k0_pay14 (F := Ideal) q k (ix2 y x)
    = if x.val < y.val then lg (k0_pay5 (F := Ideal) q k (ix2 y x)) else 0 := by
  pointwise [k0_pay14, k0_pay13]
  rw [slt_select _ _ (by omega) (by omega)]
  rfl

theorem pay15_at (q k : FVec Ideal S256x128 .bf16) (t : FVec Ideal S256x256 .bf16) (y x : Fin 256) :
    k0_pay15 (F := Ideal) q t k (ix2 y x)
    = k0_pay5 (F := Ideal) q k (ix2 y x) + k0_pay14 (F := Ideal) q k (ix2 y x)
        + (∑ j : Fin 256, k0_pay14 (F := Ideal) q k (ix2 y j) * t (ix2 j x)
          + ∑ j : Fin 256, (k0_pay14 (F := Ideal) q k (ix2 y j) - k0_pay14 (F := Ideal) q k (ix2 y j)) * t (ix2 j x)) := by
  pointwise [k0_pay15, k0_pay9]
  rfl

theorem pay1_at (v : FVec Ideal S256x128 .bf16) (w : FVec Ideal S256x256 .f32) (a : FVec Ideal S256x128 .f32)
    (b : FVec Ideal S256x1 .f32) (y : Fin 256) (d : Fin 128) : k0_pay1 (F := Ideal) a b v k0_pay13 w (ix2 y d)
    = a (ix2 y d) + ∑ x : Fin 256, (if x.val < y.val then Ideal.exp (w (ix2 y x) + b (ix2 y 0)) else 0) * v (ix2 x d) := by
  pointwise [k0_pay1, k0_pay13]
  refine congrArg₂ (fun a b : EReal => a + b) rfl (Finset.sum_congr rfl fun x _ => ?_)
  rw [slt_select _ _ (by omega) (by omega), ite_mul, zero_mul]

theorem pay2_at (l : FVec Ideal S256x256 .f32) (b : FVec Ideal S256x1 .f32) (y : Fin 256) :
    k0_pay2 (F := Ideal) b l (ix2 y 0) = b (ix2 y 0) + ∑ x : Fin 256, l (ix2 y x) := by pointwise [k0_pay2]

theorem pay10_at (j) : k0_pay10 (F := Ideal) j = 0 := by pointwise [k0_pay10]
theorem pay11_at (j) : k0_pay11 (F := Ideal) j = 0 := by pointwise [k0_pay11]

/-! ### The walk -/

section Walk

variable (i : ℕ) (hi : i < 32) (q : FVec Ideal S256x128 .bf16) (X Y : FVec Ideal S8192x128 .bf16)
  (tri : FVec Ideal S256x256 .bf16) (htri : ∀ j x : Fin 256, tri (ix2 j x) = if x.val < j.val then 1 else 0)

/-- The scores of a row of the query block. -/
def zr (y : Fin 256) : ℕ → EReal :=
  score (fun x => q (ix2 y x)) (fun n x => X (ix2 (⟨n % 8192, Nat.mod_lt _ (by norm_num)⟩ : Fin 8192) x))

/-- A column of the values. -/
def vc (d : Fin 128) : ℕ → EReal := fun n => Y (ix2 (⟨n % 8192, Nat.mod_lt _ (by norm_num)⟩ : Fin 8192) d)

theorem score_at (n : ℕ) (y x : Fin 256) :
    k0_pay5 (F := Ideal) q (rows X n) (ix2 y x) = zr q X y (256 * n + x.val) := by
  rw [pay5_at]
  rfl

include hi htri

theorem step_acc (n : ℕ) (hn : n < i) (a : FVec Ideal S256x128 .f32) (b : FVec Ideal S256x1 .f32) (y : Fin 256) (d : Fin 128)
    (ha : a (ix2 y d) = acc (zr q X y) (vc Y d) (256 * i + y.val) (n + 1))
    (hb : b (ix2 y 0) = car (zr q X y) (256 * i + y.val) (n + 1)) :
    k0_pay7 (F := Ideal) q tri a b (rows X n) (rows Y n) (ix2 y d) = acc (zr q X y) (vc Y d) (256 * i + y.val) n := by
  rw [pay7_at, ha, hb, ← acc_step (zr q X y) (vc Y d) (256 * i + y.val) n (by omega)]
  refine congrArg₂ (fun a b : EReal => a + b) rfl (Finset.sum_congr rfl fun x _ => ?_)
  have hL : ∀ j : Fin 256, k0_pay6 (F := Ideal) q (rows X n) (ix2 y j) = L (zr q X y) (256 * i + y.val) (256 * n + j.val) := fun j => by
    rw [pay6_at, score_at, L, if_pos (by omega)]
  rw [split_dot (fun j => k0_pay6 (F := Ideal) q (rows X n) (ix2 y j)) (fun j => by rw [pay6_at]; exact lg_nonpos _)
    (fun j => tri (ix2 j x)) x (fun j => htri j x), if_pos (by omega), score_at]
  simp only [hL]
  rfl

theorem step_car (n : ℕ) (hn : n < i) (b : FVec Ideal S256x1 .f32) (y : Fin 256)
    (hb : b (ix2 y 0) = car (zr q X y) (256 * i + y.val) (n + 1)) :
    k0_pay8 (F := Ideal) q b (rows X n) (ix2 y 0) = car (zr q X y) (256 * i + y.val) n := by
  rw [pay8_at, hb, ← car_step (zr q X y) (256 * i + y.val) n (by omega)]
  refine congrArg₂ (fun a b : EReal => a + b) rfl (Finset.sum_congr rfl fun x _ => ?_)
  rw [pay6_at, score_at, L, if_pos (by omega)]

theorem diag_acc (y : Fin 256) (d : Fin 128) :
    k0_pay1 (F := Ideal) k0_pay10 k0_pay11 (rows Y i) k0_pay13 (k0_pay15 q tri (rows X i)) (ix2 y d)
      = acc (zr q X y) (vc Y d) (256 * i + y.val) i := by
  rw [pay1_at, pay10_at, pay11_at, ← acc_step (zr q X y) (vc Y d) (256 * i + y.val) i hi,
    acc_past (zr q X y) (vc Y d) (256 * i + y.val) (i + 1) (by omega), car_past (zr q X y) (256 * i + y.val) (i + 1) (by omega)]
  refine congrArg₂ (fun a b : EReal => a + b) rfl (Finset.sum_congr rfl fun x _ => ?_)
  have hL : ∀ j : Fin 256, k0_pay14 (F := Ideal) q (rows X i) (ix2 y j) = L (zr q X y) (256 * i + y.val) (256 * i + j.val) := fun j => by
    rw [pay14_at, score_at, L]
    exact if_congr (by omega) rfl rfl
  rw [pay15_at, split_dot (fun j => k0_pay14 (F := Ideal) q (rows X i) (ix2 y j)) (fun j => by rw [hL]; exact L_nonpos _ _ _)
    (fun j => tri (ix2 j x)) x (fun j => htri j x), score_at]
  simp only [hL]
  refine congrArg₂ (fun a b : EReal => a * b) (if_congr (by omega) rfl rfl) rfl

theorem diag_car (y : Fin 256) :
    k0_pay2 (F := Ideal) k0_pay11 (k0_pay14 q (rows X i)) (ix2 y 0) = car (zr q X y) (256 * i + y.val) i := by
  rw [pay2_at, pay11_at, ← car_step (zr q X y) (256 * i + y.val) i hi, car_past (zr q X y) (256 * i + y.val) (i + 1) (by omega)]
  refine congrArg₂ (fun a b : EReal => a + b) rfl (Finset.sum_congr rfl fun x _ => ?_)
  rw [pay14_at, score_at, L]
  exact if_congr (by omega) rfl rfl

omit hi htri in
/-- The walk stops early only where every carry is `-∞`. -/
theorem stop (b : FVec Ideal S256x1 .f32)
    (h : ¬ Scalar.cmpf (F := Ideal) .ogt (k0_pay4 (F := Ideal) b) (Named.named κ "exp_zero_below" 0xC2D00000#32 : Ideal .f32) = 1#1)
    (y : Fin 256) : b (ix2 y 0) = ⊥ := by
  rw [IdealRules.named_const.ideal_named_scalar κ "exp_zero_below" _ ⊥ rfl] at h
  by_contra hb
  apply h
  have hlt : (⊥ : EReal) < k0_pay4 (F := Ideal) b := by
    rw [pay4_at]
    refine lt_of_lt_of_le (bot_lt_iff_ne_bot.mpr hb) ?_
    rw [Finset.le_fold_max]
    exact .inr ⟨(y, 0), Finset.mem_univ _, le_rfl⟩
  rw [Ideal.scalar_cmpf_def]
  unfold Ideal.cmp
  simp [hlt]

theorem walk_at (n : ℕ) (hn : n ≤ i) (a : FVec Ideal S256x128 .f32) (b : FVec Ideal S256x1 .f32)
    (ha : ∀ y d, a (ix2 y d) = acc (zr q X y) (vc Y d) (256 * i + y.val) n)
    (hb : ∀ y, b (ix2 y 0) = car (zr q X y) (256 * i + y.val) n) (y : Fin 256) (d : Fin 128) :
    (walk (F := Ideal) q tri X Y n a b).1 (ix2 y d) = acc (zr q X y) (vc Y d) (256 * i + y.val) 0 := by
  induction n generalizing a b with
  | zero => exact ha y d
  | succ n ih =>
    rw [walk]
    split
    · exact ih (by omega) _ _ (fun y d => step_acc i hi q X Y tri htri n (by omega) a b y d (ha y d) (hb y))
        (fun y => step_car i hi q X tri htri n (by omega) b y (hb y))
    · rename_i h
      exact (ha y d).trans (acc_stop _ _ _ (n + 1) (by omega) ((hb y).symm.trans (stop b h y)))

/-- What the body leaves of a query block. -/
theorem out_at (y : Fin 256) (d : Fin 128) :
    k0_pay3 (F := Ideal) (walk q (k0_pay9 tri) X Y i
      (k0_pay1 (k0_pay10 (F := Ideal)) (k0_pay11 (F := Ideal)) (rows Y i) k0_pay13 (k0_pay15 q tri (rows X i)))
      (k0_pay2 (k0_pay11 (F := Ideal)) (k0_pay14 q (rows X i)))).1 (ix2 y d)
      = acc (zr q X y) (vc Y d) (256 * i + y.val) 0 := by
  have h9 : k0_pay9 (F := Ideal) tri = tri := by
    funext j; pointwise [k0_pay9]
  rw [h9]
  exact walk_at i hi q X Y tri htri i le_rfl _ _ (diag_acc i hi q X Y tri htri) (diag_car i hi q X tri htri) y d

end Walk

/-! ### The array -/

variable (m : (ℓ : Loc nD τ sig) → Buf (Elt Ideal) ℓ)

theorem idx : ∀ t : Fin (cfg0 (F := Ideal)).N, win0_0.index t = ![t.val % 32, t.val / 32]
    ∧ win0_1.index t = ![0, t.val / 32] ∧ win0_2.index t = ![0, t.val / 32]
    ∧ win0_3.index t = ![0, 0] ∧ win0_4.index t = ![t.val % 32, t.val / 32] :=
  (by decide +kernel : ∀ t : Fin grid0.N, _)

theorem coord : ∀ t : Fin grid0.N, (grid0.coords t 1).val = t.val % 32 := by decide +kernel

theorem lt_N (t : Fin (cfg0 (F := Ideal)).N) : t.val < 256 := t.isLt

/-- The triangle the host writes. -/
def tri : FVec Ideal S256x256 .bf16 := uitofp (F := Ideal) .bf16 (cmpi .sgt (iotaInDim S256x256 32 0) (iotaInDim S256x256 32 1))

theorem tri_at (j x : Fin 256) : tri (ix2 j x) = if x.val < j.val then 1 else 0 := by
  pointwise [tri]
  by_cases h : x.val < j.val
  · rw [if_pos h, WordCmp.cmpi_sgt_ofNat_eq_one_iff (by omega) (by omega) |>.mpr h]
    show (((1#1 : BitVec 1).toNat : ℝ) : EReal) = 1
    simp
  · rw [if_neg h, WordCmp.cmpi_sgt_ofNat_eq_zero_iff (by omega) (by omega) |>.mpr h]
    show (((0#1 : BitVec 1).toNat : ℝ) : EReal) = 0
    simp

/-- The region finds the triangle. -/
theorem V_main_v3 (c : Dev nD) : V m c main_v3 = tri := by
  unfold V
  after_results
  try rfl

/-- The input blocks, at their arrays' element types. -/
abbrev qb (c : Dev nD) (t : Fin (cfg0 (F := Ideal)).N) : FVec Ideal S256x128 .bf16 := iblk m c 0 t
abbrev kb (c : Dev nD) (t : Fin (cfg0 (F := Ideal)).N) : FVec Ideal S8192x128 .bf16 := iblk m c 1 t
abbrev vb (c : Dev nD) (t : Fin (cfg0 (F := Ideal)).N) : FVec Ideal S8192x128 .bf16 := iblk m c 2 t
abbrev tb (c : Dev nD) (t : Fin (cfg0 (F := Ideal)).N) : FVec Ideal S256x256 .bf16 := iblk m c 3 t
/-- The arguments, likewise. -/
abbrev Q (c : Dev nD) : FVec Ideal S8192x1024 .bf16 := m ((c : Thread nD τ).loc main_arg0)
abbrev K (c : Dev nD) : FVec Ideal S8192x1024 .bf16 := m ((c : Thread nD τ).loc main_arg1)
abbrev Vv (c : Dev nD) : FVec Ideal S8192x1024 .bf16 := m ((c : Thread nD τ).loc main_arg2)

theorem q_at (c : Dev nD) (t : Fin (cfg0 (F := Ideal)).N) (y : Fin 256) (x : Fin 128) : qb m c t (ix2 y x)
    = Q m c (ix2 (⟨256 * (t.val % 32) + y.val, by omega⟩ : Fin 8192)
        (⟨t.val / 32 * 128 + x.val, by have := lt_N t; omega⟩ : Fin 1024)) := by
  unfold qb Q
  rw [← V_main_arg0 m c]
  unfold iblk
  generalize V m c = B
  blk_point [idx t]

theorem k_at (c : Dev nD) (t : Fin (cfg0 (F := Ideal)).N) (y : Fin 8192) (x : Fin 128) : kb m c t (ix2 y x)
    = K m c (ix2 y (⟨t.val / 32 * 128 + x.val, by have := lt_N t; omega⟩ : Fin 1024)) := by
  unfold kb K
  rw [← V_main_arg1 m c]
  unfold iblk
  generalize V m c = B
  blk_point [idx t]

theorem v_at (c : Dev nD) (t : Fin (cfg0 (F := Ideal)).N) (y : Fin 8192) (x : Fin 128) : vb m c t (ix2 y x)
    = Vv m c (ix2 y (⟨t.val / 32 * 128 + x.val, by have := lt_N t; omega⟩ : Fin 1024)) := by
  unfold vb Vv
  rw [← V_main_arg2 m c]
  unfold iblk
  generalize V m c = B
  blk_point [idx t]

theorem t_at (c : Dev nD) (t : Fin (cfg0 (F := Ideal)).N) (j x : Fin 256) : tb m c t (ix2 j x) = if x.val < j.val then 1 else 0 := by
  rw [← tri_at j x, ← V_main_v3 m c]
  unfold tb iblk
  generalize V m c = B
  blk_point [idx t]

theorem emb_at (t : Fin (cfg0 (F := Ideal)).N) (y : Fin 256) (x : Fin 128) :
    @Eq S8192x1024.Idx (((cfg0 (F := Ideal)).win 4 |>.blk t).view.emb (ix2 y x))
      (ix2 (⟨256 * (t.val % 32) + y.val, by omega⟩ : Fin 8192) (⟨t.val / 32 * 128 + x.val, by have := lt_N t; omega⟩ : Fin 1024)) := by
  blk_ext [idx t]

/-- What the body leaves of a block, read in the reference's array. -/
theorem block_at (c : Dev nD) (t : Fin (cfg0 (F := Ideal)).N) (y : Fin 256) (x : Fin 128) :
    outsAt0 m c t (ix2 y x) = Cert.ReferenceIdeal.Sb.attend (Cert.ReferenceIdeal.Sb.weights (Cert.ReferenceIdeal.Sb.scores
        (Q m c) (K m c))) (Vv m c)
        (ix2 (⟨256 * (t.val % 32) + y.val, by omega⟩ : Fin 8192) (⟨t.val / 32 * 128 + x.val, by have := lt_N t; omega⟩ : Fin 1024)) := by
  rw [Cert.ReferenceIdeal.Sb.attend_at]
  unfold outsAt0 out
  rw [show (grid0.coords t 1).val = t.val % 32 from coord t]
  refine (out_at (t.val % 32) (by omega) (qb m c t) (kb m c t) (vb m c t) (tb m c t) (t_at m c t) y x).trans ?_
  have hj : (t.val / 32 * 128 + x.val) / 128 = t.val / 32 := by omega
  unfold zr vc
  simp only [q_at, k_at, v_at, hj]

/-- The result array after the run. -/
theorem final (c : Dev nD) : (dats m 0 c).arrAt 4 (cfgs (F := Ideal) 0).N
    = Cert.ReferenceIdeal.Sb.attend (Cert.ReferenceIdeal.Sb.weights (Cert.ReferenceIdeal.Sb.scores
        (m ((c : Thread nD τ).loc main_arg0)) (m ((c : Thread nD τ).loc main_arg1)))) (m ((c : Thread nD τ).loc main_arg2)) := by
  refine (dats m 0 c).arrAt_eq_of_covers 4 _ (by decide +kernel) fun t hf y => ?_
  rw [after0_4]
  obtain ⟨y0, y1, rfl⟩ : ∃ (a : Fin 256) (b : Fin 128), y = ix2 a b := ⟨y 0, y 1, eq_ix2 y⟩
  have h := block_at m c t y0 y1
  rw [← emb_at t y0 y1] at h
  exact h

/-- The run: the result array is the reference's weighted sums of the values, and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v4)
        = Cert.ReferenceIdeal.Sb.attend (Cert.ReferenceIdeal.Sb.weights (Cert.ReferenceIdeal.Sb.scores
          (m ((c.tc : Thread nD τ).loc main_arg0)) (m ((c.tc : Thread nD τ).loc main_arg1)))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 : Pipeline.FramePost (cfgs (F := Ideal)) (dats m) 0 (V m) _) c |>.1 4).trans (final m c),
    h.2 c⟩) (θ_run_and (run_main m ρ) (unchanged m ρ))

end Cert.KernelIdeal.Sb

end
-- ==== Proof.lean ====
module

public import proofs.«01_k».proof.Defs
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.MergeValue
public import proofs.«01_k».proof.Proof.Gen.Kernel4.Frame
public import proofs.«01_k».proof.Proof.OutValue
public import proofs.«01_k».proof.Proof.Gen.Kernel5.Frame
public import proofs.«01_k».proof.Proof.GateValue
public import proofs.«01_k».proof.Proof.Gen.Kernel6.Frame
public import proofs.«01_k».proof.Proof.KiwiValue
public import proofs.«01_k».proof.Proof.FfnFrame
public import proofs.«01_k».proof.Proof.FfnValue
public import proofs.«01_k».proof.Proof.SbProjFrame
public import proofs.«01_k».proof.Proof.SbProjValue
public import proofs.«01_k».proof.Proof.DsaProjFrame
public import proofs.«01_k».proof.Proof.DsaProjValue
public import proofs.«01_k».proof.Proof.Gen.Kernel10.Frame
public import proofs.«01_k».proof.Proof.QiValue
public import proofs.«01_k».proof.Proof.Gen.Kernel11.Frame
public import proofs.«01_k».proof.Proof.SampleValue
public import proofs.«01_k».proof.Proof.DownValue
public import proofs.«01_k».proof.Proof.SbSampleFrame
public import proofs.«01_k».proof.Proof.SbSampleValue
public import proofs.«01_k».proof.Proof.DsaSampleFrame
public import proofs.«01_k».proof.Proof.DsaSampleValue
public import proofs.«01_k».proof.Proof.Gen.Kernel12.Frame
public import proofs.«01_k».proof.Proof.DownSampleValue
public import proofs.«01_k».proof.Proof.Gen.Kernel13.Frame
public import proofs.«01_k».proof.Proof.KiwiSampleValue
public import proofs.«01_k».proof.Proof.SbFrame
public import proofs.«01_k».proof.Proof.SbIdealFrame
public import proofs.«01_k».proof.Proof.SbValue
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Sb.run_value m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Sb.res_eq]
  simp only [hagree c]

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  exact ((Cert.Kernel2Ideal.Value.final4 m c).symm.trans (Cert.Kernel2Ideal.Down.final m c)).symm

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩)
    (Cert.Reference3Ideal.Value.run (F := Ideal) m' ρ')
  rw [(h c).1]
  simp only [hagree c]
  exact (Cert.Kernel3Ideal.Merge.final m c).symm

theorem quiescent_Reference4Ideal : quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, _, Cert.Kernel4Ideal.Value.run_blocks (F := Ideal) m ρ, ?_⟩
  refine (θ_run Cert.Reference4Ideal.defs _ _).mono (fun _ h c => ⟨?_, ?_, (h c).2.2⟩)
    (Cert.Reference4Ideal.Value.run (F := Ideal) m' ρ')
  · rw [(h c).1]
    simp only [hagree c]
    exact (Cert.Kernel4Ideal.Out.final_sum m c).symm
  · rw [(h c).2.1]
    simp only [hagree c]
    exact (Cert.Kernel4Ideal.Out.final_norm m c).symm

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩)
    (Cert.Reference5Ideal.Value.run (F := Ideal) m' ρ')
  rw [(h c).1]
  simp only [hagree c]
  exact (Cert.Kernel5Ideal.Gate.final m c).symm

theorem quiescent_Reference6Ideal : quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨_, _, _, Cert.Kernel6Ideal.Value.run_blocks (F := Ideal) m ρ, ?_⟩
  refine (θ_run Cert.Reference6Ideal.defs _ _).mono (fun _ h c => ⟨?_, ?_, ?_, (h c).2.2.2⟩)
    (Cert.Reference6Ideal.Value.run (F := Ideal) m' ρ')
  · rw [(h c).1]
    refine (Cert.Reference6Ideal.Kiwi.res_0 m' c).trans ?_
    simp only [hagree c]
    exact (Cert.Kernel6Ideal.Kiwi.final_key m c).symm
  · rw [(h c).2.1]
    refine (Cert.Reference6Ideal.Kiwi.res_1 m' c).trans ?_
    simp only [hagree c]
    exact (Cert.Kernel6Ideal.Kiwi.final_rounded m c).symm
  · rw [(h c).2.2.1]
    simp only [hagree c]
    exact (Cert.Kernel6Ideal.Kiwi.final_weight m c).symm

theorem quiescent_Reference7Ideal : quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨_, _, _, Cert.Kernel7Ideal.Ffn.run_blocks m ρ, ?_⟩
  refine (θ_run Cert.Reference7Ideal.defs _ _).mono (fun _ h c => ⟨?_, ?_, ?_, (h c).2.2.2⟩)
    (Cert.Reference7Ideal.Value.run (F := Ideal) m' ρ')
  · rw [(h c).1]
    refine (Cert.Reference7Ideal.Ffn.res_0 m' c).trans ?_
    simp only [hagree c]
    exact (Cert.Kernel7.Ffn.final_gated m c).symm
  · rw [(h c).2.1]
    refine Eq.trans (show _ = Cert.Reference7Ideal.Ffn.LASTG (Cert.Reference7Ideal.Ffn.BUF
      (m' (c.tc.loc Cert.Reference7Ideal.main_arg0)) (m' (c.tc.loc Cert.Reference7Ideal.main_arg1))) from rfl) ?_
    simp only [hagree c]
    exact (Cert.Kernel7.Ffn.final_last_gate m c).symm
  · rw [(h c).2.2.1]
    refine Eq.trans (show _ = Cert.Reference7Ideal.Ffn.LASTV (Cert.Reference7Ideal.Ffn.BUF
      (m' (c.tc.loc Cert.Reference7Ideal.main_arg0)) (m' (c.tc.loc Cert.Reference7Ideal.main_arg1))) from rfl) ?_
    simp only [hagree c]
    exact (Cert.Kernel7.Ffn.final_last_value m c).symm

theorem quiescent_Reference8Ideal : quiescent_Reference8Ideal := fun m ρ _ =>
  (θ_run Cert.Reference8Ideal.defs _ _).mono (fun r h => ⟨fun c => (h c).2.2.2.2.2, sem_eq_zero_of_no_sems (by decide) r.2⟩)
    (Cert.Reference8Ideal.Value.run (F := Ideal) m ρ)

theorem algebraic_Kernel8Ideal_Reference8Ideal : algebraic_Kernel8Ideal_Reference8Ideal := by
  intro m ρ m' ρ' _ hagree
  refine ⟨_, _, _, _, _, Cert.Kernel8Ideal.SbProj.run_blocks m ρ, ?_⟩
  refine (θ_run Cert.Reference8Ideal.defs _ _).mono (fun _ h c => ⟨?_, ?_, ?_, ?_, ?_, (h c).2.2.2.2.2⟩)
    (Cert.Reference8Ideal.Value.run (F := Ideal) m' ρ')
  · rw [(h c).1]
    simp only [hagree c]
    exact (Cert.Kernel8.SbProj.final_0 m c).symm
  · rw [(h c).2.1]
    simp only [hagree c]
    exact (Cert.Kernel8.SbProj.final_1 m c).symm
  · rw [(h c).2.2.1]
    simp only [hagree c]
    exact (Cert.Kernel8.SbProj.final_2 m c).symm
  · rw [(h c).2.2.2.1]
    simp only [hagree c]
    exact (Cert.Kernel8.SbProj.final_3 m c).symm
  · rw [(h c).2.2.2.2.1]
    simp only [hagree c]
    exact (Cert.Kernel8.SbProj.final_4 m c).symm

theorem quiescent_Reference9Ideal : quiescent_Reference9Ideal := fun m ρ _ =>
  (θ_run Cert.Reference9Ideal.defs _ _).mono (fun r h => ⟨fun c => (h c).2.2.2.2.2, sem_eq_zero_of_no_sems (by decide) r.2⟩)
    (Cert.Reference9Ideal.Value.run (F := Ideal) m ρ)

theorem algebraic_Kernel9Ideal_Reference9Ideal : algebraic_Kernel9Ideal_Reference9Ideal := by
  intro m ρ m' ρ' _ hagree
  refine ⟨_, _, _, _, _, Cert.Kernel9Ideal.DsaProj.run_blocks m ρ, ?_⟩
  refine (θ_run Cert.Reference9Ideal.defs _ _).mono (fun _ h c => ⟨?_, ?_, ?_, ?_, ?_, (h c).2.2.2.2.2⟩)
    (Cert.Reference9Ideal.Value.run (F := Ideal) m' ρ')
  · rw [(h c).1]
    refine (Cert.Reference9Ideal.DsaProj.res_0 m' c).trans ?_
    simp only [Cert.Reference9Ideal.DsaProj.RP, hagree c]
    exact (Cert.Kernel9.DsaProj.final_0 m c).symm
  · rw [(h c).2.1]
    refine (Cert.Reference9Ideal.DsaProj.res_1 m' c).trans ?_
    simp only [Cert.Reference9Ideal.DsaProj.RP, hagree c]
    exact (Cert.Kernel9.DsaProj.final_1 m c).symm
  · rw [(h c).2.2.1]
    refine (Cert.Reference9Ideal.DsaProj.res_2 m' c).trans ?_
    simp only [Cert.Reference9Ideal.DsaProj.RP, hagree c]
    exact (Cert.Kernel9.DsaProj.final_2 m c).symm
  · rw [(h c).2.2.2.1]
    simp only [hagree c]
    exact (Cert.Kernel9.DsaProj.final_3 m c).symm
  · rw [(h c).2.2.2.2.1]
    simp only [hagree c]
    exact (Cert.Kernel9.DsaProj.final_4 m c).symm

theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic_Kernel10Ideal_Reference10Ideal : algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨?_, (h c).2⟩)
    (Cert.Reference10Ideal.Value.run (F := Ideal) m' ρ')
  rw [(h c).1]
  refine (Cert.Reference10Ideal.Qi.res_0 m' c).trans ?_
  simp only [hagree c]
  exact (Cert.Kernel10Ideal.Qi.final m c).symm

theorem quiescent_Reference11Ideal : quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem algebraic_Kernel11Ideal_Reference11Ideal : algebraic_Kernel11Ideal_Reference11Ideal := by
  intro m ρ m' ρ' _ hagree
  refine ⟨_, _, _, Cert.Kernel11Ideal.Value.run_blocks (F := Ideal) m ρ, ?_⟩
  refine (θ_run Cert.Reference11Ideal.defs _ _).mono (fun _ h c => ⟨?_, ?_, ?_, (h c).2.2.2⟩)
    (Cert.Reference11Ideal.Value.run (F := Ideal) m' ρ')
  · rw [(h c).1]
    refine (Cert.Reference11Ideal.Sample.res_0 m' c).trans ?_
    simp only [hagree c]
    exact (Cert.Kernel11Ideal.Sample.final_gated m c).symm
  · rw [(h c).2.1]
    simp only [hagree c]
    exact (Cert.Kernel11Ideal.Sample.final_new_gate m c).symm
  · rw [(h c).2.2.1]
    simp only [hagree c]
    exact (Cert.Kernel11Ideal.Sample.final_new_value m c).symm

theorem quiescent_Reference12Ideal : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic_Kernel12Ideal_Reference12Ideal : algebraic_Kernel12Ideal_Reference12Ideal := by
  intro m ρ m' ρ' _ hagree
  refine ⟨_, Cert.Kernel12Ideal.Value.run (F := Ideal) m ρ, ?_⟩
  refine (θ_run Cert.Reference12Ideal.defs _ _).mono (fun _ h c => ⟨?_, (h c).2⟩) (Cert.Reference12Ideal.Value.run (F := Ideal) m' ρ')
  rw [(h c).1]
  simp only [hagree c]
  exact ((Cert.Kernel12Ideal.Value.final4 m c).symm.trans (Cert.Kernel12Ideal.DownSample.final m c)).symm

theorem quiescent_Reference13Ideal : quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

theorem algebraic_Kernel13Ideal_Reference13Ideal : algebraic_Kernel13Ideal_Reference13Ideal := by
  intro m ρ m' ρ' _ hagree
  refine ⟨_, _, _, Cert.Kernel13Ideal.Value.run_blocks (F := Ideal) m ρ, ?_⟩
  refine (θ_run Cert.Reference13Ideal.defs _ _).mono (fun _ h c => ⟨?_, ?_, ?_, (h c).2.2.2⟩)
    (Cert.Reference13Ideal.Value.run (F := Ideal) m' ρ')
  · rw [(h c).1]
    refine (Cert.Reference13Ideal.KiwiSample.res_0 m' c).trans ?_
    simp only [hagree c]
    exact (Cert.Kernel13Ideal.KiwiSample.final_key m c).symm
  · rw [(h c).2.1]
    refine (Cert.Reference13Ideal.KiwiSample.res_1 m' c).trans ?_
    simp only [hagree c]
    exact (Cert.Kernel13Ideal.KiwiSample.final_rounded m c).symm
  · rw [(h c).2.2.1]
    simp only [hagree c]
    exact (Cert.Kernel13Ideal.KiwiSample.final_weight m c).symm

theorem quiescent_Reference14Ideal : quiescent_Reference14Ideal := fun m ρ _ =>
  (θ_run Cert.Reference14Ideal.defs _ _).mono (fun r h => ⟨fun c => (h c).2.2.2.2.2, sem_eq_zero_of_no_sems (by decide) r.2⟩)
    (Cert.Reference14Ideal.Value.run (F := Ideal) m ρ)

theorem algebraic_Kernel14Ideal_Reference14Ideal : algebraic_Kernel14Ideal_Reference14Ideal := by
  intro m ρ m' ρ' _ hagree
  refine ⟨_, _, _, _, _, Cert.Kernel14Ideal.SbSample.run_blocks m ρ, ?_⟩
  refine (θ_run Cert.Reference14Ideal.defs _ _).mono (fun _ h c => ⟨?_, ?_, ?_, ?_, ?_, (h c).2.2.2.2.2⟩)
    (Cert.Reference14Ideal.Value.run (F := Ideal) m' ρ')
  · rw [(h c).1]
    simp only [hagree c]
    exact (Cert.Kernel14.SbSample.final_0 m c).symm
  · rw [(h c).2.1]
    simp only [hagree c]
    exact (Cert.Kernel14.SbSample.final_1 m c).symm
  · rw [(h c).2.2.1]
    simp only [hagree c]
    exact (Cert.Kernel14.SbSample.final_2 m c).symm
  · rw [(h c).2.2.2.1]
    simp only [hagree c]
    exact (Cert.Kernel14.SbSample.final_3 m c).symm
  · rw [(h c).2.2.2.2.1]
    simp only [hagree c]
    exact (Cert.Kernel14.SbSample.final_4 m c).symm

theorem quiescent_Reference15Ideal : quiescent_Reference15Ideal := fun m ρ _ =>
  (θ_run Cert.Reference15Ideal.defs _ _).mono (fun r h => ⟨fun c => (h c).2.2.2.2.2, sem_eq_zero_of_no_sems (by decide) r.2⟩)
    (Cert.Reference15Ideal.Value.run (F := Ideal) m ρ)

theorem algebraic_Kernel15Ideal_Reference15Ideal : algebraic_Kernel15Ideal_Reference15Ideal := by
  intro m ρ m' ρ' _ hagree
  refine ⟨_, _, _, _, _, Cert.Kernel15Ideal.DsaSample.run_blocks m ρ, ?_⟩
  refine (θ_run Cert.Reference15Ideal.defs _ _).mono (fun _ h c => ⟨?_, ?_, ?_, ?_, ?_, (h c).2.2.2.2.2⟩)
    (Cert.Reference15Ideal.Value.run (F := Ideal) m' ρ')
  · rw [(h c).1]
    refine (Cert.Reference15Ideal.DsaSample.res_0 m' c).trans ?_
    simp only [Cert.Reference15Ideal.DsaSample.RP, hagree c]
    exact (Cert.Kernel15.DsaSample.final_0 m c).symm
  · rw [(h c).2.1]
    refine (Cert.Reference15Ideal.DsaSample.res_1 m' c).trans ?_
    simp only [Cert.Reference15Ideal.DsaSample.RP, hagree c]
    exact (Cert.Kernel15.DsaSample.final_1 m c).symm
  · rw [(h c).2.2.1]
    refine (Cert.Reference15Ideal.DsaSample.res_2 m' c).trans ?_
    simp only [Cert.Reference15Ideal.DsaSample.RP, hagree c]
    exact (Cert.Kernel15.DsaSample.final_2 m c).symm
  · rw [(h c).2.2.2.1]
    simp only [hagree c]
    exact (Cert.Kernel15.DsaSample.final_3 m c).symm
  · rw [(h c).2.2.2.2.1]
    simp only [hagree c]
    exact (Cert.Kernel15.DsaSample.final_4 m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  fun m ρ _ => Cert.Kernel.Sb.frame m ρ, fun m ρ _ => Cert.KernelIdeal.Sb.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Ffn.frame m ρ, fun m ρ _ => Cert.Kernel7Ideal.Ffn.frame m ρ, quiescent_Reference7Ideal,
  fun m ρ _ => Cert.Kernel8.SbProj.frame m ρ, fun m ρ _ => Cert.Kernel8Ideal.SbProj.frame m ρ, quiescent_Reference8Ideal,
  fun m ρ _ => Cert.Kernel9.DsaProj.frame m ρ, fun m ρ _ => Cert.Kernel9Ideal.DsaProj.frame m ρ, quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  fun m ρ _ => Cert.Kernel12.Gen.frame m ρ, fun m ρ _ => Cert.Kernel12Ideal.Gen.frame m ρ, quiescent_Reference12Ideal,
  fun m ρ _ => Cert.Kernel13.Gen.frame m ρ, fun m ρ _ => Cert.Kernel13Ideal.Gen.frame m ρ, quiescent_Reference13Ideal,
  fun m ρ _ => Cert.Kernel14.SbSample.frame m ρ, fun m ρ _ => Cert.Kernel14Ideal.SbSample.frame m ρ, quiescent_Reference14Ideal,
  fun m ρ _ => Cert.Kernel15.DsaSample.frame m ρ, fun m ρ _ => Cert.Kernel15Ideal.DsaSample.frame m ρ, quiescent_Reference15Ideal,
  IdealRules.named_const.statement _ _ _ _ _ rfl, algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal), algebraic_Kernel10Ideal_Reference10Ideal,
  (trivial : preserves_Kernel11_Kernel11Ideal), algebraic_Kernel11Ideal_Reference11Ideal,
  (trivial : preserves_Kernel12_Kernel12Ideal), algebraic_Kernel12Ideal_Reference12Ideal,
  (trivial : preserves_Kernel13_Kernel13Ideal), algebraic_Kernel13Ideal_Reference13Ideal,
  (trivial : preserves_Kernel14_Kernel14Ideal), algebraic_Kernel14Ideal_Reference14Ideal,
  (trivial : preserves_Kernel15_Kernel15Ideal), algebraic_Kernel15Ideal_Reference15Ideal⟩

end Cert.Proof

end
